-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel2_Kernel2Ideal : Prop :=
  IdealRules.named_const.Statement Cert.Kernel2Ideal.κ "mask" .f32 0xF149F2CA#32 ⊥

def algebraic_Kernel2Ideal_Reference2Ideal_on_group_columns_pre_finite2 [hKernel2Ideal : Cert.Kernel2Ideal.Facts] [hReference2Ideal : Cert.Reference2Ideal.Facts] [hPre_finite2 : Cert.Pre_finite2.Facts] [hOn_group_columns : Cert.On_group_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 4608]⟩ : Shape).Idx, (Cert.On_group_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 4608]⟩ : Shape).Idx, (Cert.On_group_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) i = 1#1 → r.2.mem ((c.tc : Thread Cert.Reference2Ideal.nD Cert.Reference2Ideal.τ).loc Cert.Reference2Ideal.main_v145) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel21_Kernel21Ideal : Prop :=
  IdealRules.named_const.Statement Cert.Kernel21Ideal.κ "mask" .f32 0xF149F2CA#32 ⊥

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v66) = v0 c
          ∧ r.2.mem ((c.tc : Thread Cert.Reference21Ideal.nD Cert.Reference21Ideal.τ).loc Cert.Reference21Ideal.main_v73) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v28) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v30) = v2 c
          ∧ r.2.mem ((c.tc : Thread Cert.Reference22Ideal.nD Cert.Reference22Ideal.τ).loc Cert.Reference22Ideal.main_v27) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v52) = v0 c
          ∧ r.2.mem ((c.tc : Thread Cert.Reference23Ideal.nD Cert.Reference23Ideal.τ).loc Cert.Reference23Ideal.main_v59) = v1 c
          ∧ r.2.mem ((c.tc : Thread Cert.Reference23Ideal.nD Cert.Reference23Ideal.τ).loc Cert.Reference23Ideal.main_v58) = v2 c
          ∧ r.2.mem ((c.tc : Thread Cert.Reference23Ideal.nD Cert.Reference23Ideal.τ).loc Cert.Reference23Ideal.main_v35) = v3 c
          ∧ r.2.mem ((c.tc : Thread Cert.Reference23Ideal.nD Cert.Reference23Ideal.τ).loc Cert.Reference23Ideal.main_v30) = v4 c
          ∧ r.2.mem ((c.tc : Thread Cert.Reference23Ideal.nD Cert.Reference23Ideal.τ).loc Cert.Reference23Ideal.main_v27) = v5 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v16) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_v22) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel21 : Cert.Kernel21.Facts) (hKernel21Ideal : Cert.Kernel21Ideal.Facts) (hReference21Ideal : Cert.Reference21Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite2 : Cert.Pre_finite2.Facts) (hOn_group_columns : Cert.On_group_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal_on_group_columns_pre_finite2 (hKernel2Ideal := hKernel2Ideal) (hReference2Ideal := hReference2Ideal) (hPre_finite2 := hPre_finite2) (hOn_group_columns := hOn_group_columns)
    ∧ preserves_Kernel21_Kernel21Ideal
    ∧ algebraic_Kernel21Ideal_Reference21Ideal (hKernel21Ideal := hKernel21Ideal) (hReference21Ideal := hReference21Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== On_group_columns.lean ====
abbrev S4096x4608 : Shape := ⟨2, ![4096, 4608]⟩
abbrev S4096x512 : Shape := ⟨2, ![4096, 512]⟩
abbrev S_ : Shape := ⟨0, ![]⟩

class Facts : Prop where
  bcast_S_S4096x4608 : S_.BroadcastsInDim S4096x4608 (![] : Fin 0 → Fin S4096x4608.rank)

variable [Facts]

def fn {F : FTy → Type} [FloatOps F] (main_arg0 : FVec F S4096x4608 .f32) (main_arg1 : FVec F S4096x512 .f32) (main_arg2 : FVec F S4096x512 .f32) : IVec S4096x4608 1 :=
  let main_v0 : IVec S4096x4608 32 := iotaInDim S4096x4608 32 1
  let main_c : IVec S_ 32 := constantI S_ 32 1536#32
  let main_v1 : IVec S4096x4608 32 := broadcastInDim S4096x4608 ![] bcast_S_S4096x4608 main_c
  let main_v2 : IVec S4096x4608 1 := cmpi .slt main_v0 main_v1
  main_v2
-- ==== Pre_finite.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S3x5632 .f32) (main_arg2 : FVec F S1x5632 .f32) (main_arg3 : FVec F S4096x2816 .f32) : IVec S4096x5632 1 × IVec S3x5632 1 × IVec S1x5632 1 × IVec S4096x2816 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  (main_v2, main_v5, main_v8, main_v11)
-- ==== Pre_finite2.lean ====
abbrev S4096x4608 : Shape := ⟨2, ![4096, 4608]⟩
abbrev S4096x512 : Shape := ⟨2, ![4096, 512]⟩
abbrev S_ : Shape := ⟨0, ![]⟩

class Facts : Prop where
  bcast_S_S4096x4608 : S_.BroadcastsInDim S4096x4608 (![] : Fin 0 → Fin S4096x4608.rank)
  bcast_S_S4096x512 : S_.BroadcastsInDim S4096x512 (![] : Fin 0 → Fin S4096x512.rank)

variable [Facts]

def fn {F : FTy → Type} [FloatOps F] (main_arg0 : FVec F S4096x4608 .f32) (main_arg1 : FVec F S4096x512 .f32) (main_arg2 : FVec F S4096x512 .f32) : IVec S4096x4608 1 × IVec S4096x512 1 × IVec S4096x512 1 :=
  let main_v0 : FVec F S4096x4608 .f32 := Host.absf main_arg0
  let main_cst : FVec F S_ .f32 := constant S_ .f32 0x7F800000#32
  let main_v1 : FVec F S4096x4608 .f32 := broadcastInDim S4096x4608 ![] bcast_S_S4096x4608 main_cst
  let main_v2 : IVec S4096x4608 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Kernel.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2x4096x2816 : Shape := ⟨3, ![2, 4096, 2816]⟩
abbrev S3x2816 : Shape := ⟨2, ![3, 2816]⟩
abbrev S1x2816 : Shape := ⟨2, ![1, 2816]⟩
abbrev S4096x128 : Shape := ⟨2, ![4096, 128]⟩
abbrev S3x128 : Shape := ⟨2, ![3, 128]⟩
abbrev S1x128 : Shape := ⟨2, ![1, 128]⟩
abbrev S2x4096x128 : Shape := ⟨3, ![2, 4096, 128]⟩
abbrev S1x4096x128 : Shape := ⟨3, ![1, 4096, 128]⟩
abbrev S128 : Shape := ⟨1, ![128]⟩

abbrev nBuf : Space → Nat
  | .hbm => 9
  | .vmem => 24
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S2x4096x2816, .bf16⟩
  | .hbm, ⟨5, _⟩ => ⟨S3x2816, .f32⟩
  | .hbm, ⟨6, _⟩ => ⟨S3x2816, .f32⟩
  | .hbm, ⟨7, _⟩ => ⟨S1x2816, .f32⟩
  | .hbm, ⟨8, _⟩ => ⟨S1x2816, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S2x4096x128, .bf16⟩
  | .local _ .vmem, ⟨15, _⟩ => ⟨S2x4096x128, .bf16⟩
  | .local _ .vmem, ⟨16, _⟩ => ⟨S3x128, .f32⟩
  | .local _ .vmem, ⟨17, _⟩ => ⟨S3x128, .f32⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S1x4096x2816 : Shape := ⟨3, ![1, 4096, 2816]⟩
abbrev S2x4096x2816 : Shape := ⟨3, ![2, 4096, 2816]⟩
abbrev S3x2816 : Shape := ⟨2, ![3, 2816]⟩
abbrev S1x2816 : Shape := ⟨2, ![1, 2816]⟩

abbrev nBuf : Space → Nat
  | .hbm => 115
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S5632, .f32⟩
  | .hbm, ⟨68, _⟩ => ⟨S_, .f32⟩
  | .hbm, ⟨69, _⟩ => ⟨S4098x5632, .f32⟩
  | .hbm, ⟨70, _⟩ => ⟨S1x5632, .f32⟩
  | .hbm, ⟨71, _⟩ => ⟨S_, .f32⟩
  | .hbm, ⟨72, _⟩ => ⟨S3x5632, .f32⟩
  | .hbm, ⟨73, _⟩ => ⟨S4096x5632, .f32⟩
  | .hbm, ⟨74, _⟩ => ⟨S4096x5632, .f32⟩
  | .hbm, ⟨75, _⟩ => ⟨S4096x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S5632, .f32⟩
  | .hbm, ⟨81, _⟩ => ⟨S_, .f32⟩
  | .hbm, ⟨82, _⟩ => ⟨S4098x5632, .f32⟩
  | .hbm, ⟨83, _⟩ => ⟨S4098x5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S4096x5632, .f32⟩
  | .hbm, ⟨89, _⟩ => ⟨S4096x5632, .f32⟩
  | .hbm, ⟨90, _⟩ => ⟨S4096x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S_, .f32⟩
  | .hbm, ⟨95, _⟩ => ⟨S5632, .f32⟩
  | .hbm, ⟨96, _⟩ => ⟨S_, .f32⟩
  | .hbm, ⟨97, _⟩ => ⟨S4098x5632, .f32⟩
  | .hbm, ⟨98, _⟩ => ⟨S4098x5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S2x5632, .f32⟩
  | .hbm, ⟨104, _⟩ => ⟨S4096x5632, .f32⟩
  | .hbm, ⟨105, _⟩ => ⟨S4096x2816, .f32⟩
  | .hbm, ⟨106, _⟩ => ⟨S4096x2816, .f32⟩
  | .hbm, ⟨107, _⟩ => ⟨S1x4096x2816, .f32⟩
  | .hbm, ⟨108, _⟩ => ⟨S1x4096x2816, .f32⟩
  | .hbm, ⟨109, _⟩ => ⟨S2x4096x2816, .f32⟩
  | .hbm, ⟨110, _⟩ => ⟨S2x4096x2816, .bf16⟩
  | .hbm, ⟨111, _⟩ => ⟨S3x2816, .f32⟩
  | .hbm, ⟨112, _⟩ => ⟨S3x2816, .f32⟩
  | .hbm, ⟨113, _⟩ => ⟨S1x2816, .f32⟩
  | .hbm, ⟨114, _⟩ => ⟨S1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S4096x2x2816, .bf16⟩
  | .hbm, ⟨4, _⟩ => ⟨S4096x5632, .bf16⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel2.lean ====
abbrev S4096x4608 : Shape := ⟨2, ![4096, 4608]⟩
abbrev S4096x512 : Shape := ⟨2, ![4096, 512]⟩
abbrev S128x512 : Shape := ⟨2, ![128, 512]⟩
abbrev S128x1536 : Shape := ⟨2, ![128, 1536]⟩
abbrev S1x128x512 : Shape := ⟨3, ![1, 128, 512]⟩
abbrev S128x128 : Shape := ⟨2, ![128, 128]⟩
abbrev S1x128x128 : Shape := ⟨3, ![1, 128, 128]⟩
abbrev S4x128x128 : Shape := ⟨3, ![4, 128, 128]⟩
abbrev S1x128x256 : Shape := ⟨3, ![1, 128, 256]⟩
abbrev S4x256x128 : Shape := ⟨3, ![4, 256, 128]⟩
abbrev S4x128x256 : Shape := ⟨3, ![4, 128, 256]⟩
abbrev S4x128 : Shape := ⟨2, ![4, 128]⟩
abbrev S4x128x1 : Shape := ⟨3, ![4, 128, 1]⟩

abbrev nBuf : Space → Nat
  | .hbm => 4
  | .vmem => 24
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S4096x512, .f32⟩
  | .hbm, ⟨3, _⟩ => ⟨S4096x4608, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1536, .bf16⟩
  | .local _ .vmem, ⟨15, _⟩ => ⟨S128x1536, .bf16⟩
  | .local _ .vmem, ⟨16, _⟩ => ⟨S1x128x512, .bf16⟩
  | .local _ .vmem, ⟨17, _⟩ => ⟨S1x128x512, .f32⟩
  | .local _ .vmem, ⟨18, _⟩ => ⟨S1x128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![33, 1], ![false, false]⟩

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v_true : BitVec 1 := 1#1
  let v6 : BitVec 1 := Scalar.andi v5 v_true
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c0_i32 : BitVec 32 := 0#32
  let v2 : BitVec 32 := Scalar.select v1 arg1 c0_i32
  let c0_i32_0 : BitVec 32 := 0#32
  let v3 : BitVec 32 := Scalar.addi c0_i32_0 v2
  let c0_i32_1 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 1 := Scalar.cmpi .slt arg0 c32_i32
  let c0_i32_0 : BitVec 32 := 0#32
  let v4 : BitVec 32 := Scalar.select v3 arg1 c0_i32_0
  let c1_i32_1 : BitVec 32 := 1#32
  let v5 : BitVec 32 := Scalar.addi c1_i32_1 v4
  let c0_i32_2 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c0_i32 : BitVec 32 := 0#32
  let v2 : BitVec 32 := Scalar.select v1 arg1 c0_i32
  let c1_i32 : BitVec 32 := 1#32
  let v3 : BitVec 32 := Scalar.addi c1_i32 v2
  let c0_i32_0 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 1 := Scalar.cmpi .slt arg0 c32_i32
  let c0_i32_0 : BitVec 32 := 0#32
  let v4 : BitVec 32 := Scalar.select v3 arg1 c0_i32_0
  let c2_i32 : BitVec 32 := 2#32
  let v5 : BitVec 32 := Scalar.addi c2_i32 v4
  let c0_i32_1 : BitVec 32 := 0#32
  ![v2.toNat, v5.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c0_i32 : BitVec 32 := 0#32
  let v2 : BitVec 32 := Scalar.select v1 arg1 c0_i32
  let c2_i32 : BitVec 32 := 2#32
  let v3 : BitVec 32 := Scalar.addi c2_i32 v2
  let c0_i32_0 : BitVec 32 := 0#32
  ![v0.toNat, v3.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c0_i32 : BitVec 32 := 0#32
  let v2 : BitVec 32 := Scalar.select v1 arg1 c0_i32
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c0_i32 : BitVec 32 := 0#32
  let v2 : BitVec 32 := Scalar.select v1 arg1 c0_i32
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "mask" => some ⊥
  | _ => none
-- ==== Reference2Ideal.lean ====
abbrev S4096x4608 : Shape := ⟨2, ![4096, 4608]⟩
abbrev S4096x512 : Shape := ⟨2, ![4096, 512]⟩
abbrev S4096x8x64 : Shape := ⟨3, ![4096, 8, 64]⟩
abbrev S32x128x8x64 : Shape := ⟨4, ![32, 128, 8, 64]⟩
abbrev S1x128x8x64 : Shape := ⟨4, ![1, 128, 8, 64]⟩
abbrev S_ : Shape := ⟨0, ![]⟩
abbrev S31x128x8x64 : Shape := ⟨4, ![31, 128, 8, 64]⟩
abbrev S32x256x8x64 : Shape := ⟨4, ![32, 256, 8, 64]⟩
abbrev S32x8x128x256 : Shape := ⟨4, ![32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x128x256 : Shape := ⟨4, ![32, 1, 128, 256]⟩
abbrev S32x8x128 : Shape := ⟨3, ![32, 8, 128]⟩
abbrev S32x8x128x1 : Shape := ⟨4, ![32, 8, 128, 1]⟩
abbrev S32x8x64x128 : Shape := ⟨4, ![32, 8, 64, 128]⟩
abbrev S32x128x8 : Shape := ⟨3, ![32, 128, 8]⟩
abbrev S32x128x8x1 : Shape := ⟨4, ![32, 128, 8, 1]⟩
abbrev S4096x8 : Shape := ⟨2, ![4096, 8]⟩
abbrev S32x8x64x256 : Shape := ⟨4, ![32, 8, 64, 256]⟩
abbrev S32x8x256x64 : Shape := ⟨4, ![32, 8, 256, 64]⟩
abbrev S32x8x128x64 : Shape := ⟨4, ![32, 8, 128, 64]⟩
abbrev S4096x3072 : Shape := ⟨2, ![4096, 3072]⟩

abbrev nBuf : Space → Nat
  | .hbm => 181
  | .vmem => 0
  | .smem => 0
  | _ => 0

abbrev hbmTy0_0 (i : Nat) : BufTy := match i % 128 with
  | 0 => ⟨S4096x4608, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S4096x8x64, .f32⟩
  | 7 => ⟨S4096x8x64, .f32⟩
  | 8 => ⟨S4096x8x64, .f32⟩
  | 9 => ⟨S32x128x8x64, .f32⟩
  | 10 => ⟨S32x128x8x64, .f32⟩
  | 11 => ⟨S1x128x8x64, .f32⟩
  | 12 => ⟨S_, .f32⟩
  | 13 => ⟨S1x128x8x64, .f32⟩
  | 14 => ⟨S31x128x8x64, .f32⟩
  | 15 => ⟨S32x128x8x64, .f32⟩
  | 16 => ⟨S_, .f32⟩
  | 17 => ⟨S1x128x8x64, .f32⟩
  | 18 => ⟨S32x256x8x64, .f32⟩
  | 19 => ⟨S32x128x8x64, .f32⟩
  | 20 => ⟨S1x128x8x64, .f32⟩
  | 21 => ⟨S_, .f32⟩
  | 22 => ⟨S1x128x8x64, .f32⟩
  | 23 => ⟨S31x128x8x64, .f32⟩
  | 24 => ⟨S32x128x8x64, .f32⟩
  | 25 => ⟨S_, .f32⟩
  | 26 => ⟨S1x128x8x64, .f32⟩
  | 27 => ⟨S32x256x8x64, .f32⟩
  | 28 => ⟨S32x8x128x256, .f32⟩
  | 29 => ⟨S_, .f32⟩
  | 30 => ⟨S32x8x128x256, .f32⟩
  | 31 => ⟨S32x8x128x256, .f32⟩
  | 32 => ⟨S128, .i32⟩
  | 33 => ⟨S128x1, .i32⟩
  | 34 => ⟨S256, .i32⟩
  | 35 => ⟨S1x256, .i32⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i32⟩
  | 42 => ⟨S32, .i32⟩
  | 43 => ⟨S32x1, .i32⟩
  | 44 => ⟨S_, .i32⟩
  | 45 => ⟨S32x1, .i32⟩
  | 46 => ⟨S32x1, .i32⟩
  | 47 => ⟨S32x256, .i32⟩
  | 48 => ⟨S32x256, .i32⟩
  | 49 => ⟨S32x256, .i32⟩
  | 50 => ⟨S_, .i32⟩
  | 51 => ⟨S32x256, .i32⟩
  | 52 => ⟨S32x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S1x128x256, .i1⟩
  | 61 => ⟨S_, .i32⟩
  | 62 => ⟨S32x256, .i32⟩
  | 63 => ⟨S32x256, .i1⟩
  | 64 => ⟨S32x1x256, .i1⟩
  | 65 => ⟨S32x128x256, .i1⟩
  | 66 => ⟨S32x128x256, .i1⟩
  | 67 => ⟨S32x128x256, .i1⟩
  | 68 => ⟨S32x1x128x256, .i1⟩
  | 69 => ⟨S_, .f32⟩
  | 70 => ⟨S_, .f32⟩
  | 71 => ⟨S32x8x128x256, .i1⟩
  | 72 => ⟨S32x8x128x256, .f32⟩
  | 73 => ⟨S32x8x128x256, .f32⟩
  | 74 => ⟨S_, .f32⟩
  | 75 => ⟨S32x8x128x256, .f32⟩
  | 76 => ⟨S_, .f32⟩
  | 77 => ⟨S32x8x128, .f32⟩
  | 78 => ⟨S32x8x128x1, .f32⟩
  | 79 => ⟨S32x8x128x256, .f32⟩
  | 80 => ⟨S32x8x128x256, .i1⟩
  | 81 => ⟨S32x8x128x256, .f32⟩
  | 82 => ⟨S_, .f32⟩
  | 83 => ⟨S32x8x128, .f32⟩
  | 84 => ⟨S32x8x128x1, .f32⟩
  | 85 => ⟨S32x8x128x256, .f32⟩
  | 86 => ⟨S32x8x128x256, .f32⟩
  | 87 => ⟨S32x8x128x256, .f32⟩
  | 88 => ⟨S_, .f32⟩
  | 89 => ⟨S32x8x128, .f32⟩
  | 90 => ⟨S32x8x64x128, .f32⟩
  | 91 => ⟨S32x128x8x64, .f32⟩
  | 92 => ⟨S32x128x8, .f32⟩
  | 93 => ⟨S32x128x8x1, .f32⟩
  | 94 => ⟨S32x128x8x64, .f32⟩
  | 95 => ⟨S32x128x8x64, .f32⟩
  | 96 => ⟨S32x128x8x1, .f32⟩
  | 97 => ⟨S_, .f32⟩
  | 98 => ⟨S32x128x8x1, .f32⟩
  | 99 => ⟨S32x128x8x1, .f32⟩
  | 100 => ⟨S4096x512, .f32⟩
  | 101 => ⟨S32x8x128, .f32⟩
  | 102 => ⟨S32x128x8, .f32⟩
  | 103 => ⟨S32x128x8, .f32⟩
  | 104 => ⟨S32x128x8, .f32⟩
  | 105 => ⟨S4096x8, .f32⟩
  | 106 => ⟨S4096x8x64, .f32⟩
  | 107 => ⟨S4096x512, .f32⟩
  | 108 => ⟨S4096x8x64, .f32⟩
  | 109 => ⟨S_, .f32⟩
  | 110 => ⟨S4096x8, .f32⟩
  | 111 => ⟨S32x128x8, .f32⟩
  | 112 => ⟨S32x128x8, .f32⟩
  | 113 => ⟨S32x8x128, .f32⟩
  | 114 => ⟨S32x8x128x1, .f32⟩
  | 115 => ⟨S32x128x8x64, .f32⟩
  | 116 => ⟨S32x128x8x64, .f32⟩
  | 117 => ⟨S32x128x8x64, .f32⟩
  | 118 => ⟨S32x128x8x64, .f32⟩
  | 119 => ⟨S_, .f32⟩
  | 120 => ⟨S32x128x8, .f32⟩
  | 121 => ⟨S32x128x8x1, .f32⟩
  | 122 => ⟨S32x128x8x1, .f32⟩
  | 123 => ⟨S32x128x8x64, .f32⟩
  | 124 => ⟨S32x128x8x64, .f32⟩
  | 125 => ⟨S_, .f32⟩
  | 126 => ⟨S32x128x8, .f32⟩
  | 127 => ⟨S32x128x8, .f32⟩
  | _ => ⟨S4096x4608, .f32⟩

abbrev hbmTy0_1 (i : Nat) : BufTy := match i % 128 with
  | 0 => ⟨S32x8x128, .f32⟩
  | 1 => ⟨S32x8x64x128, .f32⟩
  | 2 => ⟨S32x8x128x256, .f32⟩
  | 3 => ⟨S32x8x64x256, .f32⟩
  | 4 => ⟨S32x256x8x64, .f32⟩
  | 5 => ⟨S32x8x128x256, .f32⟩
  | 6 => ⟨S32x8x128x256, .f32⟩
  | 7 => ⟨S32x8x128x256, .f32⟩
  | 8 => ⟨S32x8x128x256, .f32⟩
  | 9 => ⟨S_, .f32⟩
  | 10 => ⟨S32x8x128, .f32⟩
  | 11 => ⟨S32x8x128x1, .f32⟩
  | 12 => ⟨S32x8x128x1, .f32⟩
  | 13 => ⟨S_, .f32⟩
  | 14 => ⟨S32x8x128, .f32⟩
  | 15 => ⟨S32x8x128, .f32⟩
  | 16 => ⟨S32x8x128x256, .f32⟩
  | 17 => ⟨S32x8x128x256, .f32⟩
  | 18 => ⟨S32x8x128x256, .f32⟩
  | 19 => ⟨S_, .f32⟩
  | 20 => ⟨S32x8x128x256, .f32⟩
  | 21 => ⟨S32x8x128x256, .f32⟩
  | 22 => ⟨S_, .f32⟩
  | 23 => ⟨S32x8x128x256, .f32⟩
  | 24 => ⟨S32x8x128x256, .f32⟩
  | 25 => ⟨S32x8x256x64, .f32⟩
  | 26 => ⟨S32x256x8x64, .f32⟩
  | 27 => ⟨S32x8x128x64, .f32⟩
  | 28 => ⟨S32x128x8x64, .f32⟩
  | 29 => ⟨S32x128x8x64, .f32⟩
  | 30 => ⟨S32x128x8x64, .f32⟩
  | 31 => ⟨S1x128x8x64, .f32⟩
  | 32 => ⟨S31x128x8x64, .f32⟩
  | 33 => ⟨S_, .f32⟩
  | 34 => ⟨S32x128x8x64, .f32⟩
  | 35 => ⟨S32x128x8x64, .f32⟩
  | 36 => ⟨S4096x8x64, .f32⟩
  | 37 => ⟨S32x128x8x64, .f32⟩
  | 38 => ⟨S32x128x8x64, .f32⟩
  | 39 => ⟨S1x128x8x64, .f32⟩
  | 40 => ⟨S31x128x8x64, .f32⟩
  | 41 => ⟨S_, .f32⟩
  | 42 => ⟨S32x128x8x64, .f32⟩
  | 43 => ⟨S32x128x8x64, .f32⟩
  | 44 => ⟨S4096x8x64, .f32⟩
  | 45 => ⟨S4096x8x64, .f32⟩
  | 46 => ⟨S4096x512, .f32⟩
  | 47 => ⟨S4096x512, .f32⟩
  | 48 => ⟨S4096x512, .f32⟩
  | 49 => ⟨S_, .f32⟩
  | 50 => ⟨S4096x3072, .f32⟩
  | 51 => ⟨S4096x4608, .f32⟩
  | 52 => ⟨S4096x4608, .bf16⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_call0_v0 : Ref sig .tc := ⟨.hbm, 70, rfl⟩
abbrev main_v55_1 : Ref sig .tc := ⟨.hbm, 71, rfl⟩
abbrev main_call0_v2 : Ref sig .tc := ⟨.hbm, 72, rfl⟩
abbrev main_v55_0 : Ref sig .tc := ⟨.hbm, 73, rfl⟩
abbrev main_call0_cst : Ref sig .tc := ⟨.hbm, 74, rfl⟩
abbrev main_v55_2 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_15 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_17 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_18 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_call1_cst : Ref sig .tc := ⟨.hbm, 147, rfl⟩
abbrev main_call1_v0 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_20 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_21 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_22 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩

abbrev nD : Nat := 1
abbrev τ : Topo := Topo.v7x

variable {F : FTy → Type} [FloatOps F]
-- ==== Kernel21.lean ====
abbrev S4096x4608 : Shape := ⟨2, ![4096, 4608]⟩
abbrev S4096x512 : Shape := ⟨2, ![4096, 512]⟩
abbrev S128x512 : Shape := ⟨2, ![128, 512]⟩
abbrev S128x128 : Shape := ⟨2, ![128, 128]⟩
abbrev S1x128x128 : Shape := ⟨3, ![1, 128, 128]⟩
abbrev S4x128x128 : Shape := ⟨3, ![4, 128, 128]⟩
abbrev S1x128x256 : Shape := ⟨3, ![1, 128, 256]⟩
abbrev S4x256x128 : Shape := ⟨3, ![4, 256, 128]⟩
abbrev S4x128x256 : Shape := ⟨3, ![4, 128, 256]⟩
abbrev S4x128 : Shape := ⟨2, ![4, 128]⟩
abbrev S4x128x1 : Shape := ⟨3, ![4, 128, 1]⟩

abbrev nBuf : Space → Nat
  | .hbm => 3
  | .vmem => 14
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.addi c1_i32_0 arg1
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.addi c2_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
variable {F : FTy → Type} [FloatOps F] [Named F]
def κ : String → Option EReal := fun
  | "mask" => some ⊥
  | _ => none
-- ==== Reference21Ideal.lean ====
abbrev S4096x4608 : Shape := ⟨2, ![4096, 4608]⟩
abbrev S4096x512 : Shape := ⟨2, ![4096, 512]⟩
abbrev S4096x8x64 : Shape := ⟨3, ![4096, 8, 64]⟩
abbrev S32x128x8x64 : Shape := ⟨4, ![32, 128, 8, 64]⟩
abbrev S1x128x8x64 : Shape := ⟨4, ![1, 128, 8, 64]⟩
abbrev S_ : Shape := ⟨0, ![]⟩
abbrev S31x128x8x64 : Shape := ⟨4, ![31, 128, 8, 64]⟩
abbrev S32x256x8x64 : Shape := ⟨4, ![32, 256, 8, 64]⟩
abbrev S32x8x128x256 : Shape := ⟨4, ![32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x128x256 : Shape := ⟨4, ![32, 1, 128, 256]⟩
abbrev S32x8x128 : Shape := ⟨3, ![32, 8, 128]⟩
abbrev S32x8x128x1 : Shape := ⟨4, ![32, 8, 128, 1]⟩
abbrev S32x8x64x128 : Shape := ⟨4, ![32, 8, 64, 128]⟩
abbrev S32x128x8 : Shape := ⟨3, ![32, 128, 8]⟩
abbrev S32x128x8x1 : Shape := ⟨4, ![32, 128, 8, 1]⟩
abbrev S4096x8 : Shape := ⟨2, ![4096, 8]⟩

abbrev nBuf : Space → Nat
  | .hbm => 90
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S4096x8x64, .f32⟩
  | .hbm, ⟨6, _⟩ => ⟨S4096x8x64, .f32⟩
  | .hbm, ⟨7, _⟩ => ⟨S32x128x8x64, .f32⟩
  | .hbm, ⟨8, _⟩ => ⟨S32x128x8x64, .f32⟩
  | .hbm, ⟨9, _⟩ => ⟨S1x128x8x64, .f32⟩
  | .hbm, ⟨10, _⟩ => ⟨S_, .f32⟩
  | .hbm, ⟨11, _⟩ => ⟨S1x128x8x64, .f32⟩
  | .hbm, ⟨12, _⟩ => ⟨S31x128x8x64, .f32⟩
  | .hbm, ⟨13, _⟩ => ⟨S32x128x8x64, .f32⟩
  | .hbm, ⟨14, _⟩ => ⟨S32x256x8x64, .f32⟩
  | .hbm, ⟨15, _⟩ => ⟨S32x128x8x64, .f32⟩
  | .hbm, ⟨16, _⟩ => ⟨S1x128x8x64, .f32⟩
  | .hbm, ⟨17, _⟩ => ⟨S_, .f32⟩
  | .hbm, ⟨18, _⟩ => ⟨S1x128x8x64, .f32⟩
  | .hbm, ⟨19, _⟩ => ⟨S31x128x8x64, .f32⟩
  | .hbm, ⟨20, _⟩ => ⟨S32x128x8x64, .f32⟩
  | .hbm, ⟨21, _⟩ => ⟨S32x256x8x64, .f32⟩
  | .hbm, ⟨22, _⟩ => ⟨S32x8x128x256, .f32⟩
  | .hbm, ⟨23, _⟩ => ⟨S_, .f32⟩
  | .hbm, ⟨24, _⟩ => ⟨S32x8x128x256, .f32⟩
  | .hbm, ⟨25, _⟩ => ⟨S32x8x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S32x256, .i32⟩
  | .hbm, ⟨42, _⟩ => ⟨S32x256, .i32⟩
  | .hbm, ⟨43, _⟩ => ⟨S32x256, .i32⟩
  | .hbm, ⟨44, _⟩ => ⟨S_, .i32⟩
  | .hbm, ⟨45, _⟩ => ⟨S32x256, .i32⟩
  | .hbm, ⟨46, _⟩ => ⟨S32x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S32x256, .i32⟩
  | .hbm, ⟨57, _⟩ => ⟨S32x256, .i1⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S32x1x128x256, .i1⟩
  | .hbm, ⟨63, _⟩ => ⟨S_, .f32⟩
  | .hbm, ⟨64, _⟩ => ⟨S_, .f32⟩
  | .hbm, ⟨65, _⟩ => ⟨S32x8x128x256, .i1⟩
  | .hbm, ⟨66, _⟩ => ⟨S32x8x128x256, .f32⟩
  | .hbm, ⟨67, _⟩ => ⟨S32x8x128x256, .f32⟩
  | .hbm, ⟨68, _⟩ => ⟨S_, .f32⟩
  | .hbm, ⟨69, _⟩ => ⟨S32x8x128, .f32⟩
  | .hbm, ⟨70, _⟩ => ⟨S32x8x128x1, .f32⟩
  | .hbm, ⟨71, _⟩ => ⟨S32x8x128x256, .f32⟩
  | .hbm, ⟨72, _⟩ => ⟨S32x8x128x256, .f32⟩
  | .hbm, ⟨73, _⟩ => ⟨S32x8x128x256, .f32⟩
  | .hbm, ⟨74, _⟩ => ⟨S_, .f32⟩
  | .hbm, ⟨75, _⟩ => ⟨S32x8x128, .f32⟩
  | .hbm, ⟨76, _⟩ => ⟨S32x8x64x128, .f32⟩
  | .hbm, ⟨77, _⟩ => ⟨S32x128x8x64, .f32⟩
  | .hbm, ⟨78, _⟩ => ⟨S32x128x8, .f32⟩
  | .hbm, ⟨79, _⟩ => ⟨S32x128x8x1, .f32⟩
  | .hbm, ⟨80, _⟩ => ⟨S32x128x8x64, .f32⟩
  | .hbm, ⟨81, _⟩ => ⟨S32x128x8x64, .f32⟩
  | .hbm, ⟨82, _⟩ => ⟨S4096x512, .f32⟩
  | .hbm, ⟨83, _⟩ => ⟨S32x8x128, .f32⟩
  | .hbm, ⟨84, _⟩ => ⟨S32x128x8, .f32⟩
  | .hbm, ⟨85, _⟩ => ⟨S32x128x8, .f32⟩
  | .hbm, ⟨86, _⟩ => ⟨S32x128x8, .f32⟩
  | .hbm, ⟨87, _⟩ => ⟨S4096x8, .f32⟩
  | .hbm, ⟨88, _⟩ => ⟨S4096x8x64, .f32⟩
  | .hbm, ⟨89, _⟩ => ⟨S4096x512, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_3 : Ref sig .tc := ⟨.hbm, 44, rfl⟩
abbrev main_v38 : Ref sig .tc := ⟨.hbm, 45, rfl⟩
abbrev main_v39 : Ref sig .tc := ⟨.hbm, 46, rfl⟩
abbrev main_c_4 : Ref sig .tc := ⟨.hbm, 47, rfl⟩
abbrev main_v40 : Ref sig .tc := ⟨.hbm, 48, rfl⟩
abbrev main_v41 : Ref sig .tc := ⟨.hbm, 49, rfl⟩
abbrev main_c_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x2816 : Shape := ⟨3, ![2, 4096, 2816]⟩
abbrev S4x1024x1408 : Shape := ⟨3, ![4, 1024, 1408]⟩
abbrev S4096x2x2816 : Shape := ⟨3, ![4096, 2, 2816]⟩
abbrev S4096x5632 : Shape := ⟨2, ![4096, 5632]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x2x2816, .bf16⟩
  | .hbm, ⟨3, _⟩ => ⟨S4096x5632, .bf16⟩
  | .hbm, ⟨4, _⟩ => ⟨S4096x5632, .f32⟩
  | .hbm, ⟨5, _⟩ => ⟨S1024x4x1408, .bf16⟩
  | .hbm, ⟨6, _⟩ => ⟨S1024x5632, .bf16⟩
  | .hbm, ⟨7, _⟩ => ⟨S1024x5632, .f32⟩
  | .hbm, ⟨8, _⟩ => ⟨S_, .f32⟩
  | .hbm, ⟨9, _⟩ => ⟨S4096x1024, .f32⟩
  | .hbm, ⟨10, _⟩ => ⟨S4096x5632, .f32⟩
  | .hbm, ⟨11, _⟩ => ⟨S4096x1024, .f32⟩
  | .hbm, ⟨12, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x4608 : Shape := ⟨2, ![4096, 4608]⟩
abbrev S4096x1024 : Shape := ⟨2, ![4096, 1024]⟩
abbrev S4608x1024 : Shape := ⟨2, ![4608, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S4608x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4608 : Shape := ⟨2, ![4096, 4608]⟩
abbrev S4096x1024 : Shape := ⟨2, ![4096, 1024]⟩
abbrev S_ : Shape := ⟨0, ![]⟩
abbrev S4608x1024 : Shape := ⟨2, ![4608, 1024]⟩
abbrev S1024x4608 : Shape := ⟨2, ![1024, 4608]⟩

abbrev nBuf : Space → Nat
  | .hbm => 12
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S4096x4608, .f32⟩
  | .hbm, ⟨3, _⟩ => ⟨S4096x1024, .f32⟩
  | .hbm, ⟨4, _⟩ => ⟨S_, .f32⟩
  | .hbm, ⟨5, _⟩ => ⟨S4608x1024, .f32⟩
  | .hbm, ⟨6, _⟩ => ⟨S1024x4608, .f32⟩
  | .hbm, ⟨7, _⟩ => ⟨S4096x4608, .f32⟩
  | .hbm, ⟨8, _⟩ => ⟨S4608x1024, .f32⟩
  | .hbm, ⟨9, _⟩ => ⟨S1024x4608, .f32⟩
  | .hbm, ⟨10, _⟩ => ⟨S4608x1024, .f32⟩
  | .hbm, ⟨11, _⟩ => ⟨S4608x1024, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x3456 : Shape := ⟨2, ![4096, 3456]⟩
abbrev S4096x1024 : Shape := ⟨2, ![4096, 1024]⟩
abbrev S3456x1024 : Shape := ⟨2, ![3456, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3456, .bf16⟩
  | .hbm, ⟨1, _⟩ => ⟨S4096x1024, .bf16⟩
  | .hbm, ⟨2, _⟩ => ⟨S3456x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x3456 : Shape := ⟨2, ![4096, 3456]⟩
abbrev S4096x1024 : Shape := ⟨2, ![4096, 1024]⟩
abbrev S_ : Shape := ⟨0, ![]⟩
abbrev S3456x1024 : Shape := ⟨2, ![3456, 1024]⟩
abbrev S1024x3456 : Shape := ⟨2, ![1024, 3456]⟩

abbrev nBuf : Space → Nat
  | .hbm => 12
  | .vmem => 0
  | .smem => 0
  | _ => 0

abbrev bufTy : (tb : Table) → Fin (tcTables nBuf tb) → BufTy
  | .hbm, ⟨0, _⟩ => ⟨S4096x3456, .bf16⟩
  | .hbm, ⟨1, _⟩ => ⟨S4096x1024, .bf16⟩
  | .hbm, ⟨2, _⟩ => ⟨S4096x3456, .f32⟩
  | .hbm, ⟨3, _⟩ => ⟨S4096x1024, .f32⟩
  | .hbm, ⟨4, _⟩ => ⟨S_, .f32⟩
  | .hbm, ⟨5, _⟩ => ⟨S3456x1024, .f32⟩
  | .hbm, ⟨6, _⟩ => ⟨S1024x3456, .f32⟩
  | .hbm, ⟨7, _⟩ => ⟨S4096x3456, .f32⟩
  | .hbm, ⟨8, _⟩ => ⟨S3456x1024, .f32⟩
  | .hbm, ⟨9, _⟩ => ⟨S1024x3456, .f32⟩
  | .hbm, ⟨10, _⟩ => ⟨S3456x1024, .f32⟩
  | .hbm, ⟨11, _⟩ => ⟨S3456x1024, .bf16⟩
  | _, _ => ⟨S4096x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x1024 : Shape := ⟨2, ![4096, 1024]⟩
abbrev S4608x1024 : Shape := ⟨2, ![4608, 1024]⟩
abbrev S4096x4608 : Shape := ⟨2, ![4096, 4608]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4608x1024 : Shape := ⟨2, ![4608, 1024]⟩
abbrev S1024x4608 : Shape := ⟨2, ![1024, 4608]⟩
abbrev S4096x4608 : Shape := ⟨2, ![4096, 4608]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x1024, .f32⟩
  | .hbm, ⟨3, _⟩ => ⟨S4608x1024, .f32⟩
  | .hbm, ⟨4, _⟩ => ⟨S1024x4608, .f32⟩
  | .hbm, ⟨5, _⟩ => ⟨S4096x4608, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S3456x1024 : Shape := ⟨2, ![3456, 1024]⟩
abbrev S4096x3456 : Shape := ⟨2, ![4096, 3456]⟩
abbrev S1024x1024 : Shape := ⟨2, ![1024, 1024]⟩
abbrev S1152x1024 : Shape := ⟨2, ![1152, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3456x1024, .bf16⟩
  | .hbm, ⟨2, _⟩ => ⟨S4096x3456, .bf16⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .bf16⟩
  | .local _ .vmem, ⟨5, _⟩ => ⟨S1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S3456x1024 : Shape := ⟨2, ![3456, 1024]⟩
abbrev S1024x3456 : Shape := ⟨2, ![1024, 3456]⟩
abbrev S4096x3456 : Shape := ⟨2, ![4096, 3456]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3456x1024, .bf16⟩
  | .hbm, ⟨2, _⟩ => ⟨S4096x1024, .f32⟩
  | .hbm, ⟨3, _⟩ => ⟨S3456x1024, .f32⟩
  | .hbm, ⟨4, _⟩ => ⟨S1024x3456, .f32⟩
  | .hbm, ⟨5, _⟩ => ⟨S4096x3456, .f32⟩
  | .hbm, ⟨6, _⟩ => ⟨S4096x3456, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S1024x2048, .f32⟩
  | .hbm, ⟨5, _⟩ => ⟨S4096x2048, .f32⟩
  | .hbm, ⟨6, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4096x2048 : Shape := ⟨2, ![4096, 2048]⟩
abbrev S4096x1024 : Shape := ⟨2, ![4096, 1024]⟩
abbrev S1x2048 : Shape := ⟨2, ![1, 2048]⟩
abbrev S512x2048 : Shape := ⟨2, ![512, 2048]⟩
abbrev S512x1024 : Shape := ⟨2, ![512, 1024]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1x2048, .f32⟩
  | .hbm, ⟨4, _⟩ => ⟨S4096x1024, .bf16⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference22Ideal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1x2048, .f32⟩
  | .hbm, ⟨4, _⟩ => ⟨S4096x1024, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .bf16⟩
  | .hbm, ⟨38, _⟩ => ⟨S4096x1024, .bf16⟩
  | .hbm, ⟨39, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel24.lean ====
abbrev S4096x2048 : Shape := ⟨2, ![4096, 2048]⟩
abbrev S4096x1024 : Shape := ⟨2, ![4096, 1024]⟩
abbrev S1x2048 : Shape := ⟨2, ![1, 2048]⟩
abbrev S512x2048 : Shape := ⟨2, ![512, 2048]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1x2048, .f32⟩
  | .hbm, ⟨4, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1x2048, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.ConvMath.lean ====
/- The mathematics of the gradient of the causal depthwise convolution and its gate, one column of the arrays at a
   time: a column is a sequence of 4096 extended reals, the convolution has three taps and a bias per column, and the
   gate multiplies the logistic-weighted first half by the second half. Nothing here names a program. -/
module

public import Idealize.ShloMosaic.PureOps.Ideal.Laws

@[expose] public section

noncomputable section

namespace Cert.Proof.Conv

open Idealize.ShloMosaic

/-- A column: one extended real per row. -/
abbrev Col := Fin 4096 → EReal

/-- The column moved down by `k` rows, zeros entering at the top. -/
def down (k : Nat) (f : Col) (r : Fin 4096) : EReal :=
  if r.val < k then 0 else f ⟨r.val - k, Nat.lt_of_le_of_lt (Nat.sub_le _ _) r.isLt⟩

/-- The column moved up by `k` rows, zeros entering at the bottom. -/
def up (k : Nat) (f : Col) (r : Fin 4096) : EReal :=
  if h : r.val + k < 4096 then f ⟨r.val + k, h⟩ else 0

/-- The causal convolution of a column with taps `w0`, `w1`, `w2` and bias `b`. -/
def pre (b w0 w1 w2 : EReal) (f : Col) (r : Fin 4096) : EReal :=
  b + w0 * down 2 f r + w1 * down 1 f r + w2 * f r

/-- The gradient that reaches the second half of the gate. -/
def dval (d g : EReal) : EReal := d * g * Ideal.logistic g

/-- The gradient that reaches the first half of the gate, with the common factor taken out. -/
def dgate (d g v : EReal) : EReal := d * v * Ideal.logistic g * (1 + g * (1 - Ideal.logistic g))

/-- The transposed convolution: what a column of gradients gives back to the convolution's input. -/
def spread (w0 w1 w2 : EReal) (f : Col) (r : Fin 4096) : EReal :=
  w2 * f r + w1 * up 1 f r + w0 * up 2 f r

/-- The gradient of tap `j`: the inner product of the gradients with the input moved down by `2 - j`. -/
def dtap (j : Nat) (D f : Col) : EReal := ∑ r, D r * down (2 - j) f r

/-- Moving a column down by nothing leaves it. -/
theorem down_zero (f : Col) (r : Fin 4096) : down 0 f r = f r := by
  unfold down; rw [if_neg (Nat.not_lt_zero _)]; rfl

/-! ## Extended reals that are real -/

/-- An extended real that is a real number. -/
def Fin' (x : EReal) : Prop := ∃ a : ℝ, x = (a : EReal)

theorem Fin'.add {x y : EReal} : Fin' x → Fin' y → Fin' (x + y) := by
  rintro ⟨a, rfl⟩ ⟨b, rfl⟩; exact ⟨a + b, (EReal.coe_add a b).symm⟩

theorem Fin'.mul {x y : EReal} : Fin' x → Fin' y → Fin' (x * y) := by
  rintro ⟨a, rfl⟩ ⟨b, rfl⟩; exact ⟨a * b, (EReal.coe_mul a b).symm⟩

theorem Fin'.zero : Fin' 0 := ⟨0, rfl⟩

theorem Fin'.down {f : Col} (h : ∀ r, Fin' (f r)) (k : Nat) (r : Fin 4096) : Fin' (down k f r) := by
  unfold Conv.down; split
  · exact Fin'.zero
  · exact h _

/-- The convolution of real numbers is real. -/
theorem Fin'.pre {b w0 w1 w2 : EReal} {f : Col} (hb : Fin' b) (h0 : Fin' w0) (h1 : Fin' w1) (h2 : Fin' w2)
    (h : ∀ r, Fin' (f r)) (r : Fin 4096) : Fin' (pre b w0 w1 w2 f r) :=
  ((hb.add (h0.mul (Fin'.down h 2 r))).add (h1.mul (Fin'.down h 1 r))).add (h2.mul (h r))

/-- The logistic of a real number is real. -/
theorem Fin'.logistic {x : EReal} : Fin' x → Fin' (Ideal.logistic x) := by
  rintro ⟨a, rfl⟩
  have hp : (0 : ℝ) < 1 + Real.exp (-a) := by positivity
  refine ⟨1 / (1 + Real.exp (-a)), ?_⟩
  show Ideal.div 1 (1 + Ideal.exp (-(a : EReal))) = _
  have e : Ideal.exp (-(a : EReal)) = ((Real.exp (-a) : ℝ) : EReal) := rfl
  have e1 : (1 : EReal) + ((Real.exp (-a) : ℝ) : EReal) = ((1 + Real.exp (-a) : ℝ) : EReal) := by
    rw [EReal.coe_add]; rfl
  rw [e, e1]
  unfold Ideal.div
  rw [if_neg (by intro h; exact hp.ne' (EReal.coe_eq_zero.mp h)), one_mul, one_div, EReal.coe_inv]

/-- On real numbers the two usual spellings of the gradient through `g * logistic g` agree. -/
theorem dgate_eq {d g v : EReal} (hd : Fin' d) (hg : Fin' g) (hv : Fin' v) :
    d * v * Ideal.logistic g + g * (d * v) * (Ideal.logistic g * (1 - Ideal.logistic g)) = dgate d g v := by
  obtain ⟨s, hs⟩ := hg.logistic
  unfold dgate
  rw [hs]
  obtain ⟨a, rfl⟩ := hd
  obtain ⟨b, rfl⟩ := hg
  obtain ⟨c, rfl⟩ := hv
  have e1 : (1 : EReal) = ((1 : ℝ) : EReal) := rfl
  rw [e1]
  simp only [← EReal.coe_mul, ← EReal.coe_add, ← EReal.coe_sub]
  exact congrArg _ (by ring)

end Cert.Proof.Conv

end
-- ==== Proof.ConvBlock.lean ====
/- What one grid point of the convolution-gradient kernel computes from its blocks, read column by column: the rotated
   and masked blocks are the columns moved down or up, so each payload is the formula of `ConvMath`. -/
module

public import proofs.«01_k».proof.Proof.ConvMath
public import proofs.«01_k».proof.Proof.Gen.KernelIdeal.Value
public import Idealize.ShloMosaic.Lib.KernelVsHost
public import Idealize.ShloMosaic.Lib.IdealHost
public import Idealize.ShloMosaic.Lib.Routing.BitFacts

@[expose] public section

noncomputable section

namespace Cert.Proof.Conv

open Cert.KernelIdeal Cert.KernelIdeal.Gen Cert.KernelIdeal.Value
open Idealize.ShloMosaic Idealize.ShloMosaic.TcCoe Idealize.SL.Sem Idealize.ShloMosaic.ValueIdx

/-- Column `q` of a block. -/
abbrev col (x : FVec Ideal S4096x128 .f32) (q : Fin 128) : Col := fun r => x (ix2 r q)

/-- A row vector put under every row of a block. -/
theorem row_apply (v : FVec Ideal S1x128 .f32) (h : S1x128.Broadcasts S4096x128) (r : Fin 4096) (q : Fin 128) :
    broadcastTo S4096x128 v h (ix2 r q) = v (ix2 0 q) :=
  broadcastTo_apply v h (ix2 r q) (ix2 0 q) (by intro a; match a with | ⟨0, _⟩ => rfl | ⟨1, _⟩ => rfl)

/-- A block rotated down by `k` rows with the first `k` rows put to zero is the block's columns moved down. -/
theorem down_apply (k : Nat) (hk : k < 4096) (x : FVec Ideal S4096x128 .f32) (hi : S4096x128.Iotas .tc 32 [0])
    (hr : S4096x128.Rotates 0 none) (r : Fin 4096) (q : Fin 128) :
    select (cmpi .slt (iota .tc S4096x128 32 [0] hi) (broadcast S4096x128 (BitVec.ofNat 32 k)))
      (broadcast S4096x128 (Scalar.ofBits (F := Ideal) .f32 0x00000000#32)) (dynamicRotate 0 (BitVec.ofNat 32 k) none x hr) (ix2 r q)
      = down k (col x q) r := by
  have hr' := r.isLt
  rw [select_apply]
  have e : cmpi .slt (iota .tc S4096x128 32 [0] hi) (broadcast S4096x128 (BitVec.ofNat 32 k)) (ix2 r q)
      = BitVec.ofBool (decide (r.val < k)) := by
    show BitVec.ofBool ((iota .tc S4096x128 32 [0] hi (ix2 r q)).slt (BitVec.ofNat 32 k)) = _
    rw [iota_single_apply]
    exact congrArg _ (Routing.slt_ofNat32 (by show r.val < _; omega) (by omega))
  rw [e]
  unfold down
  by_cases h : r.val < k
  · rw [if_pos h, decide_eq_true h]; exact Ideal.ofBits_zero_f32
  · rw [if_neg h, decide_eq_false h]
    refine (dynamicRotate_apply (0 : Fin 2) _ x hr (ix2 r q) (ix2 ⟨r.val - k, by omega⟩ q) ?_)
    intro b
    match b with
    | ⟨0, _⟩ =>
      show r.val - k = (r.val + 4096 - (BitVec.ofNat 32 k).toNat % 4096) % 4096
      rw [BitVec.toNat_ofNat]; omega
    | ⟨1, _⟩ => rfl

/-- A block rotated up by `k` rows (down by `4096 - k`) with the last `k` rows put to zero is the block's columns moved up. -/
theorem up_apply (k : Nat) (hk : k < 4096) (hk0 : 0 < k) (x : FVec Ideal S4096x128 .f32) (hi : S4096x128.Iotas .tc 32 [0])
    (hr : S4096x128.Rotates 0 none) (r : Fin 4096) (q : Fin 128) :
    select (cmpi .sge (iota .tc S4096x128 32 [0] hi) (broadcast S4096x128 (BitVec.ofNat 32 (4096 - k))))
      (broadcast S4096x128 (Scalar.ofBits (F := Ideal) .f32 0x00000000#32)) (dynamicRotate 0 (BitVec.ofNat 32 (4096 - k)) none x hr) (ix2 r q)
      = up k (col x q) r := by
  have hr' := r.isLt
  rw [select_apply]
  have e : cmpi .sge (iota .tc S4096x128 32 [0] hi) (broadcast S4096x128 (BitVec.ofNat 32 (4096 - k))) (ix2 r q)
      = BitVec.ofBool (decide (4096 - k ≤ r.val)) := by
    show BitVec.ofBool ((BitVec.ofNat 32 (4096 - k)).sle (iota .tc S4096x128 32 [0] hi (ix2 r q))) = _
    rw [iota_single_apply]
    refine congrArg _ ?_
    show (BitVec.ofNat 32 (4096 - k)).sle (BitVec.ofNat 32 r.val) = _
    rw [BitVec.sle_eq_not_slt, Routing.slt_ofNat32 (by omega) (by omega)]
    by_cases h : r.val < 4096 - k
    · rw [decide_eq_true h, decide_eq_false (by omega)]; rfl
    · rw [decide_eq_false h, decide_eq_true (by omega)]; rfl
  rw [e]
  unfold up
  by_cases h : r.val + k < 4096
  · rw [dif_pos h, decide_eq_false (by omega)]
    refine (dynamicRotate_apply (0 : Fin 2) _ x hr (ix2 r q) (ix2 ⟨r.val + k, h⟩ q) ?_)
    intro b
    match b with
    | ⟨0, _⟩ =>
      show r.val + k = (r.val + 4096 - (BitVec.ofNat 32 (4096 - k)).toNat % 4096) % 4096
      rw [BitVec.toNat_ofNat]; omega
    | ⟨1, _⟩ => rfl
  · rw [dif_neg h, decide_eq_true (by omega)]; exact Ideal.ofBits_zero_f32

/-- A block summed over its rows and laid out as a row. -/
theorem rowsum_apply (y : FVec Ideal S4096x128 .f32) (h : S4096x128.Reduces [0] S128) (hφ : FKind.Formats FTy.f32) (hacc)
    (hs : S128.ShapeCasts S1x128) (a : Fin 1) (q : Fin 128) :
    shapeCast S1x128 (multiReduction (F := Ideal) .add [0] S128 y 0x00000000#32 h hφ hacc) hs (ix2 a q) = ∑ r : Fin 4096, y (ix2 r q) := by
  refine (shapeCast_apply _ hs (ix2 a q) (ix1 q) ?_).trans ?_
  · rw [Shape.rowMajor_val_one, Shape.rowMajor_val_two]
    show q.val = a.val * 128 + q.val; omega
  · rw [Ideal.multiReduction_add_single]
    refine Finset.sum_congr rfl fun k _ => congrArg y ?_
    funext a; apply Fin.ext
    match a with | ⟨0, _⟩ => rfl | ⟨1, _⟩ => rfl

/-! ## The payloads -/

section
variable (ug uv da : FVec Ideal S4096x128 .f32) (wg wv : FVec Ideal S3x128 .f32) (bg bv : FVec Ideal S1x128 .f32)

/-- Column `q` of the convolved block. -/
abbrev preCol (u : FVec Ideal S4096x128 .f32) (w : FVec Ideal S3x128 .f32) (b : FVec Ideal S1x128 .f32) (q : Fin 128) : Col :=
  pre (b (ix2 0 q)) (w (ix2 0 q)) (w (ix2 1 q)) (w (ix2 2 q)) (col u q)

/-- Column `q` of the gradients reaching the first half. -/
abbrev dgCol (q : Fin 128) : Col :=
  fun r => dgate (da (ix2 r q)) (preCol ug wg bg q r) (preCol uv wv bv q r)

/-- Column `q` of the gradients reaching the second half. -/
abbrev dvCol (q : Fin 128) : Col := fun r => dval (da (ix2 r q)) (preCol ug wg bg q r)

/-- The offsets of a whole load are zero. -/
theorem off_zero : (![0, 0] : Fin 2 → Nat) = fun _ => 0 := funext fun a => by fin_cases a <;> rfl

/-- A load of a whole block reads the block. -/
theorem ld0 (x : Vec Ideal S4096x128 .f32) : View.ld (Val := Elt Ideal) (e' := .f32) x r0_0 = x := View.ld_unit_zero off_zero _ x
theorem ld1 (x : Vec Ideal S1x128 .f32) : View.ld (Val := Elt Ideal) (e' := .f32) x r0_1 = x := View.ld_unit_zero off_zero _ x

/-- Row 0 of the taps, loaded as a row. -/
theorem ld2 (x : Vec Ideal S3x128 .f32) (q : Fin 128) :
    (View.ld (Val := Elt Ideal) (e' := .f32) x r0_2 : Vec Ideal S1x128 .f32) (ix2 (0 : Fin 1) q) = x (ix2 0 q) :=
  congrArg x (funext fun a => Fin.ext (by
    match a with
    | ⟨0, _⟩ => rfl
    | ⟨1, _⟩ => show 0 + 1 * q.val = q.val; omega))

/-- Row 1 of the taps, loaded as a row. -/
theorem ld3 (x : Vec Ideal S3x128 .f32) (q : Fin 128) :
    (View.ld (Val := Elt Ideal) (e' := .f32) x r0_3 : Vec Ideal S1x128 .f32) (ix2 (0 : Fin 1) q) = x (ix2 1 q) :=
  congrArg x (funext fun a => Fin.ext (by
    match a with
    | ⟨0, _⟩ => rfl
    | ⟨1, _⟩ => show 0 + 1 * q.val = q.val; omega))

/-- Row 2 of the taps, loaded as a row. -/
theorem ld4 (x : Vec Ideal S3x128 .f32) (q : Fin 128) :
    (View.ld (Val := Elt Ideal) (e' := .f32) x r0_4 : Vec Ideal S1x128 .f32) (ix2 (0 : Fin 1) q) = x (ix2 2 q) :=
  congrArg x (funext fun a => Fin.ext (by
    match a with
    | ⟨0, _⟩ => rfl
    | ⟨1, _⟩ => show 0 + 1 * q.val = q.val; omega))

/-- The convolved gate block. -/
theorem pay24_apply (r : Fin 4096) (q : Fin 128) :
    k0_pay24 (F := Ideal) ug uv wg wv bg bv da (ix2 r q) = preCol ug wg bg q r := by
  unfold k0_pay24 k0_pay6
  simp only [ld0, ld1, addf_apply, mulf_apply, row_apply, ld2, ld3, ld4]
  rw [down_apply 2 (by omega), down_apply 1 (by omega)]
  erw [ld2, ld3, ld4]
  rfl

/-- The gradients reaching the second half. -/
theorem pay26_apply (r : Fin 4096) (q : Fin 128) :
    k0_pay26 (F := Ideal) ug uv wg wv bg bv da (ix2 r q) = dvCol ug da wg bg q r := by
  unfold k0_pay26 k0_pay10 k0_pay8
  simp only [ld0, mulf_apply]
  show da (ix2 r q) * k0_pay24 (F := Ideal) ug uv wg wv bg bv da (ix2 r q)
    * Ideal.logistic (k0_pay24 (F := Ideal) ug uv wg wv bg bv da (ix2 r q)) = _
  rw [pay24_apply]; rfl

/-- The gradients reaching the first half. -/
theorem pay25_apply (r : Fin 4096) (q : Fin 128) :
    k0_pay25 (F := Ideal) ug uv wg wv bg bv da (ix2 r q) = dgCol ug uv da wg wv bg bv q r := by
  have hone : Scalar.ofBits (F := Ideal) .f32 0x3F800000#32 = (1 : EReal) := Ideal.ofBits_one_f32
  unfold k0_pay25 k0_pay9 k0_pay8 k0_pay7
  simp only [ld0, ld1, addf_apply, mulf_apply, subf_apply, broadcast_apply, row_apply, ld2, ld3, ld4, hone]
  rw [down_apply 2 (by omega), down_apply 1 (by omega)]
  erw [ld2, ld3, ld4]
  show da (ix2 r q) * preCol uv wv bv q r * Ideal.logistic (k0_pay24 (F := Ideal) ug uv wg wv bg bv da (ix2 r q))
    * (1 + k0_pay24 (F := Ideal) ug uv wg wv bg bv da (ix2 r q) * (1 - Ideal.logistic (k0_pay24 (F := Ideal) ug uv wg wv bg bv da (ix2 r q)))) = _
  rw [pay24_apply]; rfl

/-- The transposed convolution of the first half's gradients. -/
theorem pay15_apply (D : FVec Ideal S4096x128 .f32) (w : FVec Ideal S3x128 .f32) (a : Fin 1) (r : Fin 4096) (q : Fin 128) :
    k0_pay15 (F := Ideal) D (View.ld (Val := Elt Ideal) (e' := .f32) w r0_4) (View.ld (Val := Elt Ideal) (e' := .f32) w r0_3) (View.ld (Val := Elt Ideal) (e' := .f32) w r0_2) (ix3 a r q)
      = spread (w (ix2 0 q)) (w (ix2 1 q)) (w (ix2 2 q)) (col D q) r := by
  unfold k0_pay15
  refine (shapeCast_apply _ _ (ix3 a r q) (ix2 r q) ?_).trans ?_
  · rw [Shape.rowMajor_val_two, Shape.rowMajor_val_three]
    show r.val * 128 + q.val = (a.val * 4096 + r.val) * 128 + q.val; omega
  · rw [truncf_apply]
    simp only [addf_apply, mulf_apply]
    erw [row_apply, row_apply, row_apply, ld2, ld3, ld4]
    rw [up_apply 1 (by omega) (by omega), up_apply 2 (by omega) (by omega)]
    rfl

/-- The transposed convolution of the second half's gradients. -/
theorem pay1_apply (D : FVec Ideal S4096x128 .f32) (w : FVec Ideal S3x128 .f32) (a : Fin 1) (r : Fin 4096) (q : Fin 128) :
    k0_pay1 (F := Ideal) D (k0_pay22 D (View.ld (Val := Elt Ideal) (e' := .f32) w r0_4) (View.ld (Val := Elt Ideal) (e' := .f32) w r0_3)) (View.ld (Val := Elt Ideal) (e' := .f32) w r0_2) k0_pay23 (ix3 a r q)
      = spread (w (ix2 0 q)) (w (ix2 1 q)) (w (ix2 2 q)) (col D q) r := by
  unfold k0_pay1 k0_pay22 k0_pay23
  refine (shapeCast_apply _ _ (ix3 a r q) (ix2 r q) ?_).trans ?_
  · rw [Shape.rowMajor_val_two, Shape.rowMajor_val_three]
    show r.val * 128 + q.val = (a.val * 4096 + r.val) * 128 + q.val; omega
  · rw [truncf_apply]
    simp only [addf_apply, mulf_apply]
    erw [row_apply, row_apply, row_apply, ld2, ld3, ld4]
    rw [up_apply 1 (by omega) (by omega), up_apply 2 (by omega) (by omega)]
    rfl

end

end Cert.Proof.Conv

end
-- ==== Proof.ConvKernel.lean ====
/- The arrays the convolution-gradient kernel leaves, as functions of its argument arrays: every grid point writes 128
   columns, its blocks are the same columns of the arguments, so each result array is the column formula at every column. -/
module

public import proofs.«01_k».proof.Proof.ConvBlock

@[expose] public section

noncomputable section

namespace Cert.Proof.Conv

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

/-! ## The whole arrays -/

section
variable (u : Vec Ideal S4096x5632 .f32) (w : Vec Ideal S3x5632 .f32) (b : Vec Ideal S1x5632 .f32) (da : Vec Ideal S4096x2816 .f32)

/-- Column `k` of half `a` among all the columns. -/
def half (a : Fin 2) (k : Fin 2816) : Fin 5632 := ⟨2816 * a.val + k.val, by have := a.isLt; have := k.isLt; omega⟩

/-- Column `k` of the convolution's input, half `a`. -/
def uCol (a : Fin 2) (k : Fin 2816) : Col := fun r => u (ix2 r (half a k))

/-- Column `k` of the convolution, half `a`. -/
def cCol (a : Fin 2) (k : Fin 2816) : Col :=
  pre (b (ix2 0 (half a k))) (w (ix2 0 (half a k))) (w (ix2 1 (half a k))) (w (ix2 2 (half a k))) (uCol u a k)

/-- Column `k` of the gradients that reach half `a` of the convolution. -/
def dCol (a : Fin 2) (k : Fin 2816) : Col := fun r =>
  if a = 0 then dgate (da (ix2 r k)) (cCol u w b 0 k r) (cCol u w b 1 k r) else dval (da (ix2 r k)) (cCol u w b 0 k r)

/-- The gradient of the convolution's input, the halves stacked. -/
def gradU (i : S2x4096x2816.Idx) : EReal :=
  spread (w (ix2 0 (half (i 0) (i 2)))) (w (ix2 1 (half (i 0) (i 2)))) (w (ix2 2 (half (i 0) (i 2)))) (dCol u w b da (i 0) (i 2)) (i 1)

/-- The gradient of the taps, half `a`. -/
def gradW (a : Fin 2) (i : S3x2816.Idx) : EReal := dtap (i 0).val (dCol u w b da a (i 1)) (uCol u a (i 1))

/-- The gradient of the bias, half `a`. -/
def gradB (a : Fin 2) (i : S1x2816.Idx) : EReal := ∑ r, dCol u w b da a (i 1) r

end

/-! ## One grid point's blocks -/

section
variable (ug uv da : Vec Ideal S4096x128 .f32) (wg wv : Vec Ideal S3x128 .f32) (bg bv : Vec Ideal S1x128 .f32)

theorem out7_apply (a : Fin 2) (r : Fin 4096) (q : Fin 128) :
    out0_7 (F := Ideal) ug uv wg wv bg bv da (ix3 a r q)
      = if a = 0 then spread (wg (ix2 0 q)) (wg (ix2 1 q)) (wg (ix2 2 q)) (dgCol ug uv da wg wv bg bv q) r
        else spread (wv (ix2 0 q)) (wv (ix2 1 q)) (wv (ix2 2 q)) (dvCol ug da wg bg q) r := by
  unfold out0_7
  refine (View.canon_apply_of_pieces (Val := Elt Ideal) (S := S2x4096x128) (e := .bf16)
    (fun z : S2x4096x128.Idx => if (z 0).val = 0
      then spread (wg (ix2 0 (z 2))) (wg (ix2 1 (z 2))) (wg (ix2 2 (z 2))) (dgCol ug uv da wg wv bg bv (z 2)) (z 1)
      else spread (wv (ix2 0 (z 2))) (wv (ix2 1 (z 2))) (wv (ix2 2 (z 2))) (dvCol ug da wg bg (z 2)) (z 1))
    _ ?_ _ (cover0_7 _ _ _)).trans ?_
  · intro p hp x
    rcases List.mem_cons.mp hp with rfl | hp
    · have hx : r0_6.emb x = ix3 (1 : Fin 2) (x 1) (x 2) := by
        have h0 : (x 0).val < 1 := (x 0).isLt
        funext d; apply Fin.ext
        match d with
        | ⟨0, _⟩ => show 1 + 1 * (x 0).val = 1; omega
        | ⟨1, _⟩ => show 0 + 1 * (x 1).val = (x 1).val; omega
        | ⟨2, _⟩ => show 0 + 1 * (x 2).val = (x 2).val; omega
      rw [hx]
      refine (congrArg _ (eq_ix3 (n0 := 1) (n1 := 4096) (n2 := 128) x)).trans ((pay1_apply _ wv (x 0) (x 1) (x 2)).trans ?_)
      refine Eq.trans ?_ (if_neg (show ¬ (1 : Nat) = 0 by decide)).symm
      exact congrArg (fun D : Col => spread (wv (ix2 0 (x 2))) (wv (ix2 1 (x 2))) (wv (ix2 2 (x 2))) D (x 1))
        (funext fun r => pay26_apply ug uv da wg wv bg bv r (x 2))
    rcases List.mem_cons.mp hp with rfl | hp
    · have hx : r0_5.emb x = ix3 (0 : Fin 2) (x 1) (x 2) := by
        have h0 : (x 0).val < 1 := (x 0).isLt
        funext d; apply Fin.ext
        match d with
        | ⟨0, _⟩ => show 0 + 1 * (x 0).val = 0; omega
        | ⟨1, _⟩ => show 0 + 1 * (x 1).val = (x 1).val; omega
        | ⟨2, _⟩ => show 0 + 1 * (x 2).val = (x 2).val; omega
      rw [hx]
      refine (congrArg _ (eq_ix3 (n0 := 1) (n1 := 4096) (n2 := 128) x)).trans ((pay15_apply _ wg (x 0) (x 1) (x 2)).trans ?_)
      refine Eq.trans ?_ (if_pos (show (0 : Nat) = 0 from rfl)).symm
      exact congrArg (fun D : Col => spread (wg (ix2 0 (x 2))) (wg (ix2 1 (x 2))) (wg (ix2 2 (x 2))) D (x 1))
        (funext fun r => pay25_apply ug uv da wg wv bg bv r (x 2))
    nomatch hp
  · by_cases h : a = 0
    · subst h; rfl
    · rw [if_neg h]
      refine if_neg ?_
      intro h'; exact h (Fin.ext h')

/-- The three stores of a tap gradient's block: row `j` is the payload of the store through row `j`. -/
theorem taps_apply (p0 p1 p2 : Vec Ideal S1x128 .f32) (j : Fin 3) (q : Fin 128) (v : Fin 3 → Fin 128 → EReal)
    (h0 : ∀ a q, p0 (ix2 a q) = v 0 q) (h1 : ∀ a q, p1 (ix2 a q) = v 1 q) (h2 : ∀ a q, p2 (ix2 a q) = v 2 q) :
    View.canon (Val := Elt Ideal) (e := .f32) (s := S3x128) [⟨r0_4, p2⟩, ⟨r0_3, p1⟩, ⟨r0_2, p0⟩] (ix2 j q) = v j q := by
  refine View.canon_apply_of_pieces (Val := Elt Ideal) (S := S3x128) (e := .f32)
    (fun z : S3x128.Idx => v (z 0) (z 1)) _ ?_ _ (cover0_8 _ _ _ _)
  intro p hp x
  have h0' : (x 0).val < 1 := by
    rcases List.mem_cons.mp hp with rfl | hp
    · exact (x 0).isLt
    rcases List.mem_cons.mp hp with rfl | hp
    · exact (x 0).isLt
    rcases List.mem_cons.mp hp with rfl | hp
    · exact (x 0).isLt
    nomatch hp
  rcases List.mem_cons.mp hp with rfl | hp
  · refine (congrArg p2 (eq_ix2 (n0 := 1) (n1 := 128) x)).trans ((h2 _ _).trans ?_)
    exact congrArg₂ v (Fin.ext (by show 2 = 2 + 1 * (x 0).val; omega)) (Fin.ext (by show (x 1).val = 0 + 1 * (x 1).val; omega))
  rcases List.mem_cons.mp hp with rfl | hp
  · refine (congrArg p1 (eq_ix2 (n0 := 1) (n1 := 128) x)).trans ((h1 _ _).trans ?_)
    exact congrArg₂ v (Fin.ext (by show 1 = 1 + 1 * (x 0).val; omega)) (Fin.ext (by show (x 1).val = 0 + 1 * (x 1).val; omega))
  rcases List.mem_cons.mp hp with rfl | hp
  · refine (congrArg p0 (eq_ix2 (n0 := 1) (n1 := 128) x)).trans ((h0 _ _).trans ?_)
    exact congrArg₂ v (Fin.ext (by show 0 = 0 + 1 * (x 0).val; omega)) (Fin.ext (by show (x 1).val = 0 + 1 * (x 1).val; omega))
  nomatch hp

theorem out8_apply (j : Fin 3) (q : Fin 128) :
    out0_8 (F := Ideal) ug uv wg wv bg bv da (ix2 j q) = dtap j.val (dgCol ug uv da wg wv bg bv q) (col ug q) := by
  unfold out0_8
  rw [ld0]
  refine taps_apply _ _ _ j q (fun j q => dtap j.val (dgCol ug uv da wg wv bg bv q) (col ug q)) ?_ ?_ ?_ <;> intro a q
  · unfold k0_pay16 k0_pay12 k0_pay13 k0_pay14
    refine (rowsum_apply _ _ _ _ _ a q).trans (Finset.sum_congr rfl fun r _ => congrArg₂ (· * ·) (pay25_apply ug uv da wg wv bg bv r q) ?_)
    exact down_apply 2 (by omega) ug _ _ r q
  · unfold k0_pay17 k0_pay11
    refine (rowsum_apply _ _ _ _ _ a q).trans (Finset.sum_congr rfl fun r _ => congrArg₂ (· * ·) (pay25_apply ug uv da wg wv bg bv r q) ?_)
    exact down_apply 1 (by omega) ug _ _ r q
  · unfold k0_pay18
    refine (rowsum_apply _ _ _ _ _ a q).trans (Finset.sum_congr rfl fun r _ => congrArg₂ (· * ·) (pay25_apply ug uv da wg wv bg bv r q) ?_)
    show col ug q r = down 0 (col ug q) r
    exact (down_zero _ r).symm

theorem out9_apply (j : Fin 3) (q : Fin 128) :
    out0_9 (F := Ideal) ug uv wg wv bg bv da (ix2 j q) = dtap j.val (dvCol ug da wg bg q) (col uv q) := by
  unfold out0_9
  rw [ld0]
  refine taps_apply _ _ _ j q (fun j q => dtap j.val (dvCol ug da wg bg q) (col uv q)) ?_ ?_ ?_ <;> intro a q
  · unfold k0_pay2 k0_pay21
    refine (rowsum_apply _ _ _ _ _ a q).trans (Finset.sum_congr rfl fun r _ => congrArg₂ (· * ·) (pay26_apply ug uv da wg wv bg bv r q) ?_)
    exact down_apply 2 (by omega) uv _ _ r q
  · unfold k0_pay3 k0_pay20
    refine (rowsum_apply _ _ _ _ _ a q).trans (Finset.sum_congr rfl fun r _ => congrArg₂ (· * ·) (pay26_apply ug uv da wg wv bg bv r q) ?_)
    exact down_apply 1 (by omega) uv _ _ r q
  · unfold k0_pay4
    refine (rowsum_apply _ _ _ _ _ a q).trans (Finset.sum_congr rfl fun r _ => congrArg₂ (· * ·) (pay26_apply ug uv da wg wv bg bv r q) ?_)
    show col uv q r = down 0 (col uv q) r
    exact (down_zero _ r).symm

theorem out10_apply (a : Fin 1) (q : Fin 128) :
    out0_10 (F := Ideal) ug uv wg wv bg bv da (ix2 a q) = ∑ r, dgCol ug uv da wg wv bg bv q r := by
  unfold out0_10
  refine (congrFun (View.canon_unit_zero (Val := Elt Ideal) off_zero _ _) _).trans ?_
  unfold k0_pay19
  exact (rowsum_apply _ _ _ _ _ a q).trans (Finset.sum_congr rfl fun r _ => pay25_apply ug uv da wg wv bg bv r q)

theorem out11_apply (a : Fin 1) (q : Fin 128) :
    out0_11 (F := Ideal) ug uv wg wv bg bv da (ix2 a q) = ∑ r, dvCol ug da wg bg q r := by
  unfold out0_11
  refine (congrFun (View.canon_unit_zero (Val := Elt Ideal) off_zero _ _) _).trans ?_
  unfold k0_pay5
  exact (rowsum_apply _ _ _ _ _ a q).trans (Finset.sum_congr rfl fun r _ => pay26_apply ug uv da wg wv bg bv r q)

end

/-! ## Where the blocks lie -/

variable (m : (ℓ : Loc nD τ sig) → Buf (Elt Ideal) ℓ) (ρ : Dev nD → PrngReg)

theorem at0 : ∀ t : Fin cfg0.N, win0_0.index t (0 : Fin 2) = 0 ∧ win0_0.index t (1 : Fin 2) = t.val := (by decide +kernel : ∀ t : Fin grid0.N, _)
theorem at1 : ∀ t : Fin cfg0.N, win0_1.index t (0 : Fin 2) = 0 ∧ win0_1.index t (1 : Fin 2) = 22 + t.val := (by decide +kernel : ∀ t : Fin grid0.N, _)
theorem at2 : ∀ t : Fin cfg0.N, win0_2.index t (0 : Fin 2) = 0 ∧ win0_2.index t (1 : Fin 2) = t.val := (by decide +kernel : ∀ t : Fin grid0.N, _)
theorem at3 : ∀ t : Fin cfg0.N, win0_3.index t (0 : Fin 2) = 0 ∧ win0_3.index t (1 : Fin 2) = 22 + t.val := (by decide +kernel : ∀ t : Fin grid0.N, _)
theorem at4 : ∀ t : Fin cfg0.N, win0_4.index t (0 : Fin 2) = 0 ∧ win0_4.index t (1 : Fin 2) = t.val := (by decide +kernel : ∀ t : Fin grid0.N, _)
theorem at5 : ∀ t : Fin cfg0.N, win0_5.index t (0 : Fin 2) = 0 ∧ win0_5.index t (1 : Fin 2) = 22 + t.val := (by decide +kernel : ∀ t : Fin grid0.N, _)
theorem at6 : ∀ t : Fin cfg0.N, win0_6.index t (0 : Fin 2) = 0 ∧ win0_6.index t (1 : Fin 2) = t.val := (by decide +kernel : ∀ t : Fin grid0.N, _)
theorem at7 : ∀ t : Fin cfg0.N, win0_7.index t (0 : Fin 3) = 0 ∧ win0_7.index t (1 : Fin 3) = 0 ∧ win0_7.index t (2 : Fin 3) = t.val := (by decide +kernel : ∀ t : Fin grid0.N, _)
theorem at8 : ∀ t : Fin cfg0.N, win0_8.index t (0 : Fin 2) = 0 ∧ win0_8.index t (1 : Fin 2) = t.val := (by decide +kernel : ∀ t : Fin grid0.N, _)
theorem at9 : ∀ t : Fin cfg0.N, win0_9.index t (0 : Fin 2) = 0 ∧ win0_9.index t (1 : Fin 2) = t.val := (by decide +kernel : ∀ t : Fin grid0.N, _)
theorem at10 : ∀ t : Fin cfg0.N, win0_10.index t (0 : Fin 2) = 0 ∧ win0_10.index t (1 : Fin 2) = t.val := (by decide +kernel : ∀ t : Fin grid0.N, _)
theorem at11 : ∀ t : Fin cfg0.N, win0_11.index t (0 : Fin 2) = 0 ∧ win0_11.index t (1 : Fin 2) = t.val := (by decide +kernel : ∀ t : Fin grid0.N, _)

/-- The number of grid points. -/
theorem N_eq : cfg0.N = 22 := by decide +kernel

/-- Column `q` of grid point `t`'s blocks among a half's columns. -/
def at' (t : Fin cfg0.N) (q : Fin 128) : Fin 2816 :=
  ⟨t.val * 128 + q.val, by have h := Nat.lt_of_lt_of_eq t.isLt N_eq; have := q.isLt; omega⟩

theorem blk0 (c : Dev nD) (t : Fin cfg0.N) (r : Fin 4096) (q : Fin 128) :
    iblk m c 0 t (ix2 r q) = V m c main_arg0 (ix2 r (half 0 (at' t q))) := by
  obtain ⟨e0, e1⟩ := at0 t
  refine congrArg (V m c main_arg0) (funext fun a => Fin.ext ?_)
  match a with
  | ⟨0, _⟩ => show win0_0.index t (0 : Fin 2) * 4096 + 1 * r.val = r.val; omega
  | ⟨1, _⟩ => show win0_0.index t (1 : Fin 2) * 128 + 1 * q.val = 2816 * 0 + (t.val * 128 + q.val); omega

theorem blk1 (c : Dev nD) (t : Fin cfg0.N) (r : Fin 4096) (q : Fin 128) :
    iblk m c 1 t (ix2 r q) = V m c main_arg0 (ix2 r (half 1 (at' t q))) := by
  obtain ⟨e0, e1⟩ := at1 t
  refine congrArg (V m c main_arg0) (funext fun a => Fin.ext ?_)
  match a with
  | ⟨0, _⟩ => show win0_1.index t (0 : Fin 2) * 4096 + 1 * r.val = r.val; omega
  | ⟨1, _⟩ => show win0_1.index t (1 : Fin 2) * 128 + 1 * q.val = 2816 * 1 + (t.val * 128 + q.val); omega

theorem blk2 (c : Dev nD) (t : Fin cfg0.N) (j : Fin 3) (q : Fin 128) :
    iblk m c 2 t (ix2 j q) = V m c main_arg1 (ix2 j (half 0 (at' t q))) := by
  obtain ⟨e0, e1⟩ := at2 t
  refine congrArg (V m c main_arg1) (funext fun a => Fin.ext ?_)
  match a with
  | ⟨0, _⟩ => show win0_2.index t (0 : Fin 2) * 3 + 1 * j.val = j.val; omega
  | ⟨1, _⟩ => show win0_2.index t (1 : Fin 2) * 128 + 1 * q.val = 2816 * 0 + (t.val * 128 + q.val); omega

theorem blk3 (c : Dev nD) (t : Fin cfg0.N) (j : Fin 3) (q : Fin 128) :
    iblk m c 3 t (ix2 j q) = V m c main_arg1 (ix2 j (half 1 (at' t q))) := by
  obtain ⟨e0, e1⟩ := at3 t
  refine congrArg (V m c main_arg1) (funext fun a => Fin.ext ?_)
  match a with
  | ⟨0, _⟩ => show win0_3.index t (0 : Fin 2) * 3 + 1 * j.val = j.val; omega
  | ⟨1, _⟩ => show win0_3.index t (1 : Fin 2) * 128 + 1 * q.val = 2816 * 1 + (t.val * 128 + q.val); omega

theorem blk4 (c : Dev nD) (t : Fin cfg0.N) (j : Fin 1) (q : Fin 128) :
    iblk m c 4 t (ix2 j q) = V m c main_arg2 (ix2 j (half 0 (at' t q))) := by
  obtain ⟨e0, e1⟩ := at4 t
  refine congrArg (V m c main_arg2) (funext fun a => Fin.ext ?_)
  match a with
  | ⟨0, _⟩ => show win0_4.index t (0 : Fin 2) * 1 + 1 * j.val = j.val; omega
  | ⟨1, _⟩ => show win0_4.index t (1 : Fin 2) * 128 + 1 * q.val = 2816 * 0 + (t.val * 128 + q.val); omega

theorem blk5 (c : Dev nD) (t : Fin cfg0.N) (j : Fin 1) (q : Fin 128) :
    iblk m c 5 t (ix2 j q) = V m c main_arg2 (ix2 j (half 1 (at' t q))) := by
  obtain ⟨e0, e1⟩ := at5 t
  refine congrArg (V m c main_arg2) (funext fun a => Fin.ext ?_)
  match a with
  | ⟨0, _⟩ => show win0_5.index t (0 : Fin 2) * 1 + 1 * j.val = j.val; omega
  | ⟨1, _⟩ => show win0_5.index t (1 : Fin 2) * 128 + 1 * q.val = 2816 * 1 + (t.val * 128 + q.val); omega

theorem blk6 (c : Dev nD) (t : Fin cfg0.N) (r : Fin 4096) (q : Fin 128) :
    iblk m c 6 t (ix2 r q) = V m c main_arg3 (ix2 r (at' t q)) := by
  obtain ⟨e0, e1⟩ := at6 t
  refine congrArg (V m c main_arg3) (funext fun a => Fin.ext ?_)
  match a with
  | ⟨0, _⟩ => show win0_6.index t (0 : Fin 2) * 4096 + 1 * r.val = r.val; omega
  | ⟨1, _⟩ => show win0_6.index t (1 : Fin 2) * 128 + 1 * q.val = t.val * 128 + q.val; omega

/-! ## A block's columns are the arrays' columns -/

section
variable (c : Dev nD) (t : Fin cfg0.N) (q : Fin 128)

theorem colU0 : col (iblk m c 0 t) q = uCol (V m c main_arg0) 0 (at' t q) := funext fun r => blk0 m c t r q
theorem colU1 : col (iblk m c 1 t) q = uCol (V m c main_arg0) 1 (at' t q) := funext fun r => blk1 m c t r q

theorem preU0 : preCol (iblk m c 0 t) (iblk m c 2 t) (iblk m c 4 t) q
    = cCol (V m c main_arg0) (V m c main_arg1) (V m c main_arg2) 0 (at' t q) := by
  unfold preCol cCol; rw [colU0, blk2, blk2, blk2, blk4]

theorem preU1 : preCol (iblk m c 1 t) (iblk m c 3 t) (iblk m c 5 t) q
    = cCol (V m c main_arg0) (V m c main_arg1) (V m c main_arg2) 1 (at' t q) := by
  unfold preCol cCol; rw [colU1, blk3, blk3, blk3, blk5]

theorem dU0 : dgCol (iblk m c 0 t) (iblk m c 1 t) (iblk m c 6 t) (iblk m c 2 t) (iblk m c 3 t) (iblk m c 4 t) (iblk m c 5 t) q
    = dCol (V m c main_arg0) (V m c main_arg1) (V m c main_arg2) (V m c main_arg3) 0 (at' t q) := by
  funext r
  show dgate (iblk m c 6 t (ix2 r q)) (preCol (iblk m c 0 t) (iblk m c 2 t) (iblk m c 4 t) q r) (preCol (iblk m c 1 t) (iblk m c 3 t) (iblk m c 5 t) q r) = _
  rw [preU0, preU1, blk6]; rfl

theorem dU1 : dvCol (iblk m c 0 t) (iblk m c 6 t) (iblk m c 2 t) (iblk m c 4 t) q
    = dCol (V m c main_arg0) (V m c main_arg1) (V m c main_arg2) (V m c main_arg3) 1 (at' t q) := by
  funext r
  show dval (iblk m c 6 t (ix2 r q)) (preCol (iblk m c 0 t) (iblk m c 2 t) (iblk m c 4 t) q r) = _
  rw [preU0, blk6]; rfl

end

/-! ## What a point writes back, and the arrays -/

theorem flushed7_eq (c : Dev nD) (t : Fin cfg0.N) : (dats m 0 c).flushed 7 t
    = ((cfg0.win 7).blk t).view.read (Elt Ideal) (gradU (V m c main_arg0) (V m c main_arg1) (V m c main_arg2) (V m c main_arg3)) := by
  obtain ⟨e0, e1, e2⟩ := at7 t
  rw [flushed7]
  refine funext fun (j : S2x4096x128.Idx) => ?_
  obtain ⟨p, r, q, rfl⟩ : ∃ (p : Fin 2) (r : Fin 4096) (q : Fin 128), j = ix3 p r q := ⟨j 0, j 1, j 2, eq_ix3 j⟩
  show out0_7 (F := Ideal) _ _ _ _ _ _ _ (ix3 p r q) = gradU _ _ _ _ (((cfg0.win 7).blk t).view.emb (ix3 p r q : S2x4096x128.Idx))
  have hj : ((cfg0.win 7).blk t).view.emb (ix3 p r q : S2x4096x128.Idx) = ix3 p r (at' t q) := by
    funext a; apply Fin.ext
    match a with
    | ⟨0, _⟩ => show win0_7.index t (0 : Fin 3) * 2 + 1 * p.val = p.val; omega
    | ⟨1, _⟩ => show win0_7.index t (1 : Fin 3) * 4096 + 1 * r.val = r.val; omega
    | ⟨2, _⟩ => show win0_7.index t (2 : Fin 3) * 128 + 1 * q.val = t.val * 128 + q.val; omega
  rw [hj]
  refine (out7_apply _ _ _ _ _ _ _ p r q).trans ?_
  show _ = spread _ _ _ (dCol _ _ _ _ p (at' t q)) r
  by_cases h : p = 0
  · subst h
    rw [if_pos rfl, dU0, blk2, blk2, blk2]
  · have h1 : p = 1 := by have := p.isLt; exact Fin.ext (by have : p.val ≠ 0 := fun e => h (Fin.ext e); show p.val = 1; omega)
    subst h1
    rw [if_neg (by decide), dU1, blk3, blk3, blk3]

theorem flushed8_eq (c : Dev nD) (t : Fin cfg0.N) : (dats m 0 c).flushed 8 t
    = ((cfg0.win 8).blk t).view.read (Elt Ideal) (gradW (V m c main_arg0) (V m c main_arg1) (V m c main_arg2) (V m c main_arg3) 0) := by
  obtain ⟨e0, e1⟩ := at8 t
  rw [flushed8]
  refine funext fun (j : S3x128.Idx) => ?_
  obtain ⟨p, q, rfl⟩ : ∃ (p : Fin 3) (q : Fin 128), j = ix2 p q := ⟨j 0, j 1, eq_ix2 j⟩
  show out0_8 (F := Ideal) _ _ _ _ _ _ _ (ix2 p q) = gradW _ _ _ _ _ (((cfg0.win 8).blk t).view.emb (ix2 p q : S3x128.Idx))
  have hj : ((cfg0.win 8).blk t).view.emb (ix2 p q : S3x128.Idx) = ix2 p (at' t q) := by
    funext a; apply Fin.ext
    match a with
    | ⟨0, _⟩ => show win0_8.index t (0 : Fin 2) * 3 + 1 * p.val = p.val; omega
    | ⟨1, _⟩ => show win0_8.index t (1 : Fin 2) * 128 + 1 * q.val = t.val * 128 + q.val; omega
  rw [hj]
  refine (out8_apply _ _ _ _ _ _ _ p q).trans ?_
  rw [dU0, colU0]; rfl

theorem flushed9_eq (c : Dev nD) (t : Fin cfg0.N) : (dats m 0 c).flushed 9 t
    = ((cfg0.win 9).blk t).view.read (Elt Ideal) (gradW (V m c main_arg0) (V m c main_arg1) (V m c main_arg2) (V m c main_arg3) 1) := by
  obtain ⟨e0, e1⟩ := at9 t
  rw [flushed9]
  refine funext fun (j : S3x128.Idx) => ?_
  obtain ⟨p, q, rfl⟩ : ∃ (p : Fin 3) (q : Fin 128), j = ix2 p q := ⟨j 0, j 1, eq_ix2 j⟩
  show out0_9 (F := Ideal) _ _ _ _ _ _ _ (ix2 p q) = gradW _ _ _ _ _ (((cfg0.win 9).blk t).view.emb (ix2 p q : S3x128.Idx))
  have hj : ((cfg0.win 9).blk t).view.emb (ix2 p q : S3x128.Idx) = ix2 p (at' t q) := by
    funext a; apply Fin.ext
    match a with
    | ⟨0, _⟩ => show win0_9.index t (0 : Fin 2) * 3 + 1 * p.val = p.val; omega
    | ⟨1, _⟩ => show win0_9.index t (1 : Fin 2) * 128 + 1 * q.val = t.val * 128 + q.val; omega
  rw [hj]
  refine (out9_apply _ _ _ _ _ _ _ p q).trans ?_
  rw [dU1, colU1]; rfl

theorem flushed10_eq (c : Dev nD) (t : Fin cfg0.N) : (dats m 0 c).flushed 10 t
    = ((cfg0.win 10).blk t).view.read (Elt Ideal) (gradB (V m c main_arg0) (V m c main_arg1) (V m c main_arg2) (V m c main_arg3) 0) := by
  obtain ⟨e0, e1⟩ := at10 t
  rw [flushed10]
  refine funext fun (j : S1x128.Idx) => ?_
  obtain ⟨p, q, rfl⟩ : ∃ (p : Fin 1) (q : Fin 128), j = ix2 p q := ⟨j 0, j 1, eq_ix2 j⟩
  show out0_10 (F := Ideal) _ _ _ _ _ _ _ (ix2 p q) = gradB _ _ _ _ _ (((cfg0.win 10).blk t).view.emb (ix2 p q : S1x128.Idx))
  have hj : ((cfg0.win 10).blk t).view.emb (ix2 p q : S1x128.Idx) = ix2 p (at' t q) := by
    funext a; apply Fin.ext
    match a with
    | ⟨0, _⟩ => show win0_10.index t (0 : Fin 2) * 1 + 1 * p.val = p.val; omega
    | ⟨1, _⟩ => show win0_10.index t (1 : Fin 2) * 128 + 1 * q.val = t.val * 128 + q.val; omega
  rw [hj]
  refine (out10_apply _ _ _ _ _ _ _ p q).trans ?_
  rw [dU0]; rfl

theorem flushed11_eq (c : Dev nD) (t : Fin cfg0.N) : (dats m 0 c).flushed 11 t
    = ((cfg0.win 11).blk t).view.read (Elt Ideal) (gradB (V m c main_arg0) (V m c main_arg1) (V m c main_arg2) (V m c main_arg3) 1) := by
  obtain ⟨e0, e1⟩ := at11 t
  rw [flushed11]
  refine funext fun (j : S1x128.Idx) => ?_
  obtain ⟨p, q, rfl⟩ : ∃ (p : Fin 1) (q : Fin 128), j = ix2 p q := ⟨j 0, j 1, eq_ix2 j⟩
  show out0_11 (F := Ideal) _ _ _ _ _ _ _ (ix2 p q) = gradB _ _ _ _ _ (((cfg0.win 11).blk t).view.emb (ix2 p q : S1x128.Idx))
  have hj : ((cfg0.win 11).blk t).view.emb (ix2 p q : S1x128.Idx) = ix2 p (at' t q) := by
    funext a; apply Fin.ext
    match a with
    | ⟨0, _⟩ => show win0_11.index t (0 : Fin 2) * 1 + 1 * p.val = p.val; omega
    | ⟨1, _⟩ => show win0_11.index t (1 : Fin 2) * 128 + 1 * q.val = t.val * 128 + q.val; omega
  rw [hj]
  refine (out11_apply _ _ _ _ _ _ _ p q).trans ?_
  rw [dU1]; rfl

/-! ## Every column is in some point's block -/

/-- The point that writes column `k`. -/
def pt (k : Fin 2816) : Fin cfg0.N := ⟨k.val / 128, Nat.lt_of_lt_of_eq (by have := k.isLt; omega : k.val / 128 < 22) N_eq.symm⟩

/-- Column `k`'s place in its point's block. -/
def off (k : Fin 2816) : Fin 128 := ⟨k.val % 128, Nat.mod_lt _ (by omega)⟩

theorem at_pt (k : Fin 2816) : at' (pt k) (off k) = k := Fin.ext (by show k.val / 128 * 128 + k.val % 128 = k.val; omega)

theorem covered7 (i : S2x4096x2816.Idx) : ∃ t : Fin cfg0.N, (cfg0.win 7).flush t = true ∧ i ∈ ((cfg0.win 7).blk t).view.set := by
  refine ⟨pt (i 2), flush0_7 _, ?_⟩
  obtain ⟨e0, e1, e2⟩ := at7 (pt (i 2))
  have h := ((cfg0.win 7).blk (pt (i 2))).view.emb_mem_set (ix3 (i 0) (i 1) (off (i 2)) : S2x4096x128.Idx)
  have hi : ((cfg0.win 7).blk (pt (i 2))).view.emb (ix3 (i 0) (i 1) (off (i 2)) : S2x4096x128.Idx) = i := by
    have hk := congrArg Fin.val (at_pt (i 2))
    funext a; apply Fin.ext
    match a with
    | ⟨0, _⟩ => show win0_7.index (pt (i 2)) (0 : Fin 3) * 2 + 1 * (i 0).val = (i 0).val; omega
    | ⟨1, _⟩ => show win0_7.index (pt (i 2)) (1 : Fin 3) * 4096 + 1 * (i 1).val = (i 1).val; omega
    | ⟨2, _⟩ => show win0_7.index (pt (i 2)) (2 : Fin 3) * 128 + 1 * (off (i 2)).val = (i 2).val; rw [e2, Nat.one_mul]; exact hk
  rwa [hi] at h

theorem covered8 (i : S3x2816.Idx) : ∃ t : Fin cfg0.N, (cfg0.win 8).flush t = true ∧ i ∈ ((cfg0.win 8).blk t).view.set := by
  refine ⟨pt (i 1), flush0_8 _, ?_⟩
  obtain ⟨e0, e1⟩ := at8 (pt (i 1))
  have h := ((cfg0.win 8).blk (pt (i 1))).view.emb_mem_set (ix2 (i 0) (off (i 1)) : S3x128.Idx)
  have hi : ((cfg0.win 8).blk (pt (i 1))).view.emb (ix2 (i 0) (off (i 1)) : S3x128.Idx) = i := by
    have hk := congrArg Fin.val (at_pt (i 1))
    funext a; apply Fin.ext
    match a with
    | ⟨0, _⟩ => show win0_8.index (pt (i 1)) (0 : Fin 2) * 3 + 1 * (i 0).val = (i 0).val; omega
    | ⟨1, _⟩ => show win0_8.index (pt (i 1)) (1 : Fin 2) * 128 + 1 * (off (i 1)).val = (i 1).val; rw [e1, Nat.one_mul]; exact hk
  rwa [hi] at h

theorem covered9 (i : S3x2816.Idx) : ∃ t : Fin cfg0.N, (cfg0.win 9).flush t = true ∧ i ∈ ((cfg0.win 9).blk t).view.set := by
  refine ⟨pt (i 1), flush0_9 _, ?_⟩
  obtain ⟨e0, e1⟩ := at9 (pt (i 1))
  have h := ((cfg0.win 9).blk (pt (i 1))).view.emb_mem_set (ix2 (i 0) (off (i 1)) : S3x128.Idx)
  have hi : ((cfg0.win 9).blk (pt (i 1))).view.emb (ix2 (i 0) (off (i 1)) : S3x128.Idx) = i := by
    have hk := congrArg Fin.val (at_pt (i 1))
    funext a; apply Fin.ext
    match a with
    | ⟨0, _⟩ => show win0_9.index (pt (i 1)) (0 : Fin 2) * 3 + 1 * (i 0).val = (i 0).val; omega
    | ⟨1, _⟩ => show win0_9.index (pt (i 1)) (1 : Fin 2) * 128 + 1 * (off (i 1)).val = (i 1).val; rw [e1, Nat.one_mul]; exact hk
  rwa [hi] at h

theorem covered10 (i : S1x2816.Idx) : ∃ t : Fin cfg0.N, (cfg0.win 10).flush t = true ∧ i ∈ ((cfg0.win 10).blk t).view.set := by
  refine ⟨pt (i 1), flush0_10 _, ?_⟩
  obtain ⟨e0, e1⟩ := at10 (pt (i 1))
  have h := ((cfg0.win 10).blk (pt (i 1))).view.emb_mem_set (ix2 (i 0) (off (i 1)) : S1x128.Idx)
  have hi : ((cfg0.win 10).blk (pt (i 1))).view.emb (ix2 (i 0) (off (i 1)) : S1x128.Idx) = i := by
    have hk := congrArg Fin.val (at_pt (i 1))
    funext a; apply Fin.ext
    match a with
    | ⟨0, _⟩ => show win0_10.index (pt (i 1)) (0 : Fin 2) * 1 + 1 * (i 0).val = (i 0).val; omega
    | ⟨1, _⟩ => show win0_10.index (pt (i 1)) (1 : Fin 2) * 128 + 1 * (off (i 1)).val = (i 1).val; rw [e1, Nat.one_mul]; exact hk
  rwa [hi] at h

theorem covered11 (i : S1x2816.Idx) : ∃ t : Fin cfg0.N, (cfg0.win 11).flush t = true ∧ i ∈ ((cfg0.win 11).blk t).view.set := by
  refine ⟨pt (i 1), flush0_11 _, ?_⟩
  obtain ⟨e0, e1⟩ := at11 (pt (i 1))
  have h := ((cfg0.win 11).blk (pt (i 1))).view.emb_mem_set (ix2 (i 0) (off (i 1)) : S1x128.Idx)
  have hi : ((cfg0.win 11).blk (pt (i 1))).view.emb (ix2 (i 0) (off (i 1)) : S1x128.Idx) = i := by
    have hk := congrArg Fin.val (at_pt (i 1))
    funext a; apply Fin.ext
    match a with
    | ⟨0, _⟩ => show win0_11.index (pt (i 1)) (0 : Fin 2) * 1 + 1 * (i 0).val = (i 0).val; omega
    | ⟨1, _⟩ => show win0_11.index (pt (i 1)) (1 : Fin 2) * 128 + 1 * (off (i 1)).val = (i 1).val; rw [e1, Nat.one_mul]; exact hk
  rwa [hi] at h

/-- The run with every result array as a function of the argument arrays. -/
theorem run_kernel : θ_run defs (onTc (τ := τ) (main (F := Ideal))) ⟨m, fun _ => 0, ρ⟩ fun r => ∀ c : Dev nD,
      r.2.mem ((c : Thread nD τ).loc main_v0_0) = gradU (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = gradW (m ((c : Thread nD τ).loc main_arg0)) (m ((c : Thread nD τ).loc main_arg1)) (m ((c : Thread nD τ).loc main_arg2)) (m ((c : Thread nD τ).loc main_arg3)) 0
      ∧ r.2.mem ((c : Thread nD τ).loc main_v0_2) = gradW (m ((c : Thread nD τ).loc main_arg0)) (m ((c : Thread nD τ).loc main_arg1)) (m ((c : Thread nD τ).loc main_arg2)) (m ((c : Thread nD τ).loc main_arg3)) 1
      ∧ r.2.mem ((c : Thread nD τ).loc main_v0_3) = gradB (m ((c : Thread nD τ).loc main_arg0)) (m ((c : Thread nD τ).loc main_arg1)) (m ((c : Thread nD τ).loc main_arg2)) (m ((c : Thread nD τ).loc main_arg3)) 0
      ∧ r.2.mem ((c : Thread nD τ).loc main_v0_4) = gradB (m ((c : Thread nD τ).loc main_arg0)) (m ((c : Thread nD τ).loc main_arg1)) (m ((c : Thread nD τ).loc main_arg2)) (m ((c : Thread nD τ).loc main_arg3)) 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h7, h8, h9, h10, h11, hk⟩ := h c
  rw [← V_main_arg0 m c, ← V_main_arg1 m c, ← V_main_arg2 m c, ← V_main_arg3 m c] at *
  exact ⟨h7.trans ((dats m 0 c).arrAt_eq_of_cover 7 _ (fun t _ => flushed7_eq m c t) covered7),
    h8.trans ((dats m 0 c).arrAt_eq_of_cover 8 _ (fun t _ => flushed8_eq m c t) covered8),
    h9.trans ((dats m 0 c).arrAt_eq_of_cover 9 _ (fun t _ => flushed9_eq m c t) covered9),
    h10.trans ((dats m 0 c).arrAt_eq_of_cover 10 _ (fun t _ => flushed10_eq m c t) covered10),
    h11.trans ((dats m 0 c).arrAt_eq_of_cover 11 _ (fun t _ => flushed11_eq m c t) covered11), hk⟩

end Cert.Proof.Conv

end
-- ==== Proof.ConvRef.lean ====
/- The reference's five results, column by column: the transposed convolution written with padded sums and the gate's gradient
   written as jax spells it are the column formulas of the kernel's arrays, on real arguments. -/
module

public import proofs.«01_k».proof.Proof.ConvKernel
public import proofs.«01_k».proof.Proof.Gen.ReferenceIdeal.Read
public import Idealize.ShloMosaic.Lib.KernelVsHost

@[expose] public section

noncomputable section

namespace Cert.Proof.Conv

open Cert.ReferenceIdeal Cert.ReferenceIdeal.Gen Cert.ReferenceIdeal.Read
open Idealize.ShloMosaic Idealize.ShloMosaic.ValueIdx

/-- A pattern of zeros is the number zero. -/
theorem zbits : FloatOps.ofBits (F := Ideal) .f32 0x00000000#32 = (0 : EReal) := Ideal.ofBits_zero_f32
/-- The pattern of one is the number one. -/
theorem obits : FloatOps.ofBits (F := Ideal) .f32 0x3F800000#32 = (1 : EReal) := Ideal.ofBits_one_f32

variable (x0 : Vec Ideal S4096x5632 .f32) (x1 : Vec Ideal S3x5632 .f32) (x2 : Vec Ideal S1x5632 .f32) (x3 : Vec Ideal S4096x2816 .f32)

/-! ## The forward lines -/

/-- The input with two zero rows before it. -/
theorem rows_apply (k : Nat) (r : Fin 4096) (r' : Fin 4098) (c : Fin 5632) (h : r'.val + k = 2 + r.val) :
    val_main_v1 (F := Ideal) x0 (ix2 r' c) = down k (fun r => x0 (ix2 r c)) r := by
  unfold val_main_v1 down
  split
  · refine (concatenate_pair_apply_left (t := S4098x5632) (s₁ := S2x5632) (s₂ := S4096x5632) 0 _ _ _ (ix2 r' c) rfl (ix2 ⟨r'.val, by omega⟩ c : S2x5632.Idx) ?_).trans ?_
    · intro b
      match b with
      | ⟨0, _⟩ => rfl
      | ⟨1, _⟩ => rfl
    · rw [val_main_v0_apply, val_main_cst_apply]; exact zbits
  · refine concatenate_pair_apply_right (t := S4098x5632) (s₁ := S2x5632) (s₂ := S4096x5632) 0 _ _ _ (ix2 r' c) rfl rfl (ix2 (⟨r.val - k, by omega⟩ : Fin 4096) c : S4096x5632.Idx) ?_ ?_
    · intro b hb
      match b with
      | ⟨0, _⟩ => exact absurd rfl hb
      | ⟨1, _⟩ => rfl
    · show r.val - k + 2 = r'.val
      omega

theorem row0 (r : Fin 4096) (c : Fin 5632) : val_main_v5 (F := Ideal) x0 (ix2 r c) = down 2 (fun r => x0 (ix2 r c)) r :=
  (val_main_v5_apply _ _).trans ((congrArg _ (eq_ix2 (n0 := 4098) (n1 := 5632) _)).trans
    (rows_apply x0 2 r _ c (by show r.val + 2 = 2 + r.val; omega)))
theorem row1 (r : Fin 4096) (c : Fin 5632) : val_main_v13 (F := Ideal) x0 (ix2 r c) = down 1 (fun r => x0 (ix2 r c)) r :=
  (val_main_v13_apply _ _).trans ((congrArg _ (eq_ix2 (n0 := 4098) (n1 := 5632) _)).trans
    (rows_apply x0 1 r _ c (by show 1 + r.val + 1 = 2 + r.val; omega)))
theorem row2 (r : Fin 4096) (c : Fin 5632) : val_main_v20 (F := Ideal) x0 (ix2 r c) = x0 (ix2 r c) :=
  (val_main_v20_apply _ _).trans ((congrArg _ (eq_ix2 (n0 := 4098) (n1 := 5632) _)).trans
    ((rows_apply x0 0 r _ c (by show 2 + r.val + 0 = 2 + r.val; omega)).trans (down_zero _ r)))

theorem tap0 (a : Fin 1) (c : Fin 5632) : val_main_v6 (F := Ideal) x1 (ix2 a c) = x1 (ix2 0 c) := by
  rw [val_main_v6_apply, val_main_v4_apply, val_main_v3_apply]
  refine congrArg x1 (funext fun d => Fin.ext ?_)
  match d with
  | ⟨0, _⟩ => rfl
  | ⟨1, _⟩ => exact Nat.mod_eq_of_lt c.isLt
theorem tap1 (a : Fin 1) (c : Fin 5632) : val_main_v14 (F := Ideal) x1 (ix2 a c) = x1 (ix2 1 c) := by
  rw [val_main_v14_apply, val_main_v12_apply, val_main_v11_apply]
  refine congrArg x1 (funext fun d => Fin.ext ?_)
  match d with
  | ⟨0, _⟩ => rfl
  | ⟨1, _⟩ => exact Nat.mod_eq_of_lt c.isLt
theorem tap2 (a : Fin 1) (c : Fin 5632) : val_main_v21 (F := Ideal) x1 (ix2 a c) = x1 (ix2 2 c) := by
  rw [val_main_v21_apply, val_main_v19_apply, val_main_v18_apply]
  refine congrArg x1 (funext fun d => Fin.ext ?_)
  match d with
  | ⟨0, _⟩ => rfl
  | ⟨1, _⟩ => exact Nat.mod_eq_of_lt c.isLt

theorem w0 (r : Fin 4096) (c : Fin 5632) : val_main_v7 (F := Ideal) x1 (ix2 r c) = x1 (ix2 0 c) :=
  (val_main_v7_apply _ _).trans ((congrArg _ (eq_ix2 (n0 := 1) (n1 := 5632) _)).trans (tap0 x1 _ c))
theorem w1 (r : Fin 4096) (c : Fin 5632) : val_main_v15 (F := Ideal) x1 (ix2 r c) = x1 (ix2 1 c) :=
  (val_main_v15_apply _ _).trans ((congrArg _ (eq_ix2 (n0 := 1) (n1 := 5632) _)).trans (tap1 x1 _ c))
theorem w2 (r : Fin 4096) (c : Fin 5632) : val_main_v22 (F := Ideal) x1 (ix2 r c) = x1 (ix2 2 c) :=
  (val_main_v22_apply _ _).trans ((congrArg _ (eq_ix2 (n0 := 1) (n1 := 5632) _)).trans (tap2 x1 _ c))

/-- The convolution. -/
theorem conv_apply (r : Fin 4096) (a : Fin 2) (k : Fin 2816) :
    val_main_v26 (F := Ideal) x0 x1 x2 (ix2 r (half a k)) = cCol x0 x1 x2 a k r := by
  rw [val_main_v26_apply, val_main_v24_apply, val_main_v17_apply, val_main_v10_apply, val_main_v8_apply, val_main_v16_apply,
    val_main_v23_apply, val_main_v9_apply, val_main_cst_1_apply, val_main_v25_apply, w0, w1, w2, row0, row1, row2, zbits]
  show x2 _ + (((0 + x1 _ * down 2 _ r) + x1 _ * down 1 _ r) + x1 _ * x0 _) = pre _ _ _ _ _ r
  rw [zero_add, ← add_assoc, ← add_assoc]
  unfold pre
  refine congrArg₂ (· + ·) (congrArg₂ (· + ·) (congrArg₂ (· + ·) ?_ rfl) rfl) rfl
  refine congrArg x2 (funext fun d => ?_)
  match d with
  | ⟨0, _⟩ => rfl
  | ⟨1, _⟩ => rfl

theorem gate_apply (r : Fin 4096) (k : Fin 2816) : val_main_v27 (F := Ideal) x0 x1 x2 (ix2 r k) = cCol x0 x1 x2 0 k r := by
  rw [val_main_v27_apply, ← conv_apply]
  refine congrArg _ (funext fun d => Fin.ext ?_)
  match d with
  | ⟨0, _⟩ => rfl
  | ⟨1, _⟩ => show k.val = 2816 * 0 + k.val; omega
theorem value_apply (r : Fin 4096) (k : Fin 2816) : val_main_v28 (F := Ideal) x0 x1 x2 (ix2 r k) = cCol x0 x1 x2 1 k r := by
  rw [val_main_v28_apply, ← conv_apply]
  refine congrArg _ (funext fun d => Fin.ext ?_)
  match d with
  | ⟨0, _⟩ => rfl
  | ⟨1, _⟩ => show 2816 + k.val = 2816 * 1 + k.val; omega

theorem sig_apply (r : Fin 4096) (k : Fin 2816) :
    val_main_v29_2 (F := Ideal) x0 x1 x2 (ix2 r k) = Ideal.logistic (cCol x0 x1 x2 0 k r) := by
  rw [val_main_v29_2_apply, val_main_call0_v4_apply, val_main_call0_v3_apply, val_main_call0_v2_apply, val_main_call0_v1_apply,
    val_main_call0_v0_apply, val_main_call0_cst_0_apply, val_main_call0_cst_apply, gate_apply, obits]
  rfl

/-! ## The gradients that reach the convolution -/

/-- All four arrays hold real numbers. -/
structure Real' : Prop where
  u : ∀ i, Fin' (x0 i)
  w : ∀ i, Fin' (x1 i)
  b : ∀ i, Fin' (x2 i)
  d : ∀ i, Fin' (x3 i)

/-- The gradients that reach the convolution, all columns. -/
theorem grad_apply (h : Real' x0 x1 x2 x3) (r : Fin 4096) (a : Fin 2) (k : Fin 2816) :
    val_main_v34 (F := Ideal) x0 x1 x2 x3 (ix2 r (half a k)) = dCol x0 x1 x2 x3 a k r := by
  have hc : ∀ a, Fin' (cCol x0 x1 x2 a k r) := fun a => Fin'.pre (h.b _) (h.w _) (h.w _) (h.w _) (fun r => h.u _) r
  unfold val_main_v34 dCol
  by_cases ha : a = 0
  · subst ha
    rw [if_pos rfl, ← dgate_eq (h.d _) (hc 0) (hc 1)]
    refine (concatenate_pair_apply_left (t := S4096x5632) (s₁ := S4096x2816) (s₂ := S4096x2816) 1 _ _ _ (ix2 r (half 0 k)) rfl (ix2 r k : S4096x2816.Idx) ?_).trans ?_
    · intro b
      match b with
      | ⟨0, _⟩ => rfl
      | ⟨1, _⟩ => show k.val = 2816 * 0 + k.val; omega
    · rw [val_main_v33_apply, val_main_call1_v1_apply, val_main_call1_v2_apply, val_main_call1_v0_apply, val_main_v32_apply,
        val_main_v29_1_apply, val_main_call0_v7_apply, val_main_call0_v6_apply, val_main_call0_cst_1_apply, gate_apply, value_apply, sig_apply, obits]
      rfl
  · have h1 : a = 1 := by have := a.isLt; exact Fin.ext (by have : a.val ≠ 0 := fun e => ha (Fin.ext e); show a.val = 1; omega)
    subst h1
    rw [if_neg (by decide)]
    refine (concatenate_pair_apply_right (t := S4096x5632) (s₁ := S4096x2816) (s₂ := S4096x2816) 1 _ _ _ (ix2 r (half 1 k)) rfl rfl (ix2 r k : S4096x2816.Idx) ?_ ?_).trans ?_
    · intro b hb
      match b with
      | ⟨0, _⟩ => rfl
      | ⟨1, _⟩ => exact absurd rfl hb
    · show k.val + 2816 = 2816 * 1 + k.val; omega
    · rw [val_main_v31_apply, val_main_v29_0_apply, gate_apply, sig_apply]
      show cCol x0 x1 x2 0 k r * Ideal.logistic (cCol x0 x1 x2 0 k r) * x3 (ix2 r k) = dval _ _
      unfold dval
      rw [mul_comm, mul_assoc]

/-! ## The results in terms of that gradient -/

/-- A column of the gradient that reaches the convolution. -/
def gCol (c : Fin 5632) : Col := fun r => val_main_v34 (F := Ideal) x0 x1 x2 x3 (ix2 r c)

theorem bias_apply (a : Fin 1) (c : Fin 5632) : val_main_v36 (F := Ideal) x0 x1 x2 x3 (ix2 a c) = ∑ r, gCol x0 x1 x2 x3 c r := by
  rw [val_main_v36_apply, val_main_v35_apply, val_main_cst_2_apply, zbits, zero_add]
  refine Finset.sum_congr rfl fun r _ => congrArg _ (funext fun d => Fin.ext ?_)
  match d with
  | ⟨0, _⟩ => rfl
  | ⟨1, _⟩ => show a.val * 5632 + c.val = c.val; have := a.isLt; omega

theorem sum2_apply (a : Fin 1) (c : Fin 5632) : val_main_v44 (F := Ideal) x0 x1 x2 x3 (ix2 a c) = ∑ r, gCol x0 x1 x2 x3 c r * x0 (ix2 r c) := by
  rw [val_main_v44_apply, val_main_v42_apply, val_main_cst_4_apply, zbits, zero_add, Fin.sum_univ_one, val_main_v41_apply, val_main_v40_apply, val_main_cst_3_apply, zbits, zero_add]
  refine Finset.sum_congr rfl fun r _ => ?_
  refine (congrArg _ (?_ : _ = (ix2 r c : S4096x5632.Idx))).trans ((val_main_v39_apply _ _ _ _ _).trans ?_)
  · refine funext fun d => Fin.ext ?_
    match d with
    | ⟨0, _⟩ => rfl
    | ⟨1, _⟩ => show (0 : Fin 1).val * 5632 + c.val = c.val; simp
  · rw [row2]; rfl

theorem sum1_apply (a : Fin 1) (c : Fin 5632) :
    val_main_v54 (F := Ideal) x0 x1 x2 x3 (ix2 a c) = ∑ r, gCol x0 x1 x2 x3 c r * down 1 (fun r => x0 (ix2 r c)) r := by
  rw [val_main_v54_apply, val_main_v51_apply, val_main_cst_8_apply, zbits, zero_add, Fin.sum_univ_one, val_main_v50_apply, val_main_v49_apply, val_main_cst_7_apply, zbits, zero_add]
  refine Finset.sum_congr rfl fun r _ => ?_
  refine (congrArg _ (?_ : _ = (ix2 r c : S4096x5632.Idx))).trans ((val_main_v48_apply _ _ _ _ _).trans ?_)
  · refine funext fun d => Fin.ext ?_
    match d with
    | ⟨0, _⟩ => rfl
    | ⟨1, _⟩ => show (0 : Fin 1).val * 5632 + c.val = c.val; simp
  · rw [row1]; rfl

theorem sum0_apply (a : Fin 1) (c : Fin 5632) :
    val_main_v65 (F := Ideal) x0 x1 x2 x3 (ix2 a c) = ∑ r, gCol x0 x1 x2 x3 c r * down 2 (fun r => x0 (ix2 r c)) r := by
  rw [val_main_v65_apply, val_main_v62_apply, val_main_cst_12_apply, zbits, zero_add, Fin.sum_univ_one, val_main_v61_apply, val_main_v60_apply, val_main_cst_11_apply, zbits, zero_add]
  refine Finset.sum_congr rfl fun r _ => ?_
  refine (congrArg _ (?_ : _ = (ix2 r c : S4096x5632.Idx))).trans ((val_main_v59_apply _ _ _ _ _).trans ?_)
  · refine funext fun d => Fin.ext ?_
    match d with
    | ⟨0, _⟩ => rfl
    | ⟨1, _⟩ => show (0 : Fin 1).val * 5632 + c.val = c.val; simp
  · rw [row0]; rfl

/-! ## A padded array at an index: the operand inside, zero outside -/

/-- A column padded with rows of zeros before and after it. -/
theorem padded (n N lo hi : Nat) (x : Vec Ideal (⟨2, ![n, 5632]⟩ : Shape) .f32) (v : Vec Ideal S_ .f32) (h) (hu) (hv : ∀ i, v i = (0 : EReal))
    (r : Fin N) (c : Fin 5632) :
    pad (s := (⟨2, ![n, 5632]⟩ : Shape)) (⟨2, ![N, 5632]⟩ : Shape) ![lo, 0] ![hi, 0] ![0, 0] x v h hu (ix2 r c : (⟨2, ![N, 5632]⟩ : Shape).Idx)
      = if hr : lo ≤ r.val ∧ r.val - lo < n then x (ix2 (⟨r.val - lo, hr.2⟩ : Fin n) c) else (0 : EReal) := by
  split
  · next hr =>
    refine pad_apply_of_inside _ _ _ x v h hu _ _ ?_
    intro a
    match a with
    | ⟨0, _⟩ => show r.val = lo + (r.val - lo) * (0 + 1); omega
    | ⟨1, _⟩ => show c.val = 0 + c.val * (0 + 1); omega
  · next hr =>
    refine (pad_apply_of_not_inside _ _ _ x v h hu _ (0 : Fin 2) ?_).trans (hv _)
    show ¬(lo ≤ r.val ∧ (r.val - lo) % (0 + 1) = 0 ∧ (r.val - lo) / (0 + 1) < n)
    rw [Nat.zero_add, Nat.div_one, Nat.mod_one]
    exact fun q => hr ⟨q.1, q.2.2⟩

/-- The gradient of the taps. -/
theorem taps_eq (j : Fin 3) (c : Fin 5632) :
    val_main_v67 (F := Ideal) x0 x1 x2 x3 (ix2 j c) = dtap j.val (gCol x0 x1 x2 x3 c) (fun r => x0 (ix2 r c)) := by
  rw [val_main_v67_apply, val_main_v56_apply]
  unfold val_main_v45 val_main_v55 val_main_v66
  refine (congrArg₂ (fun a b : EReal => a + b) (congrArg₂ (fun a b : EReal => a + b)
    (padded 1 3 2 0 _ _ _ _ (fun i => zbits) j c) (padded 1 3 1 1 _ _ _ _ (fun i => zbits) j c)) (padded 1 3 0 2 _ _ _ _ (fun i => zbits) j c)).trans ?_
  match j with
  | ⟨0, _⟩ =>
    rw [dif_neg (by simp), dif_neg (by simp), dif_pos (by simp), zero_add, zero_add]
    exact sum0_apply x0 x1 x2 x3 _ c
  | ⟨1, _⟩ =>
    rw [dif_neg (by simp), dif_pos (by simp), dif_neg (by simp), zero_add, add_zero]
    exact sum1_apply x0 x1 x2 x3 _ c
  | ⟨2, _⟩ =>
    rw [dif_pos (by simp), dif_neg (by simp), dif_neg (by simp), add_zero, add_zero]
    refine (sum2_apply x0 x1 x2 x3 _ c).trans (Finset.sum_congr rfl fun r _ => ?_)
    show _ = _ * down 0 _ r
    rw [down_zero]

theorem prod2 (r : Fin 4096) (c : Fin 5632) : val_main_v38 (F := Ideal) x0 x1 x2 x3 (ix2 r c) = x1 (ix2 2 c) * gCol x0 x1 x2 x3 c r :=
  (val_main_v38_apply _ _ _ _ _).trans (congrArg₂ (fun a b : EReal => a * b)
    ((val_main_v37_apply _ _).trans ((congrArg _ (eq_ix2 (n0 := 1) (n1 := 5632) _)).trans (tap2 x1 _ c))) rfl)
theorem prod1 (r : Fin 4096) (c : Fin 5632) : val_main_v47 (F := Ideal) x0 x1 x2 x3 (ix2 r c) = x1 (ix2 1 c) * gCol x0 x1 x2 x3 c r :=
  (val_main_v47_apply _ _ _ _ _).trans (congrArg₂ (fun a b : EReal => a * b)
    ((val_main_v46_apply _ _).trans ((congrArg _ (eq_ix2 (n0 := 1) (n1 := 5632) _)).trans (tap1 x1 _ c))) rfl)
theorem prod0 (r : Fin 4096) (c : Fin 5632) : val_main_v58 (F := Ideal) x0 x1 x2 x3 (ix2 r c) = x1 (ix2 0 c) * gCol x0 x1 x2 x3 c r :=
  (val_main_v58_apply _ _ _ _ _).trans (congrArg₂ (fun a b : EReal => a * b)
    ((val_main_v57_apply _ _).trans ((congrArg _ (eq_ix2 (n0 := 1) (n1 := 5632) _)).trans (tap0 x1 _ c))) rfl)

/-- The gradient of the convolution's input. -/
theorem input_eq (r : Fin 4096) (c : Fin 5632) :
    val_main_v69 (F := Ideal) x0 x1 x2 x3 (ix2 r c)
      = spread (x1 (ix2 0 c)) (x1 (ix2 1 c)) (x1 (ix2 2 c)) (gCol x0 x1 x2 x3 c) r := by
  have hi : idx_main_v69 (ix2 r c) = (ix2 (⟨2 + r.val, by omega⟩ : Fin 4098) c : S4098x5632.Idx) := eq_ix2 _
  rw [val_main_v69_apply, hi, val_main_v64_apply, val_main_v53_apply]
  unfold val_main_v43 val_main_v52 val_main_v63 spread
  refine (congrArg₂ (fun a b : EReal => a + b) (congrArg₂ (fun a b : EReal => a + b)
    (padded 4096 4098 2 0 _ _ _ _ (fun i => zbits) _ c) (padded 4096 4098 1 1 _ _ _ _ (fun i => zbits) _ c)) (padded 4096 4098 0 2 _ _ _ _ (fun i => zbits) _ c)).trans ?_
  have hr := r.isLt
  refine congrArg₂ (fun a b : EReal => a + b) (congrArg₂ (fun a b : EReal => a + b) ?_ ?_) ?_
  · rw [dif_pos ⟨by show 2 ≤ 2 + r.val; omega, by show 2 + r.val - 2 < 4096; omega⟩]
    refine (prod2 x0 x1 x2 x3 _ c).trans ?_
    exact congrArg (fun r => x1 (ix2 2 c) * gCol x0 x1 x2 x3 c r) (Fin.ext (by show 2 + r.val - 2 = r.val; omega))
  · unfold up
    by_cases h : r.val + 1 < 4096
    · rw [dif_pos ⟨by show 1 ≤ 2 + r.val; omega, by show 2 + r.val - 1 < 4096; omega⟩, dif_pos h]
      refine (prod1 x0 x1 x2 x3 _ c).trans ?_
      exact congrArg (fun r => x1 (ix2 1 c) * gCol x0 x1 x2 x3 c r) (Fin.ext (by show 2 + r.val - 1 = r.val + 1; omega))
    · rw [dif_neg (fun q => h (by have := q.2; have : 2 + r.val - 1 < 4096 := this; omega)), dif_neg h, mul_zero]
  · unfold up
    by_cases h : r.val + 2 < 4096
    · rw [dif_pos ⟨by show 0 ≤ 2 + r.val; omega, by show 2 + r.val - 0 < 4096; omega⟩, dif_pos h]
      refine (prod0 x0 x1 x2 x3 _ c).trans ?_
      exact congrArg (fun r => x1 (ix2 0 c) * gCol x0 x1 x2 x3 c r) (Fin.ext (by show 2 + r.val - 0 = r.val + 2; omega))
    · rw [dif_neg (fun q => h (by have := q.2; have : 2 + r.val - 0 < 4096 := this; omega)), dif_neg h, mul_zero]

/-! ## The five results are the kernel's arrays -/

variable {x0 x1 x2 x3}

theorem gCol_half (h : Real' x0 x1 x2 x3) (a : Fin 2) (k : Fin 2816) : gCol x0 x1 x2 x3 (half a k) = dCol x0 x1 x2 x3 a k :=
  funext fun r => grad_apply x0 x1 x2 x3 h r a k

theorem half0 (i : S1x4096x2816.Idx) : val_main_v72 (F := Ideal) x0 x1 x2 x3 i = val_main_v69 (F := Ideal) x0 x1 x2 x3 (ix2 (i 1) (half 0 (i 2))) := by
  rw [val_main_v72_apply, val_main_v70_apply]
  refine congrArg _ (funext fun d => Fin.ext ?_)
  match d with
  | ⟨0, _⟩ => rfl
  | ⟨1, _⟩ => show (i 2).val = 2816 * 0 + (i 2).val; omega
theorem half1 (i : S1x4096x2816.Idx) : val_main_v73 (F := Ideal) x0 x1 x2 x3 i = val_main_v69 (F := Ideal) x0 x1 x2 x3 (ix2 (i 1) (half 1 (i 2))) := by
  rw [val_main_v73_apply, val_main_v71_apply]
  refine congrArg _ (funext fun d => Fin.ext ?_)
  match d with
  | ⟨0, _⟩ => rfl
  | ⟨1, _⟩ => show 2816 + (i 2).val = 2816 * 1 + (i 2).val; omega

theorem ref_u (h : Real' x0 x1 x2 x3) : val_main_v75 (F := Ideal) x0 x1 x2 x3 = gradU x0 x1 x2 x3 := by
  refine funext fun (i : S2x4096x2816.Idx) => ?_
  obtain ⟨a, r, k, rfl⟩ : ∃ (a : Fin 2) (r : Fin 4096) (k : Fin 2816), i = ix3 a r k := ⟨i 0, i 1, i 2, eq_ix3 i⟩
  rw [val_main_v75_apply]
  have hs : gradU x0 x1 x2 x3 (ix3 a r k) = val_main_v69 (F := Ideal) x0 x1 x2 x3 (ix2 r (half a k)) := by
    rw [input_eq, gCol_half h]; rfl
  refine Eq.trans ?_ hs.symm
  show val_main_v74 (F := Ideal) x0 x1 x2 x3 (ix3 a r k) = _
  unfold val_main_v74
  by_cases ha : a = 0
  · subst ha
    refine (concatenate_pair_apply_left (t := S2x4096x2816) (s₁ := S1x4096x2816) (s₂ := S1x4096x2816) 0 _ _ _ (ix3 0 r k) rfl (ix3 0 r k : S1x4096x2816.Idx) ?_).trans (half0 _)
    intro b
    match b with
    | ⟨0, _⟩ => rfl
    | ⟨1, _⟩ => rfl
    | ⟨2, _⟩ => rfl
  · have h1 : a = 1 := by have := a.isLt; exact Fin.ext (by have : a.val ≠ 0 := fun e => ha (Fin.ext e); show a.val = 1; omega)
    subst h1
    refine (concatenate_pair_apply_right (t := S2x4096x2816) (s₁ := S1x4096x2816) (s₂ := S1x4096x2816) 0 _ _ _ (ix3 1 r k) rfl rfl (ix3 0 r k : S1x4096x2816.Idx) ?_ rfl).trans (half1 _)
    intro b hb
    match b with
    | ⟨0, _⟩ => exact absurd rfl hb
    | ⟨1, _⟩ => rfl
    | ⟨2, _⟩ => rfl

theorem ref_w0 (h : Real' x0 x1 x2 x3) : val_main_v76 (F := Ideal) x0 x1 x2 x3 = gradW x0 x1 x2 x3 0 := by
  refine funext fun (i : S3x2816.Idx) => ?_
  obtain ⟨j, k, rfl⟩ : ∃ (j : Fin 3) (k : Fin 2816), i = ix2 j k := ⟨i 0, i 1, eq_ix2 i⟩
  have hi : idx_main_v76 (ix2 j k) = (ix2 j (half 0 k) : S3x5632.Idx) := funext fun d => Fin.ext (by
    match d with
    | ⟨0, _⟩ => rfl
    | ⟨1, _⟩ => show k.val = 2816 * 0 + k.val; omega)
  rw [val_main_v76_apply, hi, taps_eq, gCol_half h]; rfl
theorem ref_w1 (h : Real' x0 x1 x2 x3) : val_main_v77 (F := Ideal) x0 x1 x2 x3 = gradW x0 x1 x2 x3 1 := by
  refine funext fun (i : S3x2816.Idx) => ?_
  obtain ⟨j, k, rfl⟩ : ∃ (j : Fin 3) (k : Fin 2816), i = ix2 j k := ⟨i 0, i 1, eq_ix2 i⟩
  have hi : idx_main_v77 (ix2 j k) = (ix2 j (half 1 k) : S3x5632.Idx) := funext fun d => Fin.ext (by
    match d with
    | ⟨0, _⟩ => rfl
    | ⟨1, _⟩ => show 2816 + k.val = 2816 * 1 + k.val; omega)
  rw [val_main_v77_apply, hi, taps_eq, gCol_half h]; rfl
theorem ref_b0 (h : Real' x0 x1 x2 x3) : val_main_v78 (F := Ideal) x0 x1 x2 x3 = gradB x0 x1 x2 x3 0 := by
  refine funext fun (i : S1x2816.Idx) => ?_
  obtain ⟨j, k, rfl⟩ : ∃ (j : Fin 1) (k : Fin 2816), i = ix2 j k := ⟨i 0, i 1, eq_ix2 i⟩
  have hi : idx_main_v78 (ix2 j k) = (ix2 j (half 0 k) : S1x5632.Idx) := funext fun d => Fin.ext (by
    match d with
    | ⟨0, _⟩ => rfl
    | ⟨1, _⟩ => show k.val = 2816 * 0 + k.val; omega)
  rw [val_main_v78_apply, hi, bias_apply, gCol_half h]; rfl
theorem ref_b1 (h : Real' x0 x1 x2 x3) : val_main_v79 (F := Ideal) x0 x1 x2 x3 = gradB x0 x1 x2 x3 1 := by
  refine funext fun (i : S1x2816.Idx) => ?_
  obtain ⟨j, k, rfl⟩ : ∃ (j : Fin 1) (k : Fin 2816), i = ix2 j k := ⟨i 0, i 1, eq_ix2 i⟩
  have hi : idx_main_v79 (ix2 j k) = (ix2 j (half 1 k) : S1x5632.Idx) := funext fun d => Fin.ext (by
    match d with
    | ⟨0, _⟩ => rfl
    | ⟨1, _⟩ => show 2816 + k.val = 2816 * 1 + k.val; omega)
  rw [val_main_v79_apply, hi, bias_apply, gCol_half h]; rfl

end Cert.Proof.Conv

end
-- ==== Proof.ConvClaim.lean ====
/- The claim about the convolution's gradient: on finite arguments the kernel's five arrays are the reference's. -/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.ConvRef
public import Idealize.ShloMosaic.Adequacy

@[expose] public section

noncomputable section

namespace Cert.Proof.Conv

open Idealize.ShloMosaic Idealize.ShloMosaic.TcCoe Idealize.SL.Sem

/-- A value whose magnitude is below infinity is a real number. -/
theorem real_of_lt {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by unfold Ideal.cmp; simp [hn]
    rw [h0] at h
    exact absurd h (by decide)
  rw [max_lt_iff] at hlt
  induction x with
  | bot => exact absurd hlt.2 (by simp)
  | coe a => exact ⟨a, rfl⟩
  | top => exact absurd hlt.1 (by simp)

/-- The precondition says that every argument holds real numbers. -/
theorem real_args {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) :
    Real' (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) := by
  obtain ⟨h0, h1, h2, h3⟩ := h c
  exact ⟨fun i => real_of_lt (congrFun h0 i), fun i => real_of_lt (congrFun h1 i),
    fun i => real_of_lt (congrFun h2 i), fun i => real_of_lt (congrFun h3 i)⟩

/-- The reference runs, keeps its arguments, and leaves every counter at zero. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2.2.2.2, Idealize.ShloMosaic.sem_eq_zero_of_no_sems (by decide) r.2⟩)
    (Cert.ReferenceIdeal.Value.run m g)

/-- The kernel's five arrays are the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => _, fun c => _, fun c => _, fun c => _, fun c => _, run_kernel m g, ?_⟩
  refine (θ_run Cert.ReferenceIdeal.defs _ _).mono (fun r h c => ?_) (Cert.ReferenceIdeal.Value.run m' g')
  obtain ⟨h0, h1, h2, h3, h4, hk⟩ := h c
  obtain ⟨a0, a1, a2, a3⟩ := hm c
  have hr := real_args hp c
  rw [← a0, ← a1, ← a2, ← a3] at hr
  exact ⟨(h0.trans (Cert.ReferenceIdeal.Read.val_main_v75_eq (F := Ideal) _)).trans ((ref_u hr).trans (by simp only [a0, a1, a2, a3])),
    (h1.trans (Cert.ReferenceIdeal.Read.val_main_v76_eq (F := Ideal) _)).trans ((ref_w0 hr).trans (by simp only [a0, a1, a2, a3])),
    (h2.trans (Cert.ReferenceIdeal.Read.val_main_v77_eq (F := Ideal) _)).trans ((ref_w1 hr).trans (by simp only [a0, a1, a2, a3])),
    (h3.trans (Cert.ReferenceIdeal.Read.val_main_v78_eq (F := Ideal) _)).trans ((ref_b0 hr).trans (by simp only [a0, a1, a2, a3])),
    (h4.trans (Cert.ReferenceIdeal.Read.val_main_v79_eq (F := Ideal) _)).trans ((ref_b1 hr).trans (by simp only [a0, a1, a2, a3])), hk⟩

end Cert.Proof.Conv

end
-- ==== Proof.MatMul.lean ====
/- Products of matrices over the extended reals, whatever the sizes: the three spellings the kernels' products have, read
   at an index, and a sum over rows taken in two or four equal parts. -/
module

public import Idealize.ShloMosaic.PureOps.Ideal.Laws
public import Idealize.ShloMosaic.Lib.ValueIdxCore
public import Idealize.ShloMosaic.Lib.MatmulPlain
public import Idealize.ShloMosaic.Lib.Pipeline.Value

@[expose] public section

noncomputable section

namespace Cert.Proof.MatMul

open Idealize.ShloMosaic Idealize.ShloMosaic.ValueIdx

/-- Products of equal numbers are equal. -/
theorem mul2 {a b c d : EReal} (h : a = b) (h' : c = d) : a * c = b * d := congrArg₂ (fun u v : EReal => u * v) h h'

/-- Sums of equal numbers are equal. -/
theorem add2 {a b c d : EReal} (h : a = b) (h' : c = d) : a + c = b + d := congrArg₂ (fun u v : EReal => u + v) h h'

/-- An index by its two places. -/
theorem same2 {M N : ℕ} {i : (⟨2, ![M, N]⟩ : Shape).Idx} {p : Fin M} {q : Fin N} (h0 : (i 0).val = p.val) (h1 : (i 1).val = q.val) :
    i = ix2 p q :=
  funext fun a => Fin.ext (match a with | ⟨0, _⟩ => h0 | ⟨1, _⟩ => h1)

/-- Two arrays are the same if they agree at every pair of places. -/
theorem ext2 {α : Type*} {M N : ℕ} {f g : (⟨2, ![M, N]⟩ : Shape).Idx → α} (h : ∀ (p : Fin M) (q : Fin N), f (ix2 p q) = g (ix2 p q)) : f = g :=
  funext fun i => by rw [eq_ix2 i]; exact h _ _

/-- An index is in a set of places that holds a block's index with the same two places. -/
theorem mem2 {M N P Q : ℕ} {emb : (⟨2, ![P, Q]⟩ : Shape).Idx → (⟨2, ![M, N]⟩ : Shape).Idx} {S : Set (⟨2, ![M, N]⟩ : Shape).Idx}
    (hm : ∀ j, emb j ∈ S) (i : (⟨2, ![M, N]⟩ : Shape).Idx) (j : (⟨2, ![P, Q]⟩ : Shape).Idx) (h0 : (emb j 0).val = (i 0).val)
    (h1 : (emb j 1).val = (i 1).val) : i ∈ S :=
  Eq.mp (congrArg (· ∈ S) ((same2 h0 h1).trans (eq_ix2 i).symm)) (hm j)

/-- The dimension numbers of a product contracted along the first axis of both operands. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {M K N : ℕ} {φ₁ φ₂ : FTy}

/-- A product contracted along both first axes, into a zero accumulator, at an index. -/
theorem tn_apply (lhs : FVec Ideal ⟨2, ![K, M]⟩ φ₁) (rhs : FVec Ideal ⟨2, ![K, N]⟩ φ₂) (r : Fin M) (c : Fin N) :
    FloatOps.matmul (tn M K N) none lhs rhs (constant ⟨2, ![M, N]⟩ .f32 0x00000000#32) (ix2 r c)
      = ∑ k : Fin K, lhs (ix2 k r) * rhs (ix2 k c) := by
  have hr : (tn M K N).contr.rank = 1 := rfl
  have hs : (tn M K N).contr.size ⟨0, by rw [hr]; exact Nat.one_pos⟩ = K := rfl
  rw [Ideal.matmul_apply, ← Equiv.sum_comp (contrEquiv1 _ K hr hs).symm]
  refine (congrArg₂ (· + ·) (show _ = (0 : EReal) from Ideal.ofBits_zero_f32) (Finset.sum_congr rfl fun k _ => ?_)).trans (zero_add _)
  have hk := contrEquiv1_symm_val _ K hr hs k
  have el : (tn M K N).lhsIdx (ix2 r c) ((contrEquiv1 _ K hr hs).symm k) = ix2 k r := by
    funext a; apply Fin.ext
    match a with
    | ⟨0, _⟩ => exact hk
    | ⟨1, _⟩ => rfl
  have er : (tn M K N).rhsIdx (ix2 r c) ((contrEquiv1 _ K hr hs).symm k) = ix2 k c := by
    funext a; apply Fin.ext
    match a with
    | ⟨0, _⟩ => exact hk
    | ⟨1, _⟩ => rfl
  rw [el, er]

/-- A product with the right operand turned, into a zero accumulator, at an index. -/
theorem nt_apply (lhs : FVec Ideal ⟨2, ![M, K]⟩ φ₁) (rhs : FVec Ideal ⟨2, ![N, K]⟩ φ₂) (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) :=
  (Ideal.matmul_transposedRhs_apply none lhs rhs _ r c).trans
    ((congrArg (· + _) (show _ = (0 : EReal) from Ideal.ofBits_zero_f32)).trans (zero_add _))

/-- A plain product into a zero accumulator, at an index. -/
theorem nn_apply (lhs : FVec Ideal ⟨2, ![M, K]⟩ φ₁) (rhs : FVec Ideal ⟨2, ![K, N]⟩ φ₂) (r : Fin M) (c : Fin N) :
    FloatOps.matmul (DotDims.plain M K N) none lhs rhs (constant ⟨2, ![M, N]⟩ .f32 0x00000000#32) (ix2 r c)
      = ∑ k : Fin K, lhs (ix2 r k) * rhs (ix2 k c) :=
  (Ideal.matmul_plain_apply none lhs rhs _ r c).trans
    ((congrArg (· + _) (show _ = (0 : EReal) from Ideal.ofBits_zero_f32)).trans (zero_add _))

/-- A sum over `p * n` places is the sum over the `p` parts of the sums over each part's `n` places. -/
theorem sum_parts (p n : ℕ) (f : Fin (p * n) → EReal) :
    ∑ i, f i = ∑ a : Fin p, ∑ b : Fin n, f ⟨a.val * n + b.val, by
      have ha := a.isLt; have hb := b.isLt
      calc a.val * n + b.val < a.val * n + n := by omega
        _ = (a.val + 1) * n := by ring
        _ ≤ p * n := Nat.mul_le_mul_right n ha⟩ := by
  rw [← Fintype.sum_prod_type' (f := fun (a : Fin p) (b : Fin n) => f ⟨a.val * n + b.val, _⟩),
    ← Equiv.sum_comp finProdFinEquiv]
  refine Finset.sum_congr rfl fun x _ => congrArg f (Fin.ext ?_)
  show x.2.val + n * x.1.val = x.1.val * n + x.2.val
  ring

/-- A sum over `2 * n` places, the first half first. -/
theorem sum_two {K : ℕ} (n : ℕ) (h : K = 2 * n) (f : Fin K → EReal) :
    (∑ b : Fin n, f ⟨b.val, by omega⟩) + (∑ b : Fin n, f ⟨n + b.val, by omega⟩) = ∑ i, f i := by
  subst h
  rw [sum_parts 2 n f, Fin.sum_univ_two]
  refine congrArg₂ (· + ·) (Finset.sum_congr rfl fun b _ => congrArg f (Fin.ext ?_)) (Finset.sum_congr rfl fun b _ => congrArg f (Fin.ext ?_))
  · show b.val = 0 * n + b.val; omega
  · show n + b.val = 1 * n + b.val; omega

/-- A sum over `4 * n` places, its quarters added one after the other. -/
theorem sum_four {K : ℕ} (n : ℕ) (h : K = 4 * n) (f : Fin K → EReal) :
    (((∑ b : Fin n, f ⟨b.val, by omega⟩) + (∑ b : Fin n, f ⟨1 * n + b.val, by omega⟩)) + (∑ b : Fin n, f ⟨2 * n + b.val, by omega⟩))
      + (∑ b : Fin n, f ⟨3 * n + b.val, by omega⟩) = ∑ i, f i := by
  subst h
  rw [sum_parts 4 n f, Fin.sum_univ_four]
  refine congrArg₂ (· + ·) (congrArg₂ (· + ·) (congrArg₂ (· + ·) (Finset.sum_congr rfl fun b _ => congrArg f (Fin.ext ?_)) rfl) rfl) rfl
  show b.val = 0 * n + b.val; omega

/-- A matrix given a leading axis of size one. -/
theorem lead_apply {α : Type} (v : (⟨2, ![M, N]⟩ : Shape).Idx → α) (h : (⟨2, ![M, N]⟩ : Shape).ShapeCasts ⟨3, ![1, M, N]⟩)
    (a : Fin 1) (r : Fin M) (c : Fin N) : shapeCast ⟨3, ![1, M, N]⟩ v h (ix3 a r c) = v (ix2 r c) := by
  refine shapeCast_apply v h (ix3 a r c) (ix2 r c) ?_
  rw [Shape.rowMajor_val_three, Shape.rowMajor_val_two]
  show r.val * N + c.val = (a.val * M + r.val) * N + c.val
  have : a.val = 0 := by have := a.isLt; omega
  rw [this, Nat.zero_mul, Nat.zero_add]

/-- A leading axis of size one taken off. -/
theorem drop_apply {α : Type} (v : (⟨3, ![1, M, N]⟩ : Shape).Idx → α) (h : (⟨3, ![1, M, N]⟩ : Shape).ShapeCasts ⟨2, ![M, N]⟩)
    (r : Fin M) (c : Fin N) : shapeCast ⟨2, ![M, N]⟩ v h (ix2 r c) = v (ix3 0 r c) := by
  refine shapeCast_apply v h (ix2 r c) (ix3 0 r c) ?_
  rw [Shape.rowMajor_val_three, Shape.rowMajor_val_two]
  show (0 * M + r.val) * N + c.val = r.val * N + c.val
  rw [Nat.zero_mul, Nat.zero_add]

/-- Two zero offsets. -/
theorem off2 : (![0, 0] : Fin 2 → ℕ) = fun _ => 0 := funext fun a => by fin_cases a <;> rfl
/-- Three zero offsets. -/
theorem off3 : (![0, 0, 0] : Fin 3 → ℕ) = fun _ => 0 := funext fun a => by fin_cases a <;> rfl

end Cert.Proof.MatMul

end
-- ==== Proof.Dact.lean ====
/- The product of the gradient that enters the feed-forward block with the turned output weights: eight blocks, each the whole
   contraction, so the array is the product at every index; and the reference's gradient of `a @ w` is the same sum. -/
module

public import proofs.«01_k».proof.Proof.MatMul
public import proofs.«01_k».proof.Defs
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.KernelVsHost
public import Idealize.ShloMosaic.Adequacy

@[expose] public section

noncomputable section

namespace Cert.Proof.Dact

open Cert.Kernel3Ideal Cert.Kernel3Ideal.Gen Cert.Kernel3Ideal.Value Cert.Proof.MatMul
open Idealize.ShloMosaic Idealize.ShloMosaic.TcCoe Idealize.SL.Sem Idealize.ShloMosaic.ValueIdx
open Idealize.ShloMosaic.Pipeline (Dat)

/-- The product at every index. -/
def prod (x : Vec Ideal S4096x1024 .bf16) (y : Vec Ideal S2816x1024 .bf16) : Vec Ideal S4096x2816 .f32 :=
  fun i => ∑ k : Fin 1024, x (ix2 (i 0) k) * y (ix2 (i 1) k)

/-- One block's product, at an index. -/
theorem block_apply (x : Vec Ideal S1024x1024 .bf16) (y : Vec Ideal S1408x1024 .bf16) (p : Fin 1024) (q : Fin 1408) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S1408x1024) off2]
  exact nt_apply x y p q

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = t.val % 2 :=
  (by decide +kernel : ∀ t : Fin grid0.N, _)

/-- Row `p` of point `t`'s rows. -/
def row (t : Fin cfg0.N) (p : Fin 1024) : Fin 4096 :=
  ⟨t.val / 2 * 1024 + p.val, by have := Nat.lt_of_lt_of_eq t.isLt N_0; omega⟩
/-- Column `q` of point `t`'s columns. -/
def colm (t : Fin cfg0.N) (q : Fin 1408) : Fin 2816 :=
  ⟨t.val % 2 * 1408 + q.val, by have := q.isLt; omega⟩

theorem blk0 (c : Dev nD) (t : Fin cfg0.N) (p k : Fin 1024) : iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val / 2 * 1024 + p.val; omega
  · show win0_0.index t (1 : Fin 2) * 1024 + 1 * k.val = k.val; omega
theorem blk1 (c : Dev nD) (t : Fin cfg0.N) (q : Fin 1408) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 1408 + 1 * q.val = t.val % 2 * 1408 + q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1408) => ?_
  show out0_2 (F := Ideal) _ _ (ix2 p q) = prod _ _ (((cfg0.win 2).blk t).view.emb (ix2 p q : S1024x1408.Idx))
  have hj : ((cfg0.win 2).blk t).view.emb (ix2 p q : S1024x1408.Idx) = ix2 (row t p) (colm t q) := by
    funext a; apply Fin.ext
    match a with
    | ⟨0, _⟩ => show win0_2.index t (0 : Fin 2) * 1024 + 1 * p.val = t.val / 2 * 1024 + p.val; omega
    | ⟨1, _⟩ => show win0_2.index t (1 : Fin 2) * 1408 + 1 * q.val = t.val % 2 * 1408 + q.val; omega
  rw [hj]
  exact (block_apply _ _ p q).trans (Finset.sum_congr rfl fun k _ => congrArg₂ (· * ·) (blk0 m c t p k) (blk1 m c t q k))

/-- The blocks cover the array. -/
theorem covered (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  have ht : (i 0).val / 1024 * 2 + (i 1).val / 1408 < cfg0.N := Nat.lt_of_lt_of_eq (by omega) N_0.symm
  refine ⟨⟨(i 0).val / 1024 * 2 + (i 1).val / 1408, ht⟩, flush0_2 _, ?_⟩
  obtain ⟨e0, e1⟩ := at2 ⟨(i 0).val / 1024 * 2 + (i 1).val / 1408, ht⟩
  exact mem2 (((cfg0.win 2).blk _).view.emb_mem_set) i (ix2 ⟨(i 0).val % 1024, Nat.mod_lt _ (by decide)⟩ ⟨(i 1).val % 1408, Nat.mod_lt _ (by decide)⟩ : S1024x1408.Idx)
    (by show win0_2.index ⟨(i 0).val / 1024 * 2 + (i 1).val / 1408, ht⟩ (0 : Fin 2) * 1024 + 1 * ((i 0).val % 1024) = (i 0).val; rw [e0]; show ((i 0).val / 1024 * 2 + (i 1).val / 1408) / 2 * 1024 + 1 * ((i 0).val % 1024) = (i 0).val; omega)
    (by show win0_2.index ⟨(i 0).val / 1024 * 2 + (i 1).val / 1408, ht⟩ (1 : Fin 2) * 1408 + 1 * ((i 1).val % 1408) = (i 1).val; rw [e1]; show ((i 0).val / 1024 * 2 + (i 1).val / 1408) % 2 * 1408 + 1 * ((i 1).val % 1408) = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S2816x1024 .bf16) :
    Cert.Reference3Ideal.Read.val_main_v4 (F := Ideal) x y = prod x y := by
  refine funext fun (i : S4096x2816.Idx) => ?_
  refine (Cert.Reference3Ideal.Read.val_main_v4_apply x y i).trans (Finset.sum_congr rfl fun k _ => ?_)
  refine congrArg₂ (· * ·) (congrArg x (funext fun a => ?_)) (congrArg y (funext fun a => ?_))
  · match a with
    | ⟨0, _⟩ => rfl
    | ⟨1, _⟩ => rfl
  · match a with
    | ⟨0, _⟩ => rfl
    | ⟨1, _⟩ => rfl

/-- The reference runs, keeps its arguments, and leaves every counter at zero. -/
theorem frame_reference : Cert.quiescent_Reference3Ideal (hReference3Ideal := Cert.Reference3Ideal.Gen.facts) := by
  intro m g _
  exact (θ_run Cert.Reference3Ideal.defs _ _).mono
    (fun r h => ⟨fun c => (h c).2, Idealize.ShloMosaic.sem_eq_zero_of_no_sems (by decide) r.2⟩)
    (Cert.Reference3Ideal.Value.run m g)

/-- The kernel's array is the reference's. -/
theorem value : Cert.algebraic_Kernel3Ideal_Reference3Ideal (hKernel3Ideal := Cert.Kernel3Ideal.Gen.facts)
    (hReference3Ideal := Cert.Reference3Ideal.Gen.facts) := by
  intro m g m' g' _ hm
  refine ⟨fun c => _, run_kernel m g, ?_⟩
  refine (θ_run Cert.Reference3Ideal.defs _ _).mono (fun r h c => ?_) (Cert.Reference3Ideal.Value.run m' g')
  obtain ⟨h0, hk⟩ := h c
  obtain ⟨a0, a1⟩ := hm c
  exact ⟨(h0.trans (Cert.Reference3Ideal.Read.val_main_v4_eq (F := Ideal) _ _)).trans ((reference_eq _ _).trans (congrArg₂ prod a0 a1)), hk⟩

end Cert.Proof.Dact

end
-- ==== Proof.DwUp.lean ====
/- The gradient of the feed-forward block's input weights: each of the four parts is a product contracted over the 4096
   rows, taken in two halves that one point after the other adds up; and the reference's gradient of `h @ w` is the same sum. -/
module

public import proofs.«01_k».proof.Proof.MatMul
public import proofs.«01_k».proof.Defs
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.KernelVsHost
public import Idealize.ShloMosaic.Lib.Tactic
public import Idealize.ShloMosaic.Adequacy

@[expose] public section

noncomputable section

namespace Cert.Proof.DwUp

open Cert.Kernel4Ideal Cert.Kernel4Ideal.Gen Cert.Kernel4Ideal.Value Cert.Proof.MatMul
open Idealize.ShloMosaic Idealize.ShloMosaic.TcCoe Idealize.SL.Sem Idealize.ShloMosaic.ValueIdx
open Idealize.ShloMosaic.Pipeline (Dat)

/-- Part `a`'s column `q` among the columns of its half. -/
def colm (a : Fin 4) (q : Fin 1408) : Fin 2816 := ⟨a.val % 2 * 1408 + q.val, by have := q.isLt; omega⟩
/-- The half part `a` lies in. -/
def side (a : Fin 4) : Fin 2 := ⟨a.val / 2, by have := a.isLt; omega⟩

/-- The product at every index. -/
def prod (x : Vec Ideal S4096x1024 .bf16) (y : Vec Ideal S2x4096x2816 .bf16) : Vec Ideal S4x1024x1408 .bf16 :=
  fun i => ∑ k : Fin 4096, x (ix2 k (i 1)) * y (ix3 (side (i 0)) k (colm (i 0) (i 2)))

/-- One of its summands. -/
def term (x : Vec Ideal S4096x1024 .bf16) (y : Vec Ideal S2x4096x2816 .bf16) (a : Fin 4) (p : Fin 1024) (q : Fin 1408) (k : Fin 4096) : EReal :=
  x (ix2 k p) * y (ix3 (side a) k (colm a q))

/-- One half's product, at an index. -/
theorem part_apply (x : Vec Ideal S2048x1024 .bf16) (y : Vec Ideal S1x2048x1408 .bf16) (p : Fin 1024) (q : Fin 1408) :
    k0_pay1 (F := Ideal) x y (ix2 p q) = ∑ k : Fin 2048, x (ix2 k p) * y (ix3 0 k q) :=
  (tn_apply (M := 1024) (K := 2048) (N := 1408) x _ p q).trans
    (Finset.sum_congr rfl fun k _ => congrArg (x (ix2 k p) * ·) (drop_apply y _ k q))

section
variable (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec Ideal S2048x1024 .bf16) (x1 : Vec Ideal S1x2048x1408 .bf16)

/-- The first of a part's two points leaves its half's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1024) off2,
    View.ld_unit_zero (S := S1x2048x1408) off3, shapeCast_self]

/-- The last of a part's two points writes back the running sum with its half's product added. -/
theorem last_eq (hc0 : ¬cond0_0 i) (hc1 : cond0_1 i) (hc2 : cond0_2 i) (xs : Vec Ideal S1024x1408 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off3]
  simp only [View.readCov_unit_zero (S := S1024x1408) _ off2, View.readAt_eq_ld, Memref.IsWhole.read_unread, View.ld_unit_zero (S := S2048x1024) off2, View.ld_unit_zero (S := S1x2048x1408) off3, View.ld_unit_zero (S := S1024x1408) off2]

end

/-- What the last point writes back, at an index. -/
theorem write_apply (x : Vec Ideal S2048x1024 .bf16) (y : Vec Ideal S1x2048x1408 .bf16) (s : Vec Ideal S1024x1408 .f32)
    (a : Fin 1) (p : Fin 1024) (q : Fin 1408) :
    k0_pay4 (F := Ideal) (k0_pay3 x y s) (ix3 a p q) = s (ix2 p q) + k0_pay1 (F := Ideal) x y (ix2 p q) := by
  unfold k0_pay4 k0_pay3
  refine (lead_apply _ _ a p q).trans ?_
  show shapeCast S1024x1408 (addf s (k0_pay1 (F := Ideal) x y)) _ (ix2 p q) = _
  rw [shapeCast_self]
  rfl

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = 0 :=
  (by decide +kernel : ∀ t : Fin grid0.N, _)
theorem at1 : ∀ t : Fin cfg0.N, win0_1.index t (0 : Fin 3) = t.val / 4 ∧ win0_1.index t (1 : Fin 3) = t.val % 2
    ∧ win0_1.index t (2 : Fin 3) = t.val / 2 % 2 :=
  (by decide +kernel : ∀ t : Fin grid0.N, _)
theorem at2 : ∀ t : Fin cfg0.N, win0_2.index t (0 : Fin 3) = t.val / 2 ∧ win0_2.index t (1 : Fin 3) = 0
    ∧ win0_2.index t (2 : Fin 3) = 0 :=
  (by decide +kernel : ∀ t : Fin grid0.N, _)

/-- The part point `t` works on. -/
def part (t : Fin cfg0.N) : Fin 4 := ⟨t.val / 2, by have := Nat.lt_of_lt_of_eq t.isLt N_0; omega⟩
/-- Row `k` of point `t`'s rows. -/
def row (t : Fin cfg0.N) (k : Fin 2048) : Fin 4096 := ⟨t.val % 2 * 2048 + k.val, by have := k.isLt; omega⟩

theorem blk0 (c : Dev nD) (t : Fin cfg0.N) (k : Fin 2048) (p : Fin 1024) :
    iblk m c 0 t (ix2 k p) = V m c main_arg0 (ix2 (row t k) p) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 1024 + 1 * p.val = p.val; omega
theorem blk1 (c : Dev nD) (t : Fin cfg0.N) (k : Fin 2048) (q : Fin 1408) :
    iblk m c 1 t (ix3 0 k q) = V m c main_arg1 (ix3 (side (part t)) (row t k) (colm (part t) q)) := by
  obtain ⟨e0, e1, e2⟩ := at1 t
  refine congrArg (V m c main_arg1) (funext fun a => Fin.ext ?_)
  match a with
  | ⟨0, _⟩ => show win0_1.index t (0 : Fin 3) * 1 + 1 * 0 = t.val / 2 / 2; omega
  | ⟨1, _⟩ => show win0_1.index t (1 : Fin 3) * 2048 + 1 * k.val = t.val % 2 * 2048 + k.val; omega
  | ⟨2, _⟩ => show win0_1.index t (2 : Fin 3) * 1408 + 1 * q.val = t.val / 2 % 2 * 1408 + q.val; omega

/-- A half's product in the argument arrays. -/
theorem half_eq (c : Dev nD) (t : Fin cfg0.N) (p : Fin 1024) (q : Fin 1408) : k0_pay1 (F := Ideal) (iblk m c 0 t) (iblk m c 1 t) (ix2 p q)
    = ∑ k : Fin 2048, term (V m c main_arg0) (V m c main_arg1) (part t) p q (row t k) :=
  (part_apply (iblk m c 0 t) (iblk m c 1 t) p q).trans (Finset.sum_congr rfl fun k _ =>
    (mul2 (blk0 m c t k p) (blk1 m c t k q)))

/-- Each point that writes back writes its part of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  obtain ⟨e0, e1, e2⟩ := at2 t
  have hs : t.val - 1 < cfg0.N := Nat.lt_of_le_of_lt (Nat.sub_le _ _) t.isLt
  have hz : (⟨t.val - 1, hs⟩ : Fin cfg0.N).val % 2 = 0 := by show (t.val - 1) % 2 = 0; omega
  rw [flushed2_B m c t (by omega) h1 h1, last_eq, outsAt0_A m c ⟨t.val - 1, hs⟩ hz (by omega) (by omega)]
  dsimp only
  rw [first_eq]
  refine funext fun (j : S1x1024x1408.Idx) => ?_
  obtain ⟨a, p, q, rfl⟩ : ∃ (a : Fin 1) (p : Fin 1024) (q : Fin 1408), j = ix3 a p q := ⟨j 0, j 1, j 2, eq_ix3 j⟩
  show k0_pay4 (F := Ideal) _ (ix3 a p q) = prod _ _ (((cfg0.win 2).blk t).view.emb (ix3 a p q : S1x1024x1408.Idx))
  have hj : ((cfg0.win 2).blk t).view.emb (ix3 a p q : S1x1024x1408.Idx) = ix3 (part t) p q := by
    have ha : a.val = 0 := by have := a.isLt; omega
    funext b; apply Fin.ext
    match b with
    | ⟨0, _⟩ => show win0_2.index t (0 : Fin 3) * 1 + 1 * a.val = t.val / 2; omega
    | ⟨1, _⟩ => show win0_2.index t (1 : Fin 3) * 1024 + 1 * p.val = p.val; omega
    | ⟨2, _⟩ => show win0_2.index t (2 : Fin 3) * 1408 + 1 * q.val = q.val; omega
  rw [hj]
  refine (write_apply _ _ _ a p q).trans ?_
  rw [half_eq, half_eq]
  have hp : part (⟨t.val - 1, hs⟩ : Fin cfg0.N) = part t := Fin.ext (by show (t.val - 1) / 2 = t.val / 2; omega)
  rw [hp]
  refine Eq.trans (congrArg₂ (· + ·) (Finset.sum_congr rfl fun k _ => ?_) (Finset.sum_congr rfl fun k _ => ?_))
    (sum_two 2048 rfl (term (V m c main_arg0) (V m c main_arg1) (part t) p q))
  · rw [show row (⟨t.val - 1, hs⟩ : Fin cfg0.N) k = ⟨k.val, by omega⟩ from Fin.ext (by show (t.val - 1) % 2 * 2048 + k.val = k.val; omega)]
  · rw [show row t k = ⟨2048 + k.val, by omega⟩ from Fin.ext (by show t.val % 2 * 2048 + k.val = 2048 + k.val; omega)]

/-- The parts cover the array. -/
theorem covered (i : S4x1024x1408.Idx) : ∃ t : Fin cfg0.N, (cfg0.win 2).flush t = true ∧ i ∈ ((cfg0.win 2).blk t).view.set := by
  have h0 : (i 0).val < 4 := (i 0).isLt
  have ht : (i 0).val * 2 + 1 < cfg0.N := Nat.lt_of_lt_of_eq (by omega) N_0.symm
  refine ⟨⟨(i 0).val * 2 + 1, ht⟩, (flush0_2 _).mpr (by show ((i 0).val * 2 + 1) % 2 = 1; omega), ?_⟩
  obtain ⟨e0, e1, e2⟩ := at2 ⟨(i 0).val * 2 + 1, ht⟩
  have h := ((cfg0.win 2).blk ⟨(i 0).val * 2 + 1, ht⟩).view.emb_mem_set (ix3 0 (i 1) (i 2) : S1x1024x1408.Idx)
  refine Eq.mp (congrArg (· ∈ _) ?_) h
  funext a; apply Fin.ext
  match a with
  | ⟨0, _⟩ => show win0_2.index ⟨(i 0).val * 2 + 1, ht⟩ (0 : Fin 3) * 1 + 1 * 0 = (i 0).val; rw [e0]; show ((i 0).val * 2 + 1) / 2 * 1 + 1 * 0 = (i 0).val; omega
  | ⟨1, _⟩ => show win0_2.index ⟨(i 0).val * 2 + 1, ht⟩ (1 : Fin 3) * 1024 + 1 * (i 1).val = (i 1).val; omega
  | ⟨2, _⟩ => show win0_2.index ⟨(i 0).val * 2 + 1, ht⟩ (2 : Fin 3) * 1408 + 1 * (i 2).val = (i 2).val; omega

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x1024 .bf16) (y : Vec Ideal S2x4096x2816 .bf16) :
    Cert.Reference4Ideal.Read.val_main_v10 (F := Ideal) x y = prod x y := by
  refine funext fun (i : S4x1024x1408.Idx) => ?_
  obtain ⟨a, p, q, rfl⟩ : ∃ (a : Fin 4) (p : Fin 1024) (q : Fin 1408), i = ix3 a p q := ⟨i 0, i 1, i 2, eq_ix3 i⟩
  refine (Cert.Reference4Ideal.Read.val_main_v9_apply x y _).trans
    ((Cert.Reference4Ideal.Read.val_main_v8_apply x y _).trans ((Cert.Reference4Ideal.Read.val_main_v7_apply x y _).trans
    ((Cert.Reference4Ideal.Read.val_main_v6_apply x y _).trans (Finset.sum_congr rfl fun k _ => (mul_comm _ _).trans ?_))))
  have ha := a.isLt
  have hp := p.isLt
  have hq := q.isLt
  have hk := k.isLt
  refine congrArg₂ (· * ·) (congrArg x (funext fun b => Fin.ext ?_)) ?_
  · match b with
    | ⟨0, _⟩ => rfl
    | ⟨1, _⟩ => show ((p.val * 4 + a.val) * 1408 + q.val) / 5632 = p.val; omega
  · refine (Cert.Reference4Ideal.Read.val_main_v2_apply (F := Ideal) y _).trans
      ((Cert.Reference4Ideal.Read.val_main_v1_apply (F := Ideal) y _).trans (congrArg y (funext fun b => Fin.ext ?_)))
    match b with
    | ⟨0, _⟩ => show (k.val * 5632 + ((p.val * 4 + a.val) * 1408 + q.val) % 5632) / 2816 % 2 = a.val / 2; omega
    | ⟨1, _⟩ => show (k.val * 5632 + ((p.val * 4 + a.val) * 1408 + q.val) % 5632) / 5632 = k.val; omega
    | ⟨2, _⟩ => show (k.val * 5632 + ((p.val * 4 + a.val) * 1408 + q.val) % 5632) % 2816 = a.val % 2 * 1408 + q.val; omega

/-- The reference runs, keeps its arguments, and leaves every counter at zero. -/
theorem frame_reference : Cert.quiescent_Reference4Ideal (hReference4Ideal := Cert.Reference4Ideal.Gen.facts) := by
  intro m g _
  exact (θ_run Cert.Reference4Ideal.defs _ _).mono
    (fun r h => ⟨fun c => (h c).2, Idealize.ShloMosaic.sem_eq_zero_of_no_sems (by decide) r.2⟩)
    (Cert.Reference4Ideal.Value.run m g)

/-- The kernel's array is the reference's. -/
theorem value : Cert.algebraic_Kernel4Ideal_Reference4Ideal (hKernel4Ideal := Cert.Kernel4Ideal.Gen.facts)
    (hReference4Ideal := Cert.Reference4Ideal.Gen.facts) := by
  intro m g m' g' _ hm
  refine ⟨fun c => _, run_kernel m g, ?_⟩
  refine (θ_run Cert.Reference4Ideal.defs _ _).mono (fun r h c => ?_) (Cert.Reference4Ideal.Value.run m' g')
  obtain ⟨h0, hk⟩ := h c
  obtain ⟨a0, a1⟩ := hm c
  exact ⟨(h0.trans (Cert.Reference4Ideal.Read.val_main_v10_eq (F := Ideal) _ _)).trans ((reference_eq _ _).trans (congrArg₂ prod a0 a1)), hk⟩

end Cert.Proof.DwUp

end
-- ==== Proof.AttMath.lean ====
/- The mathematics of the gradient of one head's attention over one block of 128 queries and its 256 keys: the weights are
   exponentials of masked scores less their row's top, the output is their weighted mean of the values, and the second
   output is the logarithm of their sum. Nothing here names a program. -/
module

public import Idealize.ShloMosaic.PureOps.Ideal.Laws
public import proofs.«01_k».proof.Proof.ConvMath

@[expose] public section

noncomputable section

namespace Cert.Proof.Att

open Idealize.ShloMosaic Cert.Proof.Conv

/-- The scale of a score: the reciprocal root of the head's width, as its word says. -/
def eighth : EReal := Ideal.ofBits .f32 0x3E000000#32

/-- What one head reads for one block: its queries, keys and values, which pairs may meet, and the two gradients that
    reach it. -/
structure Head where
  /-- queries -/
  q : Fin 128 → Fin 64 → EReal
  /-- keys -/
  k : Fin 256 → Fin 64 → EReal
  /-- values -/
  v : Fin 256 → Fin 64 → EReal
  /-- the gradient of the output -/
  d : Fin 128 → Fin 64 → EReal
  /-- the gradient of the logarithm of the sum, in 64 parts -/
  l : Fin 128 → Fin 64 → EReal
  /-- the pairs that meet -/
  ok : Fin 128 → Fin 256 → Bool

namespace Head

variable (H : Head)

/-- The masked scores. -/
def score (i : Fin 128) (j : Fin 256) : EReal :=
  if H.ok i j = true then (∑ e, H.q i e * H.k j e) * eighth else ⊥

/-- The largest score of a query. -/
def top (i : Fin 128) : EReal := Finset.univ.sup (H.score i)

/-- The weights. -/
def ex (i : Fin 128) (j : Fin 256) : EReal := Ideal.exp (H.score i j - H.top i)

/-- The sum of the weights. -/
def den (i : Fin 128) : EReal := ∑ j, H.ex i j

/-- The weighted sum of the values. -/
def num (i : Fin 128) (e : Fin 64) : EReal := ∑ j, H.ex i j * H.v j e

/-- The gradient of the weighted sum. -/
def g (i : Fin 128) (e : Fin 64) : EReal := Ideal.div (H.d i e) (H.den i)

/-- One part of the gradient of the sum of the weights, its sign turned. -/
def part (i : Fin 128) (e : Fin 64) : EReal := H.d i e * Ideal.div 1 (H.den i * H.den i) * H.num i e

/-- The gradient of the sum of the weights. -/
def dden (i : Fin 128) : EReal := Ideal.div (∑ e, H.l i e) (H.den i) + ∑ e, (0 - H.part i e)

/-- The gradient of a weight, times the weight. -/
def dw (i : Fin 128) (j : Fin 256) : EReal := ((∑ e, H.g i e * H.v j e) + H.dden i) * H.ex i j

/-- The gradient of the product a score scales. -/
def ds (i : Fin 128) (j : Fin 256) : EReal := (if H.ok i j = true then H.dw i j else 0) * eighth

/-- The gradient of the queries. -/
def dq (i : Fin 128) (e : Fin 64) : EReal := ∑ j, H.ds i j * H.k j e

/-- The gradient of the keys. -/
def dk (j : Fin 256) (e : Fin 64) : EReal := ∑ i, H.ds i j * H.q i e

/-- The gradient of the values. -/
def dv (j : Fin 256) (e : Fin 64) : EReal := ∑ i, H.ex i j * H.g i e

end Head

/-! ## Real numbers among the extended reals -/

/-- A finite sum of real numbers, taken among the extended reals. -/
theorem coe_sum {ι : Type} [Fintype ι] (f : ι → ℝ) : ((∑ i, f i : ℝ) : EReal) = ∑ i, (f i : EReal) := by
  classical
  refine Finset.induction_on (Finset.univ : Finset ι) rfl fun a s ha ih => ?_
  rw [Finset.sum_insert ha, Finset.sum_insert ha, EReal.coe_add, ih]

/-- A finite sum of real numbers is real. -/
theorem fin_sum {ι : Type} [Fintype ι] {f : ι → EReal} (h : ∀ i, Fin' (f i)) : Fin' (∑ i, f i) := by
  choose a ha using h
  exact ⟨∑ i, a i, by rw [coe_sum]; exact Finset.sum_congr rfl fun i _ => ha i⟩

/-- A quotient of real numbers by one that is not zero. -/
theorem div_coe (a : ℝ) {b : ℝ} (hb : b ≠ 0) : Ideal.div (a : EReal) (b : EReal) = ((a / b : ℝ) : EReal) := by
  unfold Ideal.div
  rw [if_neg (fun h => hb (EReal.coe_eq_zero.mp h)), div_eq_mul_inv, EReal.coe_mul, EReal.coe_inv]

/-- The scale is real. -/
theorem fin_eighth : Fin' eighth := by
  refine ⟨1 / 8, ?_⟩
  show Ideal.ieee 8 23 0x3E000000#32 = _
  simp [Ideal.ieee]
  rw [← EReal.coe_mul]
  norm_num

namespace Head

variable {H : Head}

/-- Every entry is a real number and every query meets a key. -/
structure Real (H : Head) : Prop where
  /-- queries -/
  q : ∀ i e, Fin' (H.q i e)
  /-- keys -/
  k : ∀ i e, Fin' (H.k i e)
  /-- values -/
  v : ∀ i e, Fin' (H.v i e)
  /-- the gradient of the output -/
  d : ∀ i e, Fin' (H.d i e)
  /-- the gradient of the logarithm -/
  l : ∀ i e, Fin' (H.l i e)
  /-- a pair that meets -/
  ok : ∀ i, ∃ j, H.ok i j = true

/-- A score of a pair that meets is real. -/
theorem Real.score (h : H.Real) {i : Fin 128} {j : Fin 256} (hj : H.ok i j = true) : Fin' (H.score i j) := by
  unfold Head.score
  rw [if_pos hj]
  exact (fin_sum fun e => (h.q i e).mul (h.k j e)).mul fin_eighth

/-- A query's largest score is one of its scores. -/
theorem top_mem (i : Fin 128) : ∃ j, H.score i j = H.top i := by
  obtain ⟨j, _, hj⟩ := Finset.exists_mem_eq_sup (Finset.univ : Finset (Fin 256)) ⟨0, Finset.mem_univ _⟩ (H.score i)
  exact ⟨j, hj.symm⟩

/-- A query's largest score is real. -/
theorem Real.top (h : H.Real) (i : Fin 128) : Fin' (H.top i) := by
  obtain ⟨j, hj⟩ := H.top_mem i
  by_cases hk : H.ok i j = true
  · rw [← hj]; exact h.score hk
  · exfalso
    obtain ⟨j', hj'⟩ := h.ok i
    obtain ⟨a, ha⟩ := h.score hj'
    have hle : H.score i j' ≤ H.top i := Finset.le_sup (f := H.score i) (Finset.mem_univ j')
    have hb : H.score i j = ⊥ := by unfold Head.score; rw [if_neg hk]
    rw [← hj, hb, ha] at hle
    exact EReal.coe_ne_bot a (le_bot_iff.mp hle)

/-- The weights are real numbers, none negative, and one of them is one. -/
theorem Real.ex (h : H.Real) (i : Fin 128) : ∃ p : Fin 256 → ℝ, (∀ j, H.ex i j = (p j : EReal)) ∧ 0 < ∑ j, p j := by
  obtain ⟨t, ht⟩ := h.top i
  have key : ∀ j, ∃ a : ℝ, 0 ≤ a ∧ H.ex i j = (a : EReal) := by
    intro j
    unfold Head.ex
    by_cases hk : H.ok i j = true
    · obtain ⟨a, ha⟩ := h.score hk
      refine ⟨_root_.Real.exp (a - t), (_root_.Real.exp_pos _).le, ?_⟩
      rw [ha, ht, ← EReal.coe_sub]; rfl
    · refine ⟨0, le_refl _, ?_⟩
      have hb : H.score i j = ⊥ := by unfold Head.score; rw [if_neg hk]
      rw [hb, EReal.bot_sub]; rfl
  choose p hp0 hp using key
  refine ⟨p, hp, ?_⟩
  obtain ⟨j, hj⟩ := H.top_mem i
  have h1 : H.ex i j = ((1 : ℝ) : EReal) := by
    unfold Head.ex
    rw [hj, ht, ← EReal.coe_sub, sub_self]
    show ((_root_.Real.exp 0 : ℝ) : EReal) = _
    rw [_root_.Real.exp_zero]
  have h2 : p j = 1 := EReal.coe_injective ((hp j).symm.trans h1)
  exact lt_of_lt_of_le (by rw [h2]; exact one_pos) (Finset.single_le_sum (fun j _ => hp0 j) (Finset.mem_univ j))

/-- The parts of the gradient of the sum may be negated one by one or together. -/
theorem Real.neg_parts (h : H.Real) (i : Fin 128) : -(∑ e, H.part i e) = ∑ e, (0 - H.part i e) := by
  obtain ⟨p, hp, hpos⟩ := h.ex i
  have hd : H.den i = ((∑ j, p j : ℝ) : EReal) := by
    rw [coe_sum]; exact Finset.sum_congr rfl fun j _ => hp j
  have hf : ∀ e, Fin' (H.part i e) := by
    intro e
    refine ((h.d i e).mul ?_).mul (fin_sum fun j => Fin'.mul ⟨p j, hp j⟩ (h.v j e))
    rw [hd, ← EReal.coe_mul]
    exact ⟨_, div_coe 1 (mul_pos hpos hpos).ne'⟩
  choose a ha using hf
  rw [Finset.sum_congr rfl fun e _ => ha e, ← coe_sum, ← EReal.coe_neg, ← Finset.sum_neg_distrib, coe_sum]
  refine Finset.sum_congr rfl fun e _ => ?_
  rw [ha e, zero_sub, EReal.coe_neg]

/-- Moving every score of a query by the same amount moves only the logarithm: the gradients through the weights add
    up to the gradient of the logarithm. -/
theorem Real.balance (h : H.Real) (i : Fin 128) : (∑ e, H.l i e) + ∑ j, -(H.dw i j) = 0 := by
  obtain ⟨p, hp, hpos⟩ := h.ex i
  have hd : H.den i = ((∑ j, p j : ℝ) : EReal) := by
    rw [coe_sum]; exact Finset.sum_congr rfl fun j _ => hp j
  set s : ℝ := ∑ j, p j with hs
  choose D hD using h.d i
  choose L hL using h.l i
  choose V hV using h.v
  have hn : ∀ e, H.num i e = ((∑ j, p j * V j e : ℝ) : EReal) := by
    intro e
    rw [coe_sum]; refine Finset.sum_congr rfl fun j _ => ?_
    rw [hp, hV, EReal.coe_mul]
  have hg : ∀ e, H.g i e = ((D e / s : ℝ) : EReal) := by
    intro e
    unfold Head.g
    rw [hD, hd, div_coe _ hpos.ne']
  have hpt : ∀ e, H.part i e = ((D e * (1 / (s * s)) * ∑ j, p j * V j e : ℝ) : EReal) := by
    intro e
    unfold Head.part
    rw [hD, hd, hn, ← EReal.coe_mul, show (1 : EReal) = ((1 : ℝ) : EReal) from rfl, div_coe _ (mul_pos hpos hpos).ne',
      ← EReal.coe_mul, ← EReal.coe_mul]
  have hl : ∑ e, H.l i e = ((∑ e, L e : ℝ) : EReal) := by
    rw [coe_sum]; exact Finset.sum_congr rfl fun e _ => hL e
  have hdd : H.dden i = (((∑ e, L e) / s + ∑ e, (0 - D e * (1 / (s * s)) * ∑ j, p j * V j e) : ℝ) : EReal) := by
    unfold Head.dden
    rw [hl, hd, div_coe _ hpos.ne', EReal.coe_add, coe_sum (fun e => 0 - D e * (1 / (s * s)) * ∑ j, p j * V j e)]
    refine congrArg _ (Finset.sum_congr rfl fun e _ => ?_)
    rw [hpt, EReal.coe_sub]; rfl
  have hw : ∀ j, -(H.dw i j)
      = ((-(((∑ e, D e / s * V j e) + ((∑ e, L e) / s + ∑ e, (0 - D e * (1 / (s * s)) * ∑ j, p j * V j e))) * p j) : ℝ) : EReal) := by
    intro j
    unfold Head.dw
    rw [hdd, hp, EReal.coe_neg, EReal.coe_mul, EReal.coe_add (∑ e, D e / s * V j e), coe_sum (fun e => D e / s * V j e)]
    refine congrArg (fun z : EReal => -((z + _) * _)) (Finset.sum_congr rfl fun e _ => ?_)
    rw [hg, hV, EReal.coe_mul]
  rw [hl, Finset.sum_congr rfl fun j _ => hw j, ← coe_sum, ← EReal.coe_add]
  refine (congrArg _ ?_).trans EReal.coe_zero
  rw [Finset.sum_neg_distrib, ← Finset.sum_congr rfl fun j _ => (add_mul _ _ _).symm, Finset.sum_add_distrib, ← Finset.mul_sum, ← hs]
  have e1 : ∑ j, (∑ e, D e / s * V j e) * p j = ∑ e, D e / s * ∑ j, p j * V j e := by
    simp only [Finset.sum_mul, Finset.mul_sum]
    rw [Finset.sum_comm]
    refine Finset.sum_congr rfl fun e _ => Finset.sum_congr rfl fun j _ => by ring
  have e2 : (∑ e, (0 - D e * (1 / (s * s)) * ∑ j, p j * V j e)) * s = -∑ e, D e / s * ∑ j, p j * V j e := by
    rw [Finset.sum_mul, ← Finset.sum_neg_distrib]
    refine Finset.sum_congr rfl fun e _ => ?_
    have := hpos.ne'
    field_simp
    ring
  rw [e1, add_mul, e2, div_mul_cancel₀ _ hpos.ne']
  ring

end Head

end Cert.Proof.Att

end
-- ==== Proof.AttSpec.lean ====
/- The gradient of windowed causal attention, stated of the program's three argument arrays: which head and block each
   entry belongs to, what that head reads, and what the result's columns hold. -/
module

public import Idealize.ShloMosaic.Lib.ValueIdxCore
public import proofs.«01_k».proof.Proof.AttMath

@[expose] public section

noncomputable section

namespace Cert.Proof.Att

open Idealize.ShloMosaic Idealize.ShloMosaic.ValueIdx Cert.Proof.Conv

/-- The array of queries, keys and values, 512 columns each, and two more groups' beside them. -/
abbrev Wide := (⟨2, ![4096, 4608]⟩ : Shape).Idx → EReal
/-- An array of one gradient, 512 columns. -/
abbrev Narrow := (⟨2, ![4096, 512]⟩ : Shape).Idx → EReal

/-- Row `i` of block `n`. -/
def row (n : Fin 32) (i : Fin 128) : Fin 4096 := ⟨n.val * 128 + i.val, by omega⟩
/-- Lane `e` of head `h`. -/
def lane (h : Fin 8) (e : Fin 64) : Fin 512 := ⟨h.val * 64 + e.val, by omega⟩
/-- Lane `c` of the `s`-th 512 columns. -/
def third (s : Fin 3) (c : Fin 512) : Fin 4608 := ⟨s.val * 512 + c.val, by omega⟩

/-- The entry of the `s`-th array of the wide one. -/
def wide (x : Wide) (s : Fin 3) (n : Fin 32) (i : Fin 128) (h : Fin 8) (e : Fin 64) : EReal :=
  x (ix2 (row n i) (third s (lane h e)))
/-- The entry of a narrow array. -/
def narrow (x : Narrow) (n : Fin 32) (i : Fin 128) (h : Fin 8) (e : Fin 64) : EReal := x (ix2 (row n i) (lane h e))

/-- The block before, zero before the first. -/
def before (f : Fin 32 → Fin 128 → Fin 8 → Fin 64 → EReal) (n : Fin 32) (i : Fin 128) (h : Fin 8) (e : Fin 64) : EReal :=
  if n.val = 0 then 0 else f ⟨n.val - 1, by omega⟩ i h e

/-- The block before and the block itself, one after the other. -/
def window (f : Fin 32 → Fin 128 → Fin 8 → Fin 64 → EReal) (n : Fin 32) (h : Fin 8) (j : Fin 256) (e : Fin 64) : EReal :=
  if hj : j.val < 128 then before f n ⟨j.val, hj⟩ h e else f n ⟨j.val - 128, by omega⟩ h e

/-- Query `i` meets key `j` of the window when the key is not after it, not more than 128 before it, and not before the
    first block. -/
def meets (n : Fin 32) (i : Fin 128) (j : Fin 256) : Bool :=
  decide (j.val ≤ i.val + 128 ∧ i.val ≤ j.val ∧ 128 ≤ n.val * 128 + j.val)

/-- What head `h` reads for block `n`. -/
def head (x0 : Wide) (x1 x2 : Narrow) (n : Fin 32) (h : Fin 8) : Head where
  q := fun i e => wide x0 0 n i h e
  k := fun j e => window (wide x0 1) n h j e
  v := fun j e => window (wide x0 2) n h j e
  d := fun i e => narrow x1 n i h e
  l := fun i e => narrow x2 n i h e
  ok := meets n

/-- A key's place in the window of its own block. -/
def own (i : Fin 128) : Fin 256 := ⟨128 + i.val, by omega⟩
/-- A key's place in the window of the next block. -/
def next (i : Fin 128) : Fin 256 := ⟨i.val, by omega⟩

/-- What a key's or value's row collects: from its own block and from the next, if there is one. -/
def both (f : Fin 32 → Fin 256 → EReal) (n : Fin 32) (i : Fin 128) : EReal :=
  f n (own i) + (if h : n.val < 31 then f ⟨n.val + 1, by omega⟩ (next i) else 0)

/-- The gradient of queries (0), keys (1) and values (2) at a row and a lane. -/
def grad (x0 : Wide) (x1 x2 : Narrow) (s : Fin 3) (n : Fin 32) (i : Fin 128) (h : Fin 8) (e : Fin 64) : EReal :=
  match s with
  | 0 => (head x0 x1 x2 n h).dq i e
  | 1 => both (fun n j => (head x0 x1 x2 n h).dk j e) n i
  | 2 => both (fun n j => (head x0 x1 x2 n h).dv j e) n i

/-- Real argument arrays give real heads: the query's own row meets it. -/
theorem real_head {x0 : Wide} {x1 x2 : Narrow} (h0 : ∀ i, Fin' (x0 i)) (h1 : ∀ i, Fin' (x1 i)) (h2 : ∀ i, Fin' (x2 i))
    (n : Fin 32) (h : Fin 8) : (head x0 x1 x2 n h).Real := by
  have hw : ∀ (s : Fin 3) (j : Fin 256) (e : Fin 64), Fin' (window (wide x0 s) n h j e) := by
    intro s j e
    unfold window before
    split
    · split
      · exact Fin'.zero
      · exact h0 _
    · exact h0 _
  refine ⟨fun i e => h0 _, hw 1, hw 2, fun i e => h1 _, fun i e => h2 _, fun i => ⟨own i, ?_⟩⟩
  show decide _ = true
  rw [decide_eq_true_eq]
  have := i.isLt
  show 128 + i.val ≤ i.val + 128 ∧ i.val ≤ 128 + i.val ∧ 128 ≤ n.val * 128 + (128 + i.val)
  omega

/-! ## Words -/

/-- A small number's word, read as an integer, is the number. -/
theorem toInt_small {a : ℕ} (h : a < 2 ^ 30) : (BitVec.ofNat 32 a).toInt = (a : ℤ) := by
  rw [BitVec.toInt_eq_toNat_cond, BitVec.toNat_ofNat, Nat.mod_eq_of_lt (by omega)]
  split <;> omega

/-- The difference of two small numbers' words is the difference of the numbers. -/
theorem toInt_sub {a b : ℕ} (ha : a < 2 ^ 30) (hb : b < 2 ^ 30) :
    (BitVec.ofNat 32 a - BitVec.ofNat 32 b).toInt = (a : ℤ) - (b : ℤ) := by
  rw [BitVec.toInt_sub, toInt_small ha, toInt_small hb, Int.bmod_def]
  norm_num
  omega

/-- Words compared as integers are the integers compared. -/
theorem cmpi_sge {x y : BitVec 32} {a b : ℤ} (hx : x.toInt = a) (hy : y.toInt = b) :
    IntOp.cmpi .sge x y = BitVec.ofBool (decide (b ≤ a)) := by
  show BitVec.ofBool (y.sle x) = _
  rw [BitVec.sle_eq_decide, hx, hy]

/-- Words compared as integers are the integers compared, the other way. -/
theorem cmpi_sle {x y : BitVec 32} {a b : ℤ} (hx : x.toInt = a) (hy : y.toInt = b) :
    IntOp.cmpi .sle x y = BitVec.ofBool (decide (a ≤ b)) := by
  show BitVec.ofBool (x.sle y) = _
  rw [BitVec.sle_eq_decide, hx, hy]

/-- Words compared as integers are the integers compared, strictly. -/
theorem cmpi_slt {x y : BitVec 32} {a b : ℤ} (hx : x.toInt = a) (hy : y.toInt = b) :
    IntOp.cmpi .slt x y = BitVec.ofBool (decide (a < b)) := by
  show BitVec.ofBool (x.slt y) = _
  rw [BitVec.slt_eq_decide, hx, hy]

/-- A choice by the word of a truth value. -/
theorem select_ofBool {α : Type} (b : Bool) (x y : α) : Scalar.select (BitVec.ofBool b) x y = if b = true then x else y := by
  cases b <;> rfl

/-- The word of minus infinity is the bottom. -/
theorem bot_bits : Ideal.ofBits .f32 0xFF800000#32 = ⊥ := by
  show Ideal.ieee 8 23 0xFF800000#32 = _
  simp [Ideal.ieee]

end Cert.Proof.Att

end
-- ==== Proof.AttOps.lean ====
/- The kernel's operations at an index: four pairs of heads side by side, 64 lanes of each head in an array of 128 lanes, 128 keys
   of each head in an array of 256 columns. -/
module

public import proofs.«01_k».proof.Proof.AttSpec
public import proofs.«01_k».proof.Proof.MatMul
public import proofs.«01_k».proof.Proof.Gen.Kernel2Ideal.Value
public import Idealize.ShloMosaic.Lib.KernelVsHost
public import Idealize.ShloMosaic.Lib.IdealHost

@[expose] public section

noncomputable section

namespace Cert.Proof.Att

open Cert.Kernel2Ideal Cert.Kernel2Ideal.Gen Cert.Proof.MatMul
open Idealize.ShloMosaic Idealize.ShloMosaic.ValueIdx

/-! ## Places and sums -/

/-- Lane `e` of the `t`-th head of a pair. -/
def half (t : Fin 2) (e : Fin 64) : Fin 128 := ⟨t.val * 64 + e.val, by omega⟩
/-- Key `j` of the `t`-th head of a pair. -/
def col (t : Fin 2) (j : Fin 128) : Fin 256 := ⟨t.val * 128 + j.val, by omega⟩

/-- The word that says a head is the first of its pair. -/
def left (t : Fin 2) : BitVec 1 := BitVec.ofBool (decide (t = 0))

theorem left_zero {α : Type} (a b : α) : Scalar.select (left 0) a b = a := rfl
theorem left_one {α : Type} (a b : α) : Scalar.select (left 1) a b = b := rfl

/-- A lane is a lane of one of the pair. -/
theorem exists_half (l : Fin 128) : ∃ t e, l = half t e :=
  ⟨⟨l.val / 64, by omega⟩, ⟨l.val % 64, by omega⟩, Fin.ext (by show l.val = l.val / 64 * 64 + l.val % 64; omega)⟩

/-- A sum over the lanes of a pair. -/
theorem sum_half (f : Fin 128 → EReal) : ∑ l, f l = (∑ e, f (half 0 e)) + ∑ e, f (half 1 e) := by
  rw [← sum_two 64 rfl f]
  refine add2 (Finset.sum_congr rfl fun e _ => congrArg f (Fin.ext ?_))
    (Finset.sum_congr rfl fun e _ => congrArg f (Fin.ext ?_))
  · show e.val = 0 * 64 + e.val; omega
  · show 64 + e.val = 1 * 64 + e.val; omega

/-- A sum over the columns of a pair. -/
theorem sum_col (f : Fin 256 → EReal) : ∑ c, f c = (∑ j, f (col 0 j)) + ∑ j, f (col 1 j) := by
  rw [← sum_two 128 rfl f]
  refine add2 (Finset.sum_congr rfl fun e _ => congrArg f (Fin.ext ?_))
    (Finset.sum_congr rfl fun e _ => congrArg f (Fin.ext ?_))
  · show e.val = 0 * 128 + e.val; omega
  · show 128 + e.val = 1 * 128 + e.val; omega

/-- A sum over the lanes of a pair where only one of the pair counts. -/
theorem sum_half_if (t : Fin 2) (f : Fin 64 → EReal) (g : Fin 128 → EReal)
    (h : ∀ s e, g (half s e) = if s = t then f e else 0) : ∑ l, g l = ∑ e, f e := by
  rw [sum_half]
  match t with
  | 0 =>
    refine (add2 (Finset.sum_congr rfl fun e _ => (h 0 e).trans (if_pos rfl))
      (Finset.sum_eq_zero fun e _ => (h 1 e).trans (if_neg (by decide)))).trans (add_zero _)
  | 1 =>
    refine (add2 (Finset.sum_eq_zero fun e _ => (h 0 e).trans (if_neg (by decide)))
      (Finset.sum_congr rfl fun e _ => (h 1 e).trans (if_pos rfl))).trans (zero_add _)

/-- A sum over the columns of a pair where only one of the pair counts. -/
theorem sum_col_if (t : Fin 2) (f : Fin 128 → EReal) (g : Fin 256 → EReal)
    (h : ∀ s j, g (col s j) = if s = t then f j else 0) : ∑ c, g c = ∑ j, f j := by
  rw [sum_col]
  match t with
  | 0 =>
    refine (add2 (Finset.sum_congr rfl fun e _ => (h 0 e).trans (if_pos rfl))
      (Finset.sum_eq_zero fun e _ => (h 1 e).trans (if_neg (by decide)))).trans (add_zero _)
  | 1 =>
    refine (add2 (Finset.sum_eq_zero fun e _ => (h 0 e).trans (if_neg (by decide)))
      (Finset.sum_congr rfl fun e _ => (h 1 e).trans (if_pos rfl))).trans (zero_add _)

/-- A sum over a window: over the block before and over the block itself. -/
theorem sum_keys (f : Fin 256 → EReal) : (∑ j : Fin 128, f (next j)) + ∑ j : Fin 128, f (own j) = ∑ c, f c := sum_two 128 rfl f

/-- The largest over a window. -/
theorem sup_keys (f : Fin 256 → EReal) :
    max ((Finset.univ : Finset (Fin 128)).sup fun j => f (next j)) ((Finset.univ : Finset (Fin 128)).sup fun j => f (own j))
      = (Finset.univ : Finset (Fin 256)).sup f := by
  apply le_antisymm
  · exact max_le (Finset.sup_le fun j _ => Finset.le_sup (f := f) (Finset.mem_univ _))
      (Finset.sup_le fun j _ => Finset.le_sup (f := f) (Finset.mem_univ _))
  · refine Finset.sup_le fun c _ => ?_
    by_cases hc : c.val < 128
    · exact le_max_of_le_left (Finset.le_sup (f := fun j : Fin 128 => f (next j)) (Finset.mem_univ (⟨c.val, hc⟩ : Fin 128)))
    · have e : c = own ⟨c.val - 128, by omega⟩ := Fin.ext (by show c.val = 128 + (c.val - 128); omega)
      rw [e]
      exact le_max_of_le_right (Finset.le_sup (f := fun j : Fin 128 => f (own j)) (Finset.mem_univ _))

theorem ob1 : (FloatOps.ofBits (F := Ideal) .f32 0x3F800000#32 : EReal) = 1 := Ideal.ofBits_one_f32

theorem zbit : (FloatOps.ofBits (F := Ideal) .f32 0x00000000#32 : EReal) = 0 := Ideal.ofBits_zero_f32

/-- A choice, for rewriting all three. -/
theorem sel3 {α : Type} {m m' : BitVec 1} {a b c d : α} (hm : m = m') (h : a = c) (h' : b = d) :
    Scalar.select m a b = Scalar.select m' c d := by rw [hm, h, h']

/-! ## The three products -/

variable {φ₁ φ₂ : FTy}

/-- Rows by rows, for each pair. -/
theorem nt4_apply (lhs : FVec Ideal S4x128x128 φ₁) (rhs : FVec Ideal S4x256x128 φ₂) (p : Fin 4) (r : Fin 128) (c : Fin 256) :
    FloatOps.matmul dot_S4x128x128_S4x256x128_S4x128x256_2_2_1_1_0_0 none lhs rhs (constant S4x128x256 .f32 0x00000000#32) (ix3 p r c)
      = ∑ k : Fin 128, lhs (ix3 p r k) * rhs (ix3 p c k) := by
  have hr : (dot_S4x128x128_S4x256x128_S4x128x256_2_2_1_1_0_0).contr.rank = 1 := rfl
  have hs : (dot_S4x128x128_S4x256x128_S4x128x256_2_2_1_1_0_0).contr.size ⟨0, by rw [hr]; exact Nat.one_pos⟩ = 128 := rfl
  rw [Ideal.matmul_apply, ← Equiv.sum_comp (contrEquiv1 _ 128 hr hs).symm]
  refine (add2 (show _ = (0 : EReal) from Ideal.ofBits_zero_f32) (Finset.sum_congr rfl fun k _ => ?_)).trans (zero_add _)
  have hk := contrEquiv1_symm_val _ 128 hr hs k
  refine mul2 (congrArg lhs ?_) (congrArg rhs ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => rfl
    | ⟨2, _⟩ => exact hk

/-- Rows by columns, for each pair. -/
theorem nn4_apply (lhs : FVec Ideal S4x128x256 φ₁) (rhs : FVec Ideal S4x256x128 φ₂) (p : Fin 4) (r : Fin 128) (c : Fin 128) :
    FloatOps.matmul dot_S4x128x256_S4x256x128_S4x128x128_2_1_1_2_0_0 none lhs rhs (constant S4x128x128 .f32 0x00000000#32) (ix3 p r c)
      = ∑ k : Fin 256, lhs (ix3 p r k) * rhs (ix3 p k c) := by
  have hr : (dot_S4x128x256_S4x256x128_S4x128x128_2_1_1_2_0_0).contr.rank = 1 := rfl
  have hs : (dot_S4x128x256_S4x256x128_S4x128x128_2_1_1_2_0_0).contr.size ⟨0, by rw [hr]; exact Nat.one_pos⟩ = 256 := rfl
  rw [Ideal.matmul_apply, ← Equiv.sum_comp (contrEquiv1 _ 256 hr hs).symm]
  refine (add2 (show _ = (0 : EReal) from Ideal.ofBits_zero_f32) (Finset.sum_congr rfl fun k _ => ?_)).trans (zero_add _)
  have hk := contrEquiv1_symm_val _ 256 hr hs k
  refine mul2 (congrArg lhs ?_) (congrArg rhs ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

/-- Columns by columns, for each pair. -/
theorem tn4_apply (lhs : FVec Ideal S4x128x256 φ₁) (rhs : FVec Ideal S4x128x128 φ₂) (p : Fin 4) (r : Fin 256) (c : Fin 128) :
    FloatOps.matmul dot_S4x128x256_S4x128x128_S4x256x128_1_1_2_2_0_0 none lhs rhs (constant S4x256x128 .f32 0x00000000#32) (ix3 p r c)
      = ∑ k : Fin 128, lhs (ix3 p k r) * rhs (ix3 p k c) := by
  have hr : (dot_S4x128x256_S4x128x128_S4x256x128_1_1_2_2_0_0).contr.rank = 1 := rfl
  have hs : (dot_S4x128x256_S4x128x128_S4x256x128_1_1_2_2_0_0).contr.size ⟨0, by rw [hr]; exact Nat.one_pos⟩ = 128 := rfl
  rw [Ideal.matmul_apply, ← Equiv.sum_comp (contrEquiv1 _ 128 hr hs).symm]
  refine (add2 (show _ = (0 : EReal) from Ideal.ofBits_zero_f32) (Finset.sum_congr rfl fun k _ => ?_)).trans (zero_add _)
  have hk := contrEquiv1_symm_val _ 128 hr hs k
  refine mul2 (congrArg lhs ?_) (congrArg rhs ?_)
  · funext a; apply Fin.ext
    match a with
    | ⟨0, _⟩ => rfl
    | ⟨1, _⟩ => exact hk
    | ⟨2, _⟩ => rfl
  · funext a; apply Fin.ext
    match a with
    | ⟨0, _⟩ => rfl
    | ⟨1, _⟩ => exact hk
    | ⟨2, _⟩ => rfl

/-! ## Layout -/

/-- One array for all pairs, read for each. -/
theorem all_apply {α : Type} {N : ℕ} (hN : N ≠ 1) (m : (⟨3, ![1, 128, N]⟩ : Shape).Idx → α)
    (h : (⟨3, ![1, 128, N]⟩ : Shape).ShapeCasts ⟨3, ![1, 128, N]⟩) (h' : (⟨3, ![1, 128, N]⟩ : Shape).Broadcasts ⟨3, ![4, 128, N]⟩)
    (p : Fin 4) (i : Fin 128) (l : Fin N) :
    broadcastTo ⟨3, ![4, 128, N]⟩ (shapeCast ⟨3, ![1, 128, N]⟩ m h) h' (ix3 p i l) = m (ix3 0 i l) := by
  rw [shapeCast_self]
  refine broadcastTo_apply _ _ _ _ fun a => ?_
  match a with
  | ⟨0, _⟩ => rfl
  | ⟨1, _⟩ => rfl
  | ⟨2, _⟩ => show l.val = if N = 1 then 0 else l.val; rw [if_neg hN]

/-- A column spread over the lanes. -/
theorem spread_apply {α : Type} (m : S4x128x1.Idx → α) (h : S4x128x1.ShapeCasts S4x128x1) (h' : S4x128x1.Broadcasts S4x128x128)
    (p : Fin 4) (i : Fin 128) (l : Fin 128) :
    broadcastTo S4x128x128 (shapeCast S4x128x1 m h) h' (ix3 p i l) = m (ix3 p i 0) := by
  rw [shapeCast_self]
  refine broadcastTo_apply _ _ _ _ fun a => ?_
  match a with
  | ⟨0, _⟩ => rfl
  | ⟨1, _⟩ => rfl
  | ⟨2, _⟩ => rfl

/-- A row's number, as a column. -/
theorem column_apply {α : Type} (m : S4x128.Idx → α) (h : S4x128.ShapeCasts S4x128x1) (p : Fin 4) (i : Fin 128) (z : Fin 1) :
    shapeCast S4x128x1 m h (ix3 p i z) = m (ix2 p i) := by
  refine shapeCast_apply m h _ _ ?_
  rw [Shape.rowMajor_val_three, Shape.rowMajor_val_two]
  show p.val * 128 + i.val = (p.val * 128 + i.val) * 1 + z.val
  have := z.isLt; omega

/-- A row's sum over 128 lanes. -/
theorem rowsum_apply (x : FVec Ideal S4x128x128 .f32) (h : S4x128x128.Reduces [2] S4x128) (hφ : FKind.Formats .f32) (hacc)
    (p : Fin 4) (i : Fin 128) :
    multiReduction .add [2] S4x128 x 0x00000000#32 h hφ hacc (ix2 p i) = ∑ l : Fin 128, x (ix3 p i l) := by
  refine (Ideal.multiReduction_add_single x _ h hφ hacc _).trans (Finset.sum_congr rfl fun l _ => congrArg x ?_)
  refine funext fun a => Fin.ext ?_
  fin_cases a <;> rfl

/-- A column's sum is its entry. -/
theorem onesum_apply (x : FVec Ideal S4x128x1 .f32) (h : S4x128x1.Reduces [2] S4x128) (hφ : FKind.Formats .f32) (hacc)
    (p : Fin 4) (i : Fin 128) :
    multiReduction .add [2] S4x128 x 0x00000000#32 h hφ hacc (ix2 p i) = x (ix3 p i 0) := by
  refine (Ideal.multiReduction_add_single x _ h hφ hacc _).trans ((Fin.sum_univ_one _).trans (congrArg x ?_))
  refine funext fun a => Fin.ext ?_
  fin_cases a <;> rfl

/-- A row's largest over 128 lanes. -/
theorem rowmax_apply (x : FVec Ideal S4x128x128 .f32) (h : S4x128x128.Reduces [2] S4x128) (hφ : FKind.Formats .f32) (hacc)
    (p : Fin 4) (i : Fin 128) :
    multiReduction .maximumf [2] S4x128 x 0xFF800000#32 h hφ hacc (ix2 p i) = (Finset.univ : Finset (Fin 128)).sup fun l => x (ix3 p i l) := by
  refine (Ideal.multiReduction_maximumf_single x _ h hφ hacc _).trans ?_
  show (Finset.univ : Finset (Fin 128)).fold max (Ideal.ofBits .f32 0xFF800000#32) _ = (Finset.univ : Finset (Fin 128)).fold max ⊥ _
  rw [bot_bits]
  refine congrArg (fun f => (Finset.univ : Finset (Fin 128)).fold max ⊥ f) (funext fun l => congrArg x ?_)
  refine funext fun a => Fin.ext ?_
  fin_cases a <;> rfl

/-- The columns of one of the pair. -/
theorem cols_apply {α : Type} (x : S4x128x256.Idx → α) (t : Fin 2) (h : S4x128x256.Slices ![0, 0, t.val * 128] S4x128x128)
    (p : Fin 4) (i : Fin 128) (j : Fin 128) :
    extractStridedSlice S4x128x128 ![0, 0, t.val * 128] x h (ix3 p i j) = x (ix3 p i (col t j)) := by
  refine extractStridedSlice_apply _ x h _ _ fun a => ?_
  match a with
  | ⟨0, _⟩ => show p.val = 0 + p.val; omega
  | ⟨1, _⟩ => show i.val = 0 + i.val; omega
  | ⟨2, _⟩ => rfl

/-- The rows of one of the pair. -/
theorem rows_apply {α : Type} (x : S4x256x128.Idx → α) (t : Fin 2) (h : S4x256x128.Slices ![0, t.val * 128, 0] S4x128x128)
    (p : Fin 4) (i : Fin 128) (j : Fin 128) :
    extractStridedSlice S4x128x128 ![0, t.val * 128, 0] x h (ix3 p i j) = x (ix3 p (col t i) j) := by
  refine extractStridedSlice_apply _ x h _ _ fun a => ?_
  match a with
  | ⟨0, _⟩ => show p.val = 0 + p.val; omega
  | ⟨1, _⟩ => rfl
  | ⟨2, _⟩ => show j.val = 0 + j.val; omega

/-- Two arrays side by side. -/
theorem beside_apply {α : Type} (x y : S4x128x128.Idx → α) (h : Shape.Concatenates [S4x128x128, S4x128x128] S4x128x256 2)
    (p : Fin 4) (i : Fin 128) (t : Fin 2) (j : Fin 128) :
    concatenate S4x128x256 2 [⟨S4x128x128, x⟩, ⟨S4x128x128, y⟩] h (ix3 p i (col t j)) = (if t = 0 then x else y) (ix3 p i j) := by
  match t with
  | 0 =>
    rw [if_pos rfl]
    refine concatenate_pair_apply_left _ x y h _ rfl (ix3 p i j) fun b => ?_
    match b with
    | ⟨0, _⟩ => rfl
    | ⟨1, _⟩ => rfl
    | ⟨2, _⟩ => show j.val = 0 * 128 + j.val; omega
  | 1 =>
    rw [if_neg (by decide)]
    refine concatenate_pair_apply_right _ x y h _ rfl rfl (ix3 p i j) (fun b hb => ?_) ?_
    · match b with
      | ⟨0, _⟩ => rfl
      | ⟨1, _⟩ => rfl
      | ⟨2, _⟩ => exact absurd rfl hb
    · show j.val + 128 = 1 * 128 + j.val; omega

/-- Two arrays one below the other. -/
theorem below_apply {α : Type} (x y : S4x128x128.Idx → α) (h : Shape.Concatenates [S4x128x128, S4x128x128] S4x256x128 1)
    (p : Fin 4) (t : Fin 2) (j : Fin 128) (l : Fin 128) :
    concatenate S4x256x128 1 [⟨S4x128x128, x⟩, ⟨S4x128x128, y⟩] h (ix3 p (col t j) l) = (if t = 0 then x else y) (ix3 p j l) := by
  match t with
  | 0 =>
    rw [if_pos rfl]
    refine concatenate_pair_apply_left _ x y h _ rfl (ix3 p j l) fun b => ?_
    match b with
    | ⟨0, _⟩ => rfl
    | ⟨1, _⟩ => show j.val = 0 * 128 + j.val; omega
    | ⟨2, _⟩ => rfl
  | 1 =>
    rw [if_neg (by decide)]
    refine concatenate_pair_apply_right _ x y h _ rfl rfl (ix3 p j l) (fun b hb => ?_) ?_
    · match b with
      | ⟨0, _⟩ => rfl
      | ⟨1, _⟩ => exact absurd rfl hb
      | ⟨2, _⟩ => rfl
    · show j.val + 128 = 1 * 128 + j.val; omega

/-- Four arrays stacked. -/
theorem stack_apply {α : Type} (x : Fin 4 → S128x128.Idx → α) (h : S128x128.ShapeCasts S1x128x128) (p : Fin 4) (i l : Fin 128) :
    concatenate S4x128x128 0 [⟨S1x128x128, shapeCast S1x128x128 (x 0) h⟩, ⟨S1x128x128, shapeCast S1x128x128 (x 1) h⟩,
        ⟨S1x128x128, shapeCast S1x128x128 (x 2) h⟩, ⟨S1x128x128, shapeCast S1x128x128 (x 3) h⟩]
      concatenates_S1x128x128_S1x128x128_S1x128x128_S1x128x128_S4x128x128_d0 (ix3 p i l) = x p (ix2 i l) := by
  have off : ∀ b : Fin S1x128x128.rank, b.cast (rfl : S1x128x128.rank = S4x128x128.rank) ≠ 0 →
      ((ix3 0 i l : S1x128x128.Idx) b).val = ((ix3 p i l : S4x128x128.Idx) (b.cast rfl)).val := by
    intro b hb
    match b with
    | ⟨0, _⟩ => exact absurd rfl hb
    | ⟨1, _⟩ => rfl
    | ⟨2, _⟩ => rfl
  refine (?_ : _ = shapeCast S1x128x128 (x p) h (ix3 0 i l)).trans (lead_apply (x p) h 0 i l)
  match p with
  | 0 =>
    exact concatenate_apply_piece (t := S4x128x128) 0 [⟨S1x128x128, shapeCast S1x128x128 (x 0) h⟩, ⟨S1x128x128, shapeCast S1x128x128 (x 1) h⟩,
        ⟨S1x128x128, shapeCast S1x128x128 (x 2) h⟩, ⟨S1x128x128, shapeCast S1x128x128 (x 3) h⟩]
      concatenates_S1x128x128_S1x128x128_S1x128x128_S1x128x128_S4x128x128_d0 _ 0 (by show 0 < 4; omega) S1x128x128 _ rfl rfl 0 rfl _ off rfl
  | 1 =>
    exact concatenate_apply_piece (t := S4x128x128) 0 [⟨S1x128x128, shapeCast S1x128x128 (x 0) h⟩, ⟨S1x128x128, shapeCast S1x128x128 (x 1) h⟩,
        ⟨S1x128x128, shapeCast S1x128x128 (x 2) h⟩, ⟨S1x128x128, shapeCast S1x128x128 (x 3) h⟩]
      concatenates_S1x128x128_S1x128x128_S1x128x128_S1x128x128_S4x128x128_d0 _ 1 (by show 1 < 4; omega) S1x128x128 _ rfl rfl 1 rfl _ off rfl
  | 2 =>
    exact concatenate_apply_piece (t := S4x128x128) 0 [⟨S1x128x128, shapeCast S1x128x128 (x 0) h⟩, ⟨S1x128x128, shapeCast S1x128x128 (x 1) h⟩,
        ⟨S1x128x128, shapeCast S1x128x128 (x 2) h⟩, ⟨S1x128x128, shapeCast S1x128x128 (x 3) h⟩]
      concatenates_S1x128x128_S1x128x128_S1x128x128_S1x128x128_S4x128x128_d0 _ 2 (by show 2 < 4; omega) S1x128x128 _ rfl rfl 2 rfl _ off rfl
  | 3 =>
    exact concatenate_apply_piece (t := S4x128x128) 0 [⟨S1x128x128, shapeCast S1x128x128 (x 0) h⟩, ⟨S1x128x128, shapeCast S1x128x128 (x 1) h⟩,
        ⟨S1x128x128, shapeCast S1x128x128 (x 2) h⟩, ⟨S1x128x128, shapeCast S1x128x128 (x 3) h⟩]
      concatenates_S1x128x128_S1x128x128_S1x128x128_S1x128x128_S4x128x128_d0 _ 3 (by show 3 < 4; omega) S1x128x128 _ rfl rfl 3 rfl _ off rfl

/-- One of four stacked arrays. -/
theorem unstack_apply {α : Type} (x : S4x128x128.Idx → α) (p : Fin 4) (h : S4x128x128.Slices ![p.val, 0, 0] S1x128x128)
    (h' : S1x128x128.ShapeCasts S128x128) (h'' : S128x128.ShapeCasts S128x128) (i l : Fin 128) :
    shapeCast S128x128 (shapeCast S128x128 (extractStridedSlice S1x128x128 ![p.val, 0, 0] x h) h') h'' (ix2 i l) = x (ix3 p i l) := by
  rw [shapeCast_self, drop_apply]
  refine extractStridedSlice_apply _ x h _ _ fun a => ?_
  match a with
  | ⟨0, _⟩ => rfl
  | ⟨1, _⟩ => show i.val = 0 + i.val; omega
  | ⟨2, _⟩ => show l.val = 0 + l.val; omega

end Cert.Proof.Att

end
-- ==== Proof.AttPay.lean ====
/- One point's arithmetic: from the stacked blocks of queries, keys, values and gradients, each array the kernel builds holds, for
   each head, what the head's definition says. -/
module

public import proofs.«01_k».proof.Proof.AttOps

@[expose] public section

noncomputable section

namespace Cert.Proof.Att

open Cert.Kernel2Ideal Cert.Kernel2Ideal.Gen Cert.Proof.MatMul
open Idealize.ShloMosaic Idealize.ShloMosaic.ValueIdx

/-- The stacked blocks a point works on. -/
structure Blk where
  q : Vec Ideal S4x128x128 .f32
  kp : Vec Ideal S4x128x128 .f32
  kc : Vec Ideal S4x128x128 .f32
  vp : Vec Ideal S4x128x128 .f32
  vc : Vec Ideal S4x128x128 .f32
  d : Vec Ideal S4x128x128 .f32
  l : Vec Ideal S4x128x128 .f32
  n : Fin 32

/-- A window of two blocks. -/
def two (x y : Vec Ideal S4x128x128 .f32) (p : Fin 4) (t : Fin 2) (j : Fin 256) (e : Fin 64) : EReal :=
  if hj : j.val < 128 then x (ix3 p ⟨j.val, hj⟩ (half t e)) else y (ix3 p ⟨j.val - 128, by omega⟩ (half t e))

/-- The `t`-th head of the `p`-th pair. -/
def Blk.hd (B : Blk) (p : Fin 4) (t : Fin 2) : Head where
  q := fun i e => B.q (ix3 p i (half t e))
  k := two B.kp B.kc p t
  v := two B.vp B.vc p t
  d := fun i e => B.d (ix3 p i (half t e))
  l := fun i e => B.l (ix3 p i (half t e))
  ok := meets B.n

theorem two_next (x y : Vec Ideal S4x128x128 .f32) (p : Fin 4) (t : Fin 2) (j : Fin 128) (e : Fin 64) :
    two x y p t (next j) e = x (ix3 p j (half t e)) := dif_pos j.isLt

theorem two_own (x y : Vec Ideal S4x128x128 .f32) (p : Fin 4) (t : Fin 2) (j : Fin 128) (e : Fin 64) :
    two x y p t (own j) e = y (ix3 p j (half t e)) := by
  have h : ¬(own j).val < 128 := by show ¬(128 + j.val < 128); omega
  refine (dif_neg h).trans (congrArg y ?_)
  have : (⟨(own j).val - 128, by omega⟩ : Fin 128) = j := Fin.ext (by show 128 + j.val - 128 = j.val; omega)
  rw [this]

/-! ## The masks -/

/-- Which lanes are the first head's. -/
theorem lanes_apply (i : Fin 128) (t : Fin 2) (e : Fin 64) : k0_pay17 (ix3 0 i (half t e)) = left t := by
  have hl : (half t e).val < 2 ^ 30 := by have := (half t e).isLt; omega
  refine (cmpi_slt ((congrArg BitVec.toInt (iota_single_apply _ _ _ _ iota_S1x128x128_d2_w32 _)).trans (toInt_small hl)) (toInt_small (a := 64) (by norm_num))).trans ?_
  unfold left
  refine congrArg BitVec.ofBool (decide_eq_decide.mpr ?_)
  have e1 : (half t e).val = t.val * 64 + e.val := rfl
  rw [e1, Fin.ext_iff]
  have := e.isLt
  show ((t.val * 64 + e.val : ℕ) : ℤ) < ((64 : ℕ) : ℤ) ↔ t.val = 0
  omega

/-- Which lanes are the first head's, for each pair. -/
theorem lanes4_apply (h : (⟨3, ![1, 128, 128]⟩ : Shape).ShapeCasts ⟨3, ![1, 128, 128]⟩)
    (h' : (⟨3, ![1, 128, 128]⟩ : Shape).Broadcasts ⟨3, ![4, 128, 128]⟩) (p : Fin 4) (i : Fin 128) (t : Fin 2) (e : Fin 64) :
    broadcastTo ⟨3, ![4, 128, 128]⟩ (shapeCast ⟨3, ![1, 128, 128]⟩ k0_pay17 h) h' (ix3 p i (half t e)) = left t :=
  (all_apply (by decide) _ h h' p i _).trans (lanes_apply i t e)

/-- A column's key. -/
theorem key_apply (i : Fin 128) (t : Fin 2) (j : Fin 128) : k0_pay18 (ix3 0 i (col t j)) = BitVec.ofNat 32 j.val := by
  refine (congrArg (fun w : BitVec 32 => w &&& 127#32)
    (iota_single_apply .tc S1x128x256 32 2 iota_S1x128x256_d2_w32 (ix3 0 i (col t j)))).trans ?_
  show BitVec.ofNat 32 (col t j).val &&& 127#32 = _
  apply BitVec.eq_of_toNat_eq
  have e1 : (col t j).val = t.val * 128 + j.val := rfl
  rw [BitVec.toNat_and, BitVec.toNat_ofNat, BitVec.toNat_ofNat, BitVec.toNat_ofNat, e1]
  have := j.isLt; have := t.isLt
  rw [Nat.mod_eq_of_lt (by omega), Nat.mod_eq_of_lt (by omega), Nat.mod_eq_of_lt (by omega)]
  show (t.val * 128 + j.val) &&& (2 ^ 7 - 1) = j.val
  rw [Nat.and_two_pow_sub_one_eq_mod]
  omega

/-- Whether a block is the first. -/
def first (n : Fin 32) : BitVec 1 := BitVec.ofBool (decide (n.val = 0))

/-- Which keys of the block before a query meets. -/
theorem ok_next (n : Fin 32) (i : Fin 128) (t : Fin 2) (j : Fin 128) :
    k0_pay19 (first n) (ix3 0 i (col t j)) = BitVec.ofBool (meets n i (next j)) := by
  have hi := i.isLt; have hj := j.isLt
  have hsum : (BitVec.ofNat 32 i.val + Scalar.select (first n) 256#32 0#32).toInt = if n.val = 0 then (i.val : ℤ) + 256 else i.val := by
    unfold first
    rw [select_ofBool]
    by_cases hn : n.val = 0
    · rw [if_pos (decide_eq_true hn), if_pos hn, ← BitVec.ofNat_add, toInt_small (by omega)]; push_cast; rfl
    · rw [if_neg (by rw [decide_eq_false hn]; decide), if_neg hn, BitVec.add_zero, toInt_small (by omega)]
  refine (cmpi_sge ((congrArg BitVec.toInt (key_apply i t j)).trans (toInt_small (by omega)))
    ((congrArg (fun w : BitVec 32 => (w + Scalar.select (first n) 256#32 0#32).toInt)
      (iota_single_apply .tc S1x128x256 32 1 iota_S1x128x256_d1_w32 (ix3 0 i (col t j)))).trans hsum)).trans ?_
  refine congrArg BitVec.ofBool (decide_eq_decide.mpr ?_)
  show _ ↔ (j.val ≤ i.val + 128 ∧ i.val ≤ j.val ∧ 128 ≤ n.val * 128 + j.val)
  split <;> omega

/-- Which keys of its own block a query meets. -/
theorem ok_own (n : Fin 32) (i : Fin 128) (t : Fin 2) (j : Fin 128) :
    k0_pay20 (ix3 0 i (col t j)) = BitVec.ofBool (meets n i (own j)) := by
  have hi := i.isLt; have hj := j.isLt
  refine (cmpi_sle ((congrArg BitVec.toInt (key_apply i t j)).trans (toInt_small (by omega)))
    ((congrArg BitVec.toInt (iota_single_apply .tc S1x128x256 32 1 iota_S1x128x256_d1_w32 (ix3 0 i (col t j)))).trans
      (toInt_small (a := i.val) (by omega)))).trans ?_
  refine congrArg BitVec.ofBool (decide_eq_decide.mpr ?_)
  show _ ↔ (128 + j.val ≤ i.val + 128 ∧ i.val ≤ 128 + j.val ∧ 128 ≤ n.val * 128 + (128 + j.val))
  omega

/-! ## Each head's keys and values apart -/

/-- The keys or values of a pair below each other: each head's lanes hold its own. -/
theorem apart_apply (x : Vec Ideal S4x128x128 .f32) (p : Fin 4) (t : Fin 2) (j : Fin 128) (s : Fin 2) (e : Fin 64) :
    k0_pay23 (F := Ideal) x (ix3 p (col t j) (half s e)) = if s = t then x (ix3 p j (half s e)) else 0 := by
  refine (below_apply _ _ concatenates_S4x128x128_S4x128x128_S4x256x128_d1 p t j (half s e)).trans ?_
  match t with
  | 0 =>
    rw [if_pos rfl]
    refine (sel3 (lanes4_apply shapeCasts_S1x128x128_S1x128x128 broadcasts_S1x128x128_S4x128x128 p j s e) rfl rfl).trans ?_
    match s with
    | 0 => rfl
    | 1 => exact zbit
  | 1 =>
    rw [if_neg (by decide)]
    refine (sel3 (lanes4_apply shapeCasts_S1x128x128_S1x128x128 broadcasts_S1x128x128_S4x128x128 p j s e) rfl rfl).trans ?_
    match s with
    | 0 => exact zbit
    | 1 => rfl

/-- A product with the keys or values apart. -/
theorem nt_apart (a : FVec Ideal S4x128x128 .bf16) (x : Vec Ideal S4x128x128 .f32) (p : Fin 4) (i : Fin 128) (t : Fin 2) (j : Fin 128) :
    FloatOps.matmul dot_S4x128x128_S4x256x128_S4x128x256_2_2_1_1_0_0 none a (k0_pay23 (F := Ideal) x : FVec Ideal S4x256x128 .bf16)
        (constant S4x128x256 .f32 0x00000000#32) (ix3 p i (col t j))
      = ∑ e : Fin 64, a (ix3 p i (half t e)) * x (ix3 p j (half t e)) := by
  rw [nt4_apply]
  refine sum_half_if t _ _ fun s e => ?_
  rw [apart_apply]
  split
  · rename_i h; rw [h]
  · exact mul_zero _

/-- A product with the keys or values apart, over the keys. -/
theorem nn_apart (a : FVec Ideal S4x128x256 .bf16) (x : Vec Ideal S4x128x128 .f32) (p : Fin 4) (i : Fin 128) (t : Fin 2) (e : Fin 64) :
    FloatOps.matmul dot_S4x128x256_S4x256x128_S4x128x128_2_1_1_2_0_0 none a (k0_pay23 (F := Ideal) x : FVec Ideal S4x256x128 .bf16)
        (constant S4x128x128 .f32 0x00000000#32) (ix3 p i (half t e))
      = ∑ j : Fin 128, a (ix3 p i (col t j)) * x (ix3 p j (half t e)) := by
  rw [nn4_apply]
  refine sum_col_if t _ _ fun s j => ?_
  rw [apart_apply]
  by_cases h : s = t
  · rw [if_pos h, if_pos h.symm, h]
  · rw [if_neg h, if_neg (fun h' => h h'.symm)]; exact mul_zero _

/-- The rows of each head's own columns, in its own lanes. -/
theorem gather_apply (x : FVec Ideal S4x256x128 .f32) (m m' : IVec S4x128x128 1) (hm : ∀ p i t e, m (ix3 p i (half t e)) = left t)
    (hm' : ∀ p i t e, m' (ix3 p i (half t e)) = left t) (h0 : S4x256x128.Slices ![0, 0, 0] S4x128x128)
    (h1 : S4x256x128.Slices ![0, 128, 0] S4x128x128) (p : Fin 4) (j : Fin 128) (t : Fin 2) (e : Fin 64) :
    (Scalar.select (m' (ix3 p j (half t e))) (FloatOps.ofBits (F := Ideal) .f32 0x00000000#32)
        (extractStridedSlice S4x128x128 ![0, 128, 0] x h1 (ix3 p j (half t e)))
      + Scalar.select (m (ix3 p j (half t e))) (extractStridedSlice S4x128x128 ![0, 0, 0] x h0 (ix3 p j (half t e)))
        (FloatOps.ofBits (F := Ideal) .f32 0x00000000#32) : EReal)
      = x (ix3 p (col t j) (half t e)) := by
  rw [hm, hm']
  match t with
  | 0 => exact (add2 zbit (rows_apply x 0 h0 p j _)).trans (zero_add _)
  | 1 => exact (add2 (rows_apply x 1 h1 p j _) zbit).trans (add_zero _)

variable (B : Blk)

/-! ## Scores -/

/-- The scores against the block before. -/
def Blk.s0 : FVec Ideal S4x128x256 .f32 := k0_pay24 B.q B.kp

theorem prev_scores (p : Fin 4) (i : Fin 128) (t : Fin 2) (j : Fin 128) :
    k0_pay26 (F := Ideal) (k0_pay19 (first B.n)) B.s0 (ix3 p i (col t j)) = (B.hd p t).score i (next j) := by
  refine (sel3 ((all_apply (by decide) _ shapeCasts_S1x128x256_S1x128x256 broadcasts_S1x128x256_S4x128x256 p i _).trans (ok_next B.n i t j)) rfl rfl).trans ?_
  rw [select_ofBool]
  refine if_congr Iff.rfl (mul2 ?_ rfl) rfl
  exact (nt_apart _ B.kp p i t j).trans (Finset.sum_congr rfl fun e _ => mul2 rfl (two_next _ _ p t j e).symm)

theorem own_scores (p : Fin 4) (i : Fin 128) (t : Fin 2) (j : Fin 128) :
    k0_pay31 (F := Ideal) B.q B.kc k0_pay17 k0_pay20 (ix3 p i (col t j)) = (B.hd p t).score i (own j) := by
  refine (sel3 ((all_apply (by decide) _ shapeCasts_S1x128x256_S1x128x256 broadcasts_S1x128x256_S4x128x256 p i _).trans (ok_own B.n i t j)) rfl rfl).trans ?_
  rw [select_ofBool]
  refine if_congr Iff.rfl (mul2 ?_ rfl) rfl
  exact (nt_apart _ B.kc p i t j).trans (Finset.sum_congr rfl fun e _ => mul2 rfl (two_own _ _ p t j e).symm)

/-- The largest over one head's columns of two arrays. -/
theorem top_apply' (x y : FVec Ideal S4x128x256 .f32) (t : Fin 2) (h : S4x128x256.Slices ![0, 0, t.val * 128] S4x128x128)
    (f : Fin 256 → EReal) (p : Fin 4) (i : Fin 128) (hx : ∀ j, x (ix3 p i (col t j)) = f (next j)) (hy : ∀ j, y (ix3 p i (col t j)) = f (own j))
    (hr : S4x128x128.Reduces [2] S4x128) (hφ hφ' : FKind.Formats .f32) (ha ha') (hc : S4x128.ShapeCasts S4x128x1) (z : Fin 1) :
    max (shapeCast S4x128x1 (multiReduction (F := Ideal) .maximumf [2] S4x128 (extractStridedSlice S4x128x128 ![0, 0, t.val * 128] x h)
          0xFF800000#32 hr hφ ha) hc (ix3 p i z) : EReal)
        (shapeCast S4x128x1 (multiReduction (F := Ideal) .maximumf [2] S4x128 (extractStridedSlice S4x128x128 ![0, 0, t.val * 128] y h)
          0xFF800000#32 hr hφ' ha') hc (ix3 p i z))
      = (Finset.univ : Finset (Fin 256)).sup f := by
  rw [← sup_keys f]
  refine congrArg₂ (fun u v : EReal => max u v) ?_ ?_
  · refine (column_apply _ hc p i z).trans ((rowmax_apply _ hr hφ ha p i).trans (Finset.sup_congr rfl fun j _ => ?_))
    exact (cols_apply x t h p i j).trans (hx j)
  · refine (column_apply _ hc p i z).trans ((rowmax_apply _ hr hφ' ha' p i).trans (Finset.sup_congr rfl fun j _ => ?_))
    exact (cols_apply y t h p i j).trans (hy j)

/-- The sum over one head's columns of two arrays. -/
theorem den_apply' (x y : FVec Ideal S4x128x256 .f32) (t : Fin 2) (h : S4x128x256.Slices ![0, 0, t.val * 128] S4x128x128)
    (f : Fin 256 → EReal) (p : Fin 4) (i : Fin 128) (hx : ∀ j, x (ix3 p i (col t j)) = f (next j)) (hy : ∀ j, y (ix3 p i (col t j)) = f (own j))
    (hr : S4x128x128.Reduces [2] S4x128) (hφ hφ' : FKind.Formats .f32) (ha ha') (hc : S4x128.ShapeCasts S4x128x1) (z : Fin 1) :
    (shapeCast S4x128x1 (multiReduction (F := Ideal) .add [2] S4x128 (extractStridedSlice S4x128x128 ![0, 0, t.val * 128] x h)
          0x00000000#32 hr hφ ha) hc (ix3 p i z) : EReal)
        + (shapeCast S4x128x1 (multiReduction (F := Ideal) .add [2] S4x128 (extractStridedSlice S4x128x128 ![0, 0, t.val * 128] y h)
          0x00000000#32 hr hφ' ha') hc (ix3 p i z))
      = ∑ j, f j := by
  rw [← sum_keys f]
  refine add2 ?_ ?_
  · refine (column_apply _ hc p i z).trans ((rowsum_apply _ hr hφ ha p i).trans (Finset.sum_congr rfl fun j _ => ?_))
    exact (cols_apply x t h p i j).trans (hx j)
  · refine (column_apply _ hc p i z).trans ((rowsum_apply _ hr hφ' ha' p i).trans (Finset.sum_congr rfl fun j _ => ?_))
    exact (cols_apply y t h p i j).trans (hy j)

theorem top_left (p : Fin 4) (i : Fin 128) (z : Fin 1) :
    k0_pay32 (F := Ideal) B.q B.kc k0_pay17 (k0_pay19 (first B.n)) k0_pay20 B.s0 (ix3 p i z) = (B.hd p 0).top i :=
  top_apply' _ _ 0 _ ((B.hd p 0).score i) p i (fun j => prev_scores B p i 0 j) (fun j => own_scores B p i 0 j) _ _ _ _ _ _ z

theorem top_right (p : Fin 4) (i : Fin 128) (z : Fin 1) :
    k0_pay33 (F := Ideal) B.q B.kc k0_pay17 (k0_pay19 (first B.n)) k0_pay20 B.s0 (ix3 p i z) = (B.hd p 1).top i :=
  top_apply' _ _ 1 _ ((B.hd p 1).score i) p i (fun j => prev_scores B p i 1 j) (fun j => own_scores B p i 1 j) _ _ _ _ _ _ z

/-! ## Weights -/

/-- The weights of the block before, and of the block itself. -/
def Blk.e0 : FVec Ideal S4x128x256 .f32 := k0_pay34 B.q B.kc k0_pay17 (k0_pay19 (first B.n)) k0_pay20 B.s0
def Blk.e1 : FVec Ideal S4x128x256 .f32 := k0_pay35 B.q B.kc k0_pay17 (k0_pay19 (first B.n)) k0_pay20 B.s0

/-- Two columns spread over the two heads' columns. -/
theorem both_apply (x y : S4x128x1.Idx → EReal) (hs : S4x128x1.ShapeCasts S4x128x1) (hb : S4x128x1.Broadcasts S4x128x128)
    (h : Shape.Concatenates [S4x128x128, S4x128x128] S4x128x256 2) (p : Fin 4) (i : Fin 128) (t : Fin 2) (j : Fin 128) :
    concatenate S4x128x256 2 [⟨S4x128x128, broadcastTo S4x128x128 (shapeCast S4x128x1 x hs) hb⟩,
        ⟨S4x128x128, broadcastTo S4x128x128 (shapeCast S4x128x1 y hs) hb⟩] h (ix3 p i (col t j)) = (if t = 0 then x else y) (ix3 p i 0) := by
  refine (beside_apply _ _ h p i t j).trans ?_
  split
  · exact spread_apply x hs hb p i j
  · exact spread_apply y hs hb p i j

theorem prev_weights (p : Fin 4) (i : Fin 128) (t : Fin 2) (j : Fin 128) : B.e0 (ix3 p i (col t j)) = (B.hd p t).ex i (next j) := by
  refine congrArg₂ (fun u v : EReal => Ideal.exp (u - v)) (prev_scores B p i t j) ((both_apply _ _ _ _ _ p i t j).trans ?_)
  match t with
  | 0 => exact top_left B p i 0
  | 1 => exact top_right B p i 0

theorem own_weights (p : Fin 4) (i : Fin 128) (t : Fin 2) (j : Fin 128) : B.e1 (ix3 p i (col t j)) = (B.hd p t).ex i (own j) := by
  refine congrArg₂ (fun u v : EReal => Ideal.exp (u - v)) (own_scores B p i t j) ((both_apply _ _ _ _ _ p i t j).trans ?_)
  match t with
  | 0 => exact top_left B p i 0
  | 1 => exact top_right B p i 0

/-- The sums of the weights of the first and the second heads. -/
def Blk.n0 : FVec Ideal S4x128x1 .f32 := k0_pay36 B.e0 B.e1
def Blk.n1 : FVec Ideal S4x128x1 .f32 := k0_pay37 B.e0 B.e1

theorem den_left (p : Fin 4) (i : Fin 128) (z : Fin 1) : B.n0 (ix3 p i z) = (B.hd p 0).den i :=
  den_apply' _ _ 0 _ ((B.hd p 0).ex i) p i (fun j => prev_weights B p i 0 j) (fun j => own_weights B p i 0 j) _ _ _ _ _ _ z

theorem den_right (p : Fin 4) (i : Fin 128) (z : Fin 1) : B.n1 (ix3 p i z) = (B.hd p 1).den i :=
  den_apply' _ _ 1 _ ((B.hd p 1).ex i) p i (fun j => prev_weights B p i 1 j) (fun j => own_weights B p i 1 j) _ _ _ _ _ _ z

/-- The weighted sums of the values. -/
def Blk.w : FVec Ideal S4x128x128 .f32 := k0_pay44 B.vp B.vc k0_pay17 B.e0 B.e1

theorem num_lanes (p : Fin 4) (i : Fin 128) (t : Fin 2) (e : Fin 64) : B.w (ix3 p i (half t e)) = (B.hd p t).num i e := by
  refine (add2 (nn_apart _ B.vp p i t e) (nn_apart _ B.vc p i t e)).trans (Eq.trans ?_ (sum_keys fun j => (B.hd p t).ex i j * (B.hd p t).v j e))
  exact add2 (Finset.sum_congr rfl fun j _ => mul2 (prev_weights B p i t j) (two_next _ _ p t j e).symm)
    (Finset.sum_congr rfl fun j _ => mul2 (own_weights B p i t j) (two_own _ _ p t j e).symm)

/-- The sums of the weights on every lane. -/
def Blk.dn : FVec Ideal S4x128x128 .f32 := k0_pay46 k0_pay17 B.e0 B.e1

theorem den_lanes (p : Fin 4) (i : Fin 128) (t : Fin 2) (e : Fin 64) : B.dn (ix3 p i (half t e)) = (B.hd p t).den i := by
  refine (sel3 (lanes4_apply shapeCasts_S1x128x128_S1x128x128 broadcasts_S1x128x128_S4x128x128 p i t e) (spread_apply _ _ _ p i _) (spread_apply _ _ _ p i _)).trans ?_
  match t with
  | 0 => exact den_left B p i 0
  | 1 => exact den_right B p i 0

/-- One over the square of the sums of the weights. -/
def Blk.rs : FVec Ideal S4x128x128 .f32 := k0_pay47 k0_pay17 B.e0 B.e1

theorem square_lanes (p : Fin 4) (i : Fin 128) (t : Fin 2) (e : Fin 64) :
    B.rs (ix3 p i (half t e)) = Ideal.div 1 ((B.hd p t).den i * (B.hd p t).den i) :=
  congrArg₂ (fun u v : EReal => Ideal.div u v) ob1 (mul2 (den_lanes B p i t e) (den_lanes B p i t e))

end Cert.Proof.Att

end
-- ==== Proof.AttGrad.lean ====
/- One point's gradients: the arrays the kernel stores hold, for each head, the head's gradients. -/
module

public import proofs.«01_k».proof.Proof.AttPay

@[expose] public section

noncomputable section

namespace Cert.Proof.Att

open Cert.Kernel2Ideal Cert.Kernel2Ideal.Gen Cert.Proof.MatMul
open Idealize.ShloMosaic Idealize.ShloMosaic.ValueIdx

variable (B : Blk) (d0 d1 d2 d3 l0 l1 l2 l3 : Vec Ideal S128x128 .f32)
  (hd : k0_pay49 d0 d1 d2 d3 = B.d) (hl : k0_pay50 l0 l1 l2 l3 = B.l)

/-- The kernel's mask of the first head's lanes, for each pair. -/
abbrev lanes4 : IVec S4x128x128 1 := k0_pay45 k0_pay17

theorem lanes4_at (p : Fin 4) (i : Fin 128) (t : Fin 2) (e : Fin 64) : lanes4 (ix3 p i (half t e)) = left t :=
  lanes4_apply shapeCasts_S1x128x128_S1x128x128 broadcasts_S1x128x128_S4x128x128 p i t e

/-- A row's sum over one head's lanes. -/
theorem laneSum_apply (x y : FVec Ideal S4x128x128 .f32) (t : Fin 2)
    (h : ∀ p i s e, x (ix3 p i (half s e)) = if s = t then y (ix3 p i (half s e)) else 0)
    (hr : S4x128x128.Reduces [2] S4x128) (hφ : FKind.Formats .f32) (ha) (p : Fin 4) (i : Fin 128) :
    (multiReduction (F := Ideal) .add [2] S4x128 x 0x00000000#32 hr hφ ha (ix2 p i) : EReal) = ∑ e, y (ix3 p i (half t e)) := by
  refine (rowsum_apply x hr hφ ha p i).trans (sum_half_if t _ _ fun s e => (h p i s e).trans ?_)
  split
  · rename_i hs; rw [hs]
  · rfl

/-- The first head's lanes kept. -/
theorem keep_left (y z : FVec Ideal S4x128x128 .f32) (hz : ∀ j, z j = (0 : EReal)) (p : Fin 4) (i : Fin 128) (s : Fin 2) (e : Fin 64) :
    Scalar.select (lanes4 (ix3 p i (half s e))) (y (ix3 p i (half s e))) (z (ix3 p i (half s e))) = if s = 0 then y (ix3 p i (half s e)) else 0 := by
  rw [lanes4_at, hz]
  match s with
  | 0 => rfl
  | 1 => rfl

/-- The second head's lanes kept. -/
theorem keep_right (y z : FVec Ideal S4x128x128 .f32) (hz : ∀ j, z j = (0 : EReal)) (p : Fin 4) (i : Fin 128) (s : Fin 2) (e : Fin 64) :
    Scalar.select (lanes4 (ix3 p i (half s e))) (z (ix3 p i (half s e))) (y (ix3 p i (half s e))) = if s = 1 then y (ix3 p i (half s e)) else 0 := by
  rw [lanes4_at, hz]
  match s with
  | 0 => rfl
  | 1 => rfl

/-! ## The gradient of the sum of the weights -/

/-- The gradient of the logarithm over the sum of the weights: of the second and of the first heads. -/
def Blk.r1 : FVec Ideal S4x128x1 .f32 := k0_pay52 k0_pay17 B.n1 l0 l1 l2 l3
def Blk.r0 : FVec Ideal S4x128x1 .f32 := k0_pay53 k0_pay17 B.n0 l0 l1 l2 l3

include hl in
theorem log_right (p : Fin 4) (i : Fin 128) : B.r1 l0 l1 l2 l3 (ix3 p i 0) = Ideal.div (∑ e, (B.hd p 1).l i e) ((B.hd p 1).den i) := by
  refine congrArg₂ (fun u v : EReal => Ideal.div u v) ?_ (den_right B p i 0)
  refine (column_apply _ _ p i 0).trans ?_
  refine (laneSum_apply _ (k0_pay50 l0 l1 l2 l3) 1 (keep_right _ _ fun _ => zbit) _ (.inl rfl) rfl p i).trans ?_
  rw [hl]; rfl

include hl in
theorem log_left (p : Fin 4) (i : Fin 128) : B.r0 l0 l1 l2 l3 (ix3 p i 0) = Ideal.div (∑ e, (B.hd p 0).l i e) ((B.hd p 0).den i) := by
  refine congrArg₂ (fun u v : EReal => Ideal.div u v) ?_ (den_left B p i 0)
  refine (column_apply _ _ p i 0).trans ?_
  refine (laneSum_apply _ (k0_pay50 l0 l1 l2 l3) 0 (keep_left _ _ fun _ => zbit) _ (.inl rfl) rfl p i).trans ?_
  rw [hl]; rfl

/-- The parts, negated. -/
def Blk.m : FVec Ideal S4x128x128 .f32 := k0_pay54 B.w B.rs d0 d1 d2 d3

include hd in
theorem parts_lanes (p : Fin 4) (i : Fin 128) (t : Fin 2) (e : Fin 64) :
    B.m d0 d1 d2 d3 (ix3 p i (half t e)) = 0 - (B.hd p t).part i e := by
  refine congrArg₂ (fun u v : EReal => u - v) zbit (mul2 (mul2 ?_ (square_lanes B p i t e)) (num_lanes B p i t e))
  exact congrFun hd _

/-- The gradient of the weighted sums. -/
def Blk.g : FVec Ideal S4x128x128 .f32 := k0_pay55 B.dn d0 d1 d2 d3

include hd in
theorem g_lanes (p : Fin 4) (i : Fin 128) (t : Fin 2) (e : Fin 64) : B.g d0 d1 d2 d3 (ix3 p i (half t e)) = (B.hd p t).g i e :=
  congrArg₂ (fun u v : EReal => Ideal.div u v) (congrFun hd _) (den_lanes B p i t e)

/-- The first heads' parts, and the sums of the second heads'. -/
def Blk.m0 : FVec Ideal S4x128x128 .f32 := k0_pay57 B.w lanes4 B.rs d0 d1 d2 d3
def Blk.m1 : FVec Ideal S4x128 .f32 := k0_pay58 B.w lanes4 B.rs d0 d1 d2 d3

/-- The gradient of the sum of the weights, of the first and of the second heads. -/
def Blk.dd0 : FVec Ideal S4x128x1 .f32 := k0_pay59 (B.r0 l0 l1 l2 l3) (B.m0 d0 d1 d2 d3)
def Blk.dd1 : FVec Ideal S4x128x1 .f32 := k0_pay60 (B.r1 l0 l1 l2 l3) (B.m1 d0 d1 d2 d3)

include hd hl in
theorem dden_left (p : Fin 4) (i : Fin 128) : B.dd0 d0 d1 d2 d3 l0 l1 l2 l3 (ix3 p i 0) = (B.hd p 0).dden i := by
  refine add2 (log_left B l0 l1 l2 l3 hl p i) ((column_apply _ _ p i 0).trans ?_)
  refine (laneSum_apply _ (B.m d0 d1 d2 d3) 0 (keep_left _ _ fun _ => zbit) _ (.inl rfl) rfl p i).trans ?_
  exact Finset.sum_congr rfl fun e _ => parts_lanes B d0 d1 d2 d3 hd p i 0 e

include hd hl in
theorem dden_right (p : Fin 4) (i : Fin 128) : B.dd1 d0 d1 d2 d3 l0 l1 l2 l3 (ix3 p i 0) = (B.hd p 1).dden i := by
  refine add2 (log_right B l0 l1 l2 l3 hl p i) ((column_apply _ _ p i 0).trans ?_)
  refine (laneSum_apply _ (B.m d0 d1 d2 d3) 1 (keep_right _ _ fun _ => zbit) _ (.inl rfl) rfl p i).trans ?_
  exact Finset.sum_congr rfl fun e _ => parts_lanes B d0 d1 d2 d3 hd p i 1 e

/-- A product's columns with the second heads' numbers added, then the first heads'. -/
theorem withDden (x : FVec Ideal S4x128x256 .f32) (a b : FVec Ideal S4x128x1 .f32) (z z' : FVec Ideal S4x128x128 .f32)
    (hz : ∀ j, z j = (0 : EReal)) (hz' : ∀ j, z' j = (0 : EReal)) (hr : S4x128x1.Reduces [2] S4x128) (hφ hφ' : FKind.Formats .f32) (ha ha')
    (hc : S4x128.ShapeCasts S4x128x1) (hb : S4x128x1.Broadcasts S4x128x128)
    (p : Fin 4) (i : Fin 128) (t : Fin 2) (j : Fin 128) :
    (x (ix3 p i (col t j))
      + concatenate S4x128x256 2 [⟨S4x128x128, z⟩, ⟨S4x128x128, broadcastTo S4x128x128 (shapeCast S4x128x1
          (multiReduction (F := Ideal) .add [2] S4x128 b 0x00000000#32 hr hφ ha) hc) hb⟩] concatenates_S4x128x128_S4x128x128_S4x128x256_d2 (ix3 p i (col t j))
      + concatenate S4x128x256 2 [⟨S4x128x128, broadcastTo S4x128x128 (shapeCast S4x128x1
          (multiReduction (F := Ideal) .add [2] S4x128 a 0x00000000#32 hr hφ' ha') hc) hb⟩, ⟨S4x128x128, z'⟩] concatenates_S4x128x128_S4x128x128_S4x128x256_d2 (ix3 p i (col t j)) : EReal)
      = x (ix3 p i (col t j)) + (if t = 0 then a else b) (ix3 p i 0) := by
  have sp : ∀ (y : FVec Ideal S4x128x1 .f32) (hφ : FKind.Formats .f32) (ha), broadcastTo S4x128x128 (shapeCast S4x128x1
      (multiReduction (F := Ideal) .add [2] S4x128 y 0x00000000#32 hr hφ ha) hc) hb (ix3 p i j) = y (ix3 p i 0) := by
    intro y hφ ha
    rw [← shapeCast_self (shapeCast S4x128x1 _ hc) (show S4x128x1.ShapeCasts S4x128x1 from rfl)]
    exact (spread_apply _ _ hb p i j).trans ((column_apply _ hc p i 0).trans (onesum_apply y hr hφ ha p i))
  refine (add2 (add2 rfl (beside_apply _ _ concatenates_S4x128x128_S4x128x128_S4x128x256_d2 p i t j))
    (beside_apply _ _ concatenates_S4x128x128_S4x128x128_S4x128x256_d2 p i t j)).trans ?_
  match t with
  | 0 => exact (add2 ((add2 rfl (hz _)).trans (add_zero _)) (sp a hφ' ha'))
  | 1 => exact (add2 (add2 rfl (sp b hφ ha)) (hz' _)).trans (add_zero _)

/-! ## The gradient of the weights and of the scores -/

include hd in
/-- The products of the gradient of the weighted sums with the values. -/
theorem gv_own (p : Fin 4) (i : Fin 128) (t : Fin 2) (j : Fin 128) :
    FloatOps.matmul dot_S4x128x128_S4x256x128_S4x128x256_2_2_1_1_0_0 none (B.g d0 d1 d2 d3 : FVec Ideal S4x128x128 .bf16)
        (k0_pay23 (F := Ideal) B.vc : FVec Ideal S4x256x128 .bf16) (constant S4x128x256 .f32 0x00000000#32) (ix3 p i (col t j))
      = ∑ e, (B.hd p t).g i e * (B.hd p t).v (own j) e :=
  (nt_apart _ B.vc p i t j).trans (Finset.sum_congr rfl fun e _ => mul2 (g_lanes B d0 d1 d2 d3 hd p i t e) (two_own _ _ p t j e).symm)

/-- The products against the block before. -/
def Blk.gp : FVec Ideal S4x128x256 .f32 := k0_pay62 (k0_pay40 B.vp k0_pay17) (B.g d0 d1 d2 d3)

include hd in
theorem gv_prev (p : Fin 4) (i : Fin 128) (t : Fin 2) (j : Fin 128) :
    B.gp d0 d1 d2 d3 (ix3 p i (col t j)) = ∑ e, (B.hd p t).g i e * (B.hd p t).v (next j) e :=
  (nt_apart _ B.vp p i t j).trans (Finset.sum_congr rfl fun e _ => mul2 (g_lanes B d0 d1 d2 d3 hd p i t e) (two_next _ _ p t j e).symm)

/-- The gradients of the weights of the block itself. -/
def Blk.dp1 : FVec Ideal S4x128x256 .f32 :=
  k0_pay64 (k0_pay43 B.vc k0_pay17) (B.r1 l0 l1 l2 l3) (B.r0 l0 l1 l2 l3) (B.g d0 d1 d2 d3) (B.m0 d0 d1 d2 d3) (B.m1 d0 d1 d2 d3)

include hd hl in
theorem dp_own (p : Fin 4) (i : Fin 128) (t : Fin 2) (j : Fin 128) :
    B.dp1 d0 d1 d2 d3 l0 l1 l2 l3 (ix3 p i (col t j)) = (∑ e, (B.hd p t).g i e * (B.hd p t).v (own j) e) + (B.hd p t).dden i := by
  refine (withDden _ (B.dd0 d0 d1 d2 d3 l0 l1 l2 l3) (B.dd1 d0 d1 d2 d3 l0 l1 l2 l3) _ _ (fun _ => zbit) (fun _ => zbit) _ (.inl rfl) (.inl rfl) rfl rfl _ _ p i t j).trans ?_
  refine add2 (gv_own B d0 d1 d2 d3 hd p i t j) ?_
  match t with
  | 0 => exact dden_left B d0 d1 d2 d3 l0 l1 l2 l3 hd hl p i
  | 1 => exact dden_right B d0 d1 d2 d3 l0 l1 l2 l3 hd hl p i

/-- The second heads' gradient of the sum of the weights, on every lane. -/
def Blk.dl1 : FVec Ideal S4x128x128 .f32 := k0_pay65 (B.r1 l0 l1 l2 l3) (B.m1 d0 d1 d2 d3)

/-- The masks of the keys met, for each pair. -/
abbrev okPrev (n : Fin 32) : IVec S4x128x256 1 := k0_pay25 (k0_pay19 (first n))
abbrev okOwn : IVec S4x128x256 1 := k0_pay30 k0_pay20

theorem okPrev_at (n : Fin 32) (p : Fin 4) (i : Fin 128) (t : Fin 2) (j : Fin 128) :
    okPrev n (ix3 p i (col t j)) = BitVec.ofBool (meets n i (next j)) :=
  (all_apply (by decide) _ shapeCasts_S1x128x256_S1x128x256 broadcasts_S1x128x256_S4x128x256 p i _).trans (ok_next n i t j)

theorem okOwn_at (n : Fin 32) (p : Fin 4) (i : Fin 128) (t : Fin 2) (j : Fin 128) :
    okOwn (ix3 p i (col t j)) = BitVec.ofBool (meets n i (own j)) :=
  (all_apply (by decide) _ shapeCasts_S1x128x256_S1x128x256 broadcasts_S1x128x256_S4x128x256 p i _).trans (ok_own n i t j)

/-- The gradients of the products the scores scale, of the block itself and of the block before. -/
def Blk.ds1 : FVec Ideal S4x128x256 .f32 := k0_pay66 okOwn B.e1 (B.dp1 d0 d1 d2 d3 l0 l1 l2 l3)
def Blk.ds0 : FVec Ideal S4x128x256 .f32 :=
  k0_pay68 (okPrev B.n) B.e0 (B.dd0 d0 d1 d2 d3 l0 l1 l2 l3) (B.gp d0 d1 d2 d3) (B.dl1 d0 d1 d2 d3 l0 l1 l2 l3)

include hd hl in
theorem ds_own (p : Fin 4) (i : Fin 128) (t : Fin 2) (j : Fin 128) :
    B.ds1 d0 d1 d2 d3 l0 l1 l2 l3 (ix3 p i (col t j)) = (B.hd p t).ds i (own j) := by
  refine mul2 ((sel3 (okOwn_at B.n p i t j) rfl rfl).trans ?_) rfl
  rw [select_ofBool]
  exact if_congr Iff.rfl (mul2 (dp_own B d0 d1 d2 d3 l0 l1 l2 l3 hd hl p i t j) (own_weights B p i t j)) zbit

include hd hl in
theorem ds_prev (p : Fin 4) (i : Fin 128) (t : Fin 2) (j : Fin 128) :
    B.ds0 d0 d1 d2 d3 l0 l1 l2 l3 (ix3 p i (col t j)) = (B.hd p t).ds i (next j) := by
  refine mul2 ((sel3 (okPrev_at B.n p i t j) rfl rfl).trans ?_) rfl
  rw [select_ofBool]
  refine if_congr Iff.rfl (mul2 ?_ (prev_weights B p i t j)) zbit
  refine (withDden _ (B.dd0 d0 d1 d2 d3 l0 l1 l2 l3) (B.dd1 d0 d1 d2 d3 l0 l1 l2 l3) _ _ (fun _ => zbit) (fun _ => zbit) _ (.inl rfl) (.inl rfl) rfl rfl _ _ p i t j).trans ?_
  refine add2 (gv_prev B d0 d1 d2 d3 hd p i t j) ?_
  match t with
  | 0 => exact dden_left B d0 d1 d2 d3 l0 l1 l2 l3 hd hl p i
  | 1 => exact dden_right B d0 d1 d2 d3 l0 l1 l2 l3 hd hl p i

/-! ## What is stored -/

/-- The gradient of the queries. -/
def Blk.oq : FVec Ideal S4x128x128 .f32 :=
  k0_pay70 (k0_pay23 B.kp) (okPrev B.n) (k0_pay29 B.kc k0_pay17) okOwn B.e0 B.e1 (B.dd0 d0 d1 d2 d3 l0 l1 l2 l3) (B.gp d0 d1 d2 d3)
    (B.dp1 d0 d1 d2 d3 l0 l1 l2 l3) (B.dl1 d0 d1 d2 d3 l0 l1 l2 l3)

include hd hl in
theorem dq_lanes (p : Fin 4) (i : Fin 128) (t : Fin 2) (e : Fin 64) :
    B.oq d0 d1 d2 d3 l0 l1 l2 l3 (ix3 p i (half t e)) = (B.hd p t).dq i e := by
  refine (add2 (nn_apart (B.ds1 d0 d1 d2 d3 l0 l1 l2 l3) B.kc p i t e) (nn_apart (B.ds0 d0 d1 d2 d3 l0 l1 l2 l3) B.kp p i t e)).trans ?_
  refine (add_comm _ _).trans (Eq.trans ?_ (sum_keys fun j => (B.hd p t).ds i j * (B.hd p t).k j e))
  exact add2 (Finset.sum_congr rfl fun j _ => mul2 (ds_prev B d0 d1 d2 d3 l0 l1 l2 l3 hd hl p i t j) (two_next _ _ p t j e).symm)
    (Finset.sum_congr rfl fun j _ => mul2 (ds_own B d0 d1 d2 d3 l0 l1 l2 l3 hd hl p i t j) (two_own _ _ p t j e).symm)

/-- The gradient of the block's own keys. -/
def Blk.okc : FVec Ideal S4x128x128 .f32 := k0_pay67 B.q lanes4 lanes4 okOwn B.e1 (B.dp1 d0 d1 d2 d3 l0 l1 l2 l3)

include hd hl in
theorem dk_own (p : Fin 4) (j : Fin 128) (t : Fin 2) (e : Fin 64) :
    B.okc d0 d1 d2 d3 l0 l1 l2 l3 (ix3 p j (half t e)) = (B.hd p t).dk (own j) e := by
  refine (gather_apply _ lanes4 lanes4 lanes4_at lanes4_at _ _ p j t e).trans ((tn4_apply _ _ p _ _).trans ?_)
  exact Finset.sum_congr rfl fun i _ => mul2 (ds_own B d0 d1 d2 d3 l0 l1 l2 l3 hd hl p i t j) rfl

/-- The gradient of the keys of the block before. -/
def Blk.okp : FVec Ideal S4x128x128 .f32 :=
  k0_pay73 (k0_pay71 B.q lanes4 (okPrev B.n) B.e0 (B.dd0 d0 d1 d2 d3 l0 l1 l2 l3) (B.gp d0 d1 d2 d3) (B.dl1 d0 d1 d2 d3 l0 l1 l2 l3))
    (k0_pay72 B.q lanes4 (okPrev B.n) B.e0 (B.dd0 d0 d1 d2 d3 l0 l1 l2 l3) (B.gp d0 d1 d2 d3) (B.dl1 d0 d1 d2 d3 l0 l1 l2 l3))

include hd hl in
theorem dk_prev (p : Fin 4) (j : Fin 128) (t : Fin 2) (e : Fin 64) :
    B.okp d0 d1 d2 d3 l0 l1 l2 l3 (ix3 p j (half t e)) = (B.hd p t).dk (next j) e := by
  refine (gather_apply _ lanes4 lanes4 lanes4_at lanes4_at _ _ p j t e).trans ((tn4_apply _ _ p _ _).trans ?_)
  exact Finset.sum_congr rfl fun i _ => mul2 (ds_prev B d0 d1 d2 d3 l0 l1 l2 l3 hd hl p i t j) rfl

/-- The gradient of the block's own values. -/
def Blk.ovc : FVec Ideal S4x128x128 .f32 := k0_pay61 B.e1 lanes4 lanes4 (B.g d0 d1 d2 d3)

include hd in
theorem dv_own (p : Fin 4) (j : Fin 128) (t : Fin 2) (e : Fin 64) :
    B.ovc d0 d1 d2 d3 (ix3 p j (half t e)) = (B.hd p t).dv (own j) e := by
  refine (gather_apply _ lanes4 lanes4 lanes4_at lanes4_at _ _ p j t e).trans ((tn4_apply _ _ p _ _).trans ?_)
  exact Finset.sum_congr rfl fun i _ => mul2 (own_weights B p i t j) (g_lanes B d0 d1 d2 d3 hd p i t e)

/-- The gradient of the values of the block before. -/
def Blk.ovp : FVec Ideal S4x128x128 .f32 := k0_pay63 B.e0 lanes4 lanes4 (B.g d0 d1 d2 d3)

include hd in
theorem dv_prev (p : Fin 4) (j : Fin 128) (t : Fin 2) (e : Fin 64) :
    B.ovp d0 d1 d2 d3 (ix3 p j (half t e)) = (B.hd p t).dv (next j) e := by
  refine (gather_apply _ lanes4 lanes4 lanes4_at lanes4_at _ _ p j t e).trans ((tn4_apply _ _ p _ _).trans ?_)
  exact Finset.sum_congr rfl fun i _ => mul2 (prev_weights B p i t j) (g_lanes B d0 d1 d2 d3 hd p i t e)

end Cert.Proof.Att

end
-- ==== Proof.AttStage.lean ====
/- How the kernel's blocks of 512 columns hold four pairs of heads: the pieces it reads and stores, and the stacks it makes of them. -/
module

public import proofs.«01_k».proof.Proof.AttGrad
public import Idealize.ShloMosaic.Lib.Tactic

@[expose] public section

noncomputable section

namespace Cert.Proof.Att

open Cert.Kernel2Ideal Cert.Kernel2Ideal.Gen Cert.Proof.MatMul
open Idealize.ShloMosaic Idealize.ShloMosaic.ValueIdx

/-- Column `l` of the `p`-th pair's columns. -/
def at4 (p : Fin 4) (l : Fin 128) : Fin 512 := ⟨p.val * 128 + l.val, by omega⟩

/-- Every column is some pair's. -/
theorem exists_at4 (c : Fin 512) : ∃ p l, c = at4 p l :=
  ⟨⟨c.val / 128, by omega⟩, ⟨c.val % 128, Nat.mod_lt _ (by decide)⟩, Fin.ext (by show c.val = c.val / 128 * 128 + c.val % 128; omega)⟩

/-- The piece of a block at the columns of one pair. -/
theorem piece_at (x : Vec Ideal S128x512 .f32) (p : Fin 4) (inb : ∀ a, (![0, p.val * 128] : Fin 2 → ℕ) a + S128x128.size a ≤ S128x512.size a)
    (i l : Fin 128) :
    View.ld x (Rect.unit (s := S128x512) ![0, p.val * 128] S128x128.size inb) (ix2 (n0 := 128) (n1 := 128) i l) = x (ix2 i (at4 p l)) := by
  refine congrArg x (same2 ?_ ?_)
  · show 0 + 1 * i.val = i.val; omega
  · show p.val * 128 + 1 * l.val = p.val * 128 + l.val; omega

/-- The four pairs' pieces of a block, stacked. -/
def stackOf (x : Vec Ideal S128x512 .f32) : FVec Ideal S4x128x128 .f32 :=
  k0_pay12 (View.ld x (Rect.unit ![0, 0] S128x128.size inb_S128x512_S128x128_0_0))
    (View.ld x (Rect.unit ![0, 128] S128x128.size inb_S128x512_S128x128_0_128))
    (View.ld x (Rect.unit ![0, 256] S128x128.size inb_S128x512_S128x128_0_256))
    (View.ld x (Rect.unit ![0, 384] S128x128.size inb_S128x512_S128x128_0_384))

theorem stackOf_apply (x : Vec Ideal S128x512 .f32) (p : Fin 4) (i l : Fin 128) : stackOf x (ix3 p i l) = x (ix2 i (at4 p l)) := by
  refine (stack_apply (α := EReal) ![View.ld x (Rect.unit ![0, 0] S128x128.size inb_S128x512_S128x128_0_0),
    View.ld x (Rect.unit ![0, 128] S128x128.size inb_S128x512_S128x128_0_128),
    View.ld x (Rect.unit ![0, 256] S128x128.size inb_S128x512_S128x128_0_256),
    View.ld x (Rect.unit ![0, 384] S128x128.size inb_S128x512_S128x128_0_384)] shapeCasts_S128x128_S1x128x128 p i l).trans ?_
  match p with
  | 0 => exact piece_at x 0 _ i l
  | 1 => exact piece_at x 1 _ i l
  | 2 => exact piece_at x 2 _ i l
  | 3 => exact piece_at x 3 _ i l

/-- The blocks of a point, stacked. -/
def blk (x0 x1 x2 x3 x4 x5 x6 : Vec Ideal S128x512 .f32) (n : Fin 32) : Blk where
  q := k0_pay12 (View.ld x0 (Rect.unit ![0, 0] S128x128.size inb_S128x512_S128x128_0_0)) (View.ld x0 (Rect.unit ![0, 128] S128x128.size inb_S128x512_S128x128_0_128)) (View.ld x0 (Rect.unit ![0, 256] S128x128.size inb_S128x512_S128x128_0_256)) (View.ld x0 (Rect.unit ![0, 384] S128x128.size inb_S128x512_S128x128_0_384))
  kp := k0_pay13 (View.ld x1 (Rect.unit ![0, 0] S128x128.size inb_S128x512_S128x128_0_0)) (View.ld x1 (Rect.unit ![0, 128] S128x128.size inb_S128x512_S128x128_0_128)) (View.ld x1 (Rect.unit ![0, 256] S128x128.size inb_S128x512_S128x128_0_256)) (View.ld x1 (Rect.unit ![0, 384] S128x128.size inb_S128x512_S128x128_0_384))
  kc := k0_pay14 (View.ld x2 (Rect.unit ![0, 0] S128x128.size inb_S128x512_S128x128_0_0)) (View.ld x2 (Rect.unit ![0, 128] S128x128.size inb_S128x512_S128x128_0_128)) (View.ld x2 (Rect.unit ![0, 256] S128x128.size inb_S128x512_S128x128_0_256)) (View.ld x2 (Rect.unit ![0, 384] S128x128.size inb_S128x512_S128x128_0_384))
  vp := k0_pay15 (View.ld x3 (Rect.unit ![0, 0] S128x128.size inb_S128x512_S128x128_0_0)) (View.ld x3 (Rect.unit ![0, 128] S128x128.size inb_S128x512_S128x128_0_128)) (View.ld x3 (Rect.unit ![0, 256] S128x128.size inb_S128x512_S128x128_0_256)) (View.ld x3 (Rect.unit ![0, 384] S128x128.size inb_S128x512_S128x128_0_384))
  vc := k0_pay16 (View.ld x4 (Rect.unit ![0, 0] S128x128.size inb_S128x512_S128x128_0_0)) (View.ld x4 (Rect.unit ![0, 128] S128x128.size inb_S128x512_S128x128_0_128)) (View.ld x4 (Rect.unit ![0, 256] S128x128.size inb_S128x512_S128x128_0_256)) (View.ld x4 (Rect.unit ![0, 384] S128x128.size inb_S128x512_S128x128_0_384))
  d := k0_pay49 (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384))
  l := k0_pay50 (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384))
  n := n

theorem blk_q (x0 x1 x2 x3 x4 x5 x6 : Vec Ideal S128x512 .f32) (n : Fin 32) : (blk x0 x1 x2 x3 x4 x5 x6 n).q = stackOf x0 := rfl
theorem blk_kp (x0 x1 x2 x3 x4 x5 x6 : Vec Ideal S128x512 .f32) (n : Fin 32) : (blk x0 x1 x2 x3 x4 x5 x6 n).kp = stackOf x1 := rfl
theorem blk_kc (x0 x1 x2 x3 x4 x5 x6 : Vec Ideal S128x512 .f32) (n : Fin 32) : (blk x0 x1 x2 x3 x4 x5 x6 n).kc = stackOf x2 := rfl
theorem blk_vp (x0 x1 x2 x3 x4 x5 x6 : Vec Ideal S128x512 .f32) (n : Fin 32) : (blk x0 x1 x2 x3 x4 x5 x6 n).vp = stackOf x3 := rfl
theorem blk_vc (x0 x1 x2 x3 x4 x5 x6 : Vec Ideal S128x512 .f32) (n : Fin 32) : (blk x0 x1 x2 x3 x4 x5 x6 n).vc = stackOf x4 := rfl
theorem blk_d (x0 x1 x2 x3 x4 x5 x6 : Vec Ideal S128x512 .f32) (n : Fin 32) : (blk x0 x1 x2 x3 x4 x5 x6 n).d = stackOf x5 := rfl
theorem blk_l (x0 x1 x2 x3 x4 x5 x6 : Vec Ideal S128x512 .f32) (n : Fin 32) : (blk x0 x1 x2 x3 x4 x5 x6 n).l = stackOf x6 := rfl

/-- Four stores, one of each pair's columns: each column is its pair's. -/
theorem canon_read (w0 w1 w2 w3 : Vec Ideal S128x128 .f32) (f : FVec Ideal S4x128x128 .f32)
    (h0 : ∀ i l, w0 (ix2 i l) = f (ix3 0 i l)) (h1 : ∀ i l, w1 (ix2 i l) = f (ix3 1 i l))
    (h2 : ∀ i l, w2 (ix2 i l) = f (ix3 2 i l)) (h3 : ∀ i l, w3 (ix2 i l) = f (ix3 3 i l)) (p : Fin 4) (i l : Fin 128) :
    View.canon (Val := Elt Ideal) (s := S128x512) (e := .f32) [⟨Rect.unit ![0, 384] S128x128.size inb_S128x512_S128x128_0_384, w3⟩, ⟨Rect.unit ![0, 256] S128x128.size inb_S128x512_S128x128_0_256, w2⟩,
        ⟨Rect.unit ![0, 128] S128x128.size inb_S128x512_S128x128_0_128, w1⟩, ⟨Rect.unit ![0, 0] S128x128.size inb_S128x512_S128x128_0_0, w0⟩]
      (ix2 (n0 := 128) (n1 := 512) i (at4 p l)) = f (ix3 p i l) := by
  have hG : ∀ (k : ℕ) (hk : k < 4) (x : S128x128.Idx) (y : S128x512.Idx), (y 0).val = (x 0).val → (y 1).val = k * 128 + (x 1).val →
      f (ix3 ⟨k, hk⟩ (x 0) (x 1)) = f (ix3 ⟨(y 1).val / 128, by have := (y 1).isLt; change _ < 512 at this; omega⟩ (y 0) ⟨(y 1).val % 128, Nat.mod_lt _ (by decide)⟩) := by
    intro k hk x y e0 e1
    have hx : (x 1).val < 128 := (x 1).isLt
    refine congrArg f ?_
    have a1 : (⟨k, hk⟩ : Fin 4) = ⟨(y 1).val / 128, by have := (y 1).isLt; change _ < 512 at this; omega⟩ := Fin.ext (by show k = (y 1).val / 128; omega)
    have a2 : (x 0 : Fin 128) = y 0 := Fin.ext e0.symm
    have a3 : (x 1 : Fin 128) = ⟨(y 1).val % 128, Nat.mod_lt _ (by decide)⟩ := Fin.ext (by show (x 1).val = (y 1).val % 128; omega)
    rw [a1, a3]
    exact congrArg (fun z : Fin 128 => ix3 _ z _) a2
  refine (View.canon_apply_of_pieces (Val := Elt Ideal) (S := S128x512) (e := .f32)
    (fun y : S128x512.Idx => f (ix3 ⟨(y 1).val / 128, by have := (y 1).isLt; change _ < 512 at this; omega⟩ (y 0) ⟨(y 1).val % 128, Nat.mod_lt _ (by decide)⟩)) _ ?_ _ ?_).trans ?_
  · intro q hq x
    rcases List.mem_cons.mp hq with rfl | hq
    · refine (congrArg w3 (eq_ix2 (n0 := 128) (n1 := 128) x)).trans ((h3 _ _).trans (hG 3 (by decide) x _ ?_ ?_))
      · show 0 + 1 * (x 0).val = (x 0).val; omega
      · show 384 + 1 * (x 1).val = 3 * 128 + (x 1).val; omega
    rcases List.mem_cons.mp hq with rfl | hq
    · refine (congrArg w2 (eq_ix2 (n0 := 128) (n1 := 128) x)).trans ((h2 _ _).trans (hG 2 (by decide) x _ ?_ ?_))
      · show 0 + 1 * (x 0).val = (x 0).val; omega
      · show 256 + 1 * (x 1).val = 2 * 128 + (x 1).val; omega
    rcases List.mem_cons.mp hq with rfl | hq
    · refine (congrArg w1 (eq_ix2 (n0 := 128) (n1 := 128) x)).trans ((h1 _ _).trans (hG 1 (by decide) x _ ?_ ?_))
      · show 0 + 1 * (x 0).val = (x 0).val; omega
      · show 128 + 1 * (x 1).val = 1 * 128 + (x 1).val; omega
    rcases List.mem_cons.mp hq with rfl | hq
    · refine (congrArg w0 (eq_ix2 (n0 := 128) (n1 := 128) x)).trans ((h0 _ _).trans (hG 0 (by decide) x _ ?_ ?_))
      · show 0 + 1 * (x 0).val = (x 0).val; omega
      · show 0 + 1 * (x 1).val = 0 * 128 + (x 1).val; omega
    nomatch hq
  · have e : ∀ (k : ℕ) (inb : ∀ a, (![0, k * 128] : Fin 2 → ℕ) a + S128x128.size a ≤ S128x512.size a), k = p.val →
        (ix2 (n0 := 128) (n1 := 512) i (at4 p l)) ∈ (Rect.unit (s := S128x512) ![0, k * 128] S128x128.size inb).set := by
      intro k inb hk
      refine Eq.mp (congrArg (· ∈ _) ?_) ((Rect.unit (s := S128x512) ![0, k * 128] S128x128.size inb).idx_mem (ix2 (n0 := 128) (n1 := 128) i l))
      refine funext fun a => Fin.ext ?_
      match a with
      | ⟨0, _⟩ => show 0 + 1 * i.val = i.val; omega
      | ⟨1, _⟩ => show k * 128 + 1 * l.val = p.val * 128 + l.val; omega
    match p with
    | 0 => exact ⟨_, List.mem_cons_of_mem _ (List.mem_cons_of_mem _ (List.mem_cons_of_mem _ List.mem_cons_self)), e 0 inb_S128x512_S128x128_0_0 rfl⟩
    | 1 => exact ⟨_, List.mem_cons_of_mem _ (List.mem_cons_of_mem _ List.mem_cons_self), e 1 inb_S128x512_S128x128_0_128 rfl⟩
    | 2 => exact ⟨_, List.mem_cons_of_mem _ List.mem_cons_self, e 2 inb_S128x512_S128x128_0_256 rfl⟩
    | 3 => exact ⟨_, List.mem_cons_self, e 3 inb_S128x512_S128x128_0_384 rfl⟩
  · refine congrArg f ?_
    have hl := l.isLt
    have a1 : (⟨(at4 p l).val / 128, by have := (at4 p l).isLt; omega⟩ : Fin 4) = p := Fin.ext (by show (p.val * 128 + l.val) / 128 = p.val; omega)
    have a3 : (⟨(at4 p l).val % 128, Nat.mod_lt _ (by decide)⟩ : Fin 128) = l := Fin.ext (by show (p.val * 128 + l.val) % 128 = l.val; omega)
    exact congr (congr (congrArg ix3 a1) rfl) a3

/-- The four stores read back whole. -/
theorem stage_read {κ : Kind} {sp : Space} (v : View sig κ sp S128x512 .f32) (w0 w1 w2 w3 : Vec Ideal S128x128 .f32) (f : FVec Ideal S4x128x128 .f32)
    (h0 : ∀ i l, w0 (ix2 i l) = f (ix3 0 i l)) (h1 : ∀ i l, w1 (ix2 i l) = f (ix3 1 i l))
    (h2 : ∀ i l, w2 (ix2 i l) = f (ix3 2 i l)) (h3 : ∀ i l, w3 (ix2 i l) = f (ix3 3 i l)) (p : Fin 4) (i l : Fin 128) :
    (v.readCov (Val := Elt Ideal) [⟨Rect.unit ![0, 384] S128x128.size inb_S128x512_S128x128_0_384, w3⟩, ⟨Rect.unit ![0, 256] S128x128.size inb_S128x512_S128x128_0_256, w2⟩,
        ⟨Rect.unit ![0, 128] S128x128.size inb_S128x512_S128x128_0_128, w1⟩, ⟨Rect.unit ![0, 0] S128x128.size inb_S128x512_S128x128_0_0, w0⟩]
      (Rect.unit (s := S128x512) ![0, 0] ![128, 512] inb_S128x512_S128x512_0_0).toLoadRect) (ix2 (n0 := 128) (n1 := 512) i (at4 p l)) = f (ix3 p i l) := by
  rw [View.readCov_eq_canon']
  refine Eq.trans (congrArg (View.canon (Val := Elt Ideal) (s := S128x512) (e := .f32) _) (funext fun a => Fin.ext ?_)) (canon_read w0 w1 w2 w3 f h0 h1 h2 h3 p i l)
  match a with
  | ⟨0, _⟩ => show 0 + 1 * i.val = i.val; omega
  | ⟨1, _⟩ => show 0 + 1 * (p.val * 128 + l.val) = p.val * 128 + l.val; omega

/-- The kernel's test for the first block. -/
theorem first_eq (i : ℕ) (n : Fin 32) (h : n.val = i) : Scalar.cmpi CmpIPredicate.eq (BitVec.ofNat 32 i) 0#32 = first n := by
  subst h
  unfold first
  revert n
  decide

/-- The kernel's test for a point that is not the last. -/
theorem lt_eq (i : ℕ) (h : i < 32) : Scalar.cmpi CmpIPredicate.slt (BitVec.ofNat 32 i) 32#32 = 1#1 := by
  have : ∀ n : Fin 32, Scalar.cmpi CmpIPredicate.slt (BitVec.ofNat 32 n.val) 32#32 = 1#1 := by decide
  exact this ⟨i, h⟩

/-- A stored block of gradients, carried to the next point. -/
theorem pay9_apply (x : Vec Ideal S128x512 .f32) (i : Fin 128) (c : Fin 512) : k0_pay9 (F := Ideal) x (ix3 0 i c) = x (ix2 i c) :=
  lead_apply (M := 128) (N := 512) (α := EReal) x shapeCasts_S128x512_S1x128x512 0 i c
theorem pay10_apply (x : Vec Ideal S128x512 .f32) (i : Fin 128) (c : Fin 512) : k0_pay10 (F := Ideal) x (ix3 0 i c) = x (ix2 i c) :=
  lead_apply (M := 128) (N := 512) (α := EReal) x shapeCasts_S128x512_S1x128x512 0 i c
theorem pay11_apply (x : Vec Ideal S128x512 .f32) (i : Fin 128) (c : Fin 512) : k0_pay11 (F := Ideal) x (ix3 0 i c) = x (ix2 i c) :=
  lead_apply (M := 128) (N := 512) (α := EReal) x shapeCasts_S128x512_S1x128x512 0 i c

/-- Column `c` of the `s`-th third of an output block. -/
def out3 (s : Fin 3) (c : Fin 512) : Fin 1536 := ⟨s.val * 512 + c.val, by omega⟩

/-- Three stores, one of each third of the output block's columns: each column is its third's. -/
theorem out_read (w : Fin 3 → Vec Ideal S128x512 .bf16) (s : Fin 3) (i : Fin 128) (c : Fin 512) :
    View.canon (Val := Elt Ideal) (e := .bf16) (s := S128x1536) [⟨Rect.unit ![0, 1024] S128x512.size inb_S128x1536_S128x512_0_1024, w 2⟩,
      ⟨Rect.unit ![0, 512] S128x512.size inb_S128x1536_S128x512_0_512, w 1⟩, ⟨Rect.unit ![0, 0] S128x512.size inb_S128x1536_S128x512_0_0, w 0⟩]
      (ix2 i (out3 s c)) = w s (ix2 i c) := by
  have hG : ∀ (k : ℕ) (hk : k < 3) (x : S128x512.Idx) (y : S128x1536.Idx), (y 0).val = (x 0).val → (y 1).val = k * 512 + (x 1).val →
      w ⟨k, hk⟩ x = w ⟨(y 1).val / 512, by have := (y 1).isLt; change _ < 1536 at this; omega⟩ (ix2 (y 0) ⟨(y 1).val % 512, Nat.mod_lt _ (by decide)⟩) := by
    intro k hk x y e0 e1
    have hx : (x 1).val < 512 := (x 1).isLt
    have a1 : (⟨k, hk⟩ : Fin 3) = ⟨(y 1).val / 512, by have := (y 1).isLt; change _ < 1536 at this; omega⟩ := Fin.ext (by show k = (y 1).val / 512; omega)
    rw [a1]
    refine congrArg (w _) (funext fun a => Fin.ext ?_)
    match a with
    | ⟨0, _⟩ => exact e0.symm
    | ⟨1, _⟩ => show (x 1).val = (y 1).val % 512; omega
  refine (View.canon_apply_of_pieces (Val := Elt Ideal) (S := S128x1536) (e := .bf16)
    (fun y : S128x1536.Idx => w ⟨(y 1).val / 512, by have := (y 1).isLt; change _ < 1536 at this; omega⟩ (ix2 (y 0) ⟨(y 1).val % 512, Nat.mod_lt _ (by decide)⟩)) _ ?_ _ ?_).trans ?_
  · intro q hq x
    rcases List.mem_cons.mp hq with rfl | hq
    · refine hG 2 (by decide) x _ ?_ ?_
      · show 0 + 1 * (x 0).val = (x 0).val; omega
      · show 1024 + 1 * (x 1).val = 2 * 512 + (x 1).val; omega
    rcases List.mem_cons.mp hq with rfl | hq
    · refine hG 1 (by decide) x _ ?_ ?_
      · show 0 + 1 * (x 0).val = (x 0).val; omega
      · show 512 + 1 * (x 1).val = 1 * 512 + (x 1).val; omega
    rcases List.mem_cons.mp hq with rfl | hq
    · refine hG 0 (by decide) x _ ?_ ?_
      · show 0 + 1 * (x 0).val = (x 0).val; omega
      · show 0 + 1 * (x 1).val = 0 * 512 + (x 1).val; omega
    nomatch hq
  · have e : ∀ (k : ℕ) (inb : ∀ a, (![0, k * 512] : Fin 2 → ℕ) a + S128x512.size a ≤ S128x1536.size a), k = s.val →
        (ix2 i (out3 s c) : S128x1536.Idx) ∈ (Rect.unit (s := S128x1536) ![0, k * 512] S128x512.size inb).set := by
      intro k inb hk
      refine Eq.mp (congrArg (· ∈ _) ?_) ((Rect.unit (s := S128x1536) ![0, k * 512] S128x512.size inb).idx_mem (ix2 (n0 := 128) (n1 := 512) i c))
      refine funext fun a => Fin.ext ?_
      match a with
      | ⟨0, _⟩ => show 0 + 1 * i.val = i.val; omega
      | ⟨1, _⟩ => show k * 512 + 1 * c.val = s.val * 512 + c.val; omega
    match s with
    | 0 => exact ⟨_, List.mem_cons_of_mem _ (List.mem_cons_of_mem _ List.mem_cons_self), e 0 inb_S128x1536_S128x512_0_0 rfl⟩
    | 1 => exact ⟨_, List.mem_cons_of_mem _ List.mem_cons_self, e 1 inb_S128x1536_S128x512_0_512 rfl⟩
    | 2 => exact ⟨_, List.mem_cons_self, e 2 inb_S128x1536_S128x512_0_1024 rfl⟩
  · exact (hG s.val s.isLt (ix2 i c) (ix2 i (out3 s c)) rfl rfl).symm

/-- What is written of the queries' gradient: what was carried. -/
theorem pay6_apply (x : Vec Ideal S1x128x512 .bf16) (r : Fin 128) (c : Fin 512) : k0_pay6 (F := Ideal) x (ix2 r c) = x (ix3 0 r c) :=
  drop_apply (M := 128) (N := 512) (α := EReal) x shapeCasts_S1x128x512_S128x512 r c

/-- What is written of the keys' and values' gradients at a point that is not the last: what was carried and what this point adds. -/
theorem pay7_apply (i : grid0.Coords) (hi : (i 0).val < 32) (x : Vec Ideal S1x128x512 .f32) (y : Vec Ideal S128x512 .f32) (r : Fin 128) (c : Fin 512) :
    (k0_pay7 (F := Ideal) i x y (ix2 r c) : EReal) = x (ix3 0 r c) + y (ix2 r c) :=
  add2 (drop_apply (M := 128) (N := 512) (α := EReal) x shapeCasts_S1x128x512_S128x512 r c)
    (congrArg (fun b : BitVec 1 => (Scalar.select b y (broadcast S128x512 (Scalar.ofBits (F := Ideal) .f32 0x00000000#32)) (ix2 r c) : EReal)) (lt_eq _ hi))
theorem pay8_apply (i : grid0.Coords) (hi : (i 0).val < 32) (x : Vec Ideal S1x128x512 .f32) (y : Vec Ideal S128x512 .f32) (r : Fin 128) (c : Fin 512) :
    (k0_pay8 (F := Ideal) i x y (ix2 r c) : EReal) = x (ix3 0 r c) + y (ix2 r c) := pay7_apply i hi x y r c

/-- And at the last point: what was carried. -/
theorem pay7_last (i : grid0.Coords) (hi : (i 0).val = 32) (x : Vec Ideal S1x128x512 .f32) (y : Vec Ideal S128x512 .f32) (r : Fin 128) (c : Fin 512) :
    (k0_pay7 (F := Ideal) i x y (ix2 r c) : EReal) = x (ix3 0 r c) + 0 :=
  add2 (drop_apply (M := 128) (N := 512) (α := EReal) x shapeCasts_S1x128x512_S128x512 r c)
    ((congrArg (fun b : BitVec 1 => (Scalar.select b y (broadcast S128x512 (Scalar.ofBits (F := Ideal) .f32 0x00000000#32)) (ix2 r c) : EReal))
      ((congrArg (fun k => Scalar.cmpi CmpIPredicate.slt (BitVec.ofNat 32 k) 32#32) hi).trans (by decide : _ = (0#1 : BitVec 1)))).trans zbit)
theorem pay8_last (i : grid0.Coords) (hi : (i 0).val = 32) (x : Vec Ideal S1x128x512 .f32) (y : Vec Ideal S128x512 .f32) (r : Fin 128) (c : Fin 512) :
    (k0_pay8 (F := Ideal) i x y (ix2 r c) : EReal) = x (ix3 0 r c) + 0 := pay7_last i hi x y r c

/-! ## The mask of the first heads' lanes, however the kernel names it -/

theorem lanes_21 : k0_pay21 = k0_pay45 k0_pay17 := rfl
theorem lanes_22 : k0_pay22 = k0_pay45 k0_pay17 := rfl
theorem lanes_27 : k0_pay27 k0_pay17 = k0_pay45 k0_pay17 := rfl
theorem lanes_28 : k0_pay28 k0_pay17 = k0_pay45 k0_pay17 := rfl
theorem lanes_38 : k0_pay38 k0_pay17 = k0_pay45 k0_pay17 := rfl
theorem lanes_39 : k0_pay39 k0_pay17 = k0_pay45 k0_pay17 := rfl
theorem lanes_41 : k0_pay41 k0_pay17 = k0_pay45 k0_pay17 := rfl
theorem lanes_42 : k0_pay42 k0_pay17 = k0_pay45 k0_pay17 := rfl
theorem lanes_48 : k0_pay48 k0_pay17 = k0_pay45 k0_pay17 := rfl

end Cert.Proof.Att

end
-- ==== Proof.AttPoint.lean ====
/- What a point of the kernel leaves in its carried blocks and its output block, column by column. -/
module

public import proofs.«01_k».proof.Proof.AttStage

@[expose] public section

noncomputable section

namespace Cert.Proof.Att

open Cert.Kernel2Ideal Cert.Kernel2Ideal.Gen Cert.Kernel2Ideal.Value Cert.Proof.MatMul
open Idealize.ShloMosaic Idealize.ShloMosaic.TcCoe Idealize.SL.Sem Idealize.ShloMosaic.ValueIdx

set_option maxHeartbeats 4000000

section
variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x1536 .bf16) (harg9 : arg9.IsWhole) (arg10 : Memref sig .tc .vmem S1x128x512 .bf16) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S128x512 .f32) (harg17 : arg17.IsWhole)

/-- What the first point carries on of the gradient of its queries. -/
theorem carry0_A (hc0 : cond0_0 i) (hc1 : ¬cond0_1 i) (hc2 : cond0_2 i)
    (x0 x1 x2 x3 x4 x5 x6 : Vec Ideal S128x512 .f32)
    (n : Fin 32) (hn : n.val = (i 0).val) (p : Fin 4) (r : Fin 128) (t : Fin 2) (e : Fin 64) :
    (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 : Vec Ideal S1x128x512 .bf16) (ix3 0 r (at4 p (half t e))) = ((blk x0 x1 x2 x3 x4 x5 x6 n).hd p t).dq r e := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)]
  unfold kernelRun0_A
  dsimp only
  sl_unfold_words
  rw [View.canon_unit_zero off3]
  simp only [View.readAt_eq_ld, Memref.IsWhole.read_unread, first_eq _ n hn]
  refine (pay9_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dq_lanes (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384)) rfl rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What the first point carries on of the gradient of its own keys. -/
theorem carry1_A (hc0 : cond0_0 i) (hc1 : ¬cond0_1 i) (hc2 : cond0_2 i)
    (x0 x1 x2 x3 x4 x5 x6 : Vec Ideal S128x512 .f32)
    (n : Fin 32) (hn : n.val = (i 0).val) (p : Fin 4) (r : Fin 128) (t : Fin 2) (e : Fin 64) :
    (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 : Vec Ideal S1x128x512 .f32) (ix3 0 r (at4 p (half t e))) = ((blk x0 x1 x2 x3 x4 x5 x6 n).hd p t).dk (own r) e := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)]
  unfold kernelRun0_A
  dsimp only
  sl_unfold_words
  rw [View.canon_unit_zero off3]
  simp only [View.readAt_eq_ld, Memref.IsWhole.read_unread, first_eq _ n hn]
  refine (pay10_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dk_own (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384)) rfl rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What the first point carries on of the gradient of its own values. -/
theorem carry2_A (hc0 : cond0_0 i) (hc1 : ¬cond0_1 i) (hc2 : cond0_2 i)
    (x0 x1 x2 x3 x4 x5 x6 : Vec Ideal S128x512 .f32)
    (n : Fin 32) (hn : n.val = (i 0).val) (p : Fin 4) (r : Fin 128) (t : Fin 2) (e : Fin 64) :
    (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 : Vec Ideal S1x128x512 .f32) (ix3 0 r (at4 p (half t e))) = ((blk x0 x1 x2 x3 x4 x5 x6 n).hd p t).dv (own r) e := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)]
  unfold kernelRun0_A
  dsimp only
  sl_unfold_words
  rw [View.canon_unit_zero off3]
  simp only [View.readAt_eq_ld, Memref.IsWhole.read_unread, first_eq _ n hn]
  refine (pay11_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dv_own (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What a later point carries on of the gradient of its queries. -/
theorem carry0_B (hc0 : cond0_0 i) (hc1 : cond0_1 i) (hc2 : cond0_2 i)
    (x0 x1 x2 x3 x4 x5 x6 : Vec Ideal S128x512 .f32) (xs0 : Vec Ideal S1x128x512 .bf16) (xs1 xs2 : Vec Ideal S1x128x512 .f32)
    (n : Fin 32) (hn : n.val = (i 0).val) (p : Fin 4) (r : Fin 128) (t : Fin 2) (e : Fin 64) :
    (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 : Vec Ideal S1x128x512 .bf16) (ix3 0 r (at4 p (half t e))) = ((blk x0 x1 x2 x3 x4 x5 x6 n).hd p t).dq r e := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2)]
  unfold kernelRun0_B
  dsimp only
  sl_unfold_words
  rw [View.canon_unit_zero off3]
  simp only [View.readAt_eq_ld, Memref.IsWhole.read_unread, first_eq _ n hn]
  refine (pay9_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dq_lanes (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384)) rfl rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What a later point carries on of the gradient of its own keys. -/
theorem carry1_B (hc0 : cond0_0 i) (hc1 : cond0_1 i) (hc2 : cond0_2 i)
    (x0 x1 x2 x3 x4 x5 x6 : Vec Ideal S128x512 .f32) (xs0 : Vec Ideal S1x128x512 .bf16) (xs1 xs2 : Vec Ideal S1x128x512 .f32)
    (n : Fin 32) (hn : n.val = (i 0).val) (p : Fin 4) (r : Fin 128) (t : Fin 2) (e : Fin 64) :
    (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 : Vec Ideal S1x128x512 .f32) (ix3 0 r (at4 p (half t e))) = ((blk x0 x1 x2 x3 x4 x5 x6 n).hd p t).dk (own r) e := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2)]
  unfold kernelRun0_B
  dsimp only
  sl_unfold_words
  rw [View.canon_unit_zero off3]
  simp only [View.readAt_eq_ld, Memref.IsWhole.read_unread, first_eq _ n hn]
  refine (pay10_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dk_own (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384)) rfl rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What a later point carries on of the gradient of its own values. -/
theorem carry2_B (hc0 : cond0_0 i) (hc1 : cond0_1 i) (hc2 : cond0_2 i)
    (x0 x1 x2 x3 x4 x5 x6 : Vec Ideal S128x512 .f32) (xs0 : Vec Ideal S1x128x512 .bf16) (xs1 xs2 : Vec Ideal S1x128x512 .f32)
    (n : Fin 32) (hn : n.val = (i 0).val) (p : Fin 4) (r : Fin 128) (t : Fin 2) (e : Fin 64) :
    (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 : Vec Ideal S1x128x512 .f32) (ix3 0 r (at4 p (half t e))) = ((blk x0 x1 x2 x3 x4 x5 x6 n).hd p t).dv (own r) e := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2)]
  unfold kernelRun0_B
  dsimp only
  sl_unfold_words
  rw [View.canon_unit_zero off3]
  simp only [View.readAt_eq_ld, Memref.IsWhole.read_unread, first_eq _ n hn]
  refine (pay11_apply _ r (at4 p (half t e))).trans ((stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_)
  refine Eq.trans ?_ (dv_own (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) rfl p r t e)
  simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What a later point writes of the block before. -/
theorem wrote_B (hc0 : cond0_0 i) (hc1 : cond0_1 i) (hc2 : cond0_2 i)
    (x0 x1 x2 x3 x4 x5 x6 : Vec Ideal S128x512 .f32) (xs0 : Vec Ideal S1x128x512 .bf16) (xs1 xs2 : Vec Ideal S1x128x512 .f32)
    (n : Fin 32) (hn : n.val = (i 0).val) (hi : (i 0).val < 32) (s : Fin 3) (p : Fin 4) (r : Fin 128) (t : Fin 2) (e : Fin 64) :
    (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 : Vec Ideal S128x1536 .bf16) (ix2 r (out3 s (at4 p (half t e)))) = (match s with | 0 => (xs0 (ix3 0 r (at4 p (half t e))) : EReal) | 1 => (xs1 (ix3 0 r (at4 p (half t e))) : EReal) + ((blk x0 x1 x2 x3 x4 x5 x6 n).hd p t).dk (next r) e | 2 => (xs2 (ix3 0 r (at4 p (half t e))) : EReal) + ((blk x0 x1 x2 x3 x4 x5 x6 n).hd p t).dv (next r) e) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2)]
  unfold kernelRun0_B
  dsimp only
  sl_unfold_words
  simp only [View.readAt_eq_ld, Memref.IsWhole.read_unread, first_eq _ n hn, Memref.IsWhole.read_unread, View.ld_unit_zero (S := S1x128x512) off3]
  refine (out_read ![_, _, _] s r (at4 p (half t e))).trans ?_
  match s with
  | 0 => exact pay6_apply _ r _
  | 1 =>
    refine (pay7_apply i hi _ _ r _).trans (congrArg (fun z : EReal => xs1 (ix3 0 r (at4 p (half t e))) + z) ?_)
    refine (stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_
    refine Eq.trans ?_ (dk_prev (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) (View.ld x6 (Rect.unit ![0, 0] S128x128.size inb_S128x512_S128x128_0_0)) (View.ld x6 (Rect.unit ![0, 128] S128x128.size inb_S128x512_S128x128_0_128)) (View.ld x6 (Rect.unit ![0, 256] S128x128.size inb_S128x512_S128x128_0_256)) (View.ld x6 (Rect.unit ![0, 384] S128x128.size inb_S128x512_S128x128_0_384)) rfl rfl p r t e)
    simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]
  | 2 =>
    refine (pay8_apply i hi _ _ r _).trans (congrArg (fun z : EReal => xs2 (ix3 0 r (at4 p (half t e))) + z) ?_)
    refine (stage_read _ _ _ _ _ _ (fun i l => unstack_apply _ 0 slices_S4x128x128_o0_0_0_S1x128x128 shapeCasts_S1x128x128_S128x128 shapeCasts_S128x128_S128x128 i l) (fun i l => unstack_apply _ 1 slices_S4x128x128_o1_0_0_S1x128x128 shapeCasts_S1x128x128_S128x128 shapeCasts_S128x128_S128x128 i l) (fun i l => unstack_apply _ 2 slices_S4x128x128_o2_0_0_S1x128x128 shapeCasts_S1x128x128_S128x128 shapeCasts_S128x128_S128x128 i l) (fun i l => unstack_apply _ 3 slices_S4x128x128_o3_0_0_S1x128x128 shapeCasts_S1x128x128_S128x128 shapeCasts_S128x128_S128x128 i l) p r (half t e)).trans ?_
    refine Eq.trans ?_ (dv_prev (blk x0 x1 x2 x3 x4 x5 x6 n) (View.ld x5 (Rect.unit ![0, 0] S128x128.size inb_S128x512_S128x128_0_0)) (View.ld x5 (Rect.unit ![0, 128] S128x128.size inb_S128x512_S128x128_0_128)) (View.ld x5 (Rect.unit ![0, 256] S128x128.size inb_S128x512_S128x128_0_256)) (View.ld x5 (Rect.unit ![0, 384] S128x128.size inb_S128x512_S128x128_0_384)) rfl p r t e)
    simp only [Blk.oq, Blk.okc, Blk.okp, Blk.ovc, Blk.ovp, Blk.ds0, Blk.ds1, Blk.dl1, Blk.dp1, Blk.gp, Blk.dd1, Blk.dd0, Blk.m1, Blk.m0, Blk.g, Blk.m, Blk.r0, Blk.r1, Blk.rs, Blk.dn, Blk.w, Blk.n1, Blk.n0, Blk.e1, Blk.e0, Blk.s0, lanes4, lanes_21, lanes_22, lanes_27, lanes_28, lanes_38, lanes_39, lanes_41, lanes_42, lanes_48, okPrev, okOwn, blk]

/-- What the last point writes of the last block. -/
theorem wrote_C (hc0 : ¬cond0_0 i) (hc1 : cond0_1 i) (hc2 : ¬cond0_2 i)
    (x0 x1 x2 x3 x4 x5 x6 : Vec Ideal S128x512 .f32) (xs0 : Vec Ideal S1x128x512 .bf16) (xs1 xs2 : Vec Ideal S1x128x512 .f32) (xs4 : Vec Ideal S128x512 .f32) (xs6 : Vec Ideal S128x512 .f32)
    (hi : (i 0).val = 32) (s : Fin 3) (p : Fin 4) (r : Fin 128) (t : Fin 2) (e : Fin 64) :
    (out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 xs4 xs6 : Vec Ideal S128x1536 .bf16) (ix2 r (out3 s (at4 p (half t e)))) = (match s with | 0 => (xs0 (ix3 0 r (at4 p (half t e))) : EReal) | 1 => (xs1 (ix3 0 r (at4 p (half t e))) : EReal) + 0 | 2 => (xs2 (ix3 0 r (at4 p (half t e))) : EReal) + 0) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs1 xs2 xs4 xs6)]
  unfold kernelRun0_C
  dsimp only
  sl_unfold_words
  simp only [View.readAt_eq_ld, Memref.IsWhole.read_unread, View.ld_unit_zero (S := S1x128x512) off3, View.ld_unit_zero (S := S128x512) off2]
  refine (out_read ![_, _, _] s r (at4 p (half t e))).trans ?_
  match s with
  | 0 => exact pay6_apply _ r _
  | 1 => exact pay7_last i hi _ _ r _
  | 2 => exact pay8_last i hi _ _ r _

end

end Cert.Proof.Att

end
-- ==== Proof.AttKernel.lean ====
/- The kernel's whole array: the rows of a block are written by the point after the block's own, which adds what the next block
   gives to the keys' and values' gradients. -/
module

public import proofs.«01_k».proof.Proof.AttPoint
public import proofs.«01_k».proof.Proof.Gen.Kernel2Ideal.Value

@[expose] public section

noncomputable section

namespace Cert.Proof.Att

open Cert.Kernel2Ideal Cert.Kernel2Ideal.Gen Cert.Kernel2Ideal.Value Cert.Proof.MatMul
open Idealize.ShloMosaic Idealize.ShloMosaic.TcCoe Idealize.SL.Sem Idealize.ShloMosaic.ValueIdx
open Idealize.ShloMosaic.Pipeline (Dat)

/-! ## Keys that no query meets do not enter -/

theorem Head.unmet_ex (H : Head) {i : Fin 128} {j : Fin 256} (h : ¬H.ok i j = true) : H.ex i j = 0 := by
  unfold Head.ex Head.score
  rw [if_neg h, EReal.bot_sub]
  rfl

theorem Head.unmet_ds (H : Head) {i : Fin 128} {j : Fin 256} (h : ¬H.ok i j = true) : H.ds i j = 0 := by
  unfold Head.ds
  rw [if_neg h, zero_mul]

section
variable {H K : Head} (hq : H.q = K.q) (hd : H.d = K.d) (hl : H.l = K.l) (ho : H.ok = K.ok)
  (hk : ∀ i j, H.ok i j = true → H.k j = K.k j) (hv : ∀ i j, H.ok i j = true → H.v j = K.v j)
include hq hd hl ho hk hv

theorem score_agree : H.score = K.score := by
  refine funext fun i => funext fun j => ?_
  unfold Head.score
  rw [← ho, ← hq]
  by_cases h : H.ok i j = true
  · rw [if_pos h, if_pos h, hk i j h]
  · rw [if_neg h, if_neg h]

theorem ex_agree : H.ex = K.ex := by
  unfold Head.ex Head.top
  rw [score_agree hq hd hl ho hk hv]

theorem den_agree : H.den = K.den := by
  unfold Head.den
  rw [ex_agree hq hd hl ho hk hv]

theorem num_agree : H.num = K.num := by
  refine funext fun i => funext fun e => Finset.sum_congr rfl fun j _ => ?_
  by_cases h : H.ok i j = true
  · rw [ex_agree hq hd hl ho hk hv, hv i j h]
  · rw [← ex_agree hq hd hl ho hk hv, H.unmet_ex h, zero_mul, zero_mul]

theorem g_agree : H.g = K.g := by
  unfold Head.g
  rw [den_agree hq hd hl ho hk hv, hd]

theorem dden_agree : H.dden = K.dden := by
  unfold Head.dden Head.part
  rw [den_agree hq hd hl ho hk hv, num_agree hq hd hl ho hk hv, hd, hl]

theorem ds_agree : H.ds = K.ds := by
  refine funext fun i => funext fun j => ?_
  by_cases h : H.ok i j = true
  · unfold Head.ds Head.dw
    rw [← ho, if_pos h, if_pos h, g_agree hq hd hl ho hk hv, dden_agree hq hd hl ho hk hv, ex_agree hq hd hl ho hk hv, hv i j h]
  · rw [H.unmet_ds h, K.unmet_ds (ho ▸ h)]

theorem dq_agree : H.dq = K.dq := by
  refine funext fun i => funext fun e => Finset.sum_congr rfl fun j _ => ?_
  by_cases h : H.ok i j = true
  · rw [ds_agree hq hd hl ho hk hv, hk i j h]
  · rw [H.unmet_ds h, K.unmet_ds (ho ▸ h), zero_mul, zero_mul]

theorem dk_agree : H.dk = K.dk := by
  unfold Head.dk
  rw [ds_agree hq hd hl ho hk hv, hq]

theorem dv_agree : H.dv = K.dv := by
  unfold Head.dv
  rw [ex_agree hq hd hl ho hk hv, g_agree hq hd hl ho hk hv]

end

/-! ## The columns of a head -/

/-- The head in the `t`-th half of the `p`-th pair. -/
def pair (p : Fin 4) (t : Fin 2) : Fin 8 := ⟨p.val * 2 + t.val, by omega⟩

theorem at4_half (p : Fin 4) (t : Fin 2) (e : Fin 64) : at4 p (half t e) = lane (pair p t) e :=
  Fin.ext (by show p.val * 128 + (t.val * 64 + e.val) = (p.val * 2 + t.val) * 64 + e.val; omega)

/-! ## The blocks a point reads -/

variable (m : (ℓ : Loc nD τ sig) → Buf (Elt Ideal) ℓ) (ρ : Dev nD → PrngReg)

theorem coord0 : ∀ t : Fin cfg0.N, (grid0.coords t (0 : Fin 2)).val = t.val := (by decide +kernel : ∀ t : Fin grid0.N, _)

theorem idx0 : ∀ t : Fin cfg0.N, t.val < 32 → win0_0.index t (0 : Fin 2) = t.val ∧ win0_0.index t (1 : Fin 2) = 0 :=
  (by decide +kernel : ∀ t : Fin grid0.N, _)
theorem idx1 : ∀ t : Fin cfg0.N, t.val < 32 → win0_1.index t (0 : Fin 2) = t.val - 1 ∧ win0_1.index t (1 : Fin 2) = 1 :=
  (by decide +kernel : ∀ t : Fin grid0.N, _)
theorem idx2 : ∀ t : Fin cfg0.N, t.val < 32 → win0_2.index t (0 : Fin 2) = t.val ∧ win0_2.index t (1 : Fin 2) = 1 :=
  (by decide +kernel : ∀ t : Fin grid0.N, _)
theorem idx3 : ∀ t : Fin cfg0.N, t.val < 32 → win0_3.index t (0 : Fin 2) = t.val - 1 ∧ win0_3.index t (1 : Fin 2) = 2 :=
  (by decide +kernel : ∀ t : Fin grid0.N, _)
theorem idx4 : ∀ t : Fin cfg0.N, t.val < 32 → win0_4.index t (0 : Fin 2) = t.val ∧ win0_4.index t (1 : Fin 2) = 2 :=
  (by decide +kernel : ∀ t : Fin grid0.N, _)
theorem idx5 : ∀ t : Fin cfg0.N, t.val < 32 → win0_5.index t (0 : Fin 2) = t.val ∧ win0_5.index t (1 : Fin 2) = 0 :=
  (by decide +kernel : ∀ t : Fin grid0.N, _)
theorem idx6 : ∀ t : Fin cfg0.N, t.val < 32 → win0_6.index t (0 : Fin 2) = t.val ∧ win0_6.index t (1 : Fin 2) = 0 :=
  (by decide +kernel : ∀ t : Fin grid0.N, _)
theorem idx7 : ∀ t : Fin cfg0.N, win0_7.index t (0 : Fin 2) = t.val - 1 ∧ win0_7.index t (1 : Fin 2) = 0 :=
  (by decide +kernel : ∀ t : Fin grid0.N, _)
theorem flush0_7 : ∀ t : Fin cfg0.N, (cfg0.win 7).flush t = true ↔ 1 ≤ t.val :=
  (by decide +kernel : ∀ t : Fin grid0.N, win0_7.flush t = true ↔ 1 ≤ t.val)

/-- The block a point before the last works on. -/
def num (t : Fin cfg0.N) (ht : t.val < 32) : Fin 32 := ⟨t.val, ht⟩
/-- The block before it; at the first point the first block itself. -/
def numPrev (t : Fin cfg0.N) (ht : t.val < 32) : Fin 32 := ⟨t.val - 1, by omega⟩

theorem blk0 (c : Dev nD) (t : Fin cfg0.N) (ht : t.val < 32) (i : Fin 128) (l : Fin 512) :
    (iblk m c 0 t : Vec Ideal S128x512 .f32) (ix2 i l) = V m c main_arg0 (ix2 (row (num t ht) i) (third 0 l)) := by
  obtain ⟨e0, e1⟩ := idx0 t ht
  refine congrArg (V m c main_arg0) (same2 ?_ ?_)
  · show win0_0.index t (0 : Fin 2) * 128 + 1 * i.val = (t.val) * 128 + i.val; omega
  · show win0_0.index t (1 : Fin 2) * 512 + 1 * l.val = 0 * 512 + l.val; omega
theorem blk1 (c : Dev nD) (t : Fin cfg0.N) (ht : t.val < 32) (i : Fin 128) (l : Fin 512) :
    (iblk m c 1 t : Vec Ideal S128x512 .f32) (ix2 i l) = V m c main_arg0 (ix2 (row (numPrev t ht) i) (third 1 l)) := by
  obtain ⟨e0, e1⟩ := idx1 t ht
  refine congrArg (V m c main_arg0) (same2 ?_ ?_)
  · show win0_1.index t (0 : Fin 2) * 128 + 1 * i.val = (t.val - 1) * 128 + i.val; omega
  · show win0_1.index t (1 : Fin 2) * 512 + 1 * l.val = 1 * 512 + l.val; omega
theorem blk2 (c : Dev nD) (t : Fin cfg0.N) (ht : t.val < 32) (i : Fin 128) (l : Fin 512) :
    (iblk m c 2 t : Vec Ideal S128x512 .f32) (ix2 i l) = V m c main_arg0 (ix2 (row (num t ht) i) (third 1 l)) := by
  obtain ⟨e0, e1⟩ := idx2 t ht
  refine congrArg (V m c main_arg0) (same2 ?_ ?_)
  · show win0_2.index t (0 : Fin 2) * 128 + 1 * i.val = (t.val) * 128 + i.val; omega
  · show win0_2.index t (1 : Fin 2) * 512 + 1 * l.val = 1 * 512 + l.val; omega
theorem blk3 (c : Dev nD) (t : Fin cfg0.N) (ht : t.val < 32) (i : Fin 128) (l : Fin 512) :
    (iblk m c 3 t : Vec Ideal S128x512 .f32) (ix2 i l) = V m c main_arg0 (ix2 (row (numPrev t ht) i) (third 2 l)) := by
  obtain ⟨e0, e1⟩ := idx3 t ht
  refine congrArg (V m c main_arg0) (same2 ?_ ?_)
  · show win0_3.index t (0 : Fin 2) * 128 + 1 * i.val = (t.val - 1) * 128 + i.val; omega
  · show win0_3.index t (1 : Fin 2) * 512 + 1 * l.val = 2 * 512 + l.val; omega
theorem blk4 (c : Dev nD) (t : Fin cfg0.N) (ht : t.val < 32) (i : Fin 128) (l : Fin 512) :
    (iblk m c 4 t : Vec Ideal S128x512 .f32) (ix2 i l) = V m c main_arg0 (ix2 (row (num t ht) i) (third 2 l)) := by
  obtain ⟨e0, e1⟩ := idx4 t ht
  refine congrArg (V m c main_arg0) (same2 ?_ ?_)
  · show win0_4.index t (0 : Fin 2) * 128 + 1 * i.val = (t.val) * 128 + i.val; omega
  · show win0_4.index t (1 : Fin 2) * 512 + 1 * l.val = 2 * 512 + l.val; omega
theorem blk5 (c : Dev nD) (t : Fin cfg0.N) (ht : t.val < 32) (i : Fin 128) (l : Fin 512) :
    (iblk m c 5 t : Vec Ideal S128x512 .f32) (ix2 i l) = V m c main_arg1 (ix2 (row (num t ht) i) (l)) := by
  obtain ⟨e0, e1⟩ := idx5 t ht
  refine congrArg (V m c main_arg1) (same2 ?_ ?_)
  · show win0_5.index t (0 : Fin 2) * 128 + 1 * i.val = (t.val) * 128 + i.val; omega
  · show win0_5.index t (1 : Fin 2) * 512 + 1 * l.val = l.val; omega
theorem blk6 (c : Dev nD) (t : Fin cfg0.N) (ht : t.val < 32) (i : Fin 128) (l : Fin 512) :
    (iblk m c 6 t : Vec Ideal S128x512 .f32) (ix2 i l) = V m c main_arg2 (ix2 (row (num t ht) i) (l)) := by
  obtain ⟨e0, e1⟩ := idx6 t ht
  refine congrArg (V m c main_arg2) (same2 ?_ ?_)
  · show win0_6.index t (0 : Fin 2) * 128 + 1 * i.val = (t.val) * 128 + i.val; omega
  · show win0_6.index t (1 : Fin 2) * 512 + 1 * l.val = l.val; omega

/-- The heads of the blocks a point reads. -/
def ptHead (c : Dev nD) (t : Fin cfg0.N) (ht : t.val < 32) (p : Fin 4) (s : Fin 2) : Head :=
  (blk (iblk m c 0 t) (iblk m c 1 t) (iblk m c 2 t) (iblk m c 3 t) (iblk m c 4 t) (iblk m c 5 t) (iblk m c 6 t) (num t ht)).hd p s

/-- The heads of the argument arrays. -/
abbrev argHead (c : Dev nD) (n : Fin 32) (h : Fin 8) : Head := head (V m c main_arg0) (V m c main_arg1) (V m c main_arg2) n h

theorem window_met (f : Fin 32 → Fin 128 → Fin 8 → Fin 64 → EReal) (x y : Vec Ideal S128x512 .f32) (t : Fin cfg0.N) (ht : t.val < 32) (p : Fin 4) (s : Fin 2)
    (hx : ∀ i e, x (ix2 i (at4 p (half s e))) = f (numPrev t ht) i (pair p s) e) (hy : ∀ i e, y (ix2 i (at4 p (half s e))) = f (num t ht) i (pair p s) e)
    (i : Fin 128) (j : Fin 256) (hm : meets (num t ht) i j = true) : two (stackOf x) (stackOf y) p s j = window f (num t ht) (pair p s) j := by
  refine funext fun e => ?_
  unfold two window
  by_cases hj : j.val < 128
  · rw [dif_pos hj, dif_pos hj]
    have h3 := (of_decide_eq_true hm).2.2
    have hn : ¬(num t ht).val = 0 := by
      intro h0; rw [h0] at h3; omega
    unfold before
    rw [if_neg hn]
    exact (stackOf_apply x p _ _).trans (hx _ _)
  · rw [dif_neg hj, dif_neg hj]
    exact (stackOf_apply y p _ _).trans (hy _ _)

section
variable (c : Dev nD) (t : Fin cfg0.N) (ht : t.val < 32) (p : Fin 4) (s : Fin 2)

theorem pt_q : (ptHead m c t ht p s).q = (argHead m c (num t ht) (pair p s)).q :=
  funext fun i => funext fun e => (stackOf_apply _ p i _).trans ((blk0 m c t ht i _).trans (by rw [at4_half]; rfl))
theorem pt_d : (ptHead m c t ht p s).d = (argHead m c (num t ht) (pair p s)).d :=
  funext fun i => funext fun e => (stackOf_apply _ p i _).trans ((blk5 m c t ht i _).trans (by rw [at4_half]; rfl))
theorem pt_l : (ptHead m c t ht p s).l = (argHead m c (num t ht) (pair p s)).l :=
  funext fun i => funext fun e => (stackOf_apply _ p i _).trans ((blk6 m c t ht i _).trans (by rw [at4_half]; rfl))
theorem pt_k (i : Fin 128) (j : Fin 256) (h : (ptHead m c t ht p s).ok i j = true) :
    (ptHead m c t ht p s).k j = (argHead m c (num t ht) (pair p s)).k j :=
  window_met (wide (V m c main_arg0) 1) (iblk m c 1 t) (iblk m c 2 t) t ht p s (fun i e => (blk1 m c t ht i _).trans (by rw [at4_half]; rfl))
    (fun i e => (blk2 m c t ht i _).trans (by rw [at4_half]; rfl)) i j h
theorem pt_v (i : Fin 128) (j : Fin 256) (h : (ptHead m c t ht p s).ok i j = true) :
    (ptHead m c t ht p s).v j = (argHead m c (num t ht) (pair p s)).v j :=
  window_met (wide (V m c main_arg0) 2) (iblk m c 3 t) (iblk m c 4 t) t ht p s (fun i e => (blk3 m c t ht i _).trans (by rw [at4_half]; rfl))
    (fun i e => (blk4 m c t ht i _).trans (by rw [at4_half]; rfl)) i j h

/-- A point's gradients are those of its block of the argument arrays. -/
theorem pt_dq : (ptHead m c t ht p s).dq = (argHead m c (num t ht) (pair p s)).dq :=
  dq_agree (pt_q m c t ht p s) (pt_d m c t ht p s) (pt_l m c t ht p s) rfl (pt_k m c t ht p s) (pt_v m c t ht p s)
theorem pt_dk : (ptHead m c t ht p s).dk = (argHead m c (num t ht) (pair p s)).dk :=
  dk_agree (pt_q m c t ht p s) (pt_d m c t ht p s) (pt_l m c t ht p s) rfl (pt_k m c t ht p s) (pt_v m c t ht p s)
theorem pt_dv : (ptHead m c t ht p s).dv = (argHead m c (num t ht) (pair p s)).dv :=
  dv_agree (pt_q m c t ht p s) (pt_d m c t ht p s) (pt_l m c t ht p s) rfl (pt_k m c t ht p s) (pt_v m c t ht p s)

/-- What a point carries on: the gradient of its block's queries. -/
theorem carried0 (r : Fin 128) (e : Fin 64) : ((outsAt0 m c t.val t.isLt).2.1 : Vec Ideal S1x128x512 .bf16) (ix3 0 r (at4 p (half s e)))
    = (argHead m c (num t ht) (pair p s)).dq r e := by
  by_cases h1 : 1 ≤ t.val
  · rw [outsAt0_B m c t ht h1 ht]
    dsimp only
    refine Eq.trans (carry0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) ((hcond0_1 t).mpr h1) ((hcond0_2 t).mpr ht) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (num t ht) (coord0 t).symm p r s e) ?_
    exact congrFun (congrFun (pt_dq m c t ht p s) _) _
  · rw [outsAt0_A m c t ht h1 ht]
    dsimp only
    refine Eq.trans (carry0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) (fun h => h1 ((hcond0_1 t).mp h)) ((hcond0_2 t).mpr ht) (iblk m c 0 t) (iblk m c 1 t) (iblk m c 2 t) (iblk m c 3 t) (iblk m c 4 t) (iblk m c 5 t) (iblk m c 6 t) (num t ht) (coord0 t).symm p r s e) ?_
    exact congrFun (congrFun (pt_dq m c t ht p s) _) _

/-- What a point carries on: the gradient of its block's own keys. -/
theorem carried1 (r : Fin 128) (e : Fin 64) : ((outsAt0 m c t.val t.isLt).2.2.1 : Vec Ideal S1x128x512 .f32) (ix3 0 r (at4 p (half s e)))
    = (argHead m c (num t ht) (pair p s)).dk (own r) e := by
  by_cases h1 : 1 ≤ t.val
  · rw [outsAt0_B m c t ht h1 ht]
    dsimp only
    refine Eq.trans (carry1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) ((hcond0_1 t).mpr h1) ((hcond0_2 t).mpr ht) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (num t ht) (coord0 t).symm p r s e) ?_
    exact congrFun (congrFun (pt_dk m c t ht p s) _) _
  · rw [outsAt0_A m c t ht h1 ht]
    dsimp only
    refine Eq.trans (carry1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) (fun h => h1 ((hcond0_1 t).mp h)) ((hcond0_2 t).mpr ht) (iblk m c 0 t) (iblk m c 1 t) (iblk m c 2 t) (iblk m c 3 t) (iblk m c 4 t) (iblk m c 5 t) (iblk m c 6 t) (num t ht) (coord0 t).symm p r s e) ?_
    exact congrFun (congrFun (pt_dk m c t ht p s) _) _

/-- What a point carries on: the gradient of its block's own values. -/
theorem carried2 (r : Fin 128) (e : Fin 64) : ((outsAt0 m c t.val t.isLt).2.2.2.1 : Vec Ideal S1x128x512 .f32) (ix3 0 r (at4 p (half s e)))
    = (argHead m c (num t ht) (pair p s)).dv (own r) e := by
  by_cases h1 : 1 ≤ t.val
  · rw [outsAt0_B m c t ht h1 ht]
    dsimp only
    refine Eq.trans (carry2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) ((hcond0_1 t).mpr h1) ((hcond0_2 t).mpr ht) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (num t ht) (coord0 t).symm p r s e) ?_
    exact congrFun (congrFun (pt_dv m c t ht p s) _) _
  · rw [outsAt0_A m c t ht h1 ht]
    dsimp only
    refine Eq.trans (carry2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) (fun h => h1 ((hcond0_1 t).mp h)) ((hcond0_2 t).mpr ht) (iblk m c 0 t) (iblk m c 1 t) (iblk m c 2 t) (iblk m c 3 t) (iblk m c 4 t) (iblk m c 5 t) (iblk m c 6 t) (num t ht) (coord0 t).symm p r s e) ?_
    exact congrFun (congrFun (pt_dv m c t ht p s) _) _

end

/-- The gradient at an index of the array. -/
def whole (x0 : Wide) (x1 x2 : Narrow) : Vec Ideal S4096x4608 .bf16 := fun y =>
  grad x0 x1 x2 ⟨(y 1).val / 512 % 3, Nat.mod_lt _ (by decide)⟩ ⟨(y 0).val / 128, by have := (y 0).isLt; change _ < 4096 at this; omega⟩
    ⟨(y 0).val % 128, Nat.mod_lt _ (by decide)⟩ ⟨(y 1).val % 512 / 64, by omega⟩ ⟨(y 1).val % 64, Nat.mod_lt _ (by decide)⟩

theorem whole_apply (x0 : Wide) (x1 x2 : Narrow) (s : Fin 3) (n : Fin 32) (i : Fin 128) (h : Fin 8) (e : Fin 64) :
    whole x0 x1 x2 (ix2 (row n i) (third s (lane h e))) = grad x0 x1 x2 s n i h e := by
  have hs := s.isLt; have hn := n.isLt; have hi := i.isLt; have hh := h.isLt; have he := e.isLt
  have a1 : (⟨(s.val * 512 + (h.val * 64 + e.val)) / 512 % 3, Nat.mod_lt _ (by decide)⟩ : Fin 3) = s := Fin.ext (by show (s.val * 512 + (h.val * 64 + e.val)) / 512 % 3 = s.val; omega)
  have a2 : (⟨(n.val * 128 + i.val) / 128, by omega⟩ : Fin 32) = n := Fin.ext (by show (n.val * 128 + i.val) / 128 = n.val; omega)
  have a3 : (⟨(n.val * 128 + i.val) % 128, Nat.mod_lt _ (by decide)⟩ : Fin 128) = i := Fin.ext (by show (n.val * 128 + i.val) % 128 = i.val; omega)
  have a4 : (⟨(s.val * 512 + (h.val * 64 + e.val)) % 512 / 64, by omega⟩ : Fin 8) = h := Fin.ext (by show (s.val * 512 + (h.val * 64 + e.val)) % 512 / 64 = h.val; omega)
  have a5 : (⟨(s.val * 512 + (h.val * 64 + e.val)) % 64, Nat.mod_lt _ (by decide)⟩ : Fin 64) = e := Fin.ext (by show (s.val * 512 + (h.val * 64 + e.val)) % 64 = e.val; omega)
  show grad x0 x1 x2 (⟨(s.val * 512 + (h.val * 64 + e.val)) / 512 % 3, _⟩ : Fin 3) (⟨(n.val * 128 + i.val) / 128, _⟩ : Fin 32)
    (⟨(n.val * 128 + i.val) % 128, _⟩ : Fin 128) (⟨(s.val * 512 + (h.val * 64 + e.val)) % 512 / 64, _⟩ : Fin 8) (⟨(s.val * 512 + (h.val * 64 + e.val)) % 64, _⟩ : Fin 64) = _
  rw [a1, a2, a3, a4, a5]

/-- A column of the output block is a lane of a head of a third. -/
theorem exists_out (k : Fin 1536) : ∃ s p t e, k = out3 s (at4 p (half t e)) := by
  have hk := k.isLt
  refine ⟨⟨k.val / 512, by omega⟩, ⟨k.val % 512 / 128, by omega⟩, ⟨k.val % 128 / 64, by omega⟩, ⟨k.val % 64, Nat.mod_lt _ (by decide)⟩, Fin.ext ?_⟩
  show k.val = k.val / 512 * 512 + (k.val % 512 / 128 * 128 + (k.val % 128 / 64 * 64 + k.val % 64))
  omega

/-- The block whose rows a point writes. -/
def numOut (t : Fin cfg0.N) : Fin 32 := ⟨t.val - 1, by have := Nat.lt_of_lt_of_eq t.isLt N_0; omega⟩

/-- What a point after the first writes. -/
theorem written (c : Dev nD) (t : Fin cfg0.N) (h1 : 1 ≤ t.val) (s : Fin 3) (p : Fin 4) (r : Fin 128) (u : Fin 2) (e : Fin 64) :
    ((outsAt0 m c t.val t.isLt).1 : Vec Ideal S128x1536 .bf16) (ix2 r (out3 s (at4 p (half u e))))
      = grad (V m c main_arg0) (V m c main_arg1) (V m c main_arg2) s (numOut t) r (pair p u) e := by
  have hN := Nat.lt_of_lt_of_eq t.isLt N_0
  have hlt : t.val - 1 < cfg0.N := Nat.lt_of_le_of_lt (Nat.sub_le _ _) t.isLt
  have hb : (⟨t.val - 1, hlt⟩ : Fin cfg0.N).val < 32 := by show t.val - 1 < 32; omega
  have c0 := carried0 m c ⟨t.val - 1, hlt⟩ hb p u r e
  have c1 := carried1 m c ⟨t.val - 1, hlt⟩ hb p u r e
  have c2 := carried2 m c ⟨t.val - 1, hlt⟩ hb p u r e
  by_cases ht : t.val < 32
  · rw [outsAt0_B m c t ht h1 ht]
    dsimp only
    refine Eq.trans (wrote_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr ht) ((hcond0_1 t).mpr h1) ((hcond0_2 t).mpr ht) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (num t ht) (coord0 t).symm ((coord0 t).trans_lt ht) s p r u e) ?_
    have hn : (numOut t).val < 31 := by show t.val - 1 < 31; omega
    have hnext : (⟨(numOut t).val + 1, by omega⟩ : Fin 32) = num t ht := Fin.ext (by show t.val - 1 + 1 = t.val; omega)
    match s with
    | 0 => exact c0
    | 1 =>
      show _ = both (fun n j => (argHead m c n (pair p u)).dk j e) (numOut t) r
      unfold both
      rw [dif_pos hn, hnext]
      exact congrArg₂ (fun a b : EReal => a + b) c1 (congrFun (congrFun (pt_dk m c t ht p u) _) _)
    | 2 =>
      show _ = both (fun n j => (argHead m c n (pair p u)).dv j e) (numOut t) r
      unfold both
      rw [dif_pos hn, hnext]
      exact congrArg₂ (fun a b : EReal => a + b) c2 (congrFun (congrFun (pt_dv m c t ht p u) _) _)
  · rw [outsAt0_C m c t ht h1 ht]
    dsimp only
    refine Eq.trans (wrote_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => ht ((hcond0_0 t).mp h)) ((hcond0_1 t).mpr h1) (fun h => ht ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((coord0 t).trans (by omega)) s p r u e) ?_
    have hn : ¬(numOut t).val < 31 := by show ¬t.val - 1 < 31; omega
    match s with
    | 0 => exact c0
    | 1 =>
      show _ = both (fun n j => (argHead m c n (pair p u)).dk j e) (numOut t) r
      unfold both
      rw [dif_neg hn]
      exact congrArg (fun a : EReal => a + 0) c1
    | 2 =>
      show _ = both (fun n j => (argHead m c n (pair p u)).dv j e) (numOut t) r
      unfold both
      rw [dif_neg hn]
      exact congrArg (fun a : EReal => a + 0) c2

/-- Each point that writes back writes its rows of the gradient. -/
theorem flushed_eq (c : Dev nD) (t : Fin cfg0.N) (hf : (cfg0.win 7).flush t = true) :
    (dats m 0 c).flushed 7 t = ((cfg0.win 7).blk t).view.read (Elt Ideal) (whole (V m c main_arg0) (V m c main_arg1) (V m c main_arg2)) := by
  have h1 : 1 ≤ t.val := (flush0_7 t).mp hf
  obtain ⟨e0, e1⟩ := idx7 t
  rw [flushed7]
  refine ext2 fun (r : Fin 128) (k : Fin 1536) => ?_
  obtain ⟨s, p, u, e, rfl⟩ := exists_out k
  show ((outsAt0 m c t.val t.isLt).1 : Vec Ideal S128x1536 .bf16) (ix2 r (out3 s (at4 p (half u e))))
    = whole _ _ _ (((cfg0.win 7).blk t).view.emb (ix2 r (out3 s (at4 p (half u e))) : S128x1536.Idx))
  have hj : ((cfg0.win 7).blk t).view.emb (ix2 r (out3 s (at4 p (half u e))) : S128x1536.Idx) = ix2 (row (numOut t) r) (third s (lane (pair p u) e)) := by
    rw [at4_half]
    funext b; apply Fin.ext
    match b with
    | ⟨0, _⟩ => show win0_7.index t (0 : Fin 2) * 128 + 1 * r.val = (t.val - 1) * 128 + r.val; omega
    | ⟨1, _⟩ => show win0_7.index t (1 : Fin 2) * 1536 + 1 * (s.val * 512 + (lane (pair p u) e).val) = s.val * 512 + (lane (pair p u) e).val; omega
  rw [hj, whole_apply]
  exact written m c t h1 s p r u e

/-- Every index of the first 1536 columns is in the rows some point writes. -/
theorem covered (i : S4096x4608.Idx) (hi : (i 1).val < 1536) : ∃ t : Fin cfg0.N, (cfg0.win 7).flush t = true ∧ i ∈ ((cfg0.win 7).blk t).view.set := by
  have h0 : (i 0).val < 4096 := (i 0).isLt
  have ht : (i 0).val / 128 + 1 < cfg0.N := Nat.lt_of_lt_of_eq (by omega) N_0.symm
  refine ⟨⟨(i 0).val / 128 + 1, ht⟩, (flush0_7 _).mpr (by show 1 ≤ (i 0).val / 128 + 1; omega), ?_⟩
  obtain ⟨e0, e1⟩ := idx7 ⟨(i 0).val / 128 + 1, ht⟩
  exact mem2 (((cfg0.win 7).blk _).view.emb_mem_set) i (ix2 ⟨(i 0).val % 128, Nat.mod_lt _ (by decide)⟩ ⟨(i 1).val, hi⟩ : S128x1536.Idx)
    (by show win0_7.index ⟨(i 0).val / 128 + 1, ht⟩ (0 : Fin 2) * 128 + 1 * ((i 0).val % 128) = (i 0).val; rw [e0]; show ((i 0).val / 128 + 1 - 1) * 128 + 1 * ((i 0).val % 128) = (i 0).val; omega)
    (by show win0_7.index ⟨(i 0).val / 128 + 1, ht⟩ (1 : Fin 2) * 1536 + 1 * (i 1).val = (i 1).val; rw [e1]; omega)

/-- The kernel leaves the gradient in the first 1536 columns. -/
theorem run_kernel : θ_run defs (onTc (τ := τ) (main (F := Ideal))) ⟨m, fun _ => 0, ρ⟩ fun r => ∀ c : Dev nD,
      (∀ i : S4096x4608.Idx, (i 1).val < 1536 → r.2.mem ((c : Thread nD τ).loc main_v0) i
        = whole (m ((c : Thread nD τ).loc main_arg0)) (m ((c : Thread nD τ).loc main_arg1)) (m ((c : Thread nD τ).loc main_arg2)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h2, hk⟩ := h c
  refine ⟨fun i hi => ?_, hk⟩
  obtain ⟨t, hf, hm⟩ := covered i hi
  rw [← V_main_arg0 m c, ← V_main_arg1 m c, ← V_main_arg2 m c]
  exact (congrFun h2 i).trans ((dats m 0 c).arrAt_apply_of_mem 7 _ (fun t hf => flushed_eq m c t hf) cfg0.N t i t.isLt hf hm)

end Cert.Proof.Att

end
-- ==== Proof.AttRef.lean ====
/- The reference's result, entry by entry: jax's gradient of windowed causal attention is the gradient of every head over
   every block, on real arguments. -/
module

public import proofs.«01_k».proof.Proof.AttSpec
public import proofs.«01_k».proof.Proof.Gen.Reference2Ideal.Read
public import Idealize.ShloMosaic.Lib.KernelVsHost
public import Idealize.ShloMosaic.Lib.IdealHost

@[expose] public section

noncomputable section

namespace Cert.Proof.Att

open Cert.Reference2Ideal Cert.Reference2Ideal.Gen Cert.Reference2Ideal.Read
open Idealize.ShloMosaic Idealize.ShloMosaic.ValueIdx Cert.Proof.Conv

namespace Ref

/-- A pattern of zeros is the number zero. -/
theorem zb : FloatOps.ofBits (F := Ideal) .f32 0x00000000#32 = (0 : EReal) := Ideal.ofBits_zero_f32
/-- The pattern of one is the number one. -/
theorem ob : FloatOps.ofBits (F := Ideal) .f32 0x3F800000#32 = (1 : EReal) := Ideal.ofBits_one_f32

variable (x0 : Vec Ideal S4096x4608 .f32) (x1 x2 : Vec Ideal S4096x512 .f32)

/-! ## The arguments in blocks -/

/-- Rows counted by block. -/
theorem rows4 (n : Fin 32) (i : Fin 128) (h : Fin 8) (e : Fin 64) :
    idx_main_v6 (ix4 n i h e) = ix3 (row n i) h e := by
  have := n.isLt; have := i.isLt; have := h.isLt; have := e.isLt
  refine funext fun a => Fin.ext ?_
  match a with
  | ⟨0, _⟩ => show (((n.val * 128 + i.val) * 8 + h.val) * 64 + e.val) / 512 = n.val * 128 + i.val; omega
  | ⟨1, _⟩ => show (((n.val * 128 + i.val) * 8 + h.val) * 64 + e.val) / 64 % 8 = h.val; omega
  | ⟨2, _⟩ => show (((n.val * 128 + i.val) * 8 + h.val) * 64 + e.val) % 64 = e.val; omega

/-- Lanes counted by head. -/
theorem lanes3 (r : Fin 4096) (h : Fin 8) (e : Fin 64) : idx_main_v3 (ix3 r h e) = ix2 r (lane h e) := by
  have := r.isLt; have := h.isLt; have := e.isLt
  refine funext fun a => Fin.ext ?_
  match a with
  | ⟨0, _⟩ => show ((r.val * 8 + h.val) * 64 + e.val) / 512 = r.val; omega
  | ⟨1, _⟩ => show ((r.val * 8 + h.val) * 64 + e.val) % 512 = h.val * 64 + e.val; omega

/-- The lane of a column among the wide array's thirds. -/
theorem third0 (r : Fin 4096) (c : Fin 512) : idx_main_v0 (ix2 r c) = ix2 r (third 0 c) := by
  refine funext fun a => Fin.ext ?_
  match a with
  | ⟨0, _⟩ => rfl
  | ⟨1, _⟩ => show c.val = 0 * 512 + c.val; omega
theorem third1 (r : Fin 4096) (c : Fin 512) : idx_main_v1 (ix2 r c) = ix2 r (third 1 c) := by
  refine funext fun a => Fin.ext ?_
  match a with
  | ⟨0, _⟩ => rfl
  | ⟨1, _⟩ => show 512 + c.val = 1 * 512 + c.val; omega
theorem third2 (r : Fin 4096) (c : Fin 512) : idx_main_v2 (ix2 r c) = ix2 r (third 2 c) := by
  refine funext fun a => Fin.ext ?_
  match a with
  | ⟨0, _⟩ => rfl
  | ⟨1, _⟩ => show 1024 + c.val = 2 * 512 + c.val; omega

/-- The queries. -/
theorem q_apply (n : Fin 32) (i : Fin 128) (h : Fin 8) (e : Fin 64) :
    val_main_v6 (F := Ideal) x0 (ix4 n i h e) = wide x0 0 n i h e := by
  rw [val_main_v6_apply, rows4, val_main_v3_apply, lanes3, val_main_v0_apply, third0]; rfl
/-- The keys. -/
theorem k_apply (n : Fin 32) (i : Fin 128) (h : Fin 8) (e : Fin 64) :
    val_main_v7 (F := Ideal) x0 (ix4 n i h e) = wide x0 1 n i h e := by
  refine (val_main_v7_apply _ _).trans ((congrArg _ (rows4 n i h e)).trans ?_)
  refine (val_main_v4_apply _ _).trans ((congrArg _ (lanes3 _ h e)).trans ?_)
  rw [val_main_v1_apply, third1]; rfl
/-- The values. -/
theorem v_apply (n : Fin 32) (i : Fin 128) (h : Fin 8) (e : Fin 64) :
    val_main_v14 (F := Ideal) x0 (ix4 n i h e) = wide x0 2 n i h e := by
  refine (val_main_v14_apply _ _).trans ((congrArg _ (rows4 n i h e)).trans ?_)
  refine (val_main_v5_apply _ _).trans ((congrArg _ (lanes3 _ h e)).trans ?_)
  rw [val_main_v2_apply, third2]; rfl

/-- The keys of the block before. -/
theorem k_before (n : Fin 32) (i : Fin 128) (h : Fin 8) (e : Fin 64) :
    val_main_v11 (F := Ideal) x0 (ix4 n i h e) = before (wide x0 1) n i h e := by
  unfold val_main_v11 before
  split
  · rename_i hn
    refine (concatenate_pair_apply_left (t := S32x128x8x64) (s₁ := S1x128x8x64) (s₂ := S31x128x8x64) 0 _ _ _ (ix4 n i h e) rfl (ix4 0 i h e : S1x128x8x64.Idx) ?_).trans ?_
    · intro b
      match b with
      | ⟨0, _⟩ => exact hn.symm
      | ⟨1, _⟩ => rfl
      | ⟨2, _⟩ => rfl
      | ⟨3, _⟩ => rfl
    · rw [val_main_v9_apply, val_main_cst_apply]; exact zb
  · rename_i hn
    refine (concatenate_pair_apply_right (t := S32x128x8x64) (s₁ := S1x128x8x64) (s₂ := S31x128x8x64) 0 _ _ _ (ix4 n i h e) rfl rfl (ix4 (⟨n.val - 1, by omega⟩ : Fin 31) i h e : S31x128x8x64.Idx) ?_ ?_).trans ?_
    · intro b hb
      match b with
      | ⟨0, _⟩ => exact absurd rfl hb
      | ⟨1, _⟩ => rfl
      | ⟨2, _⟩ => rfl
      | ⟨3, _⟩ => rfl
    · show n.val - 1 + 1 = n.val
      omega
    · rw [val_main_v10_apply]
      exact (congrArg _ (eq_ix4 _)).trans (k_apply x0 ⟨n.val - 1, by omega⟩ i h e)

/-- The keys of a window. -/
theorem k_window (n : Fin 32) (j : Fin 256) (h : Fin 8) (e : Fin 64) :
    val_main_v13 (F := Ideal) x0 (ix4 n j h e) = window (wide x0 1) n h j e := by
  unfold val_main_v13 window
  split
  · rename_i hj
    refine (concatenate_pair_apply_left (t := S32x256x8x64) (s₁ := S32x128x8x64) (s₂ := S32x128x8x64) 1 _ _ _ (ix4 n j h e) rfl (ix4 n ⟨j.val, hj⟩ h e : S32x128x8x64.Idx) ?_).trans (k_before x0 n _ h e)
    intro b
    match b with
    | ⟨0, _⟩ => rfl
    | ⟨1, _⟩ => rfl
    | ⟨2, _⟩ => rfl
    | ⟨3, _⟩ => rfl
  · rename_i hj
    refine (concatenate_pair_apply_right (t := S32x256x8x64) (s₁ := S32x128x8x64) (s₂ := S32x128x8x64) 1 _ _ _ (ix4 n j h e) rfl rfl (ix4 n (⟨j.val - 128, by omega⟩ : Fin 128) h e : S32x128x8x64.Idx) ?_ ?_).trans (k_apply x0 n _ h e)
    · intro b hb
      match b with
      | ⟨0, _⟩ => rfl
      | ⟨1, _⟩ => exact absurd rfl hb
      | ⟨2, _⟩ => rfl
      | ⟨3, _⟩ => rfl
    · show j.val - 128 + 128 = j.val
      omega

/-- The values of the block before. -/
theorem v_before (n : Fin 32) (i : Fin 128) (h : Fin 8) (e : Fin 64) :
    val_main_v18 (F := Ideal) x0 (ix4 n i h e) = before (wide x0 2) n i h e := by
  unfold val_main_v18 before
  split
  · rename_i hn
    refine (concatenate_pair_apply_left (t := S32x128x8x64) (s₁ := S1x128x8x64) (s₂ := S31x128x8x64) 0 _ _ _ (ix4 n i h e) rfl (ix4 0 i h e : S1x128x8x64.Idx) ?_).trans ?_
    · intro b
      match b with
      | ⟨0, _⟩ => exact hn.symm
      | ⟨1, _⟩ => rfl
      | ⟨2, _⟩ => rfl
      | ⟨3, _⟩ => rfl
    · rw [val_main_v16_apply, val_main_cst_1_apply]; exact zb
  · rename_i hn
    refine (concatenate_pair_apply_right (t := S32x128x8x64) (s₁ := S1x128x8x64) (s₂ := S31x128x8x64) 0 _ _ _ (ix4 n i h e) rfl rfl (ix4 (⟨n.val - 1, by omega⟩ : Fin 31) i h e : S31x128x8x64.Idx) ?_ ?_).trans ?_
    · intro b hb
      match b with
      | ⟨0, _⟩ => exact absurd rfl hb
      | ⟨1, _⟩ => rfl
      | ⟨2, _⟩ => rfl
      | ⟨3, _⟩ => rfl
    · show n.val - 1 + 1 = n.val
      omega
    · rw [val_main_v17_apply]
      exact (congrArg _ (eq_ix4 _)).trans (v_apply x0 ⟨n.val - 1, by omega⟩ i h e)

/-- The values of a window. -/
theorem v_window (n : Fin 32) (j : Fin 256) (h : Fin 8) (e : Fin 64) :
    val_main_v20 (F := Ideal) x0 (ix4 n j h e) = window (wide x0 2) n h j e := by
  unfold val_main_v20 window
  split
  · rename_i hj
    refine (concatenate_pair_apply_left (t := S32x256x8x64) (s₁ := S32x128x8x64) (s₂ := S32x128x8x64) 1 _ _ _ (ix4 n j h e) rfl (ix4 n ⟨j.val, hj⟩ h e : S32x128x8x64.Idx) ?_).trans (v_before x0 n _ h e)
    intro b
    match b with
    | ⟨0, _⟩ => rfl
    | ⟨1, _⟩ => rfl
    | ⟨2, _⟩ => rfl
    | ⟨3, _⟩ => rfl
  · rename_i hj
    refine (concatenate_pair_apply_right (t := S32x256x8x64) (s₁ := S32x128x8x64) (s₂ := S32x128x8x64) 1 _ _ _ (ix4 n j h e) rfl rfl (ix4 n (⟨j.val - 128, by omega⟩ : Fin 128) h e : S32x128x8x64.Idx) ?_ ?_).trans (v_apply x0 n _ h e)
    · intro b hb
      match b with
      | ⟨0, _⟩ => rfl
      | ⟨1, _⟩ => exact absurd rfl hb
      | ⟨2, _⟩ => rfl
      | ⟨3, _⟩ => rfl
    · show j.val - 128 + 128 = j.val
      omega

/-! ## The mask -/

/-- A query's row less a key's, 128 added. -/
theorem gap_apply (i : Fin 128) (j : Fin 256) :
    val_main_v32 (F := Ideal) (ix2 i j) = BitVec.ofNat 32 (i.val + 128) - BitVec.ofNat 32 j.val := by
  rw [val_main_v32_apply, val_main_v30_apply, val_main_v29_apply, val_main_v25_apply, val_main_v24_apply, val_main_v28_apply,
    val_main_c_apply, val_main_v31_apply, val_main_v27_apply, val_main_v26_apply]
  show BitVec.ofNat 32 i.val + 128#32 - BitVec.ofNat 32 j.val = _
  rw [BitVec.ofNat_add]

/-- A key's row, 128 taken off. -/
theorem place_apply (n : Fin 32) (j : Fin 256) :
    val_main_v41 (F := Ideal) (ix2 n j) = BitVec.ofNat 32 (n.val * 128 + j.val) - BitVec.ofNat 32 128 := by
  rw [val_main_v41_apply, val_main_v39_apply, val_main_v37_apply, val_main_v36_apply, val_main_v34_apply, val_main_v33_apply,
    val_main_v35_apply, val_main_c_4_apply, val_main_v38_apply, val_main_v27_apply, val_main_v26_apply, val_main_v40_apply,
    val_main_c_5_apply]
  show BitVec.ofNat 32 n.val * 128#32 + BitVec.ofNat 32 j.val - 128#32 = _
  rw [BitVec.ofNat_add, BitVec.ofNat_mul]

/-- The mask. -/
theorem mask_apply (n : Fin 32) (h : Fin 8) (i : Fin 128) (j : Fin 256) :
    val_main_v55_1 (F := Ideal) (ix4 n h i j) = BitVec.ofBool (meets n i j) := by
  have hn := n.isLt; have hi := i.isLt; have hj := j.isLt
  have e0 : (128#32 : BitVec 32).toInt = 128 := by decide
  have e1 : (0#32 : BitVec 32).toInt = 0 := by decide
  have a1 : val_main_v43 (F := Ideal) (ix2 i j) = BitVec.ofBool (decide ((0 : ℤ) ≤ ((i.val + 128 : ℕ) : ℤ) - (j.val : ℤ))) := by
    rw [val_main_v43_apply, gap_apply, val_main_v42_apply, val_main_c_6_apply]
    exact cmpi_sge (toInt_sub (by omega) (by omega)) e1
  have a2 : val_main_v45 (F := Ideal) (ix2 i j) = BitVec.ofBool (decide (((i.val + 128 : ℕ) : ℤ) - (j.val : ℤ) ≤ 128)) := by
    rw [val_main_v45_apply, gap_apply, val_main_v44_apply, val_main_c_7_apply]
    exact cmpi_sle (toInt_sub (by omega) (by omega)) e0
  have a3 : val_main_v49 (F := Ideal) (ix2 n j) = BitVec.ofBool (decide ((0 : ℤ) ≤ ((n.val * 128 + j.val : ℕ) : ℤ) - ((128 : ℕ) : ℤ))) := by
    rw [val_main_v49_apply, place_apply, val_main_v48_apply, val_main_c_8_apply]
    exact cmpi_sge (toInt_sub (by omega) (by omega)) e1
  have b : val_main_v55_1 (F := Ideal) (ix4 n h i j)
      = IntOp.andi (IntOp.andi (val_main_v43 (F := Ideal) (ix2 i j)) (val_main_v45 (F := Ideal) (ix2 i j))) (val_main_v49 (F := Ideal) (ix2 n j)) := by
    rw [val_main_v55_1_apply, val_main_v54_apply, val_main_v53_apply, val_main_v51_apply, val_main_v52_apply, val_main_v47_apply,
      val_main_v46_apply, val_main_v50_apply]
    refine congrArg₂ IntOp.andi (congrArg₂ IntOp.andi (congrArg _ (eq_ix2 _)) (congrArg _ (eq_ix2 _))) (congrArg _ (eq_ix2 _))
  rw [b, a1, a2, a3]
  have c : ∀ p q r : Bool, IntOp.andi (IntOp.andi (BitVec.ofBool p) (BitVec.ofBool q)) (BitVec.ofBool r) = BitVec.ofBool (p && q && r) := by decide
  rw [c]
  refine congrArg _ ?_
  unfold meets
  rw [← Bool.decide_and, ← Bool.decide_and]
  refine decide_eq_decide.mpr ?_
  omega

/-! ## The forward lines -/

/-- A product of two extended reals, for rewriting both factors. -/
theorem mul_both {a b c d : EReal} (h : a = c) (h' : b = d) : a * b = c * d := congrArg₂ (fun u v : EReal => u * v) h h'

/-- The masked scores. -/
theorem score_apply (n : Fin 32) (h : Fin 8) (i : Fin 128) (j : Fin 256) :
    val_main_v55_0 (F := Ideal) x0 (ix4 n h i j) = (head x0 x1 x2 n h).score i j := by
  rw [val_main_v55_0_apply, mask_apply, select_ofBool, val_main_v23_apply, val_main_v21_apply, val_main_v22_apply, val_main_cst_3_apply,
    val_main_call0_v2_apply, val_main_call0_v0_apply, val_main_cst_9_apply]
  unfold Head.score
  refine if_congr Iff.rfl (congrArg (fun z : EReal => z * eighth) (Finset.sum_congr rfl fun e _ => mul_both ?_ ?_)) bot_bits
  · exact (congrArg _ (eq_ix4 _)).trans (q_apply x0 n i h e)
  · exact (congrArg _ (eq_ix4 _)).trans (k_window x0 n j h e)

/-- The largest scores. -/
theorem top_apply (n : Fin 32) (h : Fin 8) (i : Fin 128) :
    val_main_v56 (F := Ideal) x0 (ix3 n h i) = (head x0 x1 x2 n h).top i := by
  unfold val_main_v56
  refine (Host.reduce_eq_fold_single _ _ _ reducesTo_S32x8x128x256_S32x8x128_d3 (by decide) h_S_ _).trans ?_
  rw [val_main_cst_10_apply]
  show (Finset.univ : Finset (Fin 256)).fold max (Ideal.ofBits .f32 0xFF800000#32) _ = (Finset.univ : Finset (Fin 256)).fold max ⊥ _
  rw [bot_bits]
  refine congrArg (fun f => (Finset.univ : Finset (Fin 256)).fold max ⊥ f) (funext fun j => ?_)
  refine (congrArg (val_main_v55_0 (F := Ideal) x0) ?_).trans (score_apply x0 x1 x2 n h i j)
  refine funext fun a => Fin.ext ?_
  fin_cases a <;> rfl

/-- The weights. -/
theorem ex_apply (n : Fin 32) (h : Fin 8) (i : Fin 128) (j : Fin 256) :
    val_main_v65 (F := Ideal) x0 (ix4 n h i j) = (head x0 x1 x2 n h).ex i j := by
  rw [val_main_v65_apply, val_main_v64_apply, val_main_v63_apply, val_main_v62_apply, score_apply x0 x1 x2]
  refine congrArg (fun z : EReal => Ideal.exp ((head x0 x1 x2 n h).score i j - z)) ?_
  exact (congrArg _ (eq_ix3 _)).trans (top_apply x0 x1 x2 n h i)

/-- The sums of the weights. -/
theorem den_apply (n : Fin 32) (h : Fin 8) (i : Fin 128) :
    val_main_v66 (F := Ideal) x0 (ix3 n h i) = (head x0 x1 x2 n h).den i := by
  rw [val_main_v66_apply, val_main_cst_12_apply]
  refine (congrArg₂ (fun u v : EReal => u + v) zb (Finset.sum_congr rfl fun j _ => ?_)).trans (zero_add _)
  exact (congrArg _ (eq_ix4 _)).trans (ex_apply x0 x1 x2 n h i j)

/-- The sums of the weights, rows first. -/
theorem den_rows (n : Fin 32) (i : Fin 128) (h : Fin 8) :
    val_main_v69 (F := Ideal) x0 (ix3 n i h) = (head x0 x1 x2 n h).den i :=
  (val_main_v69_apply _ _).trans ((congrArg _ (eq_ix3 _)).trans (den_apply x0 x1 x2 n h i))

/-- The sums of the weights, in a column of their own. -/
theorem den_col (n : Fin 32) (i : Fin 128) (h : Fin 8) (z : Fin 1) :
    val_main_v70 (F := Ideal) x0 (ix4 n i h z) = (head x0 x1 x2 n h).den i :=
  (val_main_v70_apply _ _).trans ((congrArg _ (eq_ix3 _)).trans (den_rows x0 x1 x2 n i h))

/-- The weighted sums of the values. -/
theorem num_apply (n : Fin 32) (i : Fin 128) (h : Fin 8) (e : Fin 64) :
    val_main_v68 (F := Ideal) x0 (ix4 n i h e) = (head x0 x1 x2 n h).num i e := by
  rw [val_main_v68_apply, val_main_v67_apply]
  refine Finset.sum_congr rfl fun j _ => (mul_both ?_ ?_).trans (mul_comm _ _)
  · exact (congrArg _ (eq_ix4 _)).trans (v_window x0 n j h e)
  · exact (congrArg _ (eq_ix4 _)).trans (ex_apply x0 x1 x2 n h i j)

/-! ## The gradient of the sum of the weights -/

/-- Heads and lanes together. -/
theorem rows_lanes (n : Fin 32) (i : Fin 128) (h : Fin 8) (e : Fin 64) : idx_main_v90 (ix4 n i h e) = ix2 (row n i) (lane h e) := by
  have := n.isLt; have := i.isLt; have := h.isLt; have := e.isLt
  refine funext fun a => Fin.ext ?_
  match a with
  | ⟨0, _⟩ => show (((n.val * 128 + i.val) * 8 + h.val) * 64 + e.val) / 512 = n.val * 128 + i.val; omega
  | ⟨1, _⟩ => show (((n.val * 128 + i.val) * 8 + h.val) * 64 + e.val) % 512 = h.val * 64 + e.val; omega

/-- The gradient of the output. -/
theorem d_apply (n : Fin 32) (i : Fin 128) (h : Fin 8) (e : Fin 64) :
    val_main_v90 (F := Ideal) x1 (ix4 n i h e) = narrow x1 n i h e := by
  rw [val_main_v90_apply, rows_lanes]; rfl

/-- The parts of the gradient of the sum of the weights. -/
theorem part_apply (n : Fin 32) (i : Fin 128) (h : Fin 8) (e : Fin 64) :
    val_main_v93 (F := Ideal) x0 x1 (ix4 n i h e) = (head x0 x1 x2 n h).part i e := by
  rw [val_main_v93_apply, val_main_v92_apply, d_apply, num_apply x0 x1 x2, val_main_v91_apply, val_main_v75_apply, val_main_v73_apply,
    val_main_v74_apply, val_main_cst_13_apply]
  refine mul_both (mul_both rfl ?_) rfl
  have c : val_main_v70 (F := Ideal) x0 (idx_main_v91 (ix4 n i h e)) = (head x0 x1 x2 n h).den i :=
    (congrArg _ (eq_ix4 _)).trans (den_col x0 x1 x2 n i h _)
  rw [c]
  exact congrArg (fun z : EReal => Ideal.div z _) ob

/-- Their sum, negated. -/
theorem parts_apply (n : Fin 32) (i : Fin 128) (h : Fin 8) :
    val_main_v99 (F := Ideal) x0 x1 (ix3 n i h) = -(∑ e, (head x0 x1 x2 n h).part i e) := by
  rw [val_main_v99_apply, val_main_cst_16_apply]
  refine (congrArg₂ (fun u v : EReal => u + v) zb (Fin.sum_univ_one _)).trans ((zero_add _).trans ?_)
  rw [val_main_v96_apply, val_main_v95_apply]
  refine congrArg (fun z : EReal => -z) ?_
  have e : idx_main_v95 (idx_main_v99 (ix3 n i h) 0) = ix3 n i h := by
    have := n.isLt; have := i.isLt; have := h.isLt
    refine funext fun a => Fin.ext ?_
    match a with
    | ⟨0, _⟩ => show (((n.val * 128 + i.val) * 8 + h.val) * 1 + 0) / 1024 = n.val; omega
    | ⟨1, _⟩ => show (((n.val * 128 + i.val) * 8 + h.val) * 1 + 0) / 8 % 128 = i.val; omega
    | ⟨2, _⟩ => show (((n.val * 128 + i.val) * 8 + h.val) * 1 + 0) % 8 = h.val; omega
  rw [e, val_main_v94_apply, val_main_cst_15_apply]
  refine (congrArg₂ (fun u v : EReal => u + v) zb (Finset.sum_congr rfl fun e _ => ?_)).trans (zero_add _)
  exact (congrArg _ (eq_ix4 _)).trans (part_apply x0 x1 x2 n i h e)

/-- The gradient of the logarithm, its 64 parts added. -/
theorem l_apply (n : Fin 32) (i : Fin 128) (h : Fin 8) :
    val_main_v86 (F := Ideal) x2 (ix3 n i h) = ∑ e, narrow x2 n i h e := by
  have e1 : idx_main_v86 (ix3 n i h) = ix2 (row n i) h := by
    have := n.isLt; have := i.isLt; have := h.isLt
    refine funext fun a => Fin.ext ?_
    match a with
    | ⟨0, _⟩ => show ((n.val * 128 + i.val) * 8 + h.val) / 8 = n.val * 128 + i.val; omega
    | ⟨1, _⟩ => show ((n.val * 128 + i.val) * 8 + h.val) % 8 = h.val; omega
  rw [val_main_v86_apply, e1, val_main_v85_apply, val_main_cst_14_apply]
  refine (congrArg₂ (fun u v : EReal => u + v) zb (Finset.sum_congr rfl fun e _ => ?_)).trans (zero_add _)
  rw [val_main_v84_apply]
  exact congrArg x2 ((congrArg _ (eq_ix3 _)).trans (lanes3 (row n i) h e))

/-- The gradient of the sum of the weights. -/
theorem dden_apply (n : Fin 32) (i : Fin 128) (h : Fin 8) (hr : (head x0 x1 x2 n h).Real) :
    val_main_v100 (F := Ideal) x0 x1 x2 (ix3 n i h) = (head x0 x1 x2 n h).dden i := by
  rw [val_main_v100_apply, parts_apply x0 x1 x2, hr.neg_parts i, val_main_v87_apply, l_apply, den_rows x0 x1 x2]
  rfl

/-! ## The gradient of the weights -/

/-- The gradient of the weighted sum. -/
theorem g_apply (n : Fin 32) (h : Fin 8) (e : Fin 64) (i : Fin 128) :
    val_main_v102 (F := Ideal) x0 x1 (ix4 n h e i) = (head x0 x1 x2 n h).g i e := by
  refine (val_main_v102_apply _ _ _).trans ((congrArg _ (eq_ix4 _)).trans ?_)
  refine (val_main_v98_apply _ _ _).trans ?_
  refine congrArg₂ (fun u v : EReal => Ideal.div u v) (d_apply x1 n i h e) ?_
  refine (val_main_v97_apply _ _).trans ?_
  exact (congrArg _ (eq_ix4 _)).trans (den_col x0 x1 x2 n i h _)

/-- The gradient of a weight, times the weight. -/
theorem dw_apply (n : Fin 32) (h : Fin 8) (i : Fin 128) (j : Fin 256) (hr : (head x0 x1 x2 n h).Real) :
    val_main_v108 (F := Ideal) x0 x1 x2 (ix4 n h i j) = (head x0 x1 x2 n h).dw i j := by
  rw [val_main_v108_apply, ex_apply x0 x1 x2, val_main_v107_apply, val_main_v103_apply, val_main_v106_apply, val_main_v101_apply]
  refine mul_both (congrArg₂ (fun u v : EReal => u + v) (Finset.sum_congr rfl fun e _ => mul_both ?_ ?_) ?_) rfl
  · exact (congrArg _ (eq_ix4 _)).trans (g_apply x0 x1 x2 n h e i)
  · exact (congrArg _ (eq_ix4 _)).trans (v_window x0 n j h e)
  · exact (congrArg _ (eq_ix3 _)).trans (dden_apply x0 x1 x2 n i h hr)

/-- What moving a query's largest score would change: nothing. -/
theorem balance_apply (n : Fin 32) (h : Fin 8) (i : Fin 128) (hr : (head x0 x1 x2 n h).Real) :
    val_main_v113 (F := Ideal) x0 x1 x2 (ix3 n h i) = (0 : EReal) := by
  rw [val_main_v113_apply, val_main_cst_18_apply]
  refine (congrArg₂ (fun u v : EReal => u + v) zb (Fin.sum_univ_one _)).trans ((zero_add _).trans ?_)
  rw [val_main_v112_apply, val_main_v89_apply, val_main_v88_apply, val_main_v111_apply]
  have e : idx_main_v111 (idx_main_v113 (ix3 n h i) 0) = ix3 n h i := by
    have := n.isLt; have := i.isLt; have := h.isLt
    refine funext fun a => Fin.ext ?_
    match a with
    | ⟨0, _⟩ => show (((n.val * 8 + h.val) * 128 + i.val) * 1 + 0) / 1024 = n.val; omega
    | ⟨1, _⟩ => show (((n.val * 8 + h.val) * 128 + i.val) * 1 + 0) / 128 % 8 = h.val; omega
    | ⟨2, _⟩ => show (((n.val * 8 + h.val) * 128 + i.val) * 1 + 0) % 128 = i.val; omega
  rw [e, val_main_v110_apply, val_main_cst_17_apply]
  refine Eq.trans ?_ (hr.balance i)
  refine congrArg₂ (fun u v : EReal => u + v) ((congrArg _ (eq_ix3 _)).trans (l_apply x2 n i h)) ?_
  refine (congrArg₂ (fun u v : EReal => u + v) zb (Finset.sum_congr rfl fun j _ => ?_)).trans (zero_add _)
  rw [val_main_v109_apply]
  exact congrArg (fun z : EReal => -z) ((congrArg _ (eq_ix4 _)).trans (dw_apply x0 x1 x2 n h i j hr))

/-- One where a score is its query's largest, zero elsewhere. -/
theorem peak_apply (n : Fin 32) (h : Fin 8) (i : Fin 128) (j : Fin 256) : val_main_v60 (F := Ideal) x0 (ix4 n h i j)
    = if (head x0 x1 x2 n h).score i j = (head x0 x1 x2 n h).top i then (1 : EReal) else 0 := by
  have e : idx_main_v57 (idx_main_v58 (ix4 n h i j)) = ix3 n h i := by
    have := n.isLt; have := i.isLt; have := h.isLt
    refine funext fun a => Fin.ext ?_
    match a with
    | ⟨0, _⟩ => show (((n.val * 8 + h.val) * 128 + i.val) * 1 + 0) / 1024 = n.val; omega
    | ⟨1, _⟩ => show (((n.val * 8 + h.val) * 128 + i.val) * 1 + 0) / 128 % 8 = h.val; omega
    | ⟨2, _⟩ => show (((n.val * 8 + h.val) * 128 + i.val) * 1 + 0) % 128 = i.val; omega
  rw [val_main_v60_apply, val_main_v59_apply, val_main_v58_apply, val_main_v57_apply, e, score_apply x0 x1 x2, top_apply x0 x1 x2]
  show (((BitVec.ofBool (decide (_ = _))).toNat : ℝ) : EReal) = _
  split
  · rename_i hs; rw [decide_eq_true hs]; simp
  · rename_i hs; rw [decide_eq_false hs]; simp

/-- Some score is its query's largest. -/
theorem count_ne (y1 y2 : Narrow) (n : Fin 32) (h : Fin 8) (i : Fin 128) : val_main_v61 (F := Ideal) x0 (ix3 n h i) ≠ (0 : EReal) := by
  rw [val_main_v61_apply, val_main_cst_11_apply]
  have e : ∀ j : Fin 256, val_main_v60 (F := Ideal) x0 (idx_main_v61 (ix3 n h i) j)
      = if (head x0 y1 y2 n h).score i j = (head x0 y1 y2 n h).top i then (1 : EReal) else 0 :=
    fun j => (congrArg _ (eq_ix4 _)).trans (peak_apply x0 y1 y2 n h i j)
  obtain ⟨j, _, hj⟩ := Finset.exists_mem_eq_sup (Finset.univ : Finset (Fin 256)) ⟨0, Finset.mem_univ _⟩ ((head x0 y1 y2 n h).score i)
  have pos : ∀ j ∈ (Finset.univ : Finset (Fin 256)), (0 : EReal) ≤ val_main_v60 (F := Ideal) x0 (idx_main_v61 (ix3 n h i) j) := by
    intro j _
    rw [e]
    split
    · exact zero_le_one
    · exact le_rfl
  have le := Finset.single_le_sum pos (Finset.mem_univ j)
  rw [e j, if_pos (show (head x0 y1 y2 n h).score i j = (head x0 y1 y2 n h).top i from hj.symm)] at le
  intro hz
  have z : (∑ j : Fin 256, val_main_v60 (F := Ideal) x0 (idx_main_v61 (ix3 n h i) j) : EReal) = 0 :=
    (zero_add _).symm.trans ((congrArg (fun u : EReal => u + _) zb.symm).trans hz)
  rw [z] at le
  exact absurd le (not_le.mpr zero_lt_one)

/-- The gradient of the product a score scales. -/
theorem ds_apply (n : Fin 32) (h : Fin 8) (i : Fin 128) (j : Fin 256) (hr : (head x0 x1 x2 n h).Real) :
    val_main_v120 (F := Ideal) x0 x1 x2 (ix4 n h i j) = (head x0 x1 x2 n h).ds i j := by
  rw [val_main_v120_apply, val_main_v118_apply, mask_apply, select_ofBool, val_main_v117_apply, dw_apply x0 x1 x2 n h i j hr,
    val_main_v116_apply, val_main_v115_apply, val_main_v114_apply, val_main_v119_apply, val_main_cst_19_apply, val_main_call1_v0_apply,
    val_main_call1_cst_apply]
  have b : val_main_v113 (F := Ideal) x0 x1 x2 (idx_main_v115 (ix4 n h i j)) = (0 : EReal) :=
    (congrArg _ (eq_ix3 _)).trans (balance_apply x0 x1 x2 n h i hr)
  have c : val_main_v61 (F := Ideal) x0 (idx_main_v115 (ix4 n h i j)) ≠ (0 : EReal) :=
    fun hc => count_ne x0 x1 x2 n h i ((congrArg _ (eq_ix3 _).symm).trans hc)
  rw [b]
  have t : ∀ u v : EReal, u ≠ 0 → (head x0 x1 x2 n h).dw i j + Ideal.div 0 u * v = (head x0 x1 x2 n h).dw i j := by
    intro u v hu
    unfold Ideal.div
    rw [if_neg hu, zero_mul, zero_mul, add_zero]
  refine mul_both (if_congr Iff.rfl (t _ _ c) zb) rfl

/-! ## The three gradients -/

/-- The gradient of the queries. -/
theorem dq_apply (n : Fin 32) (i : Fin 128) (h : Fin 8) (e : Fin 64) (hr : (head x0 x1 x2 n h).Real) :
    val_main_v124 (F := Ideal) x0 x1 x2 (ix4 n i h e) = (head x0 x1 x2 n h).dq i e := by
  rw [val_main_v124_apply, val_main_v123_apply]
  refine Finset.sum_congr rfl fun j _ => mul_both ?_ ?_
  · exact (congrArg _ (eq_ix4 _)).trans (ds_apply x0 x1 x2 n h i j hr)
  · exact (congrArg _ (eq_ix4 _)).trans (k_window x0 n j h e)

/-- The gradient of a window's keys. -/
theorem dk_apply (n : Fin 32) (j : Fin 256) (h : Fin 8) (e : Fin 64) (hr : (head x0 x1 x2 n h).Real) :
    val_main_v122 (F := Ideal) x0 x1 x2 (ix4 n j h e) = (head x0 x1 x2 n h).dk j e := by
  rw [val_main_v122_apply, val_main_v121_apply]
  refine Finset.sum_congr rfl fun i _ => mul_both ?_ ?_
  · exact (congrArg _ (eq_ix4 _)).trans (ds_apply x0 x1 x2 n h i j hr)
  · exact (congrArg _ (eq_ix4 _)).trans (q_apply x0 n i h e)

/-- The gradient of a window's values. -/
theorem dv_apply (n : Fin 32) (j : Fin 256) (h : Fin 8) (e : Fin 64) :
    val_main_v105 (F := Ideal) x0 x1 (ix4 n j h e) = (head x0 x1 x2 n h).dv j e := by
  rw [val_main_v105_apply, val_main_v104_apply]
  refine Finset.sum_congr rfl fun i _ => (mul_both ?_ ?_).trans (mul_comm _ _)
  · exact (congrArg _ (eq_ix4 _)).trans (g_apply x0 x1 x2 n h e i)
  · exact (congrArg _ (eq_ix4 _)).trans (ex_apply x0 x1 x2 n h i j)

/-- An array of blocks moved up by one, a zero block entering at the end. -/
theorem up_apply (x : (S31x128x8x64).Idx → EReal) (v : S_.Idx → EReal) (hv : ∀ i, v i = 0) (n : Fin 32) (i : Fin 128) (h : Fin 8) (e : Fin 64) :
    pad S32x128x8x64 ![0, 0, 0, 0] ![1, 0, 0, 0] ![0, 0, 0, 0] x v pads_S31x128x8x64_S32x128x8x64_010_000_000_000 h_S_ (ix4 n i h e)
      = if hn : n.val < 31 then x (ix4 ⟨n.val, hn⟩ i h e) else 0 := by
  split
  · refine pad_apply_of_inside _ _ _ x v _ _ _ _ ?_
    intro a
    match a with
    | ⟨0, _⟩ => show n.val = 0 + n.val * (0 + 1); omega
    | ⟨1, _⟩ => show i.val = 0 + i.val * (0 + 1); omega
    | ⟨2, _⟩ => show h.val = 0 + h.val * (0 + 1); omega
    | ⟨3, _⟩ => show e.val = 0 + e.val * (0 + 1); omega
  · rename_i hn
    refine (pad_apply_of_not_inside _ _ _ x v _ _ _ (0 : Fin 4) ?_).trans (hv _)
    rintro ⟨_, _, hlt⟩
    have : (n.val - 0) / (0 + 1) < 31 := hlt
    omega

/-- The gradient of the keys: from their own block and from the next. -/
theorem keys_apply (n : Fin 32) (i : Fin 128) (h : Fin 8) (e : Fin 64) (hr : ∀ n, (head x0 x1 x2 n h).Real) :
    val_main_v137 (F := Ideal) x0 x1 x2 (ix4 n i h e) = both (fun n j => (head x0 x1 x2 n h).dk j e) n i := by
  rw [val_main_v137_apply, val_main_v133_apply]
  unfold val_main_v136
  rw [up_apply _ _ (fun i => (val_main_cst_21_apply i).trans zb)]
  refine congrArg₂ (fun u v : EReal => u + v) ((congrArg _ (eq_ix4 _)).trans (dk_apply x0 x1 x2 n (own i) h e (hr n))) ?_
  refine dite_congr rfl (fun hn => ?_) (fun _ => rfl)
  rw [val_main_v135_apply, val_main_v132_apply]
  refine (congrArg _ ?_).trans (dk_apply x0 x1 x2 ⟨n.val + 1, by omega⟩ (next i) h e (hr _))
  refine funext fun a => Fin.ext ?_
  match a with
  | ⟨0, _⟩ => show 1 + n.val = n.val + 1; omega
  | ⟨1, _⟩ => rfl
  | ⟨2, _⟩ => rfl
  | ⟨3, _⟩ => rfl

/-- The gradient of the values: from their own block and from the next. -/
theorem values_apply (n : Fin 32) (i : Fin 128) (h : Fin 8) (e : Fin 64) :
    val_main_v130 (F := Ideal) x0 x1 (ix4 n i h e) = both (fun n j => (head x0 x1 x2 n h).dv j e) n i := by
  rw [val_main_v130_apply, val_main_v126_apply]
  unfold val_main_v129
  rw [up_apply _ _ (fun i => (val_main_cst_20_apply i).trans zb)]
  refine congrArg₂ (fun u v : EReal => u + v) ((congrArg _ (eq_ix4 _)).trans (dv_apply x0 x1 x2 n (own i) h e)) ?_
  refine dite_congr rfl (fun hn => ?_) (fun _ => rfl)
  rw [val_main_v128_apply, val_main_v125_apply]
  refine (congrArg _ ?_).trans (dv_apply x0 x1 x2 ⟨n.val + 1, by omega⟩ (next i) h e)
  refine funext fun a => Fin.ext ?_
  match a with
  | ⟨0, _⟩ => show 1 + n.val = n.val + 1; omega
  | ⟨1, _⟩ => rfl
  | ⟨2, _⟩ => rfl
  | ⟨3, _⟩ => rfl

/-! ## The result -/

/-- Blocks from rows. -/
theorem back4 (n : Fin 32) (i : Fin 128) (h : Fin 8) (e : Fin 64) : idx_main_v139 (ix3 (row n i) h e) = ix4 n i h e := by
  have := n.isLt; have := i.isLt; have := h.isLt; have := e.isLt
  refine funext fun a => Fin.ext ?_
  match a with
  | ⟨0, _⟩ => show (((n.val * 128 + i.val) * 8 + h.val) * 64 + e.val) / 65536 = n.val; omega
  | ⟨1, _⟩ => show (((n.val * 128 + i.val) * 8 + h.val) * 64 + e.val) / 512 % 128 = i.val; omega
  | ⟨2, _⟩ => show (((n.val * 128 + i.val) * 8 + h.val) * 64 + e.val) / 64 % 8 = h.val; omega
  | ⟨3, _⟩ => show (((n.val * 128 + i.val) * 8 + h.val) * 64 + e.val) % 64 = e.val; omega

/-- Heads from lanes. -/
theorem back3 (r : Fin 4096) (h : Fin 8) (e : Fin 64) : idx_main_v142 (ix2 r (lane h e)) = ix3 r h e := by
  have := r.isLt; have := h.isLt; have := e.isLt
  refine funext fun a => Fin.ext ?_
  match a with
  | ⟨0, _⟩ => show (r.val * 512 + (h.val * 64 + e.val)) / 512 = r.val; omega
  | ⟨1, _⟩ => show (r.val * 512 + (h.val * 64 + e.val)) / 64 % 8 = h.val; omega
  | ⟨2, _⟩ => show (r.val * 512 + (h.val * 64 + e.val)) % 64 = e.val; omega

/-- Which of the joined arrays a column lies in. -/
theorem joined (a b c : S4096x512.Idx → EReal) (z : S4096x3072.Idx → EReal)
    (s : Fin 3) (r : Fin 4096) (l : Fin 512) :
    concatenate S4096x4608 1 [⟨S4096x512, a⟩, ⟨S4096x512, b⟩, ⟨S4096x512, c⟩, ⟨S4096x3072, z⟩]
        concatenates_S4096x512_S4096x512_S4096x512_S4096x3072_S4096x4608_d1 (ix2 r (third s l))
      = (match s with | 0 => a | 1 => b | 2 => c) (ix2 r l) := by
  have off : ∀ b : Fin S4096x512.rank, b.cast (rfl : S4096x512.rank = S4096x4608.rank) ≠ 1 →
      ((ix2 r l : S4096x512.Idx) b).val = ((ix2 r (third s l) : S4096x4608.Idx) (b.cast rfl)).val := by
    intro b hb
    match b with
    | ⟨0, _⟩ => rfl
    | ⟨1, _⟩ => exact absurd rfl hb
  match s with
  | 0 =>
    exact concatenate_apply_piece (t := S4096x4608) 1 [⟨S4096x512, a⟩, ⟨S4096x512, b⟩, ⟨S4096x512, c⟩, ⟨S4096x3072, z⟩]
      concatenates_S4096x512_S4096x512_S4096x512_S4096x3072_S4096x4608_d1 _ 0 (by show 0 < 4; omega) S4096x512 a rfl rfl 0 rfl (ix2 r l) off
      (by show 0 + l.val = 0 * 512 + l.val; omega)
  | 1 =>
    exact concatenate_apply_piece (t := S4096x4608) 1 [⟨S4096x512, a⟩, ⟨S4096x512, b⟩, ⟨S4096x512, c⟩, ⟨S4096x3072, z⟩]
      concatenates_S4096x512_S4096x512_S4096x512_S4096x3072_S4096x4608_d1 _ 1 (by show 1 < 4; omega) S4096x512 b rfl rfl 512 rfl (ix2 r l) off
      (by show 512 + l.val = 1 * 512 + l.val; omega)
  | 2 =>
    exact concatenate_apply_piece (t := S4096x4608) 1 [⟨S4096x512, a⟩, ⟨S4096x512, b⟩, ⟨S4096x512, c⟩, ⟨S4096x3072, z⟩]
      concatenates_S4096x512_S4096x512_S4096x512_S4096x3072_S4096x4608_d1 _ 2 (by show 2 < 4; omega) S4096x512 c rfl rfl 1024 rfl (ix2 r l) off
      (by show 1024 + l.val = 2 * 512 + l.val; omega)

/-- The reference's result in the group's columns. -/
theorem result (hr : ∀ n h, (head x0 x1 x2 n h).Real) (s : Fin 3) (n : Fin 32) (i : Fin 128) (h : Fin 8) (e : Fin 64) :
    val_main_v145 (F := Ideal) x0 x1 x2 (ix2 (row n i) (third s (lane h e))) = grad x0 x1 x2 s n i h e := by
  refine (val_main_v145_apply _ _ _ _).trans ?_
  show val_main_v144 (F := Ideal) x0 x1 x2 _ = _
  unfold val_main_v144
  refine (joined _ _ _ _ s (row n i) (lane h e)).trans ?_
  match s with
  | 0 =>
    refine (val_main_v142_apply _ _ _ _).trans ((congrArg _ (back3 _ h e)).trans ?_)
    refine (val_main_v139_apply _ _ _ _).trans ((congrArg _ (back4 n i h e)).trans ?_)
    exact dq_apply x0 x1 x2 n i h e (hr n h)
  | 1 =>
    refine (val_main_v141_apply _ _ _ _).trans ((congrArg _ (back3 _ h e)).trans ?_)
    refine (val_main_v138_apply _ _ _ _).trans ((congrArg _ (back4 n i h e)).trans ?_)
    exact keys_apply x0 x1 x2 n i h e (fun n => hr n h)
  | 2 =>
    refine (val_main_v140_apply _ _ _).trans ((congrArg _ (back3 _ h e)).trans ?_)
    refine (val_main_v131_apply _ _ _).trans ((congrArg _ (back4 n i h e)).trans ?_)
    exact values_apply x0 x1 x2 n i h e

end Ref
end Cert.Proof.Att

end
-- ==== Proof.AttClaim.lean ====
/- The gradient of the first group's attention: what its program is claimed to do. -/
module

public import proofs.«01_k».proof.Defs
public import proofs.«01_k».proof.Proof.Gen.Kernel2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.On_group_columns
public import proofs.«01_k».proof.Proof.AttKernel
public import proofs.«01_k».proof.Proof.AttRef
public import proofs.«01_k».proof.Proof.ConvClaim
public import Idealize.ShloMosaic.Adequacy

@[expose] public section

noncomputable section

namespace Cert.Proof.Att

open Idealize.ShloMosaic Idealize.ShloMosaic.TcCoe Idealize.SL.Sem Idealize.ShloMosaic.ValueIdx
open Cert.Proof.Conv (real_of_lt Fin')

/-- The literal the kernel masks its scores with is read as the bottom of the extended reals. -/
theorem kept : Cert.preserves_Kernel2_Kernel2Ideal :=
  IdealRules.named_const.statement Cert.Kernel2Ideal.κ "mask" .f32 0xF149F2CA#32 ⊥ rfl

/-- The reference runs, keeps its arguments, and leaves every counter at zero. -/
theorem frame_reference : Cert.quiescent_Reference2Ideal (hReference2Ideal := Cert.Reference2Ideal.Gen.facts) := by
  intro m g _
  exact (θ_run Cert.Reference2Ideal.defs _ _).mono
    (fun r h => ⟨fun c => (h c).2, Idealize.ShloMosaic.sem_eq_zero_of_no_sems (by decide) r.2⟩)
    (Cert.Reference2Ideal.Value.run m g)

/-- The mask selects the first 1536 columns. -/
theorem column_lt (x0 : Wide) (x1 x2 : Narrow) (i : (⟨2, ![4096, 4608]⟩ : Shape).Idx)
    (h : (Cert.On_group_columns.fn (F := Ideal) x0 x1 x2) i = 1#1) : (i 1).val < 1536 := by
  have hi : (i 1).val < 4608 := (i 1).isLt
  have e : (Cert.On_group_columns.fn (F := Ideal) x0 x1 x2) i = BitVec.ofBool (decide ((((i 1).val : ℕ) : ℤ) < 1536)) :=
    cmpi_slt (x := BitVec.ofNat 32 (i 1).val) (y := 1536#32) (toInt_small (by omega)) (toInt_small (a := 1536) (by decide))
  rw [e] at h
  by_contra hn
  rw [decide_eq_false (by omega)] at h
  exact absurd h (by decide)

/-- An index of the first 1536 columns is a lane of a head of a third, in a row of a block. -/
theorem exists_entry (i : (⟨2, ![4096, 4608]⟩ : Shape).Idx) (h : (i 1).val < 1536) :
    ∃ s n r k e, i = ix2 (row n r) (third s (lane k e)) := by
  have h0 : (i 0).val < 4096 := (i 0).isLt
  refine ⟨⟨(i 1).val / 512, by omega⟩, ⟨(i 0).val / 128, by omega⟩, ⟨(i 0).val % 128, Nat.mod_lt _ (by decide)⟩,
    ⟨(i 1).val % 512 / 64, by omega⟩, ⟨(i 1).val % 64, Nat.mod_lt _ (by decide)⟩, funext fun a => Fin.ext ?_⟩
  match a with
  | ⟨0, _⟩ => show (i 0).val = (i 0).val / 128 * 128 + (i 0).val % 128; omega
  | ⟨1, _⟩ => show (i 1).val = (i 1).val / 512 * 512 + ((i 1).val % 512 / 64 * 64 + (i 1).val % 64); omega

/-- The reference's first 1536 columns are the gradient. -/
theorem ref_whole {x0 : Wide} {x1 x2 : Narrow} (h0 : ∀ i, Fin' (x0 i)) (h1 : ∀ i, Fin' (x1 i)) (h2 : ∀ i, Fin' (x2 i))
    (i : (⟨2, ![4096, 4608]⟩ : Shape).Idx) (hi : (i 1).val < 1536) :
    Cert.Reference2Ideal.Read.val_main_v145 (F := Ideal) x0 x1 x2 i = whole x0 x1 x2 i := by
  obtain ⟨s, n, r, k, e, rfl⟩ := exists_entry i hi
  rw [Ref.result x0 x1 x2 (real_head h0 h1 h2), whole_apply]

/-- On finite arguments the kernel's first 1536 columns are the reference's. -/
theorem value : Cert.algebraic_Kernel2Ideal_Reference2Ideal_on_group_columns_pre_finite2 (hKernel2Ideal := Cert.Kernel2Ideal.Gen.facts)
    (hReference2Ideal := Cert.Reference2Ideal.Gen.facts) (hPre_finite2 := Cert.Pre_finite2.Gen.facts)
    (hOn_group_columns := Cert.On_group_columns.Gen.facts) := by
  intro m g m' g' hp hm
  refine ⟨fun c => whole (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)), ?_, ?_⟩
  · exact (θ_run Cert.Kernel2Ideal.defs _ _).mono (fun r h c => ⟨fun i hi => (h c).1 i (column_lt _ _ _ i hi), (h c).2⟩) (run_kernel m g)
  · refine (θ_run Cert.Reference2Ideal.defs _ _).mono (fun r h c => ?_) (Cert.Reference2Ideal.Value.run m' g')
    obtain ⟨h0, hk⟩ := h c
    obtain ⟨a0, a1, a2⟩ := hm c
    obtain ⟨p0, p1, p2⟩ := hp c
    refine ⟨fun i hi => ?_, hk⟩
    refine (congrFun (h0.trans (Cert.Reference2Ideal.Read.val_main_v145_eq (F := Ideal) _)) i).trans ?_
    refine Eq.trans ?_ (ref_whole (fun i => real_of_lt (congrFun p0 i)) (fun i => real_of_lt (congrFun p1 i)) (fun i => real_of_lt (congrFun p2 i))
      i (column_lt _ _ _ i hi))
    rw [← a0, ← a1, ← a2]

end Cert.Proof.Att

end
-- ==== Proof.FwdPoint.lean ====
/- One point of the forward call: its arrays are the ones the backward call builds again, so what a head's definition says of
   those it says of these; the two blocks it leaves are the head's outputs and the logarithms of its sums of weights. -/
module

public import proofs.«01_k».proof.Proof.AttStage
public import proofs.«01_k».proof.Proof.Gen.Kernel21Ideal.Frame

@[expose] public section

set_option maxRecDepth 20000

noncomputable section

namespace Cert.Proof.Fwd

open Cert.Kernel2Ideal Cert.Kernel2Ideal.Gen Cert.Proof.MatMul Cert.Proof.Att
open Idealize.ShloMosaic Idealize.ShloMosaic.ValueIdx

/-! ## The same arrays -/

section Same

variable (q kc vp vc : FVec Ideal S4x128x128 .f32) (kp : FVec Ideal S4x128x128 .f32) (ln : IVec S1x128x128 1) (m o : IVec S1x128x256 1)

theorem lanes_eq : Cert.Kernel21Ideal.Gen.k0_pay6 = k0_pay17 := rfl

theorem before_eq (b : BitVec 1) : Cert.Kernel21Ideal.Gen.k0_pay8 b = k0_pay19 b := rfl

theorem own_eq : Cert.Kernel21Ideal.Gen.k0_pay9 = k0_pay20 := rfl

theorem scores_before_eq : Cert.Kernel21Ideal.Gen.k0_pay12 (F := Ideal) m (Cert.Kernel21Ideal.Gen.k0_pay10 q) (Cert.Kernel21Ideal.Gen.k0_pay11 kp)
    (constant S4x128x256 .f32 0x00000000#32) = k0_pay26 m (k0_pay24 q kp) := rfl

theorem scores_own_eq : Cert.Kernel21Ideal.Gen.k0_pay13 (F := Ideal) q kc ln o = k0_pay31 q kc ln o := rfl

theorem top_left_eq : Cert.Kernel21Ideal.Gen.k0_pay14 (F := Ideal) q kc ln m o (Cert.Kernel21Ideal.Gen.k0_pay10 q) (Cert.Kernel21Ideal.Gen.k0_pay11 kp)
    (constant S4x128x256 .f32 0x00000000#32) = k0_pay32 q kc ln m o (k0_pay24 q kp) := rfl

theorem top_right_eq : Cert.Kernel21Ideal.Gen.k0_pay15 (F := Ideal) q kc ln m o (Cert.Kernel21Ideal.Gen.k0_pay10 q) (Cert.Kernel21Ideal.Gen.k0_pay11 kp)
    (constant S4x128x256 .f32 0x00000000#32) = k0_pay33 q kc ln m o (k0_pay24 q kp) := rfl

theorem weights_before_eq : Cert.Kernel21Ideal.Gen.k0_pay16 (F := Ideal) q kc ln m o (Cert.Kernel21Ideal.Gen.k0_pay10 q) (Cert.Kernel21Ideal.Gen.k0_pay11 kp)
    (constant S4x128x256 .f32 0x00000000#32) = k0_pay34 q kc ln m o (k0_pay24 q kp) := rfl

theorem weights_own_eq : Cert.Kernel21Ideal.Gen.k0_pay19 (F := Ideal) (Cert.Kernel21Ideal.Gen.k0_pay13 q kc ln o)
    (Cert.Kernel21Ideal.Gen.k0_pay17 q kc ln m o (Cert.Kernel21Ideal.Gen.k0_pay10 q) (Cert.Kernel21Ideal.Gen.k0_pay11 kp) (constant S4x128x256 .f32 0x00000000#32))
    (Cert.Kernel21Ideal.Gen.k0_pay18 q kc ln m o (Cert.Kernel21Ideal.Gen.k0_pay10 q) (Cert.Kernel21Ideal.Gen.k0_pay11 kp) (constant S4x128x256 .f32 0x00000000#32))
    = k0_pay35 q kc ln m o (k0_pay24 q kp) := rfl

variable (s e : FVec Ideal S4x128x256 .f32) (a : FVec Ideal S4x128x128 .f32) (b : FVec Ideal S4x128x1 .f32)

theorem sums_left_eq : Cert.Kernel21Ideal.Gen.k0_pay20 (F := Ideal) s e a b = k0_pay36 e (Cert.Kernel21Ideal.Gen.k0_pay19 s a b) := rfl

theorem sums_right_eq : Cert.Kernel21Ideal.Gen.k0_pay21 (F := Ideal) s e a b = k0_pay37 e (Cert.Kernel21Ideal.Gen.k0_pay19 s a b) := rfl

theorem weighted_eq : Cert.Kernel21Ideal.Gen.k0_pay22 (F := Ideal) vp vc ln s e a b = k0_pay44 vp vc ln e (Cert.Kernel21Ideal.Gen.k0_pay19 s a b) := rfl

theorem sums_lanes_eq : Cert.Kernel21Ideal.Gen.k0_pay23 (F := Ideal) ln s e a b = k0_pay46 ln e (Cert.Kernel21Ideal.Gen.k0_pay19 s a b) := rfl

end Same

/-! ## At one point -/

/-- The blocks a forward point works on; it has no gradients, and none are read. -/
def fwd (x0 x1 x2 x3 x4 : Vec Ideal S128x512 .f32) (n : Fin 32) : Blk := blk x0 x1 x2 x3 x4 x4 x4 n

section Point

variable (i : Cert.Kernel21Ideal.grid0.Coords) (x0 x1 x2 x3 x4 : Vec Ideal S128x512 .f32) (n : Fin 32) (hn : n.val = (i 0).val)

include hn in
/-- The weights of the block before. -/
theorem e0_eq : Cert.Kernel21Ideal.Gen.k0_pay45 (F := Ideal) i x0 x1 x2 x3 x4 = (fwd x0 x1 x2 x3 x4 n).e0 := by
  unfold Cert.Kernel21Ideal.Gen.k0_pay45 Cert.Kernel21Ideal.Gen.k0_pay38
  rw [first_eq _ n hn]
  exact weights_before_eq _ _ _ _ _ _

include hn in
/-- The weights of the block itself. -/
theorem e1_eq : Cert.Kernel21Ideal.Gen.k0_pay19 (F := Ideal) (Cert.Kernel21Ideal.Gen.k0_pay42 i x0 x1 x2 x3 x4) (Cert.Kernel21Ideal.Gen.k0_pay46 i x0 x1 x2 x3 x4)
    (Cert.Kernel21Ideal.Gen.k0_pay47 i x0 x1 x2 x3 x4) = (fwd x0 x1 x2 x3 x4 n).e1 := by
  unfold Cert.Kernel21Ideal.Gen.k0_pay46 Cert.Kernel21Ideal.Gen.k0_pay47 Cert.Kernel21Ideal.Gen.k0_pay38
  rw [first_eq _ n hn]
  exact weights_own_eq _ _ _ _ _ _

include hn in
/-- The largest scores of the first heads. -/
theorem t0_apply (p : Fin 4) (r : Fin 128) (z : Fin 1) : Cert.Kernel21Ideal.Gen.k0_pay43 (F := Ideal) i x0 x1 x2 x3 x4 (ix3 p r z) = ((fwd x0 x1 x2 x3 x4 n).hd p 0).top r := by
  unfold Cert.Kernel21Ideal.Gen.k0_pay43 Cert.Kernel21Ideal.Gen.k0_pay38
  rw [first_eq _ n hn]
  exact (congrFun (top_left_eq _ _ _ _ _ _) (ix3 p r z)).trans (top_left (fwd x0 x1 x2 x3 x4 n) p r z)

include hn in
/-- The largest scores of the second heads. -/
theorem t1_apply (p : Fin 4) (r : Fin 128) (z : Fin 1) : Cert.Kernel21Ideal.Gen.k0_pay44 (F := Ideal) i x0 x1 x2 x3 x4 (ix3 p r z) = ((fwd x0 x1 x2 x3 x4 n).hd p 1).top r := by
  unfold Cert.Kernel21Ideal.Gen.k0_pay44 Cert.Kernel21Ideal.Gen.k0_pay38
  rw [first_eq _ n hn]
  exact (congrFun (top_right_eq _ _ _ _ _ _) (ix3 p r z)).trans (top_right (fwd x0 x1 x2 x3 x4 n) p r z)

include hn in
/-- The sums of the weights of the first heads. -/
theorem d0_eq : Cert.Kernel21Ideal.Gen.k0_pay48 (F := Ideal) i x0 x1 x2 x3 x4 = (fwd x0 x1 x2 x3 x4 n).n0 :=
  (sums_left_eq _ _ _ _).trans (congr (congrArg k0_pay36 (e0_eq i x0 x1 x2 x3 x4 n hn)) (e1_eq i x0 x1 x2 x3 x4 n hn))

include hn in
/-- The sums of the weights of the second heads. -/
theorem d1_eq : Cert.Kernel21Ideal.Gen.k0_pay49 (F := Ideal) i x0 x1 x2 x3 x4 = (fwd x0 x1 x2 x3 x4 n).n1 :=
  (sums_right_eq _ _ _ _).trans (congr (congrArg k0_pay37 (e0_eq i x0 x1 x2 x3 x4 n hn)) (e1_eq i x0 x1 x2 x3 x4 n hn))

include hn in
/-- The weighted sums of the values. -/
theorem w_eq : Cert.Kernel21Ideal.Gen.k0_pay50 (F := Ideal) i x0 x1 x2 x3 x4 = (fwd x0 x1 x2 x3 x4 n).w := by
  unfold Cert.Kernel21Ideal.Gen.k0_pay50
  rw [weighted_eq, e0_eq i x0 x1 x2 x3 x4 n hn, e1_eq i x0 x1 x2 x3 x4 n hn]
  rfl

include hn in
/-- The sums of the weights on every lane. -/
theorem dn_eq : Cert.Kernel21Ideal.Gen.k0_pay51 (F := Ideal) i x0 x1 x2 x3 x4 = (fwd x0 x1 x2 x3 x4 n).dn :=
  (sums_lanes_eq _ _ _ _ _).trans (congr (congrArg (k0_pay46 k0_pay17) (e0_eq i x0 x1 x2 x3 x4 n hn)) (e1_eq i x0 x1 x2 x3 x4 n hn))

/-- One of four stacked arrays, taken out. -/
theorem plane_apply {α : Type} (x : S4x128x128.Idx → α) (p : Fin 4) (h : S4x128x128.Slices ![p.val, 0, 0] S1x128x128)
    (h' : S1x128x128.ShapeCasts S128x128) (r l : Fin 128) :
    shapeCast S128x128 (extractStridedSlice S1x128x128 ![p.val, 0, 0] x h) h' (ix2 r l) = x (ix3 p r l) := by
  have e := unstack_apply x p h h' shapeCasts_S128x128_S128x128 r l
  rwa [shapeCast_self] at e

include hn in
/-- The block of outputs a point leaves. -/
theorem out_apply (p : Fin 4) (r : Fin 128) (t : Fin 2) (e : Fin 64) :
    Cert.Kernel21Ideal.Gen.out0_5 (F := Ideal) i x0 x1 x2 x3 x4 (ix2 (n0 := 128) (n1 := 512) r (at4 p (half t e)))
      = Ideal.div (((fwd x0 x1 x2 x3 x4 n).hd p t).num r e) (((fwd x0 x1 x2 x3 x4 n).hd p t).den r) := by
  unfold Cert.Kernel21Ideal.Gen.out0_5
  rw [w_eq i x0 x1 x2 x3 x4 n hn, dn_eq i x0 x1 x2 x3 x4 n hn]
  refine (canon_read _ _ _ _ (Cert.Kernel21Ideal.Gen.k0_pay24 (fwd x0 x1 x2 x3 x4 n).w (fwd x0 x1 x2 x3 x4 n).dn)
    (fun r l => plane_apply _ 0 _ _ r l) (fun r l => plane_apply _ 1 _ _ r l) (fun r l => plane_apply _ 2 _ _ r l) (fun r l => plane_apply _ 3 _ _ r l) p r (half t e)).trans ?_
  exact congrArg₂ Ideal.div (num_lanes (fwd x0 x1 x2 x3 x4 n) p r t e) (den_lanes (fwd x0 x1 x2 x3 x4 n) p r t e)

include hn in
/-- The block of logarithms a point leaves. -/
theorem log_apply (p : Fin 4) (r : Fin 128) (t : Fin 2) (e : Fin 64) :
    Cert.Kernel21Ideal.Gen.out0_6 (F := Ideal) i x0 x1 x2 x3 x4 (ix2 (n0 := 128) (n1 := 512) r (at4 p (half t e)))
      = ((fwd x0 x1 x2 x3 x4 n).hd p t).top r + Ideal.log (((fwd x0 x1 x2 x3 x4 n).hd p t).den r) := by
  unfold Cert.Kernel21Ideal.Gen.out0_6
  rw [d0_eq i x0 x1 x2 x3 x4 n hn, d1_eq i x0 x1 x2 x3 x4 n hn]
  refine (canon_read _ _ _ _ (Cert.Kernel21Ideal.Gen.k0_pay25 k0_pay17 (Cert.Kernel21Ideal.Gen.k0_pay43 i x0 x1 x2 x3 x4) (Cert.Kernel21Ideal.Gen.k0_pay44 i x0 x1 x2 x3 x4)
      (fwd x0 x1 x2 x3 x4 n).n0 (fwd x0 x1 x2 x3 x4 n).n1)
    (fun r l => plane_apply _ 0 _ _ r l) (fun r l => plane_apply _ 1 _ _ r l) (fun r l => plane_apply _ 2 _ _ r l) (fun r l => plane_apply _ 3 _ _ r l) p r (half t e)).trans ?_
  refine (sel3 (lanes4_apply shapeCasts_S1x128x128_S1x128x128 broadcasts_S1x128x128_S4x128x128 p r t e) (spread_apply _ _ _ p r _) (spread_apply _ _ _ p r _)).trans ?_
  match t with
  | 0 => exact congrArg₂ (fun u v : EReal => u + Ideal.log v) (t0_apply i x0 x1 x2 x3 x4 n hn p r 0) (den_left (fwd x0 x1 x2 x3 x4 n) p r 0)
  | 1 => exact congrArg₂ (fun u v : EReal => u + Ideal.log v) (t1_apply i x0 x1 x2 x3 x4 n hn p r 0) (den_right (fwd x0 x1 x2 x3 x4 n) p r 0)

end Point

end Cert.Proof.Fwd
-- ==== Proof.FwdSpec.lean ====
/- What the forward leaves: each head's outputs, and the logarithms of its sums of weights. -/
module

public import proofs.«01_k».proof.Proof.AttSpec

@[expose] public section

noncomputable section

namespace Cert.Proof.Fwd

open Cert.Proof.Att Idealize.ShloMosaic Idealize.ShloMosaic.ValueIdx

/-! ## The two results -/

/-- The heads of an array of queries, keys and values; they have no gradients, and none are read. -/
def heads (x : Wide) (n : Fin 32) (h : Fin 8) : Head := head x (fun _ => 0) (fun _ => 0) n h

/-- A head's output. -/
def outp (x : Wide) (n : Fin 32) (i : Fin 128) (h : Fin 8) (e : Fin 64) : EReal := Ideal.div ((heads x n h).num i e) ((heads x n h).den i)

/-- The logarithm of a head's sum of weights, its largest score put back, on every lane. -/
def logs (x : Wide) (n : Fin 32) (i : Fin 128) (h : Fin 8) (_ : Fin 64) : EReal := (heads x n h).top i + Ideal.log ((heads x n h).den i)

/-- A value for each lane of each head of each row, laid out as an array. -/
def laid (f : Fin 32 → Fin 128 → Fin 8 → Fin 64 → EReal) : Narrow := fun y =>
  f ⟨(y 0).val / 128, by have := (y 0).isLt; change _ < 4096 at this; omega⟩ ⟨(y 0).val % 128, Nat.mod_lt _ (by decide)⟩
    ⟨(y 1).val / 64, by have := (y 1).isLt; change _ < 512 at this; omega⟩ ⟨(y 1).val % 64, Nat.mod_lt _ (by decide)⟩

theorem laid_apply (f : Fin 32 → Fin 128 → Fin 8 → Fin 64 → EReal) (n : Fin 32) (i : Fin 128) (h : Fin 8) (e : Fin 64) :
    laid f (ix2 (row n i) (lane h e)) = f n i h e := by
  have hn := n.isLt; have hi := i.isLt; have hh := h.isLt; have he := e.isLt
  have a2 : (⟨(n.val * 128 + i.val) / 128, by omega⟩ : Fin 32) = n := Fin.ext (by show (n.val * 128 + i.val) / 128 = n.val; omega)
  have a3 : (⟨(n.val * 128 + i.val) % 128, Nat.mod_lt _ (by decide)⟩ : Fin 128) = i := Fin.ext (by show (n.val * 128 + i.val) % 128 = i.val; omega)
  have a4 : (⟨(h.val * 64 + e.val) / 64, by omega⟩ : Fin 8) = h := Fin.ext (by show (h.val * 64 + e.val) / 64 = h.val; omega)
  have a5 : (⟨(h.val * 64 + e.val) % 64, Nat.mod_lt _ (by decide)⟩ : Fin 64) = e := Fin.ext (by show (h.val * 64 + e.val) % 64 = e.val; omega)
  show f (⟨(n.val * 128 + i.val) / 128, _⟩ : Fin 32) (⟨(n.val * 128 + i.val) % 128, _⟩ : Fin 128) (⟨(h.val * 64 + e.val) / 64, _⟩ : Fin 8)
    (⟨(h.val * 64 + e.val) % 64, _⟩ : Fin 64) = _
  rw [a2, a3, a4, a5]

/-- A row is a row of a block, a column a lane of a head. -/
theorem exists_entry (y : (⟨2, ![4096, 512]⟩ : Shape).Idx) : ∃ n i h e, y = ix2 (row n i) (lane h e) := by
  have h0 : (y 0).val < 4096 := (y 0).isLt
  have h1 : (y 1).val < 512 := (y 1).isLt
  refine ⟨⟨(y 0).val / 128, by omega⟩, ⟨(y 0).val % 128, Nat.mod_lt _ (by decide)⟩, ⟨(y 1).val / 64, by omega⟩, ⟨(y 1).val % 64, Nat.mod_lt _ (by decide)⟩,
    funext fun a => Fin.ext ?_⟩
  match a with
  | ⟨0, _⟩ => show (y 0).val = (y 0).val / 128 * 128 + (y 0).val % 128; omega
  | ⟨1, _⟩ => show (y 1).val = (y 1).val / 64 * 64 + (y 1).val % 64; omega

end Cert.Proof.Fwd

end
-- ==== Proof.FwdKernel.lean ====
/- The forward's whole arrays: each block of rows is written by its own point, and a point's heads are those of the argument. -/
module

public import proofs.«01_k».proof.Proof.FwdPoint
public import proofs.«01_k».proof.Proof.FwdSpec
public import proofs.«01_k».proof.Proof.AttKernel
public import proofs.«01_k».proof.Proof.Gen.Kernel21Ideal.Value

@[expose] public section

noncomputable section

namespace Cert.Proof.Fwd

open Cert.Kernel21Ideal Cert.Kernel21Ideal.Gen Cert.Kernel21Ideal.Value Cert.Proof.MatMul
open Cert.Proof.Att (Wide Narrow Head head wide window window_met meets before two stackOf stackOf_apply row lane third pair half at4 at4_half score_agree den_agree num_agree)
open Idealize.ShloMosaic Idealize.ShloMosaic.TcCoe Idealize.SL.Sem Idealize.ShloMosaic.ValueIdx
open Idealize.ShloMosaic.Pipeline (Dat)

/-! ## The blocks a point reads -/

variable (m : (ℓ : Loc nD τ sig) → Buf (Elt Ideal) ℓ) (ρ : Dev nD → PrngReg)

theorem coord0 : ∀ t : Fin cfg0.N, (grid0.coords t (0 : Fin 2)).val = t.val := (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val - 1 ∧ win0_1.index t (1 : Fin 2) = 1 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = t.val - 1 ∧ win0_3.index t (1 : Fin 2) = 2 :=
  (by decide +kernel : ∀ t : Fin grid0.N, _)
theorem idx4 : ∀ t : Fin cfg0.N, win0_4.index t (0 : Fin 2) = t.val ∧ win0_4.index t (1 : Fin 2) = 2 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The block a point works on. -/
def num (t : Fin cfg0.N) : Fin 32 := ⟨t.val, Nat.lt_of_lt_of_eq t.isLt N_0⟩
/-- The block before it; at the first point the first block itself. -/
def numPrev (t : Fin cfg0.N) : Fin 32 := ⟨t.val - 1, by have := Nat.lt_of_lt_of_eq t.isLt N_0; omega⟩

theorem blk0 (c : Dev nD) (t : Fin cfg0.N) (i : Fin 128) (l : Fin 512) :
    (iblk m c 0 t : Vec Ideal S128x512 .f32) (ix2 i l) = V m c main_arg0 (ix2 (row (num t) i) (third 0 l)) := by
  obtain ⟨e0, e1⟩ := idx0 t
  refine congrArg (V m c main_arg0) (same2 ?_ ?_)
  · show win0_0.index t (0 : Fin 2) * 128 + 1 * i.val = (t.val) * 128 + i.val; omega
  · show win0_0.index t (1 : Fin 2) * 512 + 1 * l.val = 0 * 512 + l.val; omega
theorem blk1 (c : Dev nD) (t : Fin cfg0.N) (i : Fin 128) (l : Fin 512) :
    (iblk m c 1 t : Vec Ideal S128x512 .f32) (ix2 i l) = V m c main_arg0 (ix2 (row (numPrev t) i) (third 1 l)) := by
  obtain ⟨e0, e1⟩ := idx1 t
  refine congrArg (V m c main_arg0) (same2 ?_ ?_)
  · show win0_1.index t (0 : Fin 2) * 128 + 1 * i.val = (t.val - 1) * 128 + i.val; omega
  · show win0_1.index t (1 : Fin 2) * 512 + 1 * l.val = 1 * 512 + l.val; omega
theorem blk2 (c : Dev nD) (t : Fin cfg0.N) (i : Fin 128) (l : Fin 512) :
    (iblk m c 2 t : Vec Ideal S128x512 .f32) (ix2 i l) = V m c main_arg0 (ix2 (row (num t) i) (third 1 l)) := by
  obtain ⟨e0, e1⟩ := idx2 t
  refine congrArg (V m c main_arg0) (same2 ?_ ?_)
  · show win0_2.index t (0 : Fin 2) * 128 + 1 * i.val = (t.val) * 128 + i.val; omega
  · show win0_2.index t (1 : Fin 2) * 512 + 1 * l.val = 1 * 512 + l.val; omega
theorem blk3 (c : Dev nD) (t : Fin cfg0.N) (i : Fin 128) (l : Fin 512) :
    (iblk m c 3 t : Vec Ideal S128x512 .f32) (ix2 i l) = V m c main_arg0 (ix2 (row (numPrev t) i) (third 2 l)) := by
  obtain ⟨e0, e1⟩ := idx3 t
  refine congrArg (V m c main_arg0) (same2 ?_ ?_)
  · show win0_3.index t (0 : Fin 2) * 128 + 1 * i.val = (t.val - 1) * 128 + i.val; omega
  · show win0_3.index t (1 : Fin 2) * 512 + 1 * l.val = 2 * 512 + l.val; omega
theorem blk4 (c : Dev nD) (t : Fin cfg0.N) (i : Fin 128) (l : Fin 512) :
    (iblk m c 4 t : Vec Ideal S128x512 .f32) (ix2 i l) = V m c main_arg0 (ix2 (row (num t) i) (third 2 l)) := by
  obtain ⟨e0, e1⟩ := idx4 t
  refine congrArg (V m c main_arg0) (same2 ?_ ?_)
  · show win0_4.index t (0 : Fin 2) * 128 + 1 * i.val = (t.val) * 128 + i.val; omega
  · show win0_4.index t (1 : Fin 2) * 512 + 1 * l.val = 2 * 512 + l.val; omega

/-- The heads of the blocks a point reads. -/
def ptHead (c : Dev nD) (t : Fin cfg0.N) (p : Fin 4) (s : Fin 2) : Head :=
  (fwd (iblk m c 0 t) (iblk m c 1 t) (iblk m c 2 t) (iblk m c 3 t) (iblk m c 4 t) (num t)).hd p s

/-- Keys and values a query meets are those of its window. -/
theorem met (f : Fin 32 → Fin 128 → Fin 8 → Fin 64 → EReal) (x y : Vec Ideal S128x512 .f32) (t : Fin cfg0.N) (p : Fin 4) (s : Fin 2)
    (hx : ∀ i e, x (ix2 i (at4 p (half s e))) = f (numPrev t) i (pair p s) e) (hy : ∀ i e, y (ix2 i (at4 p (half s e))) = f (num t) i (pair p s) e)
    (i : Fin 128) (j : Fin 256) (hm : meets (num t) i j = true) : two (stackOf x) (stackOf y) p s j = window f (num t) (pair p s) j := by
  refine funext fun e => ?_
  unfold two window
  by_cases hj : j.val < 128
  · rw [dif_pos hj, dif_pos hj]
    have h3 := (of_decide_eq_true hm).2.2
    have hn : ¬(num t).val = 0 := by
      intro h0; rw [h0] at h3; omega
    unfold before
    rw [if_neg hn]
    exact (stackOf_apply x p _ _).trans (hx _ _)
  · rw [dif_neg hj, dif_neg hj]
    exact (stackOf_apply y p _ _).trans (hy _ _)

section
variable (c : Dev nD) (t : Fin cfg0.N) (p : Fin 4) (s : Fin 2)

/-- The argument's head with a point's unread gradients. -/
def like : Head := { heads (V m c main_arg0) (num t) (pair p s) with d := (ptHead m c t p s).d, l := (ptHead m c t p s).l }

theorem pt_q : (ptHead m c t p s).q = (like m c t p s).q :=
  funext fun i => funext fun e => (stackOf_apply _ p i _).trans ((blk0 m c t i _).trans (by rw [at4_half]; rfl))
theorem pt_k (i : Fin 128) (j : Fin 256) (h : (ptHead m c t p s).ok i j = true) : (ptHead m c t p s).k j = (like m c t p s).k j :=
  met (wide (V m c main_arg0) 1) (iblk m c 1 t) (iblk m c 2 t) t p s (fun i e => (blk1 m c t i _).trans (by rw [at4_half]; rfl))
    (fun i e => (blk2 m c t i _).trans (by rw [at4_half]; rfl)) i j h
theorem pt_v (i : Fin 128) (j : Fin 256) (h : (ptHead m c t p s).ok i j = true) : (ptHead m c t p s).v j = (like m c t p s).v j :=
  met (wide (V m c main_arg0) 2) (iblk m c 3 t) (iblk m c 4 t) t p s (fun i e => (blk3 m c t i _).trans (by rw [at4_half]; rfl))
    (fun i e => (blk4 m c t i _).trans (by rw [at4_half]; rfl)) i j h

/-- A point's outputs are those of its block of the argument. -/
theorem pt_out (i : Fin 128) (e : Fin 64) :
    Ideal.div ((ptHead m c t p s).num i e) ((ptHead m c t p s).den i) = outp (V m c main_arg0) (num t) i (pair p s) e := by
  rw [num_agree (pt_q m c t p s) rfl rfl rfl (pt_k m c t p s) (pt_v m c t p s), den_agree (pt_q m c t p s) rfl rfl rfl (pt_k m c t p s) (pt_v m c t p s)]
  rfl

/-- A point's logarithms are those of its block of the argument. -/
theorem pt_log (i : Fin 128) (e : Fin 64) :
    (ptHead m c t p s).top i + Ideal.log ((ptHead m c t p s).den i) = logs (V m c main_arg0) (num t) i (pair p s) e := by
  unfold Head.top
  rw [score_agree (pt_q m c t p s) rfl rfl rfl (pt_k m c t p s) (pt_v m c t p s), den_agree (pt_q m c t p s) rfl rfl rfl (pt_k m c t p s) (pt_v m c t p s)]
  rfl

end

/-- A column of a block is a lane of a half of a pair. -/
theorem exists_lane (k : Fin 512) : ∃ p t e, k = at4 p (half t e) := by
  have hk := k.isLt
  refine ⟨⟨k.val / 128, by omega⟩, ⟨k.val % 128 / 64, by omega⟩, ⟨k.val % 64, Nat.mod_lt _ (by decide)⟩, Fin.ext ?_⟩
  show k.val = k.val / 128 * 128 + (k.val % 128 / 64 * 64 + k.val % 64)
  omega

/-- Each point writes its rows of the outputs. -/
theorem flushed5_eq (c : Dev nD) (t : Fin cfg0.N) :
    (dats m 0 c).flushed 5 t = ((cfg0.win 5).blk t).view.read (Elt Ideal) (laid (outp (V m c main_arg0))) := by
  obtain ⟨e0, e1⟩ := idx5 t
  rw [Value.flushed5]
  refine ext2 fun (r : Fin 128) (k : Fin 512) => ?_
  obtain ⟨p, u, e, rfl⟩ := exists_lane k
  show out0_5 (F := Ideal) (grid0.coords t) (iblk m c 0 t) (iblk m c 1 t) (iblk m c 2 t) (iblk m c 3 t) (iblk m c 4 t) (ix2 (n0 := 128) (n1 := 512) r (at4 p (half u e)))
    = laid (outp (V m c main_arg0)) (((cfg0.win 5).blk t).view.emb (ix2 r (at4 p (half u e)) : S128x512.Idx))
  have hj : ((cfg0.win 5).blk t).view.emb (ix2 r (at4 p (half u e)) : S128x512.Idx) = ix2 (row (num t) r) (lane (pair p u) e) := by
    rw [at4_half]
    funext b; apply Fin.ext
    match b with
    | ⟨0, _⟩ => show win0_5.index t (0 : Fin 2) * 128 + 1 * r.val = t.val * 128 + r.val; omega
    | ⟨1, _⟩ => show win0_5.index t (1 : Fin 2) * 512 + 1 * (lane (pair p u) e).val = (lane (pair p u) e).val; omega
  rw [hj, laid_apply]
  exact (out_apply (grid0.coords t) (iblk m c 0 t) (iblk m c 1 t) (iblk m c 2 t) (iblk m c 3 t) (iblk m c 4 t) (num t) (coord0 t).symm p r u e).trans
    (pt_out m c t p u r e)

/-- Every index of the outputs is in the rows some point writes. -/
theorem covered5 (i : S4096x512.Idx) : ∃ t : Fin cfg0.N, (cfg0.win 5).flush t = true ∧ i ∈ ((cfg0.win 5).blk t).view.set := by
  have h0 : (i 0).val < 4096 := (i 0).isLt
  have ht : (i 0).val / 128 < cfg0.N := Nat.lt_of_lt_of_eq (by omega) N_0.symm
  refine ⟨⟨(i 0).val / 128, ht⟩, flush0_5 _, ?_⟩
  obtain ⟨e0, e1⟩ := idx5 ⟨(i 0).val / 128, ht⟩
  exact mem2 (((cfg0.win 5).blk _).view.emb_mem_set) i (ix2 ⟨(i 0).val % 128, Nat.mod_lt _ (by decide)⟩ (i 1) : S128x512.Idx)
    (by show win0_5.index ⟨(i 0).val / 128, ht⟩ (0 : Fin 2) * 128 + 1 * ((i 0).val % 128) = (i 0).val; rw [e0]; show (i 0).val / 128 * 128 + 1 * ((i 0).val % 128) = (i 0).val; omega)
    (by show win0_5.index ⟨(i 0).val / 128, ht⟩ (1 : Fin 2) * 512 + 1 * (i 1).val = (i 1).val; rw [e1]; omega)

/-- The whole array of outputs. -/
theorem whole5 (c : Dev nD) : (dats m 0 c).arrAt 5 cfg0.N = laid (outp (V m c main_arg0)) := by
  refine funext fun (i : S4096x512.Idx) => ?_
  obtain ⟨t, hf, hm⟩ := covered5 i
  exact (dats m 0 c).arrAt_apply_of_mem 5 _ (fun t _ => flushed5_eq m c t) cfg0.N t i t.isLt hf hm

/-- Each point writes its rows of the logarithms. -/
theorem flushed6_eq (c : Dev nD) (t : Fin cfg0.N) :
    (dats m 0 c).flushed 6 t = ((cfg0.win 6).blk t).view.read (Elt Ideal) (laid (logs (V m c main_arg0))) := by
  obtain ⟨e0, e1⟩ := idx6 t
  rw [Value.flushed6]
  refine ext2 fun (r : Fin 128) (k : Fin 512) => ?_
  obtain ⟨p, u, e, rfl⟩ := exists_lane k
  show out0_6 (F := Ideal) (grid0.coords t) (iblk m c 0 t) (iblk m c 1 t) (iblk m c 2 t) (iblk m c 3 t) (iblk m c 4 t) (ix2 (n0 := 128) (n1 := 512) r (at4 p (half u e)))
    = laid (logs (V m c main_arg0)) (((cfg0.win 6).blk t).view.emb (ix2 r (at4 p (half u e)) : S128x512.Idx))
  have hj : ((cfg0.win 6).blk t).view.emb (ix2 r (at4 p (half u e)) : S128x512.Idx) = ix2 (row (num t) r) (lane (pair p u) e) := by
    rw [at4_half]
    funext b; apply Fin.ext
    match b with
    | ⟨0, _⟩ => show win0_6.index t (0 : Fin 2) * 128 + 1 * r.val = t.val * 128 + r.val; omega
    | ⟨1, _⟩ => show win0_6.index t (1 : Fin 2) * 512 + 1 * (lane (pair p u) e).val = (lane (pair p u) e).val; omega
  rw [hj, laid_apply]
  exact (log_apply (grid0.coords t) (iblk m c 0 t) (iblk m c 1 t) (iblk m c 2 t) (iblk m c 3 t) (iblk m c 4 t) (num t) (coord0 t).symm p r u e).trans
    (pt_log m c t p u r e)

/-- Every index of the logarithms is in the rows some point writes. -/
theorem covered6 (i : S4096x512.Idx) : ∃ t : Fin cfg0.N, (cfg0.win 6).flush t = true ∧ i ∈ ((cfg0.win 6).blk t).view.set := by
  have h0 : (i 0).val < 4096 := (i 0).isLt
  have ht : (i 0).val / 128 < cfg0.N := Nat.lt_of_lt_of_eq (by omega) N_0.symm
  refine ⟨⟨(i 0).val / 128, ht⟩, flush0_6 _, ?_⟩
  obtain ⟨e0, e1⟩ := idx6 ⟨(i 0).val / 128, ht⟩
  exact mem2 (((cfg0.win 6).blk _).view.emb_mem_set) i (ix2 ⟨(i 0).val % 128, Nat.mod_lt _ (by decide)⟩ (i 1) : S128x512.Idx)
    (by show win0_6.index ⟨(i 0).val / 128, ht⟩ (0 : Fin 2) * 128 + 1 * ((i 0).val % 128) = (i 0).val; rw [e0]; show (i 0).val / 128 * 128 + 1 * ((i 0).val % 128) = (i 0).val; omega)
    (by show win0_6.index ⟨(i 0).val / 128, ht⟩ (1 : Fin 2) * 512 + 1 * (i 1).val = (i 1).val; rw [e1]; omega)

/-- The whole array of logarithms. -/
theorem whole6 (c : Dev nD) : (dats m 0 c).arrAt 6 cfg0.N = laid (logs (V m c main_arg0)) := by
  refine funext fun (i : S4096x512.Idx) => ?_
  obtain ⟨t, hf, hm⟩ := covered6 i
  exact (dats m 0 c).arrAt_apply_of_mem 6 _ (fun t _ => flushed6_eq m c t) cfg0.N t i t.isLt hf hm

/-- The kernel leaves the outputs and the logarithms. -/
theorem run_kernel : θ_run defs (onTc (τ := τ) (main (F := Ideal))) ⟨m, fun _ => 0, ρ⟩ fun r => ∀ c : Dev nD,
      r.2.mem ((c : Thread nD τ).loc main_v0_0) = laid (outp (m ((c : Thread nD τ).loc main_arg0)))
      ∧ r.2.mem ((c : Thread nD τ).loc main_v0_1) = laid (logs (m ((c : Thread nD τ).loc main_arg0)))
      ∧ r.2.mem ((c : Thread nD τ).loc main_arg0) = m ((c : Thread nD τ).loc main_arg0) := by
  refine (θ_run defs _ _).mono (fun r h c => ?_) (run_blocks m ρ)
  obtain ⟨h5, h6, hk⟩ := h c
  rw [← V_main_arg0 m c]
  exact ⟨h5.trans (whole5 m c), h6.trans (whole6 m c), hk.trans (V_main_arg0 m c).symm⟩

end Cert.Proof.Fwd

end
-- ==== Proof.FwdRef.lean ====
/- The plain forward: its arrays are the ones the plain gradient builds first, so its two results are, on each head, the head's
   outputs and the logarithms of its sums of weights. -/
module

public import proofs.«01_k».proof.Proof.AttRef
public import proofs.«01_k».proof.Proof.FwdSpec
public import proofs.«01_k».proof.Proof.Gen.Reference21Ideal.Read

@[expose] public section

noncomputable section

namespace Cert.Proof.Fwd

open Cert.Reference21Ideal Cert.Reference21Ideal.Read Cert.Proof.Att
open Idealize.ShloMosaic Idealize.ShloMosaic.ValueIdx

variable (x0 : Vec Ideal S4096x4608 .f32)

/-! ## The same arrays -/

theorem keys_eq : val_main_v12 (F := Ideal) x0 = Cert.Reference2Ideal.Read.val_main_v13 (F := Ideal) x0 := rfl

theorem values_eq : val_main_v18 (F := Ideal) x0 = Cert.Reference2Ideal.Read.val_main_v20 (F := Ideal) x0 := rfl

theorem scores_eq : val_main_v53 (F := Ideal) x0 = Cert.Reference2Ideal.Read.val_main_v55_0 (F := Ideal) x0 := rfl

theorem tops_eq : val_main_v54 (F := Ideal) x0 = Cert.Reference2Ideal.Read.val_main_v56 (F := Ideal) x0 := rfl

theorem weights_eq : val_main_v58 (F := Ideal) x0 = Cert.Reference2Ideal.Read.val_main_v65 (F := Ideal) x0 := rfl

theorem rows_eq : val_main_v62 (F := Ideal) x0 = Cert.Reference2Ideal.Read.val_main_v69 (F := Ideal) x0 := rfl

theorem sums_eq : val_main_v61 (F := Ideal) x0 = Cert.Reference2Ideal.Read.val_main_v68 (F := Ideal) x0 := rfl

/-! ## The two results -/

/-- Blocks and heads from rows and lanes. -/
theorem back_out (n : Fin 32) (i : Fin 128) (h : Fin 8) (e : Fin 64) : idx_main_v66 (ix2 (row n i) (lane h e)) = ix4 n i h e := by
  have := n.isLt; have := i.isLt; have := h.isLt; have := e.isLt
  refine funext fun a => Fin.ext ?_
  match a with
  | ⟨0, _⟩ => show ((n.val * 128 + i.val) * 512 + (h.val * 64 + e.val)) / 65536 = n.val; omega
  | ⟨1, _⟩ => show ((n.val * 128 + i.val) * 512 + (h.val * 64 + e.val)) / 512 % 128 = i.val; omega
  | ⟨2, _⟩ => show ((n.val * 128 + i.val) * 512 + (h.val * 64 + e.val)) / 64 % 8 = h.val; omega
  | ⟨3, _⟩ => show ((n.val * 128 + i.val) * 512 + (h.val * 64 + e.val)) % 64 = e.val; omega

/-- The first result: the heads' outputs. -/
theorem ref_out (n : Fin 32) (i : Fin 128) (h : Fin 8) (e : Fin 64) :
    val_main_v66 (F := Ideal) x0 (ix2 (row n i) (lane h e)) = outp x0 n i h e := by
  rw [val_main_v66_apply, back_out, val_main_v65_apply, val_main_v64_apply, val_main_v63_apply, sums_eq, rows_eq]
  have e1 : idx_main_v63 (idx_main_v64 (ix4 n i h e)) = ix3 n i h := eq_ix3 _
  rw [e1]
  exact congrArg₂ Ideal.div (Ref.num_apply x0 (fun _ => 0) (fun _ => 0) n i h e) (Ref.den_rows x0 (fun _ => 0) (fun _ => 0) n i h)

/-- Heads from lanes. -/
theorem back_head (r : Fin 4096) (h : Fin 8) (e : Fin 64) : idx_main_v72 (idx_main_v73 (ix2 r (lane h e))) = ix2 r h := by
  have := r.isLt; have := h.isLt; have := e.isLt
  refine funext fun a => Fin.ext ?_
  match a with
  | ⟨0, _⟩ => show (r.val * 512 + (h.val * 64 + e.val)) / 512 = r.val; omega
  | ⟨1, _⟩ => show (r.val * 512 + (h.val * 64 + e.val)) / 64 % 8 = h.val; omega

/-- Blocks from rows. -/
theorem back_row (n : Fin 32) (i : Fin 128) (h : Fin 8) : idx_main_v71 (ix2 (row n i) h) = ix3 n i h := by
  have := n.isLt; have := i.isLt; have := h.isLt
  refine funext fun a => Fin.ext ?_
  match a with
  | ⟨0, _⟩ => show ((n.val * 128 + i.val) * 8 + h.val) / 1024 = n.val; omega
  | ⟨1, _⟩ => show ((n.val * 128 + i.val) * 8 + h.val) / 8 % 128 = i.val; omega
  | ⟨2, _⟩ => show ((n.val * 128 + i.val) * 8 + h.val) % 8 = h.val; omega

/-- The column of largest scores, its axis of one dropped. -/
theorem back_top (n : Fin 32) (i : Fin 128) (h : Fin 8) : idx_main_v55 (idx_main_v67 (idx_main_v68 (ix3 n i h))) = ix3 n h i := by
  have := n.isLt; have := i.isLt; have := h.isLt
  refine funext fun a => Fin.ext ?_
  match a with
  | ⟨0, _⟩ => show ((n.val * 8 + h.val) * 128 + i.val) / 1024 = n.val; omega
  | ⟨1, _⟩ => show ((n.val * 8 + h.val) * 128 + i.val) / 128 % 8 = h.val; omega
  | ⟨2, _⟩ => show ((n.val * 8 + h.val) * 128 + i.val) / 1 % 128 = i.val; omega

/-- The second result: the logarithms of the heads' sums of weights. -/
theorem ref_log (n : Fin 32) (i : Fin 128) (h : Fin 8) (e : Fin 64) :
    val_main_v73 (F := Ideal) x0 (ix2 (row n i) (lane h e)) = logs x0 n i h e := by
  rw [val_main_v73_apply, val_main_v72_apply, back_head, val_main_v71_apply, back_row, val_main_v70_apply, val_main_v69_apply,
    val_main_v68_apply, val_main_v67_apply, val_main_v55_apply, back_top, tops_eq, rows_eq]
  exact congrArg₂ (fun u v : EReal => u + Ideal.log v) (Ref.top_apply x0 (fun _ => 0) (fun _ => 0) n h i)
    (Ref.den_rows x0 (fun _ => 0) (fun _ => 0) n i h)

/-- The two results, whole. -/
theorem whole_out : val_main_v66 (F := Ideal) x0 = laid (outp x0) := by
  funext y
  obtain ⟨n, i, h, e, rfl⟩ := exists_entry y
  rw [ref_out, laid_apply]

theorem whole_log : val_main_v73 (F := Ideal) x0 = laid (logs x0) := by
  funext y
  obtain ⟨n, i, h, e, rfl⟩ := exists_entry y
  rw [ref_log, laid_apply]

end Cert.Proof.Fwd

end
-- ==== Proof.FwdClaim.lean ====
/- The forward of the first group's attention: what its program is claimed to do. -/
module

public import proofs.«01_k».proof.Defs
public import proofs.«01_k».proof.Proof.Gen.Kernel21Ideal
public import proofs.«01_k».proof.Proof.Gen.Reference21Ideal.Run
public import proofs.«01_k».proof.Proof.FwdKernel
public import proofs.«01_k».proof.Proof.FwdRef
public import Idealize.ShloMosaic.Adequacy

@[expose] public section

noncomputable section

namespace Cert.Proof.Fwd

open Idealize.ShloMosaic Idealize.ShloMosaic.TcCoe Idealize.SL.Sem

/-- The literal the kernel masks its scores with is read as the bottom of the extended reals. -/
theorem kept : Cert.preserves_Kernel21_Kernel21Ideal :=
  IdealRules.named_const.statement Cert.Kernel21Ideal.κ "mask" .f32 0xF149F2CA#32 ⊥ rfl

/-- The reference runs, keeps its argument, and leaves every counter at zero. -/
theorem frame_reference : Cert.quiescent_Reference21Ideal (hReference21Ideal := Cert.Reference21Ideal.Gen.facts) := by
  intro m g _
  exact (θ_run Cert.Reference21Ideal.defs _ _).mono
    (fun r h => ⟨fun c => (h c).2.2, Idealize.ShloMosaic.sem_eq_zero_of_no_sems (by decide) r.2⟩)
    (Cert.Reference21Ideal.Value.run m g)

/-- The kernel's two results are the reference's. -/
theorem value : Cert.algebraic_Kernel21Ideal_Reference21Ideal (hKernel21Ideal := Cert.Kernel21Ideal.Gen.facts)
    (hReference21Ideal := Cert.Reference21Ideal.Gen.facts) := by
  intro m g m' g' hp hm
  refine ⟨fun c => laid (outp (m ((c : Thread Cert.Kernel21Ideal.nD Cert.Kernel21Ideal.τ).loc Cert.Kernel21Ideal.main_arg0))),
    fun c => laid (logs (m ((c : Thread Cert.Kernel21Ideal.nD Cert.Kernel21Ideal.τ).loc Cert.Kernel21Ideal.main_arg0))), run_kernel m g, ?_⟩
  refine (θ_run Cert.Reference21Ideal.defs _ _).mono (fun r h c => ?_) (Cert.Reference21Ideal.Value.run m' g')
  obtain ⟨h0, h1, hk⟩ := h c
  have a0 := hm c
  refine ⟨h0.trans ((Cert.Reference21Ideal.Read.val_main_v66_eq (F := Ideal) _ _).trans ((whole_out _).trans ?_)),
    h1.trans ((Cert.Reference21Ideal.Read.val_main_v73_eq (F := Ideal) _ _).trans ((whole_log _).trans ?_)), hk⟩
  · exact congrArg (fun x => laid (outp x)) a0
  · exact congrArg (fun x => laid (logs x)) a0

end Cert.Proof.Fwd

end
-- ==== Proof.DwDown.lean ====
/- The feed-forward block's output weights' gradient: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.KernelVsHost
public import Idealize.ShloMosaic.Lib.Tactic
public import Idealize.ShloMosaic.Adequacy

@[expose] public section

noncomputable section

namespace Cert.Proof.DwDown

open Cert.Kernel5Ideal Cert.Kernel5Ideal.Gen Cert.Kernel5Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x2816 .bf16) (y : Vec Ideal S4096x1024 .bf16) (p : Fin 2816) (q : Fin 1024) (k : Fin 4096) : EReal :=
  x (ix2 k p) * y (ix2 k q)

/-- The product at every index. -/
def prod (x : Vec Ideal S4096x2816 .bf16) (y : Vec Ideal S4096x1024 .bf16) : Vec Ideal S2816x1024 .bf16 :=
  fun i => ∑ k : Fin 4096, term x y (i 0) (i 1) k

/-- One part's product, at an index. -/
theorem part_apply (x : Vec Ideal S2048x1408 .bf16) (y : Vec Ideal S2048x1024 .bf16) (p : Fin 1408) (q : Fin 1024) :
    k0_pay1 (F := Ideal) x y (ix2 p q) = ∑ k : Fin 2048, x (ix2 k p) * y (ix2 k q) :=
  tn_apply (φ₁ := .bf16) (φ₂ := .bf16) (M := 1408) (K := 2048) (N := 1024) x y p q

section
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec Ideal S2048x1408 .bf16) (x1 : Vec Ideal S2048x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1408) off2, View.ld_unit_zero (S := S2048x1024) off2, shapeCast_self]

/-- The last of a block's points writes back the running sum with its part's product added. -/
theorem last_eq (hc0 : ¬cond0_0 i) (hc1 : cond0_1 i) (hc2 : cond0_2 i) (xs : Vec Ideal S1408x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1408x1024) _ off2, View.readAt_eq_ld, Memref.IsWhole.read_unread, View.ld_unit_zero (S := S2048x1408) off2, View.ld_unit_zero (S := S2048x1024) off2, View.ld_unit_zero (S := S1408x1024) off2]

end

/-- The running sum after a further point, at an index. -/
theorem sum_apply (x : Vec Ideal S2048x1408 .bf16) (y : Vec Ideal S2048x1024 .bf16) (s : Vec Ideal S1408x1024 .f32) (p : Fin 1408) (q : Fin 1024) :
    k0_pay3 (F := Ideal) x y s (ix2 p q) = s (ix2 p q) + k0_pay1 (F := Ideal) x y (ix2 p q) := by
  unfold k0_pay3
  show shapeCast S1408x1024 (addf s (k0_pay1 (F := Ideal) x y)) _ (ix2 p q) = _
  rw [shapeCast_self]
  rfl

/-- What the last point writes back, at an index. -/
theorem write_apply (x : Vec Ideal S2048x1408 .bf16) (y : Vec Ideal S2048x1024 .bf16) (s : Vec Ideal S1408x1024 .f32) (p : Fin 1408) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = t.val / 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)

/-- Row `p` of point `t`'s rows. -/
def row (t : Fin cfg0.N) (p : Fin 1408) : Fin 2816 := ⟨t.val / 2 * 1408 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 2048) : Fin 4096 := ⟨t.val % 2 * 2048 + k.val, by have := Nat.lt_of_lt_of_eq t.isLt N_0; omega⟩

theorem blk0 (c : Dev nD) (t : Fin cfg0.N) (p : Fin 1408) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 1408 + 1 * p.val = t.val / 2 * 1408 + p.val; omega
theorem blk1 (c : Dev nD) (t : Fin cfg0.N) (q : Fin 1024) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val % 2 * 2048 + k.val; omega
  · show win0_1.index t (1 : Fin 2) * 1024 + 1 * q.val = q.val; omega

/-- A part's product in the argument arrays. -/
theorem part_eq (c : Dev nD) (t : Fin cfg0.N) (p : Fin 1408) (q : Fin 1024) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1408) (q : Fin 1024) => ?_
  show k0_pay4 (F := Ideal) _ (ix2 p q) = prod _ _ (((cfg0.win 2).blk t).view.emb (ix2 p q : S1408x1024.Idx))
  have hj : ((cfg0.win 2).blk t).view.emb (ix2 p q : S1408x1024.Idx) = ix2 (row t p) (colm t q) :=
    same2 (by show win0_2.index t (0 : Fin 2) * 1408 + 1 * p.val = t.val / 2 * 1408 + p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show (t.val - 1) / 2 * 1408 + p.val = t.val / 2 * 1408 + p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) % 2 * 2048 + k.val = k.val; omega)]
  · rw [show place t k = ⟨2048 + k.val, by omega⟩ from Fin.ext (by show t.val % 2 * 2048 + k.val = 2048 + k.val; omega)]

/-- The blocks cover the array. -/
theorem covered (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  have ht : ((i 0).val / 1408) * 2 + 1 < cfg0.N := Nat.lt_of_lt_of_eq (by omega) N_0.symm
  refine ⟨⟨((i 0).val / 1408) * 2 + 1, ht⟩, (flush0_2 _).mpr (by show (((i 0).val / 1408) * 2 + 1) % 2 = 1; omega), ?_⟩
  obtain ⟨e0, e1⟩ := at2 ⟨((i 0).val / 1408) * 2 + 1, ht⟩
  exact mem2 (((cfg0.win 2).blk _).view.emb_mem_set) i (ix2 ⟨(i 0).val % 1408, Nat.mod_lt _ (by decide)⟩ (i 1) : S1408x1024.Idx)
    (by show win0_2.index ⟨((i 0).val / 1408) * 2 + 1, ht⟩ (0 : Fin 2) * 1408 + 1 * ((i 0).val % 1408) = (i 0).val; rw [e0]; show (((i 0).val / 1408) * 2 + 1) / 2 * 1408 + 1 * ((i 0).val % 1408) = (i 0).val; omega)
    (by show win0_2.index ⟨((i 0).val / 1408) * 2 + 1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x2816 .bf16) (y : Vec Ideal S4096x1024 .bf16) :
    Cert.Reference5Ideal.Read.val_main_v6 (F := Ideal) x y = prod x y := by
  refine ext2 fun (p : Fin 2816) (q : Fin 1024) => ?_
  refine (Cert.Reference5Ideal.Read.val_main_v6_apply x y _).trans
    ((Cert.Reference5Ideal.Read.val_main_v5_apply x y _).trans
    ((Cert.Reference5Ideal.Read.val_main_v4_apply x y _).trans
    (Finset.sum_congr rfl fun k _ => (mul_comm _ _).trans ?_)))
  exact mul2 (congrArg x (same2 rfl rfl)) (congrArg y (same2 rfl rfl))

/-- The reference runs, keeps its arguments, and leaves every counter at zero. -/
theorem frame_reference : Cert.quiescent_Reference5Ideal (hReference5Ideal := Cert.Reference5Ideal.Gen.facts) := by
  intro m g _
  exact (θ_run Cert.Reference5Ideal.defs _ _).mono
    (fun r h => ⟨fun c => (h c).2, Idealize.ShloMosaic.sem_eq_zero_of_no_sems (by decide) r.2⟩)
    (Cert.Reference5Ideal.Value.run m g)

/-- The kernel's array is the reference's. -/
theorem value : Cert.algebraic_Kernel5Ideal_Reference5Ideal (hKernel5Ideal := Cert.Kernel5Ideal.Gen.facts)
    (hReference5Ideal := Cert.Reference5Ideal.Gen.facts) := by
  intro m g m' g' _ hm
  refine ⟨fun c => _, run_kernel m g, ?_⟩
  refine (θ_run Cert.Reference5Ideal.defs _ _).mono (fun r h c => ?_) (Cert.Reference5Ideal.Value.run m' g')
  obtain ⟨h0, hk⟩ := h c
  obtain ⟨a0, a1⟩ := hm c
  exact ⟨(h0.trans (Cert.Reference5Ideal.Read.val_main_v6_eq (F := Ideal) _ _)).trans ((reference_eq _ _).trans (congrArg₂ prod a0 a1)), hk⟩

end Cert.Proof.DwDown

end
-- ==== Proof.Dh2.lean ====
/- The gradient that leaves the feed-forward block's input product: a product with the right operand turned, where each block is taken in four quarters of the contraction that one point after the other adds up;
   and the reference's array is the same sum. -/
module

public import proofs.«01_k».proof.Proof.MatMul
public import proofs.«01_k».proof.Defs
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.KernelVsHost
public import Idealize.ShloMosaic.Lib.Tactic
public import Idealize.ShloMosaic.Adequacy

@[expose] public section

noncomputable section

namespace Cert.Proof.Dh2

open Cert.Kernel6Ideal Cert.Kernel6Ideal.Gen Cert.Kernel6Ideal.Value Cert.Proof.MatMul
open Idealize.ShloMosaic Idealize.ShloMosaic.TcCoe Idealize.SL.Sem Idealize.ShloMosaic.ValueIdx
open Idealize.ShloMosaic.Pipeline (Dat)

/-- The half that column `k` of the gradient lies in, and its place there. -/
def half (k : Fin 5632) : Fin 2 := ⟨k.val / 2816, by have := k.isLt; omega⟩
def inHalf (k : Fin 5632) : Fin 2816 := ⟨k.val % 2816, Nat.mod_lt _ (by decide)⟩
/-- The part of the weights that column `k` lies in, and its place there. -/
def quarter (k : Fin 5632) : Fin 4 := ⟨k.val / 1408, by have := k.isLt; omega⟩
def inQuarter (k : Fin 5632) : Fin 1408 := ⟨k.val % 1408, Nat.mod_lt _ (by decide)⟩

/-- One summand of the product. -/
def term (x : Vec Ideal S2x4096x2816 .bf16) (y : Vec Ideal S4x1024x1408 .bf16) (p : Fin 4096) (q : Fin 1024) (k : Fin 5632) : EReal :=
  x (ix3 (half k) p (inHalf k)) * y (ix3 (quarter k) q (inQuarter k))

/-- The product at every index. -/
def prod (x : Vec Ideal S2x4096x2816 .bf16) (y : Vec Ideal S4x1024x1408 .bf16) : Vec Ideal S4096x1024 .bf16 :=
  fun i => ∑ k : Fin 5632, term x y (i 0) (i 1) k

/-- One part's product, at an index. -/
theorem part_apply (x : Vec Ideal S1x1024x1408 .bf16) (y : Vec Ideal S1x1024x1408 .bf16) (p : Fin 1024) (q : Fin 1024) :
    k0_pay1 (F := Ideal) x y (ix2 p q) = ∑ k : Fin 1408, x (ix3 0 p k) * y (ix3 0 q k) :=
  (nt_apply (M := 1024) (K := 1408) (N := 1024) _ _ p q).trans
    (Finset.sum_congr rfl fun k _ => mul2 (drop_apply x _ p k) (drop_apply y _ q k))

section
variable (c : Dev nD) (i : grid0.Coords) (arg3 : Memref sig .tc .vmem S1x1024x1408 .bf16) (harg3 : arg3.IsWhole) (arg4 : Memref sig .tc .vmem S1x1024x1408 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1x1024x1408 .bf16) (x1 : Vec Ideal S1x1024x1408 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S1x1024x1408) off3, shapeCast_self]

/-- A middle point adds its part's product to the running sum. -/
theorem mid_eq (hc0 : ¬cond0_0 i) (hc1 : cond0_1 i) (hc2 : ¬cond0_2 i) (xs : Vec Ideal S1024x1024 .f32) :
    sout0_B_0 c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero off2]
  simp only [View.readAt_eq_ld, Memref.IsWhole.read_unread, View.ld_unit_zero (S := S1x1024x1408) off3, View.ld_unit_zero (S := S1024x1024) off2]

/-- The last of a block's points writes back the running sum with its part's product added. -/
theorem last_eq (hc0 : ¬cond0_0 i) (hc1 : cond0_1 i) (hc2 : cond0_2 i) (xs : Vec Ideal S1024x1024 .f32) :
    out0_C_2 c i arg3 harg3 arg4 harg4 arg5 harg5 arg6 harg6 hc0 hc1 hc2 x0 x1 xs = k0_pay4 (F := Ideal) (k0_pay3 x0 x1 xs) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero off2]
  simp only [View.readCov_unit_zero (S := S1024x1024) _ off2, View.readAt_eq_ld, Memref.IsWhole.read_unread, View.ld_unit_zero (S := S1x1024x1408) off3, View.ld_unit_zero (S := S1024x1024) off2]

end

/-- The running sum after a further point, at an index. -/
theorem sum_apply (x : Vec Ideal S1x1024x1408 .bf16) (y : Vec Ideal S1x1024x1408 .bf16) (s : Vec Ideal S1024x1024 .f32) (p : Fin 1024) (q : Fin 1024) :
    k0_pay3 (F := Ideal) x y s (ix2 p q) = s (ix2 p q) + k0_pay1 (F := Ideal) x y (ix2 p q) := by
  unfold k0_pay3
  show shapeCast S1024x1024 (addf s (k0_pay1 (F := Ideal) x y)) _ (ix2 p q) = _
  rw [shapeCast_self]
  rfl

/-- What the last point writes back, at an index. -/
theorem write_apply (x : Vec Ideal S1x1024x1408 .bf16) (y : Vec Ideal S1x1024x1408 .bf16) (s : Vec Ideal S1024x1024 .f32) (p : Fin 1024) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 3) = t.val % 4 / 2 ∧ win0_0.index t (1 : Fin 3) = t.val / 4 ∧ win0_0.index t (2 : Fin 3) = t.val % 2 :=
  (by decide +kernel : ∀ t : Fin grid0.N, _)
theorem at1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem at2 : ∀ t : Fin cfg0.N, win0_2.index t (0 : Fin 2) = t.val / 4 ∧ win0_2.index t (1 : Fin 2) = 0 :=
  (by decide +kernel : ∀ t : Fin grid0.N, _)

/-- Row `p` of point `t`'s rows. -/
def row (t : Fin cfg0.N) (p : Fin 1024) : Fin 4096 := ⟨t.val / 4 * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 1408) : Fin 5632 := ⟨t.val % 4 * 1408 + k.val, by have := Nat.lt_of_lt_of_eq t.isLt N_0; omega⟩

theorem blk0 (c : Dev nD) (t : Fin cfg0.N) (p : Fin 1024) (k : Fin 1408) :
    iblk m c 0 t (ix3 0 p k) = V m c main_arg0 (ix3 (half (place t k)) (row t p) (inHalf (place t k))) := by
  obtain ⟨e0, e1, e2⟩ := at0 t
  refine congrArg (V m c main_arg0) (funext fun a => Fin.ext ?_)
  have := Nat.lt_of_lt_of_eq t.isLt N_0
  have := k.isLt
  match a with
  | ⟨0, _⟩ => show win0_0.index t (0 : Fin 3) * 1 + 1 * 0 = (t.val % 4 * 1408 + k.val) / 2816; omega
  | ⟨1, _⟩ => show win0_0.index t (1 : Fin 3) * 1024 + 1 * p.val = t.val / 4 * 1024 + p.val; omega
  | ⟨2, _⟩ => show win0_0.index t (2 : Fin 3) * 1408 + 1 * k.val = (t.val % 4 * 1408 + k.val) % 2816; omega
theorem blk1 (c : Dev nD) (t : Fin cfg0.N) (q : Fin 1024) (k : Fin 1408) :
    iblk m c 1 t (ix3 0 q k) = V m c main_arg1 (ix3 (quarter (place t k)) (colm t q) (inQuarter (place t k))) := by
  obtain ⟨e0, e1, e2⟩ := at1 t
  refine congrArg (V m c main_arg1) (funext fun a => Fin.ext ?_)
  have := Nat.lt_of_lt_of_eq t.isLt N_0
  have := k.isLt
  match a with
  | ⟨0, _⟩ => show win0_1.index t (0 : Fin 3) * 1 + 1 * 0 = (t.val % 4 * 1408 + k.val) / 1408; omega
  | ⟨1, _⟩ => show win0_1.index t (1 : Fin 3) * 1024 + 1 * q.val = q.val; omega
  | ⟨2, _⟩ => show win0_1.index t (2 : Fin 3) * 1408 + 1 * k.val = (t.val % 4 * 1408 + k.val) % 1408; omega

/-- A part's product in the argument arrays. -/
theorem part_eq (c : Dev nD) (t : Fin cfg0.N) (p : Fin 1024) (q : Fin 1024) : k0_pay1 (F := Ideal) (iblk m c 0 t) (iblk m c 1 t) (ix2 p q)
    = ∑ k : Fin 1408, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Reading a block's cut at an index. -/
theorem cut_apply (t : Fin cfg0.N) (w : Vec Ideal S1024x1024 .bf16) (p q : Fin 1024) :
    (cfg0.win 2).cut (grid0.coords t) w (ix2 p q) = w (ix2 p q) := rfl
/-- Reading a block of an array at an index. -/
theorem read_apply (t : Fin cfg0.N) (g : Vec Ideal S4096x1024 .bf16) (p q : Fin 1024) :
    ((cfg0.win 2).blk t).view.read (Elt Ideal) g (ix2 p q : S1024x1024.Idx) = g (((cfg0.win 2).blk t).view.emb (ix2 p q : S1024x1024.Idx)) := rfl

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 4 = 3 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hs2 : t.val - 1 - 1 < cfg0.N := Nat.lt_of_le_of_lt (Nat.sub_le _ _) hs1
  have hs3 : t.val - 1 - 1 - 1 < cfg0.N := Nat.lt_of_le_of_lt (Nat.sub_le _ _) hs2
  have hz1 : (⟨t.val - 1, hs1⟩ : Fin cfg0.N).val % 4 = 2 := by show (t.val - 1) % 4 = 2; omega
  have hz2 : (⟨t.val - 1 - 1, hs2⟩ : Fin cfg0.N).val % 4 = 1 := by show (t.val - 1 - 1) % 4 = 1; omega
  have hz3 : (⟨t.val - 1 - 1 - 1, hs3⟩ : Fin cfg0.N).val % 4 = 0 := by show (t.val - 1 - 1 - 1) % 4 = 0; omega
  obtain ⟨s, e⟩ : ∃ s : Vec Ideal S1024x1024 .f32, s = k0_pay3 (F := Ideal) (iblk m c 0 ⟨t.val - 1, hs1⟩) (iblk m c 1 ⟨t.val - 1, hs1⟩)
    (k0_pay3 (iblk m c 0 ⟨t.val - 1 - 1, hs2⟩) (iblk m c 1 ⟨t.val - 1 - 1, hs2⟩) (k0_pay1 (iblk m c 0 ⟨t.val - 1 - 1 - 1, hs3⟩) (iblk m c 1 ⟨t.val - 1 - 1 - 1, hs3⟩))) := ⟨_, rfl⟩
  have hF : (dats m 0 c).flushed 2 t = (cfg0.win 2).cut (grid0.coords t) (k0_pay4 (F := Ideal) (k0_pay3 (iblk m c 0 t) (iblk m c 1 t) s)) := by
    rw [flushed2_C m c t (by omega) (by omega) h1, last_eq, outsAt0_B m c ⟨t.val - 1, hs1⟩ (by omega) (by omega) (by omega)]
    dsimp only
    rw [mid_eq, outsAt0_B m c ⟨t.val - 1 - 1, hs2⟩ (by omega) (by omega) (by omega)]
    dsimp only
    rw [mid_eq, outsAt0_A m c ⟨t.val - 1 - 1 - 1, hs3⟩ hz3 (by omega) (by omega)]
    dsimp only
    rw [first_eq, ← e]
  obtain ⟨w, ew⟩ : ∃ w : Vec Ideal S1024x1024 .bf16, w = k0_pay4 (F := Ideal) (k0_pay3 (iblk m c 0 t) (iblk m c 1 t) s) := ⟨_, rfl⟩
  rw [hF, ← ew]
  refine ext2 fun (p : Fin 1024) (q : Fin 1024) => ?_
  refine ((cut_apply t w p q).trans ?_).trans (read_apply t (prod (V m c main_arg0) (V m c main_arg1)) p q).symm
  have hj : ((cfg0.win 2).blk t).view.emb (ix2 p q : S1024x1024.Idx) = ix2 (row t p) (colm t q) :=
    same2 (by show win0_2.index t (0 : Fin 2) * 1024 + 1 * p.val = t.val / 4 * 1024 + p.val; omega) (by show win0_2.index t (1 : Fin 2) * 1024 + 1 * q.val = q.val; omega)
  rw [hj]
  rw [ew]
  refine (write_apply _ _ _ p q).trans ?_
  rw [e, sum_apply, sum_apply, part_eq, part_eq, part_eq, part_eq]
  have hr1 : row (⟨t.val - 1, hs1⟩ : Fin cfg0.N) p = row t p := Fin.ext (by show (t.val - 1) / 4 * 1024 + p.val = t.val / 4 * 1024 + p.val; omega)
  have hq1 : colm (⟨t.val - 1, hs1⟩ : Fin cfg0.N) q = colm t q := Fin.ext (by show q.val = q.val; omega)
  have hr2 : row (⟨t.val - 1 - 1, hs2⟩ : Fin cfg0.N) p = row t p := Fin.ext (by show (t.val - 1 - 1) / 4 * 1024 + p.val = t.val / 4 * 1024 + p.val; omega)
  have hq2 : colm (⟨t.val - 1 - 1, hs2⟩ : Fin cfg0.N) q = colm t q := Fin.ext (by show q.val = q.val; omega)
  have hr3 : row (⟨t.val - 1 - 1 - 1, hs3⟩ : Fin cfg0.N) p = row t p := Fin.ext (by show (t.val - 1 - 1 - 1) / 4 * 1024 + p.val = t.val / 4 * 1024 + p.val; omega)
  have hq3 : colm (⟨t.val - 1 - 1 - 1, hs3⟩ : Fin cfg0.N) q = colm t q := Fin.ext (by show q.val = q.val; omega)
  rw [hr1, hq1, hr2, hq2, hr3, hq3]
  refine Eq.trans (congrArg₂ (· + ·) (congrArg₂ (· + ·) (congrArg₂ (· + ·) (Finset.sum_congr rfl fun k _ => ?_)
    (Finset.sum_congr rfl fun k _ => ?_)) (Finset.sum_congr rfl fun k _ => ?_)) (Finset.sum_congr rfl fun k _ => ?_))
    (sum_four 1408 rfl (term (V m c main_arg0) (V m c main_arg1) (row t p) (colm t q)))
  · rw [show place (⟨t.val - 1 - 1 - 1, hs3⟩ : Fin cfg0.N) k = ⟨k.val, by omega⟩ from Fin.ext (by show (t.val - 1 - 1 - 1) % 4 * 1408 + k.val = k.val; omega)]
  · rw [show place (⟨t.val - 1 - 1, hs2⟩ : Fin cfg0.N) k = ⟨1408 + k.val, by omega⟩ from Fin.ext (by show (t.val - 1 - 1) % 4 * 1408 + k.val = 1408 + k.val; omega)]
  · rw [show place (⟨t.val - 1, hs1⟩ : Fin cfg0.N) k = ⟨2816 + k.val, by omega⟩ from Fin.ext (by show (t.val - 1) % 4 * 1408 + k.val = 2816 + k.val; omega)]
  · rw [show place t k = ⟨4224 + k.val, by omega⟩ from Fin.ext (by show t.val % 4 * 1408 + k.val = 4224 + k.val; omega)]

/-- The blocks cover the array. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : ((i 0).val / 1024) * 4 + 3 < cfg0.N := Nat.lt_of_lt_of_eq (by omega) N_0.symm
  refine ⟨⟨((i 0).val / 1024) * 4 + 3, ht⟩, (flush0_2 _).mpr (by show (((i 0).val / 1024) * 4 + 3) % 4 = 3; omega), ?_⟩
  obtain ⟨e0, e1⟩ := at2 ⟨((i 0).val / 1024) * 4 + 3, ht⟩
  exact mem2 (((cfg0.win 2).blk _).view.emb_mem_set) i (ix2 ⟨(i 0).val % 1024, Nat.mod_lt _ (by decide)⟩ (i 1) : S1024x1024.Idx)
    (by show win0_2.index ⟨((i 0).val / 1024) * 4 + 3, ht⟩ (0 : Fin 2) * 1024 + 1 * ((i 0).val % 1024) = (i 0).val; rw [e0]; show (((i 0).val / 1024) * 4 + 3) / 4 * 1024 + 1 * ((i 0).val % 1024) = (i 0).val; omega)
    (by show win0_2.index ⟨((i 0).val / 1024) * 4 + 3, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S2x4096x2816 .bf16) (y : Vec Ideal S4x1024x1408 .bf16) :
    Cert.Reference6Ideal.Read.val_main_v9 (F := Ideal) x y = prod x y := by
  refine ext2 fun (p : Fin 4096) (q : Fin 1024) => ?_
  refine (Cert.Reference6Ideal.Read.val_main_v9_apply x y _).trans
    ((Cert.Reference6Ideal.Read.val_main_v8_apply x y _).trans
    (Finset.sum_congr rfl fun k _ => ?_))
  have hp := p.isLt
  have hq := q.isLt
  have hk := k.isLt
  refine mul2 ((Cert.Reference6Ideal.Read.val_main_v1_apply (F := Ideal) x _).trans ((Cert.Reference6Ideal.Read.val_main_v0_apply (F := Ideal) x _).trans (congrArg x (funext fun b => Fin.ext ?_))))
    ((Cert.Reference6Ideal.Read.val_main_v4_apply (F := Ideal) y _).trans ((Cert.Reference6Ideal.Read.val_main_v3_apply (F := Ideal) y _).trans (congrArg y (funext fun b => Fin.ext ?_))))
  · match b with
    | ⟨0, _⟩ => show (p.val * 5632 + k.val) / 2816 % 2 = k.val / 2816; omega
    | ⟨1, _⟩ => show (p.val * 5632 + k.val) / 5632 = p.val; omega
    | ⟨2, _⟩ => show (p.val * 5632 + k.val) % 2816 = k.val % 2816; omega
  · match b with
    | ⟨0, _⟩ => show (q.val * 5632 + k.val) / 1408 % 4 = k.val / 1408; omega
    | ⟨1, _⟩ => show (q.val * 5632 + k.val) / 5632 = q.val; omega
    | ⟨2, _⟩ => show (q.val * 5632 + k.val) % 1408 = k.val % 1408; omega

/-- The reference runs, keeps its arguments, and leaves every counter at zero. -/
theorem frame_reference : Cert.quiescent_Reference6Ideal (hReference6Ideal := Cert.Reference6Ideal.Gen.facts) := by
  intro m g _
  exact (θ_run Cert.Reference6Ideal.defs _ _).mono
    (fun r h => ⟨fun c => (h c).2, Idealize.ShloMosaic.sem_eq_zero_of_no_sems (by decide) r.2⟩)
    (Cert.Reference6Ideal.Value.run m g)

/-- The kernel's array is the reference's. -/
theorem value : Cert.algebraic_Kernel6Ideal_Reference6Ideal (hKernel6Ideal := Cert.Kernel6Ideal.Gen.facts)
    (hReference6Ideal := Cert.Reference6Ideal.Gen.facts) := by
  intro m g m' g' _ hm
  refine ⟨fun c => _, run_kernel m g, ?_⟩
  refine (θ_run Cert.Reference6Ideal.defs _ _).mono (fun r h c => ?_) (Cert.Reference6Ideal.Value.run m' g')
  obtain ⟨h0, hk⟩ := h c
  obtain ⟨a0, a1⟩ := hm c
  exact ⟨(h0.trans (Cert.Reference6Ideal.Read.val_main_v9_eq (F := Ideal) _ _)).trans ((reference_eq _ _).trans (congrArg₂ prod a0 a1)), hk⟩

end Cert.Proof.Dh2

end
-- ==== Proof.Dmix.lean ====
/- The gradient that leaves the mixture's output product, and the recurrence's: a product with the right operand turned, where each block is the whole contraction;
   and the reference's array is the same sum. -/
module

public import proofs.«01_k».proof.Proof.MatMul
public import proofs.«01_k».proof.Defs
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.KernelVsHost
public import Idealize.ShloMosaic.Adequacy

@[expose] public section

noncomputable section

namespace Cert.Proof.Dmix

open Cert.Kernel7Ideal Cert.Kernel7Ideal.Gen Cert.Kernel7Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S1024x1024 .bf16) (p : Fin 4096) (q : Fin 1024) (k : Fin 1024) : EReal :=
  x (ix2 p k) * y (ix2 q k)

/-- The product at every index. -/
def prod (x : Vec Ideal S4096x1024 .bf16) (y : Vec Ideal S1024x1024 .bf16) : Vec Ideal S4096x1024 .bf16 :=
  fun i => ∑ k : Fin 1024, term x y (i 0) (i 1) k

/-- One block's product, at an index. -/
theorem block_apply (x : Vec Ideal S1024x1024 .bf16) (y : Vec Ideal S1024x1024 .bf16) (p : Fin 1024) (q : Fin 1024) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S1024x1024) off2]
  exact nt_apply (φ₁ := .bf16) (φ₂ := .bf16) (M := 1024) (K := 1024) (N := 1024) x y p q

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

/-- Row `p` of point `t`'s rows. -/
def row (t : Fin cfg0.N) (p : Fin 1024) : Fin 4096 := ⟨t.val * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val * 1024 + p.val; omega
  · show win0_0.index t (1 : Fin 2) * 1024 + 1 * k.val = k.val; omega
theorem blk1 (c : Dev nD) (t : Fin cfg0.N) (q : Fin 1024) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 1024 + 1 * q.val = q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1024) => ?_
  show out0_2 (F := Ideal) _ _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val * 1024 + p.val; omega) (by show win0_2.index t (1 : Fin 2) * 1024 + 1 * q.val = q.val; omega)
  rw [hj]
  exact (block_apply _ _ p q).trans (Finset.sum_congr rfl fun k _ => mul2 (blk0 m c t p k) (blk1 m c t q k))

/-- The blocks cover the array. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := Nat.lt_of_lt_of_eq (by omega) N_0.symm
  refine ⟨⟨(i 0).val / 1024, ht⟩, flush0_2 _, ?_⟩
  obtain ⟨e0, e1⟩ := at2 ⟨(i 0).val / 1024, ht⟩
  exact mem2 (((cfg0.win 2).blk _).view.emb_mem_set) i (ix2 ⟨(i 0).val % 1024, Nat.mod_lt _ (by decide)⟩ (i 1) : S1024x1024.Idx)
    (by show win0_2.index ⟨(i 0).val / 1024, ht⟩ (0 : Fin 2) * 1024 + 1 * ((i 0).val % 1024) = (i 0).val; rw [e0]; show ((i 0).val / 1024) * 1024 + 1 * ((i 0).val % 1024) = (i 0).val; omega)
    (by show win0_2.index ⟨(i 0).val / 1024, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S1024x1024 .bf16) :
    Cert.Reference7Ideal.Read.val_main_v5 (F := Ideal) x y = prod x y := by
  refine ext2 fun (p : Fin 4096) (q : Fin 1024) => ?_
  refine (Cert.Reference7Ideal.Read.val_main_v5_apply x y _).trans
    ((Cert.Reference7Ideal.Read.val_main_v4_apply x y _).trans
    (Finset.sum_congr rfl fun k _ => ?_))
  exact mul2 (congrArg x (same2 rfl rfl)) (congrArg y (same2 rfl rfl))

/-- The reference runs, keeps its arguments, and leaves every counter at zero. -/
theorem frame_reference : Cert.quiescent_Reference7Ideal (hReference7Ideal := Cert.Reference7Ideal.Gen.facts) := by
  intro m g _
  exact (θ_run Cert.Reference7Ideal.defs _ _).mono
    (fun r h => ⟨fun c => (h c).2, Idealize.ShloMosaic.sem_eq_zero_of_no_sems (by decide) r.2⟩)
    (Cert.Reference7Ideal.Value.run m g)

/-- The kernel's array is the reference's. -/
theorem value : Cert.algebraic_Kernel7Ideal_Reference7Ideal (hKernel7Ideal := Cert.Kernel7Ideal.Gen.facts)
    (hReference7Ideal := Cert.Reference7Ideal.Gen.facts) := by
  intro m g m' g' _ hm
  refine ⟨fun c => _, run_kernel m g, ?_⟩
  refine (θ_run Cert.Reference7Ideal.defs _ _).mono (fun r h c => ?_) (Cert.Reference7Ideal.Value.run m' g')
  obtain ⟨h0, hk⟩ := h c
  obtain ⟨a0, a1⟩ := hm c
  exact ⟨(h0.trans (Cert.Reference7Ideal.Read.val_main_v5_eq (F := Ideal) _ _)).trans ((reference_eq _ _).trans (congrArg₂ prod a0 a1)), hk⟩

end Cert.Proof.Dmix

end
-- ==== Proof.DwO.lean ====
/- The gradient of the mixture's output weights, and of the recurrence's: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.KernelVsHost
public import Idealize.ShloMosaic.Lib.Tactic
public import Idealize.ShloMosaic.Adequacy

@[expose] public section

noncomputable section

namespace Cert.Proof.DwO

open Cert.Kernel8Ideal Cert.Kernel8Ideal.Gen Cert.Kernel8Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S4096x1024 .bf16) (p : Fin 1024) (q : Fin 1024) (k : Fin 4096) : EReal :=
  x (ix2 k p) * y (ix2 k q)

/-- The product at every index. -/
def prod (x : Vec Ideal S4096x1024 .bf16) (y : Vec Ideal S4096x1024 .bf16) : Vec Ideal S1024x1024 .bf16 :=
  fun i => ∑ k : Fin 4096, term x y (i 0) (i 1) k

/-- One part's product, at an index. -/
theorem part_apply (x : Vec Ideal S2048x1024 .bf16) (y : Vec Ideal S2048x1024 .bf16) (p : Fin 1024) (q : Fin 1024) :
    k0_pay1 (F := Ideal) x y (ix2 p q) = ∑ k : Fin 2048, x (ix2 k p) * y (ix2 k q) :=
  tn_apply (φ₁ := .bf16) (φ₂ := .bf16) (M := 1024) (K := 2048) (N := 1024) x y p q

section
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1024) off2, shapeCast_self]

/-- The last of a block's points writes back the running sum with its part's product added. -/
theorem last_eq (hc0 : ¬cond0_0 i) (hc1 : cond0_1 i) (hc2 : cond0_2 i) (xs : Vec Ideal S1024x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1024x1024) _ off2, View.readAt_eq_ld, Memref.IsWhole.read_unread, View.ld_unit_zero (S := S2048x1024) off2, View.ld_unit_zero (S := S1024x1024) off2]

end

/-- The running sum after a further point, at an index. -/
theorem sum_apply (x : Vec Ideal S2048x1024 .bf16) (y : Vec Ideal S2048x1024 .bf16) (s : Vec Ideal S1024x1024 .f32) (p : Fin 1024) (q : Fin 1024) :
    k0_pay3 (F := Ideal) x y s (ix2 p q) = s (ix2 p q) + k0_pay1 (F := Ideal) x y (ix2 p q) := by
  unfold k0_pay3
  show shapeCast S1024x1024 (addf s (k0_pay1 (F := Ideal) x y)) _ (ix2 p q) = _
  rw [shapeCast_self]
  rfl

/-- What the last point writes back, at an index. -/
theorem write_apply (x : Vec Ideal S2048x1024 .bf16) (y : Vec Ideal S2048x1024 .bf16) (s : Vec Ideal S1024x1024 .f32) (p : Fin 1024) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)

/-- Row `p` of point `t`'s rows. -/
def row (t : Fin cfg0.N) (p : Fin 1024) : Fin 1024 := ⟨p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 2048) : Fin 4096 := ⟨t.val * 2048 + k.val, by have := Nat.lt_of_lt_of_eq t.isLt N_0; omega⟩

theorem blk0 (c : Dev nD) (t : Fin cfg0.N) (p : Fin 1024) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val * 2048 + k.val; omega
  · show win0_0.index t (1 : Fin 2) * 1024 + 1 * p.val = p.val; omega
theorem blk1 (c : Dev nD) (t : Fin cfg0.N) (q : Fin 1024) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val * 2048 + k.val; omega
  · show win0_1.index t (1 : Fin 2) * 1024 + 1 * q.val = q.val; omega

/-- A part's product in the argument arrays. -/
theorem part_eq (c : Dev nD) (t : Fin cfg0.N) (p : Fin 1024) (q : Fin 1024) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1024) (q : Fin 1024) => ?_
  show k0_pay4 (F := Ideal) _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show p.val = p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) * 2048 + k.val = k.val; omega)]
  · rw [show place t k = ⟨2048 + k.val, by omega⟩ from Fin.ext (by show t.val * 2048 + k.val = 2048 + k.val; omega)]

/-- The blocks cover the array. -/
theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have ht : 1 < cfg0.N := Nat.lt_of_lt_of_eq (by omega) N_0.symm
  refine ⟨⟨1, ht⟩, (flush0_2 _).mpr (by show (1) % 2 = 1; omega), ?_⟩
  obtain ⟨e0, e1⟩ := at2 ⟨1, ht⟩
  exact mem2 (((cfg0.win 2).blk _).view.emb_mem_set) i (ix2 (i 0) (i 1) : S1024x1024.Idx)
    (by show win0_2.index ⟨1, ht⟩ (0 : Fin 2) * 1024 + 1 * (i 0).val = (i 0).val; rw [e0]; show 0 * 1024 + 1 * (i 0).val = (i 0).val; omega)
    (by show win0_2.index ⟨1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x1024 .bf16) (y : Vec Ideal S4096x1024 .bf16) :
    Cert.Reference8Ideal.Read.val_main_v6 (F := Ideal) x y = prod x y := by
  refine ext2 fun (p : Fin 1024) (q : Fin 1024) => ?_
  refine (Cert.Reference8Ideal.Read.val_main_v6_apply x y _).trans
    ((Cert.Reference8Ideal.Read.val_main_v5_apply x y _).trans
    ((Cert.Reference8Ideal.Read.val_main_v4_apply x y _).trans
    (Finset.sum_congr rfl fun k _ => (mul_comm _ _).trans ?_)))
  exact mul2 (congrArg x (same2 rfl rfl)) (congrArg y (same2 rfl rfl))

/-- The reference runs, keeps its arguments, and leaves every counter at zero. -/
theorem frame_reference : Cert.quiescent_Reference8Ideal (hReference8Ideal := Cert.Reference8Ideal.Gen.facts) := by
  intro m g _
  exact (θ_run Cert.Reference8Ideal.defs _ _).mono
    (fun r h => ⟨fun c => (h c).2, Idealize.ShloMosaic.sem_eq_zero_of_no_sems (by decide) r.2⟩)
    (Cert.Reference8Ideal.Value.run m g)

/-- The kernel's array is the reference's. -/
theorem value : Cert.algebraic_Kernel8Ideal_Reference8Ideal (hKernel8Ideal := Cert.Kernel8Ideal.Gen.facts)
    (hReference8Ideal := Cert.Reference8Ideal.Gen.facts) := by
  intro m g m' g' _ hm
  refine ⟨fun c => _, run_kernel m g, ?_⟩
  refine (θ_run Cert.Reference8Ideal.defs _ _).mono (fun r h c => ?_) (Cert.Reference8Ideal.Value.run m' g')
  obtain ⟨h0, hk⟩ := h c
  obtain ⟨a0, a1⟩ := hm c
  exact ⟨(h0.trans (Cert.Reference8Ideal.Read.val_main_v6_eq (F := Ideal) _ _)).trans ((reference_eq _ _).trans (congrArg₂ prod a0 a1)), hk⟩

end Cert.Proof.DwO

end
-- ==== Proof.Datt.lean ====
/- The gradient that leaves the attention's output product: a product with the right operand turned, where each block is the whole contraction;
   and the reference's array is the same sum. -/
module

public import proofs.«01_k».proof.Proof.MatMul
public import proofs.«01_k».proof.Defs
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.KernelVsHost
public import Idealize.ShloMosaic.Adequacy

@[expose] public section

noncomputable section

namespace Cert.Proof.Datt

open Cert.Kernel9Ideal Cert.Kernel9Ideal.Gen Cert.Kernel9Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S512x1024 .bf16) (p : Fin 4096) (q : Fin 512) (k : Fin 1024) : EReal :=
  x (ix2 p k) * y (ix2 q k)

/-- The product at every index. -/
def prod (x : Vec Ideal S4096x1024 .bf16) (y : Vec Ideal S512x1024 .bf16) : Vec Ideal S4096x512 .bf16 :=
  fun i => ∑ k : Fin 1024, term x y (i 0) (i 1) k

/-- One block's product, at an index. -/
theorem block_apply (x : Vec Ideal S1024x1024 .bf16) (y : Vec Ideal S512x1024 .bf16) (p : Fin 1024) (q : Fin 512) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S512x1024) off2]
  exact nt_apply (φ₁ := .bf16) (φ₂ := .bf16) (M := 1024) (K := 1024) (N := 512) x y p q

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

/-- Row `p` of point `t`'s rows. -/
def row (t : Fin cfg0.N) (p : Fin 1024) : Fin 4096 := ⟨t.val * 1024 + p.val, by have := Nat.lt_of_lt_of_eq t.isLt N_0; omega⟩
/-- Column `q` of point `t`'s columns. -/
def colm (t : Fin cfg0.N) (q : Fin 512) : Fin 512 := ⟨q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val * 1024 + p.val; omega
  · show win0_0.index t (1 : Fin 2) * 1024 + 1 * k.val = k.val; omega
theorem blk1 (c : Dev nD) (t : Fin cfg0.N) (q : Fin 512) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 512 + 1 * q.val = q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 512) => ?_
  show out0_2 (F := Ideal) _ _ (ix2 p q) = prod _ _ (((cfg0.win 2).blk t).view.emb (ix2 p q : S1024x512.Idx))
  have hj : ((cfg0.win 2).blk t).view.emb (ix2 p q : S1024x512.Idx) = ix2 (row t p) (colm t q) :=
    same2 (by show win0_2.index t (0 : Fin 2) * 1024 + 1 * p.val = t.val * 1024 + p.val; omega) (by show win0_2.index t (1 : Fin 2) * 512 + 1 * q.val = q.val; omega)
  rw [hj]
  exact (block_apply _ _ p q).trans (Finset.sum_congr rfl fun k _ => mul2 (blk0 m c t p k) (blk1 m c t q k))

/-- The blocks cover the array. -/
theorem covered (i : S4096x512.Idx) : ∃ t : Fin cfg0.N, (cfg0.win 2).flush t = true ∧ i ∈ ((cfg0.win 2).blk t).view.set := by
  have h0 : (i 0).val < 4096 := (i 0).isLt
  have h1 : (i 1).val < 512 := (i 1).isLt
  have ht : (i 0).val / 1024 < cfg0.N := Nat.lt_of_lt_of_eq (by omega) N_0.symm
  refine ⟨⟨(i 0).val / 1024, ht⟩, flush0_2 _, ?_⟩
  obtain ⟨e0, e1⟩ := at2 ⟨(i 0).val / 1024, ht⟩
  exact mem2 (((cfg0.win 2).blk _).view.emb_mem_set) i (ix2 ⟨(i 0).val % 1024, Nat.mod_lt _ (by decide)⟩ (i 1) : S1024x512.Idx)
    (by show win0_2.index ⟨(i 0).val / 1024, ht⟩ (0 : Fin 2) * 1024 + 1 * ((i 0).val % 1024) = (i 0).val; rw [e0]; show ((i 0).val / 1024) * 1024 + 1 * ((i 0).val % 1024) = (i 0).val; omega)
    (by show win0_2.index ⟨(i 0).val / 1024, ht⟩ (1 : Fin 2) * 512 + 1 * (i 1).val = (i 1).val; rw [e1]; show 0 * 512 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S512x1024 .bf16) :
    Cert.Reference9Ideal.Read.val_main_v5 (F := Ideal) x y = prod x y := by
  refine ext2 fun (p : Fin 4096) (q : Fin 512) => ?_
  refine (Cert.Reference9Ideal.Read.val_main_v5_apply x y _).trans
    ((Cert.Reference9Ideal.Read.val_main_v4_apply x y _).trans
    (Finset.sum_congr rfl fun k _ => ?_))
  exact mul2 (congrArg x (same2 rfl rfl)) (congrArg y (same2 rfl rfl))

/-- The reference runs, keeps its arguments, and leaves every counter at zero. -/
theorem frame_reference : Cert.quiescent_Reference9Ideal (hReference9Ideal := Cert.Reference9Ideal.Gen.facts) := by
  intro m g _
  exact (θ_run Cert.Reference9Ideal.defs _ _).mono
    (fun r h => ⟨fun c => (h c).2, Idealize.ShloMosaic.sem_eq_zero_of_no_sems (by decide) r.2⟩)
    (Cert.Reference9Ideal.Value.run m g)

/-- The kernel's array is the reference's. -/
theorem value : Cert.algebraic_Kernel9Ideal_Reference9Ideal (hKernel9Ideal := Cert.Kernel9Ideal.Gen.facts)
    (hReference9Ideal := Cert.Reference9Ideal.Gen.facts) := by
  intro m g m' g' _ hm
  refine ⟨fun c => _, run_kernel m g, ?_⟩
  refine (θ_run Cert.Reference9Ideal.defs _ _).mono (fun r h c => ?_) (Cert.Reference9Ideal.Value.run m' g')
  obtain ⟨h0, hk⟩ := h c
  obtain ⟨a0, a1⟩ := hm c
  exact ⟨(h0.trans (Cert.Reference9Ideal.Read.val_main_v5_eq (F := Ideal) _ _)).trans ((reference_eq _ _).trans (congrArg₂ prod a0 a1)), hk⟩

end Cert.Proof.Datt

end
-- ==== Proof.DwAttOut.lean ====
/- The gradient of the attention's output weights, a quarter of the columns at a time: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.KernelVsHost
public import Idealize.ShloMosaic.Lib.Tactic
public import Idealize.ShloMosaic.Adequacy

@[expose] public section

noncomputable section

namespace Cert.Proof.DwAttOut

open Cert.Kernel10Ideal Cert.Kernel10Ideal.Gen Cert.Kernel10Ideal.Value Cert.Proof.MatMul
open Idealize.ShloMosaic Idealize.ShloMosaic.TcCoe Idealize.SL.Sem Idealize.ShloMosaic.ValueIdx
open Idealize.ShloMosaic.Pipeline (Dat)

/-- Column `q` of part `a` among all columns. -/
def glue (a : Fin 4) (q : Fin 256) : Fin 1024 := ⟨a.val * 256 + q.val, by have := a.isLt; have := q.isLt; omega⟩

/-- One summand of the product. -/
def term (x : Vec Ideal S4096x512 .bf16) (y : Vec Ideal S4096x1024 .bf16) (p : Fin 512) (q : Fin 1024) (k : Fin 4096) : EReal :=
  x (ix2 k p) * y (ix2 k q)

/-- The product at every index. -/
def prod (x : Vec Ideal S4096x512 .bf16) (y : Vec Ideal S4096x1024 .bf16) : Vec Ideal S4x512x256 .bf16 :=
  fun i => ∑ k : Fin 4096, term x y (i 1) (glue (i 0) (i 2)) k

/-- One part's product, at an index. -/
theorem part_apply (x : Vec Ideal S2048x512 .bf16) (y : Vec Ideal S2048x256 .bf16) (p : Fin 512) (q : Fin 256) :
    k0_pay1 (F := Ideal) x y (ix2 p q) = ∑ k : Fin 2048, x (ix2 k p) * y (ix2 k q) :=
  tn_apply (φ₁ := .bf16) (φ₂ := .bf16) (M := 512) (K := 2048) (N := 256) x y p q

section
variable (c : Dev nD) (i : grid0.Coords) (arg3 : Memref sig .tc .vmem S2048x512 .bf16) (harg3 : arg3.IsWhole) (arg4 : Memref sig .tc .vmem S2048x256 .bf16) (harg4 : arg4.IsWhole) (arg5 : Memref sig .tc .vmem S1x512x256 .bf16) (harg5 : arg5.IsWhole) (arg6 : Memref sig .tc .vmem S512x256 .f32) (harg6 : arg6.IsWhole)
  (x0 : Vec Ideal S2048x512 .bf16) (x1 : Vec Ideal S2048x256 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x512) off2, View.ld_unit_zero (S := S2048x256) off2, shapeCast_self]

/-- The last of a block's points writes back the running sum with its part's product added. -/
theorem last_eq (hc0 : ¬cond0_0 i) (hc1 : cond0_1 i) (hc2 : cond0_2 i) (xs : Vec Ideal S512x256 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off3]
  simp only [View.readCov_unit_zero (S := S512x256) _ off2, View.readAt_eq_ld, Memref.IsWhole.read_unread, View.ld_unit_zero (S := S2048x512) off2, View.ld_unit_zero (S := S2048x256) off2, View.ld_unit_zero (S := S512x256) off2]

end

/-- The running sum after a further point, at an index. -/
theorem sum_apply (x : Vec Ideal S2048x512 .bf16) (y : Vec Ideal S2048x256 .bf16) (s : Vec Ideal S512x256 .f32) (p : Fin 512) (q : Fin 256) :
    k0_pay3 (F := Ideal) x y s (ix2 p q) = s (ix2 p q) + k0_pay1 (F := Ideal) x y (ix2 p q) := by
  unfold k0_pay3
  show shapeCast S512x256 (addf s (k0_pay1 (F := Ideal) x y)) _ (ix2 p q) = _
  rw [shapeCast_self]
  rfl

/-- What the last point writes back, at an index. -/
theorem write_apply (x : Vec Ideal S2048x512 .bf16) (y : Vec Ideal S2048x256 .bf16) (s : Vec Ideal S512x256 .f32)
    (a : Fin 1) (p : Fin 512) (q : Fin 256) :
    k0_pay4 (F := Ideal) (k0_pay3 x y s) (ix3 a p q) = s (ix2 p q) + k0_pay1 (F := Ideal) x y (ix2 p q) := by
  unfold k0_pay4
  exact (lead_apply _ _ a p q).trans (sum_apply x y s p q)

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = t.val / 2 :=
  (by decide +kernel : ∀ t : Fin grid0.N, _)
theorem at2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

/-- Row `p` of point `t`'s rows. -/
def row (t : Fin cfg0.N) (p : Fin 512) : Fin 512 := ⟨p.val, by have := Nat.lt_of_lt_of_eq t.isLt N_0; omega⟩
/-- Column `q` of point `t`'s columns. -/
def colm (t : Fin cfg0.N) (q : Fin 256) : Fin 1024 := ⟨t.val / 2 * 256 + q.val, by have := Nat.lt_of_lt_of_eq t.isLt N_0; omega⟩
/-- Place `k` of point `t`'s part of the contraction. -/
def place (t : Fin cfg0.N) (k : Fin 2048) : Fin 4096 := ⟨t.val % 2 * 2048 + k.val, by have := Nat.lt_of_lt_of_eq t.isLt N_0; omega⟩
/-- The part point `t` works on. -/
def part (t : Fin cfg0.N) : Fin 4 := ⟨t.val / 2, by have := Nat.lt_of_lt_of_eq t.isLt N_0; omega⟩

theorem blk0 (c : Dev nD) (t : Fin cfg0.N) (p : Fin 512) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 512 + 1 * p.val = p.val; omega
theorem blk1 (c : Dev nD) (t : Fin cfg0.N) (q : Fin 256) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val % 2 * 2048 + k.val; omega
  · show win0_1.index t (1 : Fin 2) * 256 + 1 * q.val = t.val / 2 * 256 + q.val; omega

/-- A part's product in the argument arrays. -/
theorem part_eq (c : Dev nD) (t : Fin cfg0.N) (p : Fin 512) (q : Fin 256) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1, e2⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine funext fun (j : S1x512x256.Idx) => ?_
  obtain ⟨a, p, q, rfl⟩ : ∃ (a : Fin 1) (p : Fin 512) (q : Fin 256), j = ix3 a p q := ⟨j 0, j 1, j 2, eq_ix3 j⟩
  show k0_pay4 (F := Ideal) _ (ix3 a p q) = prod _ _ (((cfg0.win 2).blk t).view.emb (ix3 a p q : S1x512x256.Idx))
  have hj : ((cfg0.win 2).blk t).view.emb (ix3 a p q : S1x512x256.Idx) = ix3 (part t) (row t p) q := by
    have ha : a.val = 0 := by have := a.isLt; omega
    funext b; apply Fin.ext
    match b with
    | ⟨0, _⟩ => show win0_2.index t (0 : Fin 3) * 1 + 1 * a.val = t.val / 2; omega
    | ⟨1, _⟩ => show win0_2.index t (1 : Fin 3) * 512 + 1 * p.val = p.val; omega
    | ⟨2, _⟩ => show win0_2.index t (2 : Fin 3) * 256 + 1 * q.val = q.val; omega
  rw [hj]
  refine (write_apply _ _ _ a p q).trans ?_
  rw [part_eq, part_eq]
  have hr1 : row (⟨t.val - 1, hs1⟩ : Fin cfg0.N) p = row t p := Fin.ext (by show p.val = p.val; omega)
  have hq1 : colm (⟨t.val - 1, hs1⟩ : Fin cfg0.N) q = colm t q := Fin.ext (by show (t.val - 1) / 2 * 256 + q.val = t.val / 2 * 256 + q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) % 2 * 2048 + k.val = k.val; omega)]
  · rw [show place t k = ⟨2048 + k.val, by omega⟩ from Fin.ext (by show t.val % 2 * 2048 + k.val = 2048 + k.val; omega)]

/-- The blocks cover the array. -/
theorem covered (i : S4x512x256.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 256 := (i 2).isLt
  have ht : (i 0).val * 2 + 1 < cfg0.N := Nat.lt_of_lt_of_eq (by omega) N_0.symm
  refine ⟨⟨(i 0).val * 2 + 1, ht⟩, (flush0_2 _).mpr (by show ((i 0).val * 2 + 1) % 2 = 1; omega), ?_⟩
  obtain ⟨e0, e1, e2⟩ := at2 ⟨(i 0).val * 2 + 1, ht⟩
  have h := ((cfg0.win 2).blk ⟨(i 0).val * 2 + 1, ht⟩).view.emb_mem_set (ix3 0 (i 1) (i 2) : S1x512x256.Idx)
  refine Eq.mp (congrArg (· ∈ _) ?_) h
  funext a; apply Fin.ext
  match a with
  | ⟨0, _⟩ =>
    show win0_2.index ⟨(i 0).val * 2 + 1, ht⟩ (0 : Fin 3) * 1 + 1 * 0 = (i 0).val
    rw [e0]; show ((i 0).val * 2 + 1) / 2 * 1 + 1 * 0 = (i 0).val; omega
  | ⟨1, _⟩ =>
    show win0_2.index ⟨(i 0).val * 2 + 1, ht⟩ (1 : Fin 3) * 512 + 1 * (i 1).val = (i 1).val
    rw [e1]; show 0 * 512 + 1 * (i 1).val = (i 1).val; omega
  | ⟨2, _⟩ =>
    show win0_2.index ⟨(i 0).val * 2 + 1, ht⟩ (2 : Fin 3) * 256 + 1 * (i 2).val = (i 2).val
    rw [e2]; show 0 * 256 + 1 * (i 2).val = (i 2).val; omega

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x512 .bf16) (y : Vec Ideal S4096x1024 .bf16) :
    Cert.Reference10Ideal.Read.val_main_v8 (F := Ideal) x y = prod x y := by
  refine funext fun (i : S4x512x256.Idx) => ?_
  obtain ⟨a, p, q, rfl⟩ : ∃ (a : Fin 4) (p : Fin 512) (q : Fin 256), i = ix3 a p q := ⟨i 0, i 1, i 2, eq_ix3 i⟩
  refine (Cert.Reference10Ideal.Read.val_main_v8_apply x y _).trans
    ((Cert.Reference10Ideal.Read.val_main_v7_apply x y _).trans
    ((Cert.Reference10Ideal.Read.val_main_v6_apply x y _).trans
    ((Cert.Reference10Ideal.Read.val_main_v5_apply x y _).trans
    ((Cert.Reference10Ideal.Read.val_main_v4_apply x y _).trans
    (Finset.sum_congr rfl fun k _ => (mul_comm _ _).trans ?_)))))
  have ha := a.isLt
  have hq := q.isLt
  refine mul2 (congrArg x (funext fun b => Fin.ext ?_)) (congrArg y (funext fun b => Fin.ext ?_))
  · match b with
    | ⟨0, _⟩ => rfl
    | ⟨1, _⟩ => show ((p.val * 4 + a.val) * 256 + q.val) / 1024 = p.val; omega
  · match b with
    | ⟨0, _⟩ => rfl
    | ⟨1, _⟩ => show ((p.val * 4 + a.val) * 256 + q.val) % 1024 = a.val * 256 + q.val; omega

/-- The reference runs, keeps its arguments, and leaves every counter at zero. -/
theorem frame_reference : Cert.quiescent_Reference10Ideal (hReference10Ideal := Cert.Reference10Ideal.Gen.facts) := by
  intro m g _
  exact (θ_run Cert.Reference10Ideal.defs _ _).mono
    (fun r h => ⟨fun c => (h c).2, Idealize.ShloMosaic.sem_eq_zero_of_no_sems (by decide) r.2⟩)
    (Cert.Reference10Ideal.Value.run m g)

/-- The kernel's array is the reference's. -/
theorem value : Cert.algebraic_Kernel10Ideal_Reference10Ideal (hKernel10Ideal := Cert.Kernel10Ideal.Gen.facts)
    (hReference10Ideal := Cert.Reference10Ideal.Gen.facts) := by
  intro m g m' g' _ hm
  refine ⟨fun c => _, run_kernel m g, ?_⟩
  refine (θ_run Cert.Reference10Ideal.defs _ _).mono (fun r h c => ?_) (Cert.Reference10Ideal.Value.run m' g')
  obtain ⟨h0, hk⟩ := h c
  obtain ⟨a0, a1⟩ := hm c
  exact ⟨(h0.trans (Cert.Reference10Ideal.Read.val_main_v8_eq (F := Ideal) _ _)).trans ((reference_eq _ _).trans (congrArg₂ prod a0 a1)), hk⟩

end Cert.Proof.DwAttOut

end
-- ==== Proof.DwAtt.lean ====
/- The gradient of the attention's input weights: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.KernelVsHost
public import Idealize.ShloMosaic.Lib.Tactic
public import Idealize.ShloMosaic.Adequacy

@[expose] public section

noncomputable section

namespace Cert.Proof.DwAtt

open Cert.Kernel11Ideal Cert.Kernel11Ideal.Gen Cert.Kernel11Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x4608 .bf16) (y : Vec Ideal S4096x1024 .bf16) (p : Fin 4608) (q : Fin 1024) (k : Fin 4096) : EReal :=
  x (ix2 k p) * y (ix2 k q)

/-- The product at every index. -/
def prod (x : Vec Ideal S4096x4608 .bf16) (y : Vec Ideal S4096x1024 .bf16) : Vec Ideal S4608x1024 .bf16 :=
  fun i => ∑ k : Fin 4096, term x y (i 0) (i 1) k

/-- One part's product, at an index. -/
theorem part_apply (x : Vec Ideal S2048x1536 .bf16) (y : Vec Ideal S2048x1024 .bf16) (p : Fin 1536) (q : Fin 1024) :
    k0_pay1 (F := Ideal) x y (ix2 p q) = ∑ k : Fin 2048, x (ix2 k p) * y (ix2 k q) :=
  tn_apply (φ₁ := .bf16) (φ₂ := .bf16) (M := 1536) (K := 2048) (N := 1024) x y p q

section
variable (c : Dev nD) (i : grid0.Coords) (arg3 : Memref sig .tc .vmem S2048x1536 .bf16) (harg3 : arg3.IsWhole) (arg4 : Memref sig .tc .vmem S2048x1024 .bf16) (harg4 : arg4.IsWhole) (arg5 : Memref sig .tc .vmem S1536x1024 .bf16) (harg5 : arg5.IsWhole) (arg6 : Memref sig .tc .vmem S1536x1024 .f32) (harg6 : arg6.IsWhole)
  (x0 : Vec Ideal S2048x1536 .bf16) (x1 : Vec Ideal S2048x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1536) off2, View.ld_unit_zero (S := S2048x1024) off2, shapeCast_self]

/-- The last of a block's points writes back the running sum with its part's product added. -/
theorem last_eq (hc0 : ¬cond0_0 i) (hc1 : cond0_1 i) (hc2 : cond0_2 i) (xs : Vec Ideal S1536x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1536x1024) _ off2, View.readAt_eq_ld, Memref.IsWhole.read_unread, View.ld_unit_zero (S := S2048x1536) off2, View.ld_unit_zero (S := S2048x1024) off2, View.ld_unit_zero (S := S1536x1024) off2]

end

/-- The running sum after a further point, at an index. -/
theorem sum_apply (x : Vec Ideal S2048x1536 .bf16) (y : Vec Ideal S2048x1024 .bf16) (s : Vec Ideal S1536x1024 .f32) (p : Fin 1536) (q : Fin 1024) :
    k0_pay3 (F := Ideal) x y s (ix2 p q) = s (ix2 p q) + k0_pay1 (F := Ideal) x y (ix2 p q) := by
  unfold k0_pay3
  show shapeCast S1536x1024 (addf s (k0_pay1 (F := Ideal) x y)) _ (ix2 p q) = _
  rw [shapeCast_self]
  rfl

/-- What the last point writes back, at an index. -/
theorem write_apply (x : Vec Ideal S2048x1536 .bf16) (y : Vec Ideal S2048x1024 .bf16) (s : Vec Ideal S1536x1024 .f32) (p : Fin 1536) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = t.val / 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)

/-- Row `p` of point `t`'s rows. -/
def row (t : Fin cfg0.N) (p : Fin 1536) : Fin 4608 := ⟨t.val / 2 * 1536 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 2048) : Fin 4096 := ⟨t.val % 2 * 2048 + k.val, by have := Nat.lt_of_lt_of_eq t.isLt N_0; omega⟩

theorem blk0 (c : Dev nD) (t : Fin cfg0.N) (p : Fin 1536) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 1536 + 1 * p.val = t.val / 2 * 1536 + p.val; omega
theorem blk1 (c : Dev nD) (t : Fin cfg0.N) (q : Fin 1024) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val % 2 * 2048 + k.val; omega
  · show win0_1.index t (1 : Fin 2) * 1024 + 1 * q.val = q.val; omega

/-- A part's product in the argument arrays. -/
theorem part_eq (c : Dev nD) (t : Fin cfg0.N) (p : Fin 1536) (q : Fin 1024) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1536) (q : Fin 1024) => ?_
  show k0_pay4 (F := Ideal) _ (ix2 p q) = prod _ _ (((cfg0.win 2).blk t).view.emb (ix2 p q : S1536x1024.Idx))
  have hj : ((cfg0.win 2).blk t).view.emb (ix2 p q : S1536x1024.Idx) = ix2 (row t p) (colm t q) :=
    same2 (by show win0_2.index t (0 : Fin 2) * 1536 + 1 * p.val = t.val / 2 * 1536 + p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show (t.val - 1) / 2 * 1536 + p.val = t.val / 2 * 1536 + p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) % 2 * 2048 + k.val = k.val; omega)]
  · rw [show place t k = ⟨2048 + k.val, by omega⟩ from Fin.ext (by show t.val % 2 * 2048 + k.val = 2048 + k.val; omega)]

/-- The blocks cover the array. -/
theorem covered (i : S4608x1024.Idx) : ∃ t : Fin cfg0.N, (cfg0.win 2).flush t = true ∧ i ∈ ((cfg0.win 2).blk t).view.set := by
  have h0 : (i 0).val < 4608 := (i 0).isLt
  have h1 : (i 1).val < 1024 := (i 1).isLt
  have ht : ((i 0).val / 1536) * 2 + 1 < cfg0.N := Nat.lt_of_lt_of_eq (by omega) N_0.symm
  refine ⟨⟨((i 0).val / 1536) * 2 + 1, ht⟩, (flush0_2 _).mpr (by show (((i 0).val / 1536) * 2 + 1) % 2 = 1; omega), ?_⟩
  obtain ⟨e0, e1⟩ := at2 ⟨((i 0).val / 1536) * 2 + 1, ht⟩
  exact mem2 (((cfg0.win 2).blk _).view.emb_mem_set) i (ix2 ⟨(i 0).val % 1536, Nat.mod_lt _ (by decide)⟩ (i 1) : S1536x1024.Idx)
    (by show win0_2.index ⟨((i 0).val / 1536) * 2 + 1, ht⟩ (0 : Fin 2) * 1536 + 1 * ((i 0).val % 1536) = (i 0).val; rw [e0]; show (((i 0).val / 1536) * 2 + 1) / 2 * 1536 + 1 * ((i 0).val % 1536) = (i 0).val; omega)
    (by show win0_2.index ⟨((i 0).val / 1536) * 2 + 1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x4608 .bf16) (y : Vec Ideal S4096x1024 .bf16) :
    Cert.Reference11Ideal.Read.val_main_v8 (F := Ideal) x y = prod x y := by
  refine ext2 fun (p : Fin 4608) (q : Fin 1024) => ?_
  refine (Cert.Reference11Ideal.Read.val_main_v8_apply x y _).trans
    ((Cert.Reference11Ideal.Read.val_main_v7_apply x y _).trans
    ((Cert.Reference11Ideal.Read.val_main_v6_apply x y _).trans
    ((Cert.Reference11Ideal.Read.val_main_v5_apply x y _).trans
    (Finset.sum_congr rfl fun k _ => ?_))))
  exact mul2 (congrArg x (same2 rfl rfl)) (congrArg y (same2 rfl rfl))

/-- The reference runs, keeps its arguments, and leaves every counter at zero. -/
theorem frame_reference : Cert.quiescent_Reference11Ideal (hReference11Ideal := Cert.Reference11Ideal.Gen.facts) := by
  intro m g _
  exact (θ_run Cert.Reference11Ideal.defs _ _).mono
    (fun r h => ⟨fun c => (h c).2, Idealize.ShloMosaic.sem_eq_zero_of_no_sems (by decide) r.2⟩)
    (Cert.Reference11Ideal.Value.run m g)

/-- The kernel's array is the reference's. -/
theorem value : Cert.algebraic_Kernel11Ideal_Reference11Ideal (hKernel11Ideal := Cert.Kernel11Ideal.Gen.facts)
    (hReference11Ideal := Cert.Reference11Ideal.Gen.facts) := by
  intro m g m' g' _ hm
  refine ⟨fun c => _, run_kernel m g, ?_⟩
  refine (θ_run Cert.Reference11Ideal.defs _ _).mono (fun r h c => ?_) (Cert.Reference11Ideal.Value.run m' g')
  obtain ⟨h0, hk⟩ := h c
  obtain ⟨a0, a1⟩ := hm c
  exact ⟨(h0.trans (Cert.Reference11Ideal.Read.val_main_v8_eq (F := Ideal) _ _)).trans ((reference_eq _ _).trans (congrArg₂ prod a0 a1)), hk⟩

end Cert.Proof.DwAtt

end
-- ==== Proof.DwRw.lean ====
/- The gradient of the recurrence's input weights: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.KernelVsHost
public import Idealize.ShloMosaic.Lib.Tactic
public import Idealize.ShloMosaic.Adequacy

@[expose] public section

noncomputable section

namespace Cert.Proof.DwRw

open Cert.Kernel12Ideal Cert.Kernel12Ideal.Gen Cert.Kernel12Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x3456 .bf16) (y : Vec Ideal S4096x1024 .bf16) (p : Fin 3456) (q : Fin 1024) (k : Fin 4096) : EReal :=
  x (ix2 k p) * y (ix2 k q)

/-- The product at every index. -/
def prod (x : Vec Ideal S4096x3456 .bf16) (y : Vec Ideal S4096x1024 .bf16) : Vec Ideal S3456x1024 .bf16 :=
  fun i => ∑ k : Fin 4096, term x y (i 0) (i 1) k

/-- One part's product, at an index. -/
theorem part_apply (x : Vec Ideal S2048x1152 .bf16) (y : Vec Ideal S2048x1024 .bf16) (p : Fin 1152) (q : Fin 1024) :
    k0_pay1 (F := Ideal) x y (ix2 p q) = ∑ k : Fin 2048, x (ix2 k p) * y (ix2 k q) :=
  tn_apply (φ₁ := .bf16) (φ₂ := .bf16) (M := 1152) (K := 2048) (N := 1024) x y p q

section
variable (c : Dev nD) (i : grid0.Coords) (arg3 : Memref sig .tc .vmem S2048x1152 .bf16) (harg3 : arg3.IsWhole) (arg4 : Memref sig .tc .vmem S2048x1024 .bf16) (harg4 : arg4.IsWhole) (arg5 : Memref sig .tc .vmem S1152x1024 .bf16) (harg5 : arg5.IsWhole) (arg6 : Memref sig .tc .vmem S1152x1024 .f32) (harg6 : arg6.IsWhole)
  (x0 : Vec Ideal S2048x1152 .bf16) (x1 : Vec Ideal S2048x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1152) off2, View.ld_unit_zero (S := S2048x1024) off2, shapeCast_self]

/-- The last of a block's points writes back the running sum with its part's product added. -/
theorem last_eq (hc0 : ¬cond0_0 i) (hc1 : cond0_1 i) (hc2 : cond0_2 i) (xs : Vec Ideal S1152x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1152x1024) _ off2, View.readAt_eq_ld, Memref.IsWhole.read_unread, View.ld_unit_zero (S := S2048x1152) off2, View.ld_unit_zero (S := S2048x1024) off2, View.ld_unit_zero (S := S1152x1024) off2]

end

/-- The running sum after a further point, at an index. -/
theorem sum_apply (x : Vec Ideal S2048x1152 .bf16) (y : Vec Ideal S2048x1024 .bf16) (s : Vec Ideal S1152x1024 .f32) (p : Fin 1152) (q : Fin 1024) :
    k0_pay3 (F := Ideal) x y s (ix2 p q) = s (ix2 p q) + k0_pay1 (F := Ideal) x y (ix2 p q) := by
  unfold k0_pay3
  show shapeCast S1152x1024 (addf s (k0_pay1 (F := Ideal) x y)) _ (ix2 p q) = _
  rw [shapeCast_self]
  rfl

/-- What the last point writes back, at an index. -/
theorem write_apply (x : Vec Ideal S2048x1152 .bf16) (y : Vec Ideal S2048x1024 .bf16) (s : Vec Ideal S1152x1024 .f32) (p : Fin 1152) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = t.val / 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)

/-- Row `p` of point `t`'s rows. -/
def row (t : Fin cfg0.N) (p : Fin 1152) : Fin 3456 := ⟨t.val / 2 * 1152 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 2048) : Fin 4096 := ⟨t.val % 2 * 2048 + k.val, by have := Nat.lt_of_lt_of_eq t.isLt N_0; omega⟩

theorem blk0 (c : Dev nD) (t : Fin cfg0.N) (p : Fin 1152) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 1152 + 1 * p.val = t.val / 2 * 1152 + p.val; omega
theorem blk1 (c : Dev nD) (t : Fin cfg0.N) (q : Fin 1024) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val % 2 * 2048 + k.val; omega
  · show win0_1.index t (1 : Fin 2) * 1024 + 1 * q.val = q.val; omega

/-- A part's product in the argument arrays. -/
theorem part_eq (c : Dev nD) (t : Fin cfg0.N) (p : Fin 1152) (q : Fin 1024) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1152) (q : Fin 1024) => ?_
  show k0_pay4 (F := Ideal) _ (ix2 p q) = prod _ _ (((cfg0.win 2).blk t).view.emb (ix2 p q : S1152x1024.Idx))
  have hj : ((cfg0.win 2).blk t).view.emb (ix2 p q : S1152x1024.Idx) = ix2 (row t p) (colm t q) :=
    same2 (by show win0_2.index t (0 : Fin 2) * 1152 + 1 * p.val = t.val / 2 * 1152 + p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show (t.val - 1) / 2 * 1152 + p.val = t.val / 2 * 1152 + p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) % 2 * 2048 + k.val = k.val; omega)]
  · rw [show place t k = ⟨2048 + k.val, by omega⟩ from Fin.ext (by show t.val % 2 * 2048 + k.val = 2048 + k.val; omega)]

/-- The blocks cover the array. -/
theorem covered (i : S3456x1024.Idx) : ∃ t : Fin cfg0.N, (cfg0.win 2).flush t = true ∧ i ∈ ((cfg0.win 2).blk t).view.set := by
  have h0 : (i 0).val < 3456 := (i 0).isLt
  have h1 : (i 1).val < 1024 := (i 1).isLt
  have ht : ((i 0).val / 1152) * 2 + 1 < cfg0.N := Nat.lt_of_lt_of_eq (by omega) N_0.symm
  refine ⟨⟨((i 0).val / 1152) * 2 + 1, ht⟩, (flush0_2 _).mpr (by show (((i 0).val / 1152) * 2 + 1) % 2 = 1; omega), ?_⟩
  obtain ⟨e0, e1⟩ := at2 ⟨((i 0).val / 1152) * 2 + 1, ht⟩
  exact mem2 (((cfg0.win 2).blk _).view.emb_mem_set) i (ix2 ⟨(i 0).val % 1152, Nat.mod_lt _ (by decide)⟩ (i 1) : S1152x1024.Idx)
    (by show win0_2.index ⟨((i 0).val / 1152) * 2 + 1, ht⟩ (0 : Fin 2) * 1152 + 1 * ((i 0).val % 1152) = (i 0).val; rw [e0]; show (((i 0).val / 1152) * 2 + 1) / 2 * 1152 + 1 * ((i 0).val % 1152) = (i 0).val; omega)
    (by show win0_2.index ⟨((i 0).val / 1152) * 2 + 1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x3456 .bf16) (y : Vec Ideal S4096x1024 .bf16) :
    Cert.Reference12Ideal.Read.val_main_v8 (F := Ideal) x y = prod x y := by
  refine ext2 fun (p : Fin 3456) (q : Fin 1024) => ?_
  refine (Cert.Reference12Ideal.Read.val_main_v8_apply x y _).trans
    ((Cert.Reference12Ideal.Read.val_main_v7_apply x y _).trans
    ((Cert.Reference12Ideal.Read.val_main_v6_apply x y _).trans
    ((Cert.Reference12Ideal.Read.val_main_v5_apply x y _).trans
    (Finset.sum_congr rfl fun k _ => ?_))))
  exact mul2 (congrArg x (same2 rfl rfl)) (congrArg y (same2 rfl rfl))

/-- The reference runs, keeps its arguments, and leaves every counter at zero. -/
theorem frame_reference : Cert.quiescent_Reference12Ideal (hReference12Ideal := Cert.Reference12Ideal.Gen.facts) := by
  intro m g _
  exact (θ_run Cert.Reference12Ideal.defs _ _).mono
    (fun r h => ⟨fun c => (h c).2, Idealize.ShloMosaic.sem_eq_zero_of_no_sems (by decide) r.2⟩)
    (Cert.Reference12Ideal.Value.run m g)

/-- The kernel's array is the reference's. -/
theorem value : Cert.algebraic_Kernel12Ideal_Reference12Ideal (hKernel12Ideal := Cert.Kernel12Ideal.Gen.facts)
    (hReference12Ideal := Cert.Reference12Ideal.Gen.facts) := by
  intro m g m' g' _ hm
  refine ⟨fun c => _, run_kernel m g, ?_⟩
  refine (θ_run Cert.Reference12Ideal.defs _ _).mono (fun r h c => ?_) (Cert.Reference12Ideal.Value.run m' g')
  obtain ⟨h0, hk⟩ := h c
  obtain ⟨a0, a1⟩ := hm c
  exact ⟨(h0.trans (Cert.Reference12Ideal.Read.val_main_v8_eq (F := Ideal) _ _)).trans ((reference_eq _ _).trans (congrArg₂ prod a0 a1)), hk⟩

end Cert.Proof.DwRw

end
-- ==== Proof.DwGate.lean ====
/- The gradient of the gates' weights: a product contracted along the rows of both operands, where each block is taken in two halves of the contraction that one point after the other adds up;
   and the reference's array is the same sum. -/
module

public import proofs.«01_k».proof.Proof.MatMul
public import proofs.«01_k».proof.Defs
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.KernelVsHost
public import Idealize.ShloMosaic.Lib.Tactic
public import Idealize.ShloMosaic.Adequacy

@[expose] public section

noncomputable section

namespace Cert.Proof.DwGate

open Cert.Kernel13Ideal Cert.Kernel13Ideal.Gen Cert.Kernel13Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x2048 .bf16) (y : Vec Ideal S4096x1024 .bf16) (p : Fin 2048) (q : Fin 1024) (k : Fin 4096) : EReal :=
  x (ix2 k p) * y (ix2 k q)

/-- The product at every index. -/
def prod (x : Vec Ideal S4096x2048 .bf16) (y : Vec Ideal S4096x1024 .bf16) : Vec Ideal S2048x1024 .bf16 :=
  fun i => ∑ k : Fin 4096, term x y (i 0) (i 1) k

/-- One part's product, at an index. -/
theorem part_apply (x : Vec Ideal S2048x1024 .bf16) (y : Vec Ideal S2048x1024 .bf16) (p : Fin 1024) (q : Fin 1024) :
    k0_pay1 (F := Ideal) x y (ix2 p q) = ∑ k : Fin 2048, x (ix2 k p) * y (ix2 k q) :=
  tn_apply (φ₁ := .bf16) (φ₂ := .bf16) (M := 1024) (K := 2048) (N := 1024) x y p q

section
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S2048x1024) off2, shapeCast_self]

/-- The last of a block's points writes back the running sum with its part's product added. -/
theorem last_eq (hc0 : ¬cond0_0 i) (hc1 : cond0_1 i) (hc2 : cond0_2 i) (xs : Vec Ideal S1024x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1024x1024) _ off2, View.readAt_eq_ld, Memref.IsWhole.read_unread, View.ld_unit_zero (S := S2048x1024) off2, View.ld_unit_zero (S := S1024x1024) off2]

end

/-- The running sum after a further point, at an index. -/
theorem sum_apply (x : Vec Ideal S2048x1024 .bf16) (y : Vec Ideal S2048x1024 .bf16) (s : Vec Ideal S1024x1024 .f32) (p : Fin 1024) (q : Fin 1024) :
    k0_pay3 (F := Ideal) x y s (ix2 p q) = s (ix2 p q) + k0_pay1 (F := Ideal) x y (ix2 p q) := by
  unfold k0_pay3
  show shapeCast S1024x1024 (addf s (k0_pay1 (F := Ideal) x y)) _ (ix2 p q) = _
  rw [shapeCast_self]
  rfl

/-- What the last point writes back, at an index. -/
theorem write_apply (x : Vec Ideal S2048x1024 .bf16) (y : Vec Ideal S2048x1024 .bf16) (s : Vec Ideal S1024x1024 .f32) (p : Fin 1024) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val % 2 ∧ win0_0.index t (1 : Fin 2) = t.val / 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)

/-- Row `p` of point `t`'s rows. -/
def row (t : Fin cfg0.N) (p : Fin 1024) : Fin 2048 := ⟨t.val / 2 * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 2048) : Fin 4096 := ⟨t.val % 2 * 2048 + k.val, by have := Nat.lt_of_lt_of_eq t.isLt N_0; omega⟩

theorem blk0 (c : Dev nD) (t : Fin cfg0.N) (p : Fin 1024) (k : Fin 2048) :
    iblk m c 0 t (ix2 k p) = V m c main_arg0 (ix2 (place t k) (row t p)) := by
  obtain ⟨e0, e1⟩ := at0 t
  refine congrArg (V m c main_arg0) (same2 ?_ ?_)
  · show win0_0.index t (0 : Fin 2) * 2048 + 1 * k.val = t.val % 2 * 2048 + k.val; omega
  · show win0_0.index t (1 : Fin 2) * 1024 + 1 * p.val = t.val / 2 * 1024 + p.val; omega
theorem blk1 (c : Dev nD) (t : Fin cfg0.N) (q : Fin 1024) (k : Fin 2048) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 2048 + 1 * k.val = t.val % 2 * 2048 + k.val; omega
  · show win0_1.index t (1 : Fin 2) * 1024 + 1 * q.val = q.val; omega

/-- A part's product in the argument arrays. -/
theorem part_eq (c : Dev nD) (t : Fin cfg0.N) (p : Fin 1024) (q : Fin 1024) : k0_pay1 (F := Ideal) (iblk m c 0 t) (iblk m c 1 t) (ix2 p q)
    = ∑ k : Fin 2048, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1024) (q : Fin 1024) => ?_
  show k0_pay4 (F := Ideal) _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val / 2 * 1024 + p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show (t.val - 1) / 2 * 1024 + p.val = t.val / 2 * 1024 + p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 2048 rfl (term (V m c main_arg0) (V m c main_arg1) (row t p) (colm t q)))
  · rw [show place (⟨t.val - 1, hs1⟩ : Fin cfg0.N) k = ⟨k.val, by omega⟩ from Fin.ext (by show (t.val - 1) % 2 * 2048 + k.val = k.val; omega)]
  · rw [show place t k = ⟨2048 + k.val, by omega⟩ from Fin.ext (by show t.val % 2 * 2048 + k.val = 2048 + k.val; omega)]

/-- The blocks cover the array. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  have ht : ((i 0).val / 1024) * 2 + 1 < cfg0.N := Nat.lt_of_lt_of_eq (by omega) N_0.symm
  refine ⟨⟨((i 0).val / 1024) * 2 + 1, ht⟩, (flush0_2 _).mpr (by show (((i 0).val / 1024) * 2 + 1) % 2 = 1; omega), ?_⟩
  obtain ⟨e0, e1⟩ := at2 ⟨((i 0).val / 1024) * 2 + 1, ht⟩
  exact mem2 (((cfg0.win 2).blk _).view.emb_mem_set) i (ix2 ⟨(i 0).val % 1024, Nat.mod_lt _ (by decide)⟩ (i 1) : S1024x1024.Idx)
    (by show win0_2.index ⟨((i 0).val / 1024) * 2 + 1, ht⟩ (0 : Fin 2) * 1024 + 1 * ((i 0).val % 1024) = (i 0).val; rw [e0]; show (((i 0).val / 1024) * 2 + 1) / 2 * 1024 + 1 * ((i 0).val % 1024) = (i 0).val; omega)
    (by show win0_2.index ⟨((i 0).val / 1024) * 2 + 1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x2048 .bf16) (y : Vec Ideal S4096x1024 .bf16) :
    Cert.Reference13Ideal.Read.val_main_v8 (F := Ideal) x y = prod x y := by
  refine ext2 fun (p : Fin 2048) (q : Fin 1024) => ?_
  refine (Cert.Reference13Ideal.Read.val_main_v8_apply x y _).trans
    ((Cert.Reference13Ideal.Read.val_main_v7_apply x y _).trans
    ((Cert.Reference13Ideal.Read.val_main_v6_apply x y _).trans
    ((Cert.Reference13Ideal.Read.val_main_v5_apply x y _).trans
    (Finset.sum_congr rfl fun k _ => ?_))))
  exact mul2 (congrArg x (same2 rfl rfl)) (congrArg y (same2 rfl rfl))

/-- The reference runs, keeps its arguments, and leaves every counter at zero. -/
theorem frame_reference : Cert.quiescent_Reference13Ideal (hReference13Ideal := Cert.Reference13Ideal.Gen.facts) := by
  intro m g _
  exact (θ_run Cert.Reference13Ideal.defs _ _).mono
    (fun r h => ⟨fun c => (h c).2, Idealize.ShloMosaic.sem_eq_zero_of_no_sems (by decide) r.2⟩)
    (Cert.Reference13Ideal.Value.run m g)

/-- The kernel's array is the reference's. -/
theorem value : Cert.algebraic_Kernel13Ideal_Reference13Ideal (hKernel13Ideal := Cert.Kernel13Ideal.Gen.facts)
    (hReference13Ideal := Cert.Reference13Ideal.Gen.facts) := by
  intro m g m' g' _ hm
  refine ⟨fun c => _, run_kernel m g, ?_⟩
  refine (θ_run Cert.Reference13Ideal.defs _ _).mono (fun r h c => ?_) (Cert.Reference13Ideal.Value.run m' g')
  obtain ⟨h0, hk⟩ := h c
  obtain ⟨a0, a1⟩ := hm c
  exact ⟨(h0.trans (Cert.Reference13Ideal.Read.val_main_v8_eq (F := Ideal) _ _)).trans ((reference_eq _ _).trans (congrArg₂ prod a0 a1)), hk⟩

end Cert.Proof.DwGate

end
-- ==== Proof.AttIn.lean ====
/- The attention's input product: a product with the right operand turned, where each block is the whole contraction;
   and the reference's array is the same sum. -/
module

public import proofs.«01_k».proof.Proof.MatMul
public import proofs.«01_k».proof.Defs
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.KernelVsHost
public import Idealize.ShloMosaic.Adequacy

@[expose] public section

noncomputable section

namespace Cert.Proof.AttIn

open Cert.Kernel14Ideal Cert.Kernel14Ideal.Gen Cert.Kernel14Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S4608x1024 .bf16) (p : Fin 4096) (q : Fin 4608) (k : Fin 1024) : EReal :=
  x (ix2 p k) * y (ix2 q k)

/-- The product at every index. -/
def prod (x : Vec Ideal S4096x1024 .bf16) (y : Vec Ideal S4608x1024 .bf16) : Vec Ideal S4096x4608 .f32 :=
  fun i => ∑ k : Fin 1024, term x y (i 0) (i 1) k

/-- One block's product, at an index. -/
theorem block_apply (x : Vec Ideal S1024x1024 .bf16) (y : Vec Ideal S1536x1024 .bf16) (p : Fin 1024) (q : Fin 1536) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S1536x1024) off2]
  exact nt_apply (φ₁ := .bf16) (φ₂ := .bf16) (M := 1024) (K := 1024) (N := 1536) x y p q

variable (m : (ℓ : Loc nD τ sig) → Buf (Elt Ideal) ℓ) (ρ : Dev nD → PrngReg)

theorem at0 : ∀ t : Fin cfg0.N, win0_0.index t (0 : Fin 2) = t.val / 3 ∧ win0_0.index t (1 : Fin 2) = 0 :=
  (by decide +kernel : ∀ t : Fin grid0.N, _)
theorem at1 : ∀ t : Fin cfg0.N, win0_1.index t (0 : Fin 2) = t.val % 3 ∧ win0_1.index t (1 : Fin 2) = 0 :=
  (by decide +kernel : ∀ t : Fin grid0.N, _)
theorem at2 : ∀ t : Fin cfg0.N, win0_2.index t (0 : Fin 2) = t.val / 3 ∧ win0_2.index t (1 : Fin 2) = t.val % 3 :=
  (by decide +kernel : ∀ t : Fin grid0.N, _)

/-- Row `p` of point `t`'s rows. -/
def row (t : Fin cfg0.N) (p : Fin 1024) : Fin 4096 := ⟨t.val / 3 * 1024 + p.val, by have := Nat.lt_of_lt_of_eq t.isLt N_0; omega⟩
/-- Column `q` of point `t`'s columns. -/
def colm (t : Fin cfg0.N) (q : Fin 1536) : Fin 4608 := ⟨t.val % 3 * 1536 + q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val / 3 * 1024 + p.val; omega
  · show win0_0.index t (1 : Fin 2) * 1024 + 1 * k.val = k.val; omega
theorem blk1 (c : Dev nD) (t : Fin cfg0.N) (q : Fin 1536) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 1536 + 1 * q.val = t.val % 3 * 1536 + q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1536) => ?_
  show out0_2 (F := Ideal) _ _ (ix2 p q) = prod _ _ (((cfg0.win 2).blk t).view.emb (ix2 p q : S1024x1536.Idx))
  have hj : ((cfg0.win 2).blk t).view.emb (ix2 p q : S1024x1536.Idx) = ix2 (row t p) (colm t q) :=
    same2 (by show win0_2.index t (0 : Fin 2) * 1024 + 1 * p.val = t.val / 3 * 1024 + p.val; omega) (by show win0_2.index t (1 : Fin 2) * 1536 + 1 * q.val = t.val % 3 * 1536 + q.val; omega)
  rw [hj]
  exact (block_apply _ _ p q).trans (Finset.sum_congr rfl fun k _ => mul2 (blk0 m c t p k) (blk1 m c t q k))

/-- The blocks cover the array. -/
theorem covered (i : S4096x4608.Idx) : ∃ t : Fin cfg0.N, (cfg0.win 2).flush t = true ∧ i ∈ ((cfg0.win 2).blk t).view.set := by
  have h0 : (i 0).val < 4096 := (i 0).isLt
  have h1 : (i 1).val < 4608 := (i 1).isLt
  have ht : (i 0).val / 1024 * 3 + (i 1).val / 1536 < cfg0.N := Nat.lt_of_lt_of_eq (by omega) N_0.symm
  refine ⟨⟨(i 0).val / 1024 * 3 + (i 1).val / 1536, ht⟩, flush0_2 _, ?_⟩
  obtain ⟨e0, e1⟩ := at2 ⟨(i 0).val / 1024 * 3 + (i 1).val / 1536, ht⟩
  exact mem2 (((cfg0.win 2).blk _).view.emb_mem_set) i (ix2 ⟨(i 0).val % 1024, Nat.mod_lt _ (by decide)⟩ ⟨(i 1).val % 1536, Nat.mod_lt _ (by decide)⟩ : S1024x1536.Idx)
    (by show win0_2.index ⟨(i 0).val / 1024 * 3 + (i 1).val / 1536, ht⟩ (0 : Fin 2) * 1024 + 1 * ((i 0).val % 1024) = (i 0).val; rw [e0]; show ((i 0).val / 1024 * 3 + (i 1).val / 1536) / 3 * 1024 + 1 * ((i 0).val % 1024) = (i 0).val; omega)
    (by show win0_2.index ⟨(i 0).val / 1024 * 3 + (i 1).val / 1536, ht⟩ (1 : Fin 2) * 1536 + 1 * ((i 1).val % 1536) = (i 1).val; rw [e1]; show ((i 0).val / 1024 * 3 + (i 1).val / 1536) % 3 * 1536 + 1 * ((i 1).val % 1536) = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S4608x1024 .bf16) :
    Cert.Reference14Ideal.Read.val_main_v3 (F := Ideal) x y = prod x y := by
  refine ext2 fun (p : Fin 4096) (q : Fin 4608) => ?_
  refine (Cert.Reference14Ideal.Read.val_main_v3_apply x y _).trans
    (Finset.sum_congr rfl fun k _ => ?_)
  exact mul2 (congrArg x (same2 rfl rfl)) ((Cert.Reference14Ideal.Read.val_main_v2_apply (F := Ideal) y _).trans (congrArg y (same2 rfl rfl)))

/-- The reference runs, keeps its arguments, and leaves every counter at zero. -/
theorem frame_reference : Cert.quiescent_Reference14Ideal (hReference14Ideal := Cert.Reference14Ideal.Gen.facts) := by
  intro m g _
  exact (θ_run Cert.Reference14Ideal.defs _ _).mono
    (fun r h => ⟨fun c => (h c).2, Idealize.ShloMosaic.sem_eq_zero_of_no_sems (by decide) r.2⟩)
    (Cert.Reference14Ideal.Value.run m g)

/-- The kernel's array is the reference's. -/
theorem value : Cert.algebraic_Kernel14Ideal_Reference14Ideal (hKernel14Ideal := Cert.Kernel14Ideal.Gen.facts)
    (hReference14Ideal := Cert.Reference14Ideal.Gen.facts) := by
  intro m g m' g' _ hm
  refine ⟨fun c => _, run_kernel m g, ?_⟩
  refine (θ_run Cert.Reference14Ideal.defs _ _).mono (fun r h c => ?_) (Cert.Reference14Ideal.Value.run m' g')
  obtain ⟨h0, hk⟩ := h c
  obtain ⟨a0, a1⟩ := hm c
  exact ⟨(h0.trans (Cert.Reference14Ideal.Read.val_main_v3_eq (F := Ideal) _ _)).trans ((reference_eq _ _).trans (congrArg₂ prod a0 a1)), hk⟩

end Cert.Proof.AttIn

end
-- ==== Proof.RwIn.lean ====
/- The recurrence's input product: a product with the right operand turned, where each block is the whole contraction;
   and the reference's array is the same sum. -/
module

public import proofs.«01_k».proof.Proof.MatMul
public import proofs.«01_k».proof.Defs
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.KernelVsHost
public import Idealize.ShloMosaic.Adequacy

@[expose] public section

noncomputable section

namespace Cert.Proof.RwIn

open Cert.Kernel15Ideal Cert.Kernel15Ideal.Gen Cert.Kernel15Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S3456x1024 .bf16) (p : Fin 4096) (q : Fin 3456) (k : Fin 1024) : EReal :=
  x (ix2 p k) * y (ix2 q k)

/-- The product at every index. -/
def prod (x : Vec Ideal S4096x1024 .bf16) (y : Vec Ideal S3456x1024 .bf16) : Vec Ideal S4096x3456 .bf16 :=
  fun i => ∑ k : Fin 1024, term x y (i 0) (i 1) k

/-- One block's product, at an index. -/
theorem block_apply (x : Vec Ideal S1024x1024 .bf16) (y : Vec Ideal S1152x1024 .bf16) (p : Fin 1024) (q : Fin 1152) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S1152x1024) off2]
  exact nt_apply (φ₁ := .bf16) (φ₂ := .bf16) (M := 1024) (K := 1024) (N := 1152) x y p q

variable (m : (ℓ : Loc nD τ sig) → Buf (Elt Ideal) ℓ) (ρ : Dev nD → PrngReg)

theorem at0 : ∀ t : Fin cfg0.N, win0_0.index t (0 : Fin 2) = t.val / 3 ∧ win0_0.index t (1 : Fin 2) = 0 :=
  (by decide +kernel : ∀ t : Fin grid0.N, _)
theorem at1 : ∀ t : Fin cfg0.N, win0_1.index t (0 : Fin 2) = t.val % 3 ∧ win0_1.index t (1 : Fin 2) = 0 :=
  (by decide +kernel : ∀ t : Fin grid0.N, _)
theorem at2 : ∀ t : Fin cfg0.N, win0_2.index t (0 : Fin 2) = t.val / 3 ∧ win0_2.index t (1 : Fin 2) = t.val % 3 :=
  (by decide +kernel : ∀ t : Fin grid0.N, _)

/-- Row `p` of point `t`'s rows. -/
def row (t : Fin cfg0.N) (p : Fin 1024) : Fin 4096 := ⟨t.val / 3 * 1024 + p.val, by have := Nat.lt_of_lt_of_eq t.isLt N_0; omega⟩
/-- Column `q` of point `t`'s columns. -/
def colm (t : Fin cfg0.N) (q : Fin 1152) : Fin 3456 := ⟨t.val % 3 * 1152 + q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val / 3 * 1024 + p.val; omega
  · show win0_0.index t (1 : Fin 2) * 1024 + 1 * k.val = k.val; omega
theorem blk1 (c : Dev nD) (t : Fin cfg0.N) (q : Fin 1152) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 1152 + 1 * q.val = t.val % 3 * 1152 + q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1152) => ?_
  show out0_2 (F := Ideal) _ _ (ix2 p q) = prod _ _ (((cfg0.win 2).blk t).view.emb (ix2 p q : S1024x1152.Idx))
  have hj : ((cfg0.win 2).blk t).view.emb (ix2 p q : S1024x1152.Idx) = ix2 (row t p) (colm t q) :=
    same2 (by show win0_2.index t (0 : Fin 2) * 1024 + 1 * p.val = t.val / 3 * 1024 + p.val; omega) (by show win0_2.index t (1 : Fin 2) * 1152 + 1 * q.val = t.val % 3 * 1152 + q.val; omega)
  rw [hj]
  exact (block_apply _ _ p q).trans (Finset.sum_congr rfl fun k _ => mul2 (blk0 m c t p k) (blk1 m c t q k))

/-- The blocks cover the array. -/
theorem covered (i : S4096x3456.Idx) : ∃ t : Fin cfg0.N, (cfg0.win 2).flush t = true ∧ i ∈ ((cfg0.win 2).blk t).view.set := by
  have h0 : (i 0).val < 4096 := (i 0).isLt
  have h1 : (i 1).val < 3456 := (i 1).isLt
  have ht : (i 0).val / 1024 * 3 + (i 1).val / 1152 < cfg0.N := Nat.lt_of_lt_of_eq (by omega) N_0.symm
  refine ⟨⟨(i 0).val / 1024 * 3 + (i 1).val / 1152, ht⟩, flush0_2 _, ?_⟩
  obtain ⟨e0, e1⟩ := at2 ⟨(i 0).val / 1024 * 3 + (i 1).val / 1152, ht⟩
  exact mem2 (((cfg0.win 2).blk _).view.emb_mem_set) i (ix2 ⟨(i 0).val % 1024, Nat.mod_lt _ (by decide)⟩ ⟨(i 1).val % 1152, Nat.mod_lt _ (by decide)⟩ : S1024x1152.Idx)
    (by show win0_2.index ⟨(i 0).val / 1024 * 3 + (i 1).val / 1152, ht⟩ (0 : Fin 2) * 1024 + 1 * ((i 0).val % 1024) = (i 0).val; rw [e0]; show ((i 0).val / 1024 * 3 + (i 1).val / 1152) / 3 * 1024 + 1 * ((i 0).val % 1024) = (i 0).val; omega)
    (by show win0_2.index ⟨(i 0).val / 1024 * 3 + (i 1).val / 1152, ht⟩ (1 : Fin 2) * 1152 + 1 * ((i 1).val % 1152) = (i 1).val; rw [e1]; show ((i 0).val / 1024 * 3 + (i 1).val / 1152) % 3 * 1152 + 1 * ((i 1).val % 1152) = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S3456x1024 .bf16) :
    Cert.Reference15Ideal.Read.val_main_v4 (F := Ideal) x y = prod x y := by
  refine ext2 fun (p : Fin 4096) (q : Fin 3456) => ?_
  refine (Cert.Reference15Ideal.Read.val_main_v4_apply x y _).trans
    ((Cert.Reference15Ideal.Read.val_main_v3_apply x y _).trans
    (Finset.sum_congr rfl fun k _ => ?_))
  exact mul2 (congrArg x (same2 rfl rfl)) ((Cert.Reference15Ideal.Read.val_main_v2_apply (F := Ideal) y _).trans (congrArg y (same2 rfl rfl)))

/-- The reference runs, keeps its arguments, and leaves every counter at zero. -/
theorem frame_reference : Cert.quiescent_Reference15Ideal (hReference15Ideal := Cert.Reference15Ideal.Gen.facts) := by
  intro m g _
  exact (θ_run Cert.Reference15Ideal.defs _ _).mono
    (fun r h => ⟨fun c => (h c).2, Idealize.ShloMosaic.sem_eq_zero_of_no_sems (by decide) r.2⟩)
    (Cert.Reference15Ideal.Value.run m g)

/-- The kernel's array is the reference's. -/
theorem value : Cert.algebraic_Kernel15Ideal_Reference15Ideal (hKernel15Ideal := Cert.Kernel15Ideal.Gen.facts)
    (hReference15Ideal := Cert.Reference15Ideal.Gen.facts) := by
  intro m g m' g' _ hm
  refine ⟨fun c => _, run_kernel m g, ?_⟩
  refine (θ_run Cert.Reference15Ideal.defs _ _).mono (fun r h c => ?_) (Cert.Reference15Ideal.Value.run m' g')
  obtain ⟨h0, hk⟩ := h c
  obtain ⟨a0, a1⟩ := hm c
  exact ⟨(h0.trans (Cert.Reference15Ideal.Read.val_main_v4_eq (F := Ideal) _ _)).trans ((reference_eq _ _).trans (congrArg₂ prod a0 a1)), hk⟩

end Cert.Proof.RwIn

end
-- ==== Proof.GateIn.lean ====
/- The gates' product: a product with the right operand turned, where each block is the whole contraction;
   and the reference's array is the same sum. -/
module

public import proofs.«01_k».proof.Proof.MatMul
public import proofs.«01_k».proof.Defs
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.KernelVsHost
public import Idealize.ShloMosaic.Adequacy

@[expose] public section

noncomputable section

namespace Cert.Proof.GateIn

open Cert.Kernel16Ideal Cert.Kernel16Ideal.Gen Cert.Kernel16Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S2048x1024 .bf16) (p : Fin 4096) (q : Fin 2048) (k : Fin 1024) : EReal :=
  x (ix2 p k) * y (ix2 q k)

/-- The product at every index. -/
def prod (x : Vec Ideal S4096x1024 .bf16) (y : Vec Ideal S2048x1024 .bf16) : Vec Ideal S4096x2048 .bf16 :=
  fun i => ∑ k : Fin 1024, term x y (i 0) (i 1) k

/-- One block's product, at an index. -/
theorem block_apply (x : Vec Ideal S1024x1024 .bf16) (y : Vec Ideal S1024x1024 .bf16) (p : Fin 1024) (q : Fin 1024) :
    out0_2 (F := Ideal) x y (ix2 p q) = ∑ k : Fin 1024, x (ix2 p k) * y (ix2 q k) := by
  unfold out0_2
  rw [View.canon_unit_zero (Val := Elt Ideal) off2 _ _, View.ld_unit_zero (S := S1024x1024) off2, View.ld_unit_zero (S := S1024x1024) off2]
  exact nt_apply (φ₁ := .bf16) (φ₂ := .bf16) (M := 1024) (K := 1024) (N := 1024) x y p q

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = t.val % 2 :=
  (by decide +kernel : ∀ t : Fin grid0.N, _)

/-- Row `p` of point `t`'s rows. -/
def row (t : Fin cfg0.N) (p : Fin 1024) : Fin 4096 := ⟨t.val / 2 * 1024 + p.val, by have := Nat.lt_of_lt_of_eq t.isLt N_0; omega⟩
/-- Column `q` of point `t`'s columns. -/
def colm (t : Fin cfg0.N) (q : Fin 1024) : Fin 2048 := ⟨t.val % 2 * 1024 + q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val / 2 * 1024 + p.val; omega
  · show win0_0.index t (1 : Fin 2) * 1024 + 1 * k.val = k.val; omega
theorem blk1 (c : Dev nD) (t : Fin cfg0.N) (q : Fin 1024) (k : Fin 1024) :
    iblk m c 1 t (ix2 q k) = V m c main_arg1 (ix2 (colm t q) k) := by
  obtain ⟨e0, e1⟩ := at1 t
  refine congrArg (V m c main_arg1) (same2 ?_ ?_)
  · show win0_1.index t (0 : Fin 2) * 1024 + 1 * q.val = t.val % 2 * 1024 + q.val; omega
  · show win0_1.index t (1 : Fin 2) * 1024 + 1 * k.val = k.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1024) => ?_
  show out0_2 (F := Ideal) _ _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val / 2 * 1024 + p.val; omega) (by show win0_2.index t (1 : Fin 2) * 1024 + 1 * q.val = t.val % 2 * 1024 + q.val; omega)
  rw [hj]
  exact (block_apply _ _ p q).trans (Finset.sum_congr rfl fun k _ => mul2 (blk0 m c t p k) (blk1 m c t q k))

/-- The blocks cover the array. -/
theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : (i 0).val / 1024 * 2 + (i 1).val / 1024 < cfg0.N := Nat.lt_of_lt_of_eq (by omega) N_0.symm
  refine ⟨⟨(i 0).val / 1024 * 2 + (i 1).val / 1024, ht⟩, flush0_2 _, ?_⟩
  obtain ⟨e0, e1⟩ := at2 ⟨(i 0).val / 1024 * 2 + (i 1).val / 1024, ht⟩
  exact mem2 (((cfg0.win 2).blk _).view.emb_mem_set) i (ix2 ⟨(i 0).val % 1024, Nat.mod_lt _ (by decide)⟩ ⟨(i 1).val % 1024, Nat.mod_lt _ (by decide)⟩ : S1024x1024.Idx)
    (by show win0_2.index ⟨(i 0).val / 1024 * 2 + (i 1).val / 1024, ht⟩ (0 : Fin 2) * 1024 + 1 * ((i 0).val % 1024) = (i 0).val; rw [e0]; show ((i 0).val / 1024 * 2 + (i 1).val / 1024) / 2 * 1024 + 1 * ((i 0).val % 1024) = (i 0).val; omega)
    (by show win0_2.index ⟨(i 0).val / 1024 * 2 + (i 1).val / 1024, ht⟩ (1 : Fin 2) * 1024 + 1 * ((i 1).val % 1024) = (i 1).val; rw [e1]; show ((i 0).val / 1024 * 2 + (i 1).val / 1024) % 2 * 1024 + 1 * ((i 1).val % 1024) = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S2048x1024 .bf16) :
    Cert.Reference16Ideal.Read.val_main_v4 (F := Ideal) x y = prod x y := by
  refine ext2 fun (p : Fin 4096) (q : Fin 2048) => ?_
  refine (Cert.Reference16Ideal.Read.val_main_v4_apply x y _).trans
    ((Cert.Reference16Ideal.Read.val_main_v3_apply x y _).trans
    (Finset.sum_congr rfl fun k _ => ?_))
  exact mul2 (congrArg x (same2 rfl rfl)) ((Cert.Reference16Ideal.Read.val_main_v2_apply (F := Ideal) y _).trans (congrArg y (same2 rfl rfl)))

/-- The reference runs, keeps its arguments, and leaves every counter at zero. -/
theorem frame_reference : Cert.quiescent_Reference16Ideal (hReference16Ideal := Cert.Reference16Ideal.Gen.facts) := by
  intro m g _
  exact (θ_run Cert.Reference16Ideal.defs _ _).mono
    (fun r h => ⟨fun c => (h c).2, Idealize.ShloMosaic.sem_eq_zero_of_no_sems (by decide) r.2⟩)
    (Cert.Reference16Ideal.Value.run m g)

/-- The kernel's array is the reference's. -/
theorem value : Cert.algebraic_Kernel16Ideal_Reference16Ideal (hKernel16Ideal := Cert.Kernel16Ideal.Gen.facts)
    (hReference16Ideal := Cert.Reference16Ideal.Gen.facts) := by
  intro m g m' g' _ hm
  refine ⟨fun c => _, run_kernel m g, ?_⟩
  refine (θ_run Cert.Reference16Ideal.defs _ _).mono (fun r h c => ?_) (Cert.Reference16Ideal.Value.run m' g')
  obtain ⟨h0, hk⟩ := h c
  obtain ⟨a0, a1⟩ := hm c
  exact ⟨(h0.trans (Cert.Reference16Ideal.Read.val_main_v4_eq (F := Ideal) _ _)).trans ((reference_eq _ _).trans (congrArg₂ prod a0 a1)), hk⟩

end Cert.Proof.GateIn

end
-- ==== Proof.AttOut.lean ====
/- The attention's output product: a product of the two operands as they lie, where each block is the whole contraction;
   and the reference's array is the same sum. -/
module

public import proofs.«01_k».proof.Proof.MatMul
public import proofs.«01_k».proof.Defs
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.KernelVsHost
public import Idealize.ShloMosaic.Adequacy

@[expose] public section

noncomputable section

namespace Cert.Proof.AttOut

open Cert.Kernel17Ideal Cert.Kernel17Ideal.Gen Cert.Kernel17Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x512 .bf16) (y : Vec Ideal S512x1024 .bf16) (p : Fin 4096) (q : Fin 1024) (k : Fin 512) : EReal :=
  x (ix2 p k) * y (ix2 k q)

/-- The product at every index. -/
def prod (x : Vec Ideal S4096x512 .bf16) (y : Vec Ideal S512x1024 .bf16) : Vec Ideal S4096x1024 .bf16 :=
  fun i => ∑ k : Fin 512, term x y (i 0) (i 1) k

/-- One block's product, at an index. -/
theorem block_apply (x : Vec Ideal S1024x512 .bf16) (y : Vec Ideal S512x1024 .bf16) (p : Fin 1024) (q : Fin 1024) :
    out0_2 (F := Ideal) x y (ix2 p q) = ∑ k : Fin 512, x (ix2 p k) * y (ix2 k q) := by
  unfold out0_2
  rw [View.canon_unit_zero (Val := Elt Ideal) off2 _ _, View.ld_unit_zero (S := S1024x512) off2, View.ld_unit_zero (S := S512x1024) off2]
  exact nn_apply (φ₁ := .bf16) (φ₂ := .bf16) (M := 1024) (K := 512) (N := 1024) x y p q

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

/-- Row `p` of point `t`'s rows. -/
def row (t : Fin cfg0.N) (p : Fin 1024) : Fin 4096 := ⟨t.val * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩

theorem blk0 (c : Dev nD) (t : Fin cfg0.N) (p : Fin 1024) (k : Fin 512) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val * 1024 + p.val; omega
  · show win0_0.index t (1 : Fin 2) * 512 + 1 * k.val = k.val; omega
theorem blk1 (c : Dev nD) (t : Fin cfg0.N) (q : Fin 1024) (k : Fin 512) :
    iblk m c 1 t (ix2 k q) = V m c main_arg1 (ix2 k (colm t q)) := by
  obtain ⟨e0, e1⟩ := at1 t
  refine congrArg (V m c main_arg1) (same2 ?_ ?_)
  · show win0_1.index t (0 : Fin 2) * 512 + 1 * k.val = k.val; omega
  · show win0_1.index t (1 : Fin 2) * 1024 + 1 * q.val = q.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1024) => ?_
  show out0_2 (F := Ideal) _ _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val * 1024 + p.val; omega) (by show win0_2.index t (1 : Fin 2) * 1024 + 1 * q.val = q.val; omega)
  rw [hj]
  exact (block_apply _ _ p q).trans (Finset.sum_congr rfl fun k _ => mul2 (blk0 m c t p k) (blk1 m c t q k))

/-- The blocks cover the array. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := Nat.lt_of_lt_of_eq (by omega) N_0.symm
  refine ⟨⟨(i 0).val / 1024, ht⟩, flush0_2 _, ?_⟩
  obtain ⟨e0, e1⟩ := at2 ⟨(i 0).val / 1024, ht⟩
  exact mem2 (((cfg0.win 2).blk _).view.emb_mem_set) i (ix2 ⟨(i 0).val % 1024, Nat.mod_lt _ (by decide)⟩ (i 1) : S1024x1024.Idx)
    (by show win0_2.index ⟨(i 0).val / 1024, ht⟩ (0 : Fin 2) * 1024 + 1 * ((i 0).val % 1024) = (i 0).val; rw [e0]; show ((i 0).val / 1024) * 1024 + 1 * ((i 0).val % 1024) = (i 0).val; omega)
    (by show win0_2.index ⟨(i 0).val / 1024, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x512 .bf16) (y : Vec Ideal S512x1024 .bf16) :
    Cert.Reference17Ideal.Read.val_main_v3 (F := Ideal) x y = prod x y := by
  refine ext2 fun (p : Fin 4096) (q : Fin 1024) => ?_
  refine (Cert.Reference17Ideal.Read.val_main_v3_apply x y _).trans
    ((Cert.Reference17Ideal.Read.val_main_v2_apply x y _).trans
    (Finset.sum_congr rfl fun k _ => ?_))
  exact mul2 (congrArg x (same2 rfl rfl)) (congrArg y (same2 rfl rfl))

/-- The reference runs, keeps its arguments, and leaves every counter at zero. -/
theorem frame_reference : Cert.quiescent_Reference17Ideal (hReference17Ideal := Cert.Reference17Ideal.Gen.facts) := by
  intro m g _
  exact (θ_run Cert.Reference17Ideal.defs _ _).mono
    (fun r h => ⟨fun c => (h c).2, Idealize.ShloMosaic.sem_eq_zero_of_no_sems (by decide) r.2⟩)
    (Cert.Reference17Ideal.Value.run m g)

/-- The kernel's array is the reference's. -/
theorem value : Cert.algebraic_Kernel17Ideal_Reference17Ideal (hKernel17Ideal := Cert.Kernel17Ideal.Gen.facts)
    (hReference17Ideal := Cert.Reference17Ideal.Gen.facts) := by
  intro m g m' g' _ hm
  refine ⟨fun c => _, run_kernel m g, ?_⟩
  refine (θ_run Cert.Reference17Ideal.defs _ _).mono (fun r h c => ?_) (Cert.Reference17Ideal.Value.run m' g')
  obtain ⟨h0, hk⟩ := h c
  obtain ⟨a0, a1⟩ := hm c
  exact ⟨(h0.trans (Cert.Reference17Ideal.Read.val_main_v3_eq (F := Ideal) _ _)).trans ((reference_eq _ _).trans (congrArg₂ prod a0 a1)), hk⟩

end Cert.Proof.AttOut

end
-- ==== Proof.MixOut.lean ====
/- The mixture's output product, and the recurrence's: a product of the two operands as they lie, where each block is the whole contraction;
   and the reference's array is the same sum. -/
module

public import proofs.«01_k».proof.Proof.MatMul
public import proofs.«01_k».proof.Defs
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.KernelVsHost
public import Idealize.ShloMosaic.Adequacy

@[expose] public section

noncomputable section

namespace Cert.Proof.MixOut

open Cert.Kernel18Ideal Cert.Kernel18Ideal.Gen Cert.Kernel18Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x1024 .bf16) (y : Vec Ideal S1024x1024 .bf16) (p : Fin 4096) (q : Fin 1024) (k : Fin 1024) : EReal :=
  x (ix2 p k) * y (ix2 k q)

/-- The product at every index. -/
def prod (x : Vec Ideal S4096x1024 .bf16) (y : Vec Ideal S1024x1024 .bf16) : Vec Ideal S4096x1024 .bf16 :=
  fun i => ∑ k : Fin 1024, term x y (i 0) (i 1) k

/-- One block's product, at an index. -/
theorem block_apply (x : Vec Ideal S1024x1024 .bf16) (y : Vec Ideal S1024x1024 .bf16) (p : Fin 1024) (q : Fin 1024) :
    out0_2 (F := Ideal) x y (ix2 p q) = ∑ k : Fin 1024, x (ix2 p k) * y (ix2 k q) := by
  unfold out0_2
  rw [View.canon_unit_zero (Val := Elt Ideal) off2 _ _, View.ld_unit_zero (S := S1024x1024) off2, View.ld_unit_zero (S := S1024x1024) off2]
  exact nn_apply (φ₁ := .bf16) (φ₂ := .bf16) (M := 1024) (K := 1024) (N := 1024) x y p q

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

/-- Row `p` of point `t`'s rows. -/
def row (t : Fin cfg0.N) (p : Fin 1024) : Fin 4096 := ⟨t.val * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (same2 ?_ ?_)
  · show win0_0.index t (0 : Fin 2) * 1024 + 1 * p.val = t.val * 1024 + p.val; omega
  · show win0_0.index t (1 : Fin 2) * 1024 + 1 * k.val = k.val; omega
theorem blk1 (c : Dev nD) (t : Fin cfg0.N) (q : Fin 1024) (k : Fin 1024) :
    iblk m c 1 t (ix2 k q) = V m c main_arg1 (ix2 k (colm t q)) := by
  obtain ⟨e0, e1⟩ := at1 t
  refine congrArg (V m c main_arg1) (same2 ?_ ?_)
  · show win0_1.index t (0 : Fin 2) * 1024 + 1 * k.val = k.val; omega
  · show win0_1.index t (1 : Fin 2) * 1024 + 1 * q.val = q.val; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1024) => ?_
  show out0_2 (F := Ideal) _ _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val * 1024 + p.val; omega) (by show win0_2.index t (1 : Fin 2) * 1024 + 1 * q.val = q.val; omega)
  rw [hj]
  exact (block_apply _ _ p q).trans (Finset.sum_congr rfl fun k _ => mul2 (blk0 m c t p k) (blk1 m c t q k))

/-- The blocks cover the array. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := Nat.lt_of_lt_of_eq (by omega) N_0.symm
  refine ⟨⟨(i 0).val / 1024, ht⟩, flush0_2 _, ?_⟩
  obtain ⟨e0, e1⟩ := at2 ⟨(i 0).val / 1024, ht⟩
  exact mem2 (((cfg0.win 2).blk _).view.emb_mem_set) i (ix2 ⟨(i 0).val % 1024, Nat.mod_lt _ (by decide)⟩ (i 1) : S1024x1024.Idx)
    (by show win0_2.index ⟨(i 0).val / 1024, ht⟩ (0 : Fin 2) * 1024 + 1 * ((i 0).val % 1024) = (i 0).val; rw [e0]; show ((i 0).val / 1024) * 1024 + 1 * ((i 0).val % 1024) = (i 0).val; omega)
    (by show win0_2.index ⟨(i 0).val / 1024, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S1024x1024 .bf16) :
    Cert.Reference18Ideal.Read.val_main_v3 (F := Ideal) x y = prod x y := by
  refine ext2 fun (p : Fin 4096) (q : Fin 1024) => ?_
  refine (Cert.Reference18Ideal.Read.val_main_v3_apply x y _).trans
    ((Cert.Reference18Ideal.Read.val_main_v2_apply x y _).trans
    (Finset.sum_congr rfl fun k _ => ?_))
  exact mul2 (congrArg x (same2 rfl rfl)) (congrArg y (same2 rfl rfl))

/-- The reference runs, keeps its arguments, and leaves every counter at zero. -/
theorem frame_reference : Cert.quiescent_Reference18Ideal (hReference18Ideal := Cert.Reference18Ideal.Gen.facts) := by
  intro m g _
  exact (θ_run Cert.Reference18Ideal.defs _ _).mono
    (fun r h => ⟨fun c => (h c).2, Idealize.ShloMosaic.sem_eq_zero_of_no_sems (by decide) r.2⟩)
    (Cert.Reference18Ideal.Value.run m g)

/-- The kernel's array is the reference's. -/
theorem value : Cert.algebraic_Kernel18Ideal_Reference18Ideal (hKernel18Ideal := Cert.Kernel18Ideal.Gen.facts)
    (hReference18Ideal := Cert.Reference18Ideal.Gen.facts) := by
  intro m g m' g' _ hm
  refine ⟨fun c => _, run_kernel m g, ?_⟩
  refine (θ_run Cert.Reference18Ideal.defs _ _).mono (fun r h c => ?_) (Cert.Reference18Ideal.Value.run m' g')
  obtain ⟨h0, hk⟩ := h c
  obtain ⟨a0, a1⟩ := hm c
  exact ⟨(h0.trans (Cert.Reference18Ideal.Read.val_main_v3_eq (F := Ideal) _ _)).trans ((reference_eq _ _).trans (congrArg₂ prod a0 a1)), hk⟩

end Cert.Proof.MixOut

end
-- ==== Proof.Up.lean ====
/- The feed-forward block's input product: a product of the two operands as they lie, where each block is the whole contraction;
   and the reference's array is the same sum. -/
module

public import proofs.«01_k».proof.Proof.MatMul
public import proofs.«01_k».proof.Defs
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.KernelVsHost
public import Idealize.ShloMosaic.Adequacy

@[expose] public section

noncomputable section

namespace Cert.Proof.Up

open Cert.Kernel19Ideal Cert.Kernel19Ideal.Gen Cert.Kernel19Ideal.Value Cert.Proof.MatMul
open Idealize.ShloMosaic Idealize.ShloMosaic.TcCoe Idealize.SL.Sem Idealize.ShloMosaic.ValueIdx
open Idealize.ShloMosaic.Pipeline (Dat)

/-- The part of the weights that column `k` lies in, and its place there. -/
def quarter (k : Fin 5632) : Fin 4 := ⟨k.val / 1408, by have := k.isLt; omega⟩
def inQuarter (k : Fin 5632) : Fin 1408 := ⟨k.val % 1408, Nat.mod_lt _ (by decide)⟩

/-- One summand of the product. -/
def term (x : Vec Ideal S4096x1024 .bf16) (y : Vec Ideal S4x1024x1408 .bf16) (p : Fin 4096) (q : Fin 5632) (k : Fin 1024) : EReal :=
  x (ix2 p k) * y (ix3 (quarter q) k (inQuarter q))

/-- The product at every index. -/
def prod (x : Vec Ideal S4096x1024 .bf16) (y : Vec Ideal S4x1024x1408 .bf16) : Vec Ideal S4096x5632 .f32 :=
  fun i => ∑ k : Fin 1024, term x y (i 0) (i 1) k

/-- One block's product, at an index. -/
theorem block_apply (x : Vec Ideal S1024x1024 .bf16) (y : Vec Ideal S1x1024x1408 .bf16) (p : Fin 1024) (q : Fin 1408) :
    out0_2 (F := Ideal) x y (ix2 p q) = ∑ k : Fin 1024, x (ix2 p k) * y (ix3 0 k q) := by
  unfold out0_2
  rw [View.canon_unit_zero (Val := Elt Ideal) off2 _ _, View.ld_unit_zero (S := S1024x1024) off2, View.ld_unit_zero (S := S1x1024x1408) off3]
  exact (nn_apply (M := 1024) (K := 1024) (N := 1408) x _ p q).trans
    (Finset.sum_congr rfl fun k _ => congrArg (x (ix2 p k) * ·) (drop_apply y _ k q))

variable (m : (ℓ : Loc nD τ sig) → Buf (Elt Ideal) ℓ) (ρ : Dev nD → PrngReg)

theorem at0 : ∀ t : Fin cfg0.N, win0_0.index t (0 : Fin 2) = t.val / 4 ∧ win0_0.index t (1 : Fin 2) = 0 :=
  (by decide +kernel : ∀ t : Fin grid0.N, _)
theorem at1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem at2 : ∀ t : Fin cfg0.N, win0_2.index t (0 : Fin 2) = t.val / 4 ∧ win0_2.index t (1 : Fin 2) = t.val % 4 :=
  (by decide +kernel : ∀ t : Fin grid0.N, _)

/-- Row `p` of point `t`'s rows. -/
def row (t : Fin cfg0.N) (p : Fin 1024) : Fin 4096 := ⟨t.val / 4 * 1024 + p.val, by have := Nat.lt_of_lt_of_eq t.isLt N_0; omega⟩
/-- Column `q` of point `t`'s columns. -/
def colm (t : Fin cfg0.N) (q : Fin 1408) : Fin 5632 := ⟨t.val % 4 * 1408 + q.val, by have := Nat.lt_of_lt_of_eq t.isLt N_0; omega⟩

theorem blk0 (c : Dev nD) (t : Fin cfg0.N) (p : Fin 1024) (k : Fin 1024) :
    iblk m c 0 t (ix2 p k) = V m c main_arg0 (ix2 (row t p) k) := by
  obtain ⟨e0, e1⟩ := at0 t
  refine congrArg (V m c main_arg0) (funext fun a => Fin.ext ?_)
  have := Nat.lt_of_lt_of_eq t.isLt N_0
  match a with
  | ⟨0, _⟩ => show win0_0.index t (0 : Fin 2) * 1024 + 1 * p.val = t.val / 4 * 1024 + p.val; omega
  | ⟨1, _⟩ => show win0_0.index t (1 : Fin 2) * 1024 + 1 * k.val = k.val; omega
theorem blk1 (c : Dev nD) (t : Fin cfg0.N) (q : Fin 1408) (k : Fin 1024) :
    iblk m c 1 t (ix3 0 k q) = V m c main_arg1 (ix3 (quarter (colm t q)) k (inQuarter (colm t q))) := by
  obtain ⟨e0, e1, e2⟩ := at1 t
  refine congrArg (V m c main_arg1) (funext fun a => Fin.ext ?_)
  have := Nat.lt_of_lt_of_eq t.isLt N_0
  have := q.isLt
  match a with
  | ⟨0, _⟩ => show win0_1.index t (0 : Fin 3) * 1 + 1 * 0 = (t.val % 4 * 1408 + q.val) / 1408; omega
  | ⟨1, _⟩ => show win0_1.index t (1 : Fin 3) * 1024 + 1 * k.val = k.val; omega
  | ⟨2, _⟩ => show win0_1.index t (2 : Fin 3) * 1408 + 1 * q.val = (t.val % 4 * 1408 + q.val) % 1408; omega

/-- Point `t` writes block `t` of the product. -/
theorem flushed_eq (c : Dev nD) (t : Fin cfg0.N) :
    (dats m 0 c).flushed 2 t = ((cfg0.win 2).blk t).view.read (Elt Ideal) (prod (V m c main_arg0) (V m c main_arg1)) := by
  obtain ⟨e0, e1⟩ := at2 t
  rw [flushed2]
  refine ext2 fun (p : Fin 1024) (q : Fin 1408) => ?_
  show out0_2 (F := Ideal) _ _ (ix2 p q) = prod _ _ (((cfg0.win 2).blk t).view.emb (ix2 p q : S1024x1408.Idx))
  have hj : ((cfg0.win 2).blk t).view.emb (ix2 p q : S1024x1408.Idx) = ix2 (row t p) (colm t q) :=
    same2 (by show win0_2.index t (0 : Fin 2) * 1024 + 1 * p.val = t.val / 4 * 1024 + p.val; omega) (by show win0_2.index t (1 : Fin 2) * 1408 + 1 * q.val = t.val % 4 * 1408 + q.val; omega)
  rw [hj]
  exact (block_apply _ _ p q).trans (Finset.sum_congr rfl fun k _ => mul2 (blk0 m c t p k) (blk1 m c t q k))

/-- The blocks cover the array. -/
theorem covered (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have ht : (i 0).val / 1024 * 4 + (i 1).val / 1408 < cfg0.N := Nat.lt_of_lt_of_eq (by omega) N_0.symm
  refine ⟨⟨(i 0).val / 1024 * 4 + (i 1).val / 1408, ht⟩, flush0_2 _, ?_⟩
  obtain ⟨e0, e1⟩ := at2 ⟨(i 0).val / 1024 * 4 + (i 1).val / 1408, ht⟩
  exact mem2 (((cfg0.win 2).blk _).view.emb_mem_set) i (ix2 ⟨(i 0).val % 1024, Nat.mod_lt _ (by decide)⟩ ⟨(i 1).val % 1408, Nat.mod_lt _ (by decide)⟩ : S1024x1408.Idx)
    (by show win0_2.index ⟨(i 0).val / 1024 * 4 + (i 1).val / 1408, ht⟩ (0 : Fin 2) * 1024 + 1 * ((i 0).val % 1024) = (i 0).val; rw [e0]; show ((i 0).val / 1024 * 4 + (i 1).val / 1408) / 4 * 1024 + 1 * ((i 0).val % 1024) = (i 0).val; omega)
    (by show win0_2.index ⟨(i 0).val / 1024 * 4 + (i 1).val / 1408, ht⟩ (1 : Fin 2) * 1408 + 1 * ((i 1).val % 1408) = (i 1).val; rw [e1]; show ((i 0).val / 1024 * 4 + (i 1).val / 1408) % 4 * 1408 + 1 * ((i 1).val % 1408) = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t _ => flushed_eq m c t) covered), hk⟩

/-- The reference's result is the product. -/
theorem reference_eq (x : Vec Ideal S4096x1024 .bf16) (y : Vec Ideal S4x1024x1408 .bf16) :
    Cert.Reference19Ideal.Read.val_main_v4 (F := Ideal) x y = prod x y := by
  refine ext2 fun (p : Fin 4096) (q : Fin 5632) => ?_
  refine (Cert.Reference19Ideal.Read.val_main_v4_apply x y _).trans
    (Finset.sum_congr rfl fun k _ => ?_)
  have hq := q.isLt
  have hk := k.isLt
  refine mul2 (congrArg x (funext fun b => ?_))
    ((Cert.Reference19Ideal.Read.val_main_v2_apply (F := Ideal) y _).trans ((Cert.Reference19Ideal.Read.val_main_v1_apply (F := Ideal) y _).trans (congrArg y (funext fun b => Fin.ext ?_))))
  · match b with
    | ⟨0, _⟩ => rfl
    | ⟨1, _⟩ => rfl
  · match b with
    | ⟨0, _⟩ => show (k.val * 5632 + q.val) / 1408 % 4 = q.val / 1408; omega
    | ⟨1, _⟩ => show (k.val * 5632 + q.val) / 5632 = k.val; omega
    | ⟨2, _⟩ => show (k.val * 5632 + q.val) % 1408 = q.val % 1408; omega

/-- The reference runs, keeps its arguments, and leaves every counter at zero. -/
theorem frame_reference : Cert.quiescent_Reference19Ideal (hReference19Ideal := Cert.Reference19Ideal.Gen.facts) := by
  intro m g _
  exact (θ_run Cert.Reference19Ideal.defs _ _).mono
    (fun r h => ⟨fun c => (h c).2, Idealize.ShloMosaic.sem_eq_zero_of_no_sems (by decide) r.2⟩)
    (Cert.Reference19Ideal.Value.run m g)

/-- The kernel's array is the reference's. -/
theorem value : Cert.algebraic_Kernel19Ideal_Reference19Ideal (hKernel19Ideal := Cert.Kernel19Ideal.Gen.facts)
    (hReference19Ideal := Cert.Reference19Ideal.Gen.facts) := by
  intro m g m' g' _ hm
  refine ⟨fun c => _, run_kernel m g, ?_⟩
  refine (θ_run Cert.Reference19Ideal.defs _ _).mono (fun r h c => ?_) (Cert.Reference19Ideal.Value.run m' g')
  obtain ⟨h0, hk⟩ := h c
  obtain ⟨a0, a1⟩ := hm c
  exact ⟨(h0.trans (Cert.Reference19Ideal.Read.val_main_v4_eq (F := Ideal) _ _)).trans ((reference_eq _ _).trans (congrArg₂ prod a0 a1)), hk⟩

end Cert.Proof.Up

end
-- ==== Proof.Down.lean ====
/- The feed-forward block's output product: a product of the two operands as they lie, where each block is taken in two halves of the contraction that one point after the other adds up;
   and the reference's array is the same sum. -/
module

public import proofs.«01_k».proof.Proof.MatMul
public import proofs.«01_k».proof.Defs
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.KernelVsHost
public import Idealize.ShloMosaic.Lib.Tactic
public import Idealize.ShloMosaic.Adequacy

@[expose] public section

noncomputable section

namespace Cert.Proof.Down

open Cert.Kernel20Ideal Cert.Kernel20Ideal.Gen Cert.Kernel20Ideal.Value Cert.Proof.MatMul
open Idealize.ShloMosaic Idealize.ShloMosaic.TcCoe Idealize.SL.Sem Idealize.ShloMosaic.ValueIdx
open Idealize.ShloMosaic.Pipeline (Dat)

/-- One summand of the product. -/
def term (x : Vec Ideal S4096x2816 .bf16) (y : Vec Ideal S2816x1024 .bf16) (p : Fin 4096) (q : Fin 1024) (k : Fin 2816) : EReal :=
  x (ix2 p k) * y (ix2 k q)

/-- The product at every index. -/
def prod (x : Vec Ideal S4096x2816 .bf16) (y : Vec Ideal S2816x1024 .bf16) : Vec Ideal S4096x1024 .bf16 :=
  fun i => ∑ k : Fin 2816, term x y (i 0) (i 1) k

/-- One part's product, at an index. -/
theorem part_apply (x : Vec Ideal S1024x1408 .bf16) (y : Vec Ideal S1408x1024 .bf16) (p : Fin 1024) (q : Fin 1024) :
    k0_pay1 (F := Ideal) x y (ix2 p q) = ∑ k : Fin 1408, x (ix2 p k) * y (ix2 k q) :=
  nn_apply (φ₁ := .bf16) (φ₂ := .bf16) (M := 1024) (K := 1408) (N := 1024) x y p q

section
variable (c : Dev nD) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1408 .bf16) (x1 : Vec Ideal S1408x1024 .bf16)

/-- The first of a block's points leaves its part's product in the running sum. -/
theorem first_eq (hc0 : cond0_0 i) (hc1 : ¬cond0_1 i) (hc2 : ¬cond0_2 i) :
    sout0_A_0 c i arg3 harg3 arg4 harg4 arg5 harg5 arg6 harg6 hc0 hc1 hc2 x0 x1 = k0_pay1 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero off2]
  unfold k0_pay2
  simp only [View.readAt_eq_ld, Memref.IsWhole.read_unread, View.ld_unit_zero (S := S1024x1408) off2, View.ld_unit_zero (S := S1408x1024) off2, shapeCast_self]

/-- The last of a block's points writes back the running sum with its part's product added. -/
theorem last_eq (hc0 : ¬cond0_0 i) (hc1 : cond0_1 i) (hc2 : cond0_2 i) (xs : Vec Ideal S1024x1024 .f32) :
    out0_B_2 c i arg3 harg3 arg4 harg4 arg5 harg5 arg6 harg6 hc0 hc1 hc2 x0 x1 xs = k0_pay4 (F := Ideal) (k0_pay3 x0 x1 xs) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero off2]
  simp only [View.readCov_unit_zero (S := S1024x1024) _ off2, View.readAt_eq_ld, Memref.IsWhole.read_unread, View.ld_unit_zero (S := S1024x1408) off2, View.ld_unit_zero (S := S1408x1024) off2, View.ld_unit_zero (S := S1024x1024) off2]

end

/-- The running sum after a further point, at an index. -/
theorem sum_apply (x : Vec Ideal S1024x1408 .bf16) (y : Vec Ideal S1408x1024 .bf16) (s : Vec Ideal S1024x1024 .f32) (p : Fin 1024) (q : Fin 1024) :
    k0_pay3 (F := Ideal) x y s (ix2 p q) = s (ix2 p q) + k0_pay1 (F := Ideal) x y (ix2 p q) := by
  unfold k0_pay3
  show shapeCast S1024x1024 (addf s (k0_pay1 (F := Ideal) x y)) _ (ix2 p q) = _
  rw [shapeCast_self]
  rfl

/-- What the last point writes back, at an index. -/
theorem write_apply (x : Vec Ideal S1024x1408 .bf16) (y : Vec Ideal S1408x1024 .bf16) (s : Vec Ideal S1024x1024 .f32) (p : Fin 1024) (q : Fin 1024) :
    k0_pay4 (F := Ideal) (k0_pay3 x y s) (ix2 p q) = s (ix2 p q) + k0_pay1 (F := Ideal) x y (ix2 p q) :=
  sum_apply x y s p q

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = t.val % 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)

/-- Row `p` of point `t`'s rows. -/
def row (t : Fin cfg0.N) (p : Fin 1024) : Fin 4096 := ⟨t.val / 2 * 1024 + p.val, by have := Nat.lt_of_lt_of_eq t.isLt N_0; omega⟩
/-- Column `q` of point `t`'s columns. -/
def colm (t : Fin cfg0.N) (q : Fin 1024) : Fin 1024 := ⟨q.val, by have := Nat.lt_of_lt_of_eq t.isLt N_0; omega⟩
/-- Place `k` of point `t`'s part of the contraction. -/
def place (t : Fin cfg0.N) (k : Fin 1408) : Fin 2816 := ⟨t.val % 2 * 1408 + k.val, by have := Nat.lt_of_lt_of_eq t.isLt N_0; omega⟩

theorem blk0 (c : Dev nD) (t : Fin cfg0.N) (p : Fin 1024) (k : Fin 1408) :
    iblk m c 0 t (ix2 p k) = V m c main_arg0 (ix2 (row t p) (place t k)) := by
  obtain ⟨e0, e1⟩ := at0 t
  refine congrArg (V m c main_arg0) (same2 ?_ ?_)
  · show win0_0.index t (0 : Fin 2) * 1024 + 1 * p.val = t.val / 2 * 1024 + p.val; omega
  · show win0_0.index t (1 : Fin 2) * 1408 + 1 * k.val = t.val % 2 * 1408 + k.val; omega
theorem blk1 (c : Dev nD) (t : Fin cfg0.N) (q : Fin 1024) (k : Fin 1408) :
    iblk m c 1 t (ix2 k q) = V m c main_arg1 (ix2 (place t k) (colm t q)) := by
  obtain ⟨e0, e1⟩ := at1 t
  refine congrArg (V m c main_arg1) (same2 ?_ ?_)
  · show win0_1.index t (0 : Fin 2) * 1408 + 1 * k.val = t.val % 2 * 1408 + k.val; omega
  · show win0_1.index t (1 : Fin 2) * 1024 + 1 * q.val = q.val; omega

/-- A part's product in the argument arrays. -/
theorem part_eq (c : Dev nD) (t : Fin cfg0.N) (p : Fin 1024) (q : Fin 1024) : k0_pay1 (F := Ideal) (iblk m c 0 t) (iblk m c 1 t) (ix2 p q)
    = ∑ k : Fin 1408, term (V m c main_arg0) (V m c main_arg1) (row t p) (colm t q) (place t k) :=
  (part_apply (iblk m c 0 t) (iblk m c 1 t) p q).trans (Finset.sum_congr rfl fun k _ =>
    (mul2 (blk0 m c t p k) (blk1 m c t q k)))

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  have hN := Nat.lt_of_lt_of_eq t.isLt N_0
  obtain ⟨e0, e1⟩ := at2 t
  have hs1 : t.val - 1 < cfg0.N := Nat.lt_of_le_of_lt (Nat.sub_le _ _) t.isLt
  have hz : (⟨t.val - 1, hs1⟩ : Fin cfg0.N).val % 2 = 0 := by show (t.val - 1) % 2 = 0; omega
  rw [flushed2_B m c t (by omega) h1 h1, last_eq, outsAt0_A m c ⟨t.val - 1, hs1⟩ hz (by omega) (by omega)]
  dsimp only
  rw [first_eq]
  refine ext2 fun (p : Fin 1024) (q : Fin 1024) => ?_
  show k0_pay4 (F := Ideal) _ (ix2 p q) = prod _ _ (((cfg0.win 2).blk t).view.emb (ix2 p q : S1024x1024.Idx))
  have hj : ((cfg0.win 2).blk t).view.emb (ix2 p q : S1024x1024.Idx) = ix2 (row t p) (colm t q) :=
    same2 (by show win0_2.index t (0 : Fin 2) * 1024 + 1 * p.val = t.val / 2 * 1024 + p.val; omega) (by show win0_2.index t (1 : Fin 2) * 1024 + 1 * q.val = q.val; omega)
  rw [hj]
  refine (write_apply _ _ _ p q).trans ?_
  rw [part_eq, part_eq]
  have hr1 : row (⟨t.val - 1, hs1⟩ : Fin cfg0.N) p = row t p := Fin.ext (by show (t.val - 1) / 2 * 1024 + p.val = t.val / 2 * 1024 + p.val; omega)
  have hq1 : colm (⟨t.val - 1, hs1⟩ : Fin cfg0.N) q = colm t q := Fin.ext (by show q.val = q.val; omega)
  rw [hr1, hq1]
  refine Eq.trans (congrArg₂ (· + ·) (Finset.sum_congr rfl fun k _ => ?_) (Finset.sum_congr rfl fun k _ => ?_))
    (sum_two 1408 rfl (term (V m c main_arg0) (V m c main_arg1) (row t p) (colm t q)))
  · rw [show place (⟨t.val - 1, hs1⟩ : Fin cfg0.N) k = ⟨k.val, by omega⟩ from Fin.ext (by show (t.val - 1) % 2 * 1408 + k.val = k.val; omega)]
  · rw [show place t k = ⟨1408 + k.val, by omega⟩ from Fin.ext (by show t.val % 2 * 1408 + k.val = 1408 + k.val; omega)]

/-- The blocks cover the array. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : ((i 0).val / 1024) * 2 + 1 < cfg0.N := Nat.lt_of_lt_of_eq (by omega) N_0.symm
  refine ⟨⟨((i 0).val / 1024) * 2 + 1, ht⟩, (flush0_2 _).mpr (by show (((i 0).val / 1024) * 2 + 1) % 2 = 1; omega), ?_⟩
  obtain ⟨e0, e1⟩ := at2 ⟨((i 0).val / 1024) * 2 + 1, ht⟩
  exact mem2 (((cfg0.win 2).blk _).view.emb_mem_set) i (ix2 ⟨(i 0).val % 1024, Nat.mod_lt _ (by decide)⟩ (i 1) : S1024x1024.Idx)
    (by show win0_2.index ⟨((i 0).val / 1024) * 2 + 1, ht⟩ (0 : Fin 2) * 1024 + 1 * ((i 0).val % 1024) = (i 0).val; rw [e0]; show (((i 0).val / 1024) * 2 + 1) / 2 * 1024 + 1 * ((i 0).val % 1024) = (i 0).val; omega)
    (by show win0_2.index ⟨((i 0).val / 1024) * 2 + 1, ht⟩ (1 : Fin 2) * 1024 + 1 * (i 1).val = (i 1).val; rw [e1]; show 0 * 1024 + 1 * (i 1).val = (i 1).val; omega)

/-- The kernel leaves the product. -/
theorem run_kernel : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, hk⟩ := h c
  rw [← V_main_arg0 m c, ← V_main_arg1 m c] at *
  exact ⟨h2.trans ((dats m 0 c).arrAt_eq_of_cover 2 _ (fun t hf => flushed_eq m c t hf) covered), hk⟩

/-- The reference's result is the product. -/
theorem reference_eq (x : Vec Ideal S4096x2816 .bf16) (y : Vec Ideal S2816x1024 .bf16) :
    Cert.Reference20Ideal.Read.val_main_v3 (F := Ideal) x y = prod x y := by
  refine ext2 fun (p : Fin 4096) (q : Fin 1024) => ?_
  refine (Cert.Reference20Ideal.Read.val_main_v3_apply x y _).trans
    ((Cert.Reference20Ideal.Read.val_main_v2_apply x y _).trans
    (Finset.sum_congr rfl fun k _ => ?_))
  exact mul2 (congrArg x (same2 rfl rfl)) (congrArg y (same2 rfl rfl))

/-- The reference runs, keeps its arguments, and leaves every counter at zero. -/
theorem frame_reference : Cert.quiescent_Reference20Ideal (hReference20Ideal := Cert.Reference20Ideal.Gen.facts) := by
  intro m g _
  exact (θ_run Cert.Reference20Ideal.defs _ _).mono
    (fun r h => ⟨fun c => (h c).2, Idealize.ShloMosaic.sem_eq_zero_of_no_sems (by decide) r.2⟩)
    (Cert.Reference20Ideal.Value.run m g)

/-- The kernel's array is the reference's. -/
theorem value : Cert.algebraic_Kernel20Ideal_Reference20Ideal (hKernel20Ideal := Cert.Kernel20Ideal.Gen.facts)
    (hReference20Ideal := Cert.Reference20Ideal.Gen.facts) := by
  intro m g m' g' _ hm
  refine ⟨fun c => _, run_kernel m g, ?_⟩
  refine (θ_run Cert.Reference20Ideal.defs _ _).mono (fun r h c => ?_) (Cert.Reference20Ideal.Value.run m' g')
  obtain ⟨h0, hk⟩ := h c
  obtain ⟨a0, a1⟩ := hm c
  exact ⟨(h0.trans (Cert.Reference20Ideal.Read.val_main_v3_eq (F := Ideal) _ _)).trans ((reference_eq _ _).trans (congrArg₂ prod a0 a1)), hk⟩

end Cert.Proof.Down

end
-- ==== Proof.RowSum.lean ====
/- Arrays of rows worked through 512 rows at a time: a row vector put under every row, two arrays side by side, and a sum
   over the rows taken part by part. -/
module

public import proofs.«01_k».proof.Proof.MatMul
public import Idealize.ShloMosaic.Lib.KernelVsHost
public import Idealize.ShloMosaic.Lib.IdealHost

@[expose] public section

noncomputable section

namespace Cert.Proof.RowSum

open Idealize.ShloMosaic Idealize.ShloMosaic.ValueIdx Cert.Proof.MatMul

/-- The sum of the first `n` of 4096 numbers. -/
def upto (f : Fin 4096 → EReal) (n : ℕ) : EReal := ∑ r ∈ Finset.range n, if h : r < 4096 then f ⟨r, h⟩ else 0

/-- The sum of no numbers. -/
theorem upto_zero (f : Fin 4096 → EReal) : upto f 0 = 0 := Finset.sum_range_zero _

/-- A further part of 512 numbers. -/
theorem upto_add (f : Fin 4096 → EReal) (n : ℕ) (h : n + 512 ≤ 4096) :
    upto f n + ∑ k : Fin 512, f ⟨n + k.val, by have := k.isLt; omega⟩ = upto f (n + 512) := by
  unfold upto
  rw [Finset.sum_range_add, Finset.sum_range (n := 512)]
  refine congrArg _ (Finset.sum_congr rfl fun k _ => ?_)
  rw [dif_pos (by have := k.isLt; omega)]

/-- The sum of all the numbers. -/
theorem upto_all (f : Fin 4096 → EReal) : upto f 4096 = ∑ r, f r := by
  unfold upto
  rw [Finset.sum_range]
  exact Finset.sum_congr rfl fun r _ => dif_pos r.isLt

/-- A row vector put under every row. -/
theorem under_apply {M N : ℕ} (v : FVec Ideal ⟨2, ![1, N]⟩ .f32) (h : (⟨2, ![1, N]⟩ : Shape).Broadcasts ⟨2, ![M, N]⟩) (hN : N ≠ 1)
    (r : Fin M) (q : Fin N) : broadcastTo ⟨2, ![M, N]⟩ v h (ix2 r q) = v (ix2 0 q) :=
  broadcastTo_apply v h (ix2 r q) (ix2 0 q) (by
    intro a
    match a with
    | ⟨0, _⟩ => rfl
    | ⟨1, _⟩ => exact (if_neg hN).symm)

/-- An array summed over its rows and laid out as a row. -/
theorem rowsum_apply {M N : ℕ} (y : FVec Ideal ⟨2, ![M, N]⟩ .f32) (h : (⟨2, ![M, N]⟩ : Shape).Reduces [0] ⟨1, ![N]⟩) (hφ : FKind.Formats FTy.f32) (hacc)
    (hs : (⟨1, ![N]⟩ : Shape).ShapeCasts ⟨2, ![1, N]⟩) (a : Fin 1) (q : Fin N) :
    shapeCast ⟨2, ![1, N]⟩ (multiReduction (F := Ideal) .add [0] ⟨1, ![N]⟩ y 0x00000000#32 h hφ hacc) hs (ix2 a q) = ∑ r : Fin M, y (ix2 r q) := by
  refine (shapeCast_apply _ hs (ix2 a q) (ix1 q) ?_).trans ?_
  · rw [Shape.rowMajor_val_one, Shape.rowMajor_val_two]
    show q.val = a.val * N + q.val
    have : a.val = 0 := by have := a.isLt; omega
    rw [this, Nat.zero_mul, Nat.zero_add]
  · rw [Ideal.multiReduction_add_single]
    refine Finset.sum_congr rfl fun k _ => congrArg y ?_
    funext a; apply Fin.ext
    match a with
    | ⟨0, _⟩ => rfl
    | ⟨1, _⟩ => rfl

/-- One of two rows of 1024, by the half in which the column of 2048 lies. -/
def branch (a b : Fin 1024 → EReal) (c : Fin 2048) : EReal :=
  if h : c.val < 1024 then a ⟨c.val, h⟩ else b ⟨c.val - 1024, by have := c.isLt; omega⟩

/-- Two arrays side by side. -/
theorem beside_apply {M : ℕ} (x y : FVec Ideal ⟨2, ![M, 1024]⟩ .f32)
    (h) (r : Fin M) (c : Fin 2048) :
    concatenate (⟨2, ![M, 2048]⟩ : Shape) 1 [⟨(⟨2, ![M, 1024]⟩ : Shape), x⟩, ⟨(⟨2, ![M, 1024]⟩ : Shape), y⟩] h (ix2 r c)
      = branch (fun q => x (ix2 r q)) (fun q => y (ix2 r q)) c := by
  unfold branch
  split
  · next hc =>
    refine concatenate_pair_apply_left (t := (⟨2, ![M, 2048]⟩ : Shape)) (s₁ := (⟨2, ![M, 1024]⟩ : Shape)) (s₂ := (⟨2, ![M, 1024]⟩ : Shape)) 1 _ _ _ (ix2 r c) rfl (ix2 r ⟨c.val, hc⟩ : (⟨2, ![M, 1024]⟩ : Shape).Idx) ?_
    intro b
    match b with
    | ⟨0, _⟩ => rfl
    | ⟨1, _⟩ => rfl
  · next hc =>
    refine concatenate_pair_apply_right (t := (⟨2, ![M, 2048]⟩ : Shape)) (s₁ := (⟨2, ![M, 1024]⟩ : Shape)) (s₂ := (⟨2, ![M, 1024]⟩ : Shape)) 1 _ _ _ (ix2 r c) rfl rfl (ix2 r ⟨c.val - 1024, by have := c.isLt; omega⟩ : (⟨2, ![M, 1024]⟩ : Shape).Idx) ?_ ?_
    · intro b hb
      match b with
      | ⟨0, _⟩ => rfl
      | ⟨1, _⟩ => exact absurd rfl hb
    · show c.val - 1024 + 1024 = c.val
      omega

/-- Row `r` of part `t`'s 512 rows. -/
theorem part_lt {t r : ℕ} (ht : t < 8) (hr : r < 512) : t * 512 + r < 4096 := by omega

/-- The part in which one of 4096 rows lies. -/
theorem part_of (r : Fin 4096) : r.val / 512 < 8 := by have := r.isLt; omega

/-- The places of a block of 512 rows. -/
theorem rows_at {N : ℕ} {emb : (⟨2, ![512, N]⟩ : Shape).Idx → (⟨2, ![4096, N]⟩ : Shape).Idx} {a b t : ℕ} (e : a = t ∧ b = 0)
    (he : ∀ j, (emb j 0).val = a * 512 + 1 * (j 0).val ∧ (emb j 1).val = b * N + 1 * (j 1).val) (ht : t < 8) (p : Fin 512) (q : Fin N) :
    emb (ix2 p q) = ix2 ⟨t * 512 + p.val, part_lt ht p.isLt⟩ q := by
  obtain ⟨rfl, rfl⟩ := e
  refine same2 ((he _).1.trans ?_) ((he _).2.trans ?_)
  · show a * 512 + 1 * p.val = a * 512 + p.val
    omega
  · show 0 * N + 1 * q.val = q.val
    omega

/-- The place of a row that is a block by itself. -/
theorem row_at {N : ℕ} {emb : (⟨2, ![1, N]⟩ : Shape).Idx → (⟨2, ![1, N]⟩ : Shape).Idx} {a b : ℕ} (e : a = 0 ∧ b = 0)
    (he : ∀ j, (emb j 0).val = a * 1 + 1 * (j 0).val ∧ (emb j 1).val = b * N + 1 * (j 1).val) (p : Fin 1) (q : Fin N) :
    emb (ix2 p q) = ix2 p q := by
  obtain ⟨rfl, rfl⟩ := e
  refine same2 ((he _).1.trans ?_) ((he _).2.trans ?_)
  · show 0 * 1 + 1 * p.val = p.val
    omega
  · show 0 * N + 1 * q.val = q.val
    omega

/-- A block of 512 rows holds the indices of its rows. -/
theorem rows_mem {N : ℕ} {emb : (⟨2, ![512, N]⟩ : Shape).Idx → (⟨2, ![4096, N]⟩ : Shape).Idx} {S : Set (⟨2, ![4096, N]⟩ : Shape).Idx}
    (hm : ∀ j, emb j ∈ S) (i : (⟨2, ![4096, N]⟩ : Shape).Idx)
    (he : ∀ p q, emb (ix2 p q) = ix2 ⟨(i 0).val / 512 * 512 + p.val, part_lt (part_of (i 0)) p.isLt⟩ q) : i ∈ S := by
  refine mem2 hm i (ix2 ⟨(i 0).val % 512, Nat.mod_lt _ (by decide)⟩ (i 1)) ((congrArg (fun j => (j 0).val) (he _ _)).trans ?_)
    (congrArg (fun j => (j 1).val) (he _ _))
  show (i 0).val / 512 * 512 + (i 0).val % 512 = (i 0).val
  omega

/-- A row that is a block by itself holds every index. -/
theorem row_mem {N : ℕ} {emb : (⟨2, ![1, N]⟩ : Shape).Idx → (⟨2, ![1, N]⟩ : Shape).Idx} {S : Set (⟨2, ![1, N]⟩ : Shape).Idx}
    (hm : ∀ j, emb j ∈ S) (i : (⟨2, ![1, N]⟩ : Shape).Idx) (he : ∀ p q, emb (ix2 p q) = ix2 p q) : i ∈ S :=
  mem2 hm i (ix2 (i 0) (i 1)) (congrArg (fun j => (j 0).val) (he _ _)) (congrArg (fun j => (j 1).val) (he _ _))

/-- What is found at first a part's sum, and after a further part that part's sum added, is the sum over the parts so far. -/
theorem upto_of (f : Fin 4096 → EReal) {L : ℕ} (hL : L = 8) (g : (n : ℕ) → n < L → EReal)
    (h0 : ∀ hn : 0 < L, g 0 hn = ∑ r : Fin 512, f ⟨0 * 512 + r.val, part_lt (by decide) r.isLt⟩)
    (hs : ∀ (n : ℕ) (hn : n + 1 < L), g (n + 1) hn
      = g n (Nat.lt_of_succ_lt hn) + ∑ r : Fin 512, f ⟨(n + 1) * 512 + r.val, part_lt (Nat.lt_of_lt_of_eq hn hL) r.isLt⟩) :
    ∀ (n : ℕ) (hn : n < L), g n hn = upto f (n * 512 + 512)
  | 0, hn => by
    rw [h0, ← upto_add _ _ (by omega), show upto f (0 * 512) = 0 from upto_zero _, zero_add]
  | n + 1, hn => by
    rw [hs, upto_of f hL g h0 hs n (Nat.lt_of_succ_lt hn), ← upto_add _ ((n + 1) * 512) (by omega)]
    exact congrArg (fun k => upto f k + _) (by omega)

end Cert.Proof.RowSum

end
-- ==== Proof.MixSpec.lean ====
/- The mixture of the two branches under their gates and its gradient, entry by entry: the gate is the logistic of the gate's
   input and its bias, the first 1024 columns of the gate weigh the first branch and the others the second. -/
module

public import proofs.«01_k».proof.Proof.RowSum

@[expose] public section

noncomputable section

namespace Cert.Proof.Mix

open Idealize.ShloMosaic Idealize.ShloMosaic.ValueIdx Cert.Proof.RowSum

variable {M : ℕ} (g : (⟨2, ![M, 2048]⟩ : Shape).Idx → EReal) (ya yr d : (⟨2, ![M, 1024]⟩ : Shape).Idx → EReal) (b : (⟨2, ![1, 2048]⟩ : Shape).Idx → EReal)

/-- The gate. -/
def gate (r : Fin M) (c : Fin 2048) : EReal := Ideal.logistic (g (ix2 r c) + b (ix2 0 c))

/-- Column `q` of the first branch's gate among both. -/
def fst (q : Fin 1024) : Fin 2048 := ⟨q.val, by omega⟩
/-- Column `q` of the second branch's gate among both. -/
def snd (q : Fin 1024) : Fin 2048 := ⟨1024 + q.val, by omega⟩

/-- The mixture. -/
def mixed (r : Fin M) (q : Fin 1024) : EReal := gate g b r (fst q) * ya (ix2 r q) + gate g b r (snd q) * yr (ix2 r q)

/-- The gradient of the gate's input. -/
def dgate (r : Fin M) (c : Fin 2048) : EReal :=
  branch (fun q => d (ix2 r q) * ya (ix2 r q)) (fun q => d (ix2 r q) * yr (ix2 r q)) c * (gate g b r c * (1 - gate g b r c))

/-- The gradient of the first branch. -/
def dfst (r : Fin M) (q : Fin 1024) : EReal := gate g b r (fst q) * d (ix2 r q)
/-- The gradient of the second branch. -/
def dsnd (r : Fin M) (q : Fin 1024) : EReal := gate g b r (snd q) * d (ix2 r q)

/-- A branch beside zeros and zeros beside the other branch, added, are the two beside each other. -/
theorem branch_add (a a' : Fin 1024 → EReal) (c : Fin 2048) :
    branch (fun _ => 0) a' c + branch a (fun _ => 0) c = branch a a' c := by
  unfold branch
  split
  · exact zero_add _
  · exact add_zero _

/-! ## The arrays' parts -/

variable {g ya yr d b}

/-- The gate of a part of the rows. -/
theorem gate_part {N : ℕ} {g' : (⟨2, ![N, 2048]⟩ : Shape).Idx → EReal} {b' : (⟨2, ![1, 2048]⟩ : Shape).Idx → EReal} {r : Fin M} {s : Fin N}
    (hg : ∀ c, g (ix2 r c) = g' (ix2 s c)) (hb : ∀ c, b (ix2 0 c) = b' (ix2 0 c)) (c : Fin 2048) : gate g b r c = gate g' b' s c := by
  unfold gate; rw [hg, hb]

/-- The gradient of the gate's input of a part of the rows. -/
theorem dgate_part {N : ℕ} {g' : (⟨2, ![N, 2048]⟩ : Shape).Idx → EReal} {ya' yr' d' : (⟨2, ![N, 1024]⟩ : Shape).Idx → EReal}
    {b' : (⟨2, ![1, 2048]⟩ : Shape).Idx → EReal} {r : Fin M} {s : Fin N} (hg : ∀ c, g (ix2 r c) = g' (ix2 s c))
    (ha : ∀ q, ya (ix2 r q) = ya' (ix2 s q)) (hr : ∀ q, yr (ix2 r q) = yr' (ix2 s q)) (hb : ∀ c, b (ix2 0 c) = b' (ix2 0 c))
    (hd : ∀ q, d (ix2 r q) = d' (ix2 s q)) (c : Fin 2048) : dgate g ya yr d b r c = dgate g' ya' yr' d' b' s c := by
  unfold dgate
  rw [gate_part hg hb]
  simp only [ha, hr, hd]

end Cert.Proof.Mix

end
-- ==== Proof.MixBwd.lean ====
/- The gradient of the mixture of the two branches: what one grid point's 512 rows leave, the running sum of the bias's
   gradient, the whole arrays, the reference's arrays, and the claim. -/
module

public import proofs.«01_k».proof.Proof.MixSpec
public import proofs.«01_k».proof.Defs
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Tactic
public import Idealize.ShloMosaic.Adequacy

@[expose] public section

noncomputable section

namespace Cert.Proof.MixBwd

open Cert.Kernel22Ideal Cert.Kernel22Ideal.Gen Cert.Kernel22Ideal.Value Cert.Proof.MatMul Cert.Proof.RowSum Cert.Proof.Mix
open Idealize.ShloMosaic Idealize.ShloMosaic.TcCoe Idealize.SL.Sem Idealize.ShloMosaic.ValueIdx
open Idealize.ShloMosaic.Pipeline (Dat)

/-! ## One point's rows -/

section
variable (g : Vec Ideal S512x2048 .bf16) (ya yr d : Vec Ideal S512x1024 .bf16) (b : Vec Ideal S1x2048 .f32)

/-- The gate. -/
theorem pay3_apply (r : Fin 512) (c : Fin 2048) : k0_pay3 (F := Ideal) g b (ix2 r c) = gate g b r c := by
  unfold k0_pay3 gate
  show Ideal.logistic (g (ix2 r c) + broadcastTo S512x2048 b _ (ix2 r c)) = _
  rw [under_apply (M := 512) (N := 2048) b _ (by decide)]

/-- The gradient that arrives, added to zeros. -/
theorem pay4_apply (i : S512x1024.Idx) : k0_pay4 (F := Ideal) d i = d i := by
  unfold k0_pay4
  show Scalar.ofBits (F := Ideal) .f32 0x00000000#32 + d i = d i
  rw [show Scalar.ofBits (F := Ideal) .f32 0x00000000#32 = (0 : EReal) from Ideal.ofBits_zero_f32, zero_add]

/-- The gradient of the gate's input. -/
theorem pay5_apply (r : Fin 512) (c : Fin 2048) : k0_pay5 (F := Ideal) g ya yr b d (ix2 r c) = dgate g ya yr d b r c := by
  have hone : Scalar.ofBits (F := Ideal) .f32 0x3F800000#32 = (1 : EReal) := Ideal.ofBits_one_f32
  have hz : Scalar.ofBits (F := Ideal) .f32 0x00000000#32 = (0 : EReal) := Ideal.ofBits_zero_f32
  unfold k0_pay5
  simp only [mulf_apply, addf_apply, subf_apply, broadcast_apply, hone]
  rw [beside_apply (M := 512), beside_apply (M := 512), pay3_apply]
  unfold dgate
  refine mul2 ?_ rfl
  refine Eq.trans (add2 ?_ ?_) (branch_add _ _ c)
  · refine congrArg₂ (fun u v => branch u v c) (funext fun q => hz) (funext fun q => ?_)
    show k0_pay4 (F := Ideal) d (ix2 r q) * yr (ix2 r q) = _
    rw [pay4_apply]
  · refine congrArg₂ (fun u v => branch u v c) (funext fun q => ?_) (funext fun q => hz)
    show k0_pay4 (F := Ideal) d (ix2 r q) * ya (ix2 r q) = _
    rw [pay4_apply]

/-- The gradient of the bias from these rows. -/
theorem pay6_apply (a : Fin 1) (c : Fin 2048) : k0_pay6 (F := Ideal) g ya yr b d (ix2 a c) = ∑ r, dgate g ya yr d b r c := by
  unfold k0_pay6
  refine (rowsum_apply (M := 512) (N := 2048) _ _ _ _ _ a c).trans (Finset.sum_congr rfl fun r _ => pay5_apply g ya yr d b r c)

/-- The gradient of the first branch. -/
theorem pay8_apply (r : Fin 512) (q : Fin 1024) : k0_pay8 (F := Ideal) g b d (ix2 r q) = dfst g d b r q := by
  unfold k0_pay8 dfst
  refine mul2 ?_ (pay4_apply d (ix2 r q))
  refine (extractStridedSlice_apply _ _ _ (ix2 r q) (ix2 r (fst q)) ?_).trans (pay3_apply g b r _)
  intro a
  match a with
  | ⟨0, _⟩ => show r.val = 0 + r.val; omega
  | ⟨1, _⟩ => show q.val = 0 + q.val; omega

/-- The gradient of the second branch. -/
theorem pay9_apply (r : Fin 512) (q : Fin 1024) : k0_pay9 (F := Ideal) g b d (ix2 r q) = dsnd g d b r q := by
  unfold k0_pay9 dsnd
  refine mul2 ?_ (pay4_apply d (ix2 r q))
  refine (extractStridedSlice_apply _ _ _ (ix2 r q) (ix2 r (snd q)) ?_).trans (pay3_apply g b r _)
  intro a
  match a with
  | ⟨0, _⟩ => show r.val = 0 + r.val; omega
  | ⟨1, _⟩ => show 1024 + q.val = 1024 + q.val; omega

/-- The running sum with these rows' added. -/
theorem pay2_apply (s p : Vec Ideal S1x2048 .f32) (i : S1x2048.Idx) : k0_pay2 (F := Ideal) p s i = s i + p i := by
  unfold k0_pay2
  show shapeCast S1x2048 s _ i + p i = _
  rw [shapeCast_self]

/-- The running sum starts at zero. -/
theorem pay1_apply (i : S1x2048.Idx) : k0_pay1 (F := Ideal) i = 0 := Ideal.ofBits_zero_f32

end

/-! ## What the two kinds of point leave -/

section
variable (c : Dev nD) (i : grid0.Coords) (arg1 : Memref sig .tc .vmem S512x2048 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x2048 .f32) (harg4 : arg4.IsWhole) (arg5 : Memref sig .tc .vmem S512x1024 .bf16) (harg5 : arg5.IsWhole) (arg6 : Memref sig .tc .vmem S512x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x2048 .f32) (harg9 : arg9.IsWhole)
  (x0 : Vec Ideal S512x2048 .bf16) (x1 x2 : Vec Ideal S512x1024 .bf16) (x3 : Vec Ideal S1x2048 .f32) (x4 : Vec Ideal S512x1024 .bf16) (s : Vec Ideal S1x2048 .f32)

/-- The first point leaves the gradient of its rows of the gate's input. -/
theorem out5_A (hc0 : cond0_0 i) : out0_A_5 c i arg1 harg1 arg2 harg2 arg3 harg3 arg4 harg4 arg5 harg5 arg6 harg6 arg7 harg7 arg8 harg8 arg9 harg9 hc0 x0 x1 x2 x3 x4 = k0_pay7 (F := Ideal) x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- The first point leaves the gradient of its rows of the first branch. -/
theorem out6_A (hc0 : cond0_0 i) : out0_A_6 c i arg1 harg1 arg2 harg2 arg3 harg3 arg4 harg4 arg5 harg5 arg6 harg6 arg7 harg7 arg8 harg8 arg9 harg9 hc0 x0 x1 x2 x3 x4 = k0_pay8 (F := Ideal) x0 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- The first point leaves the gradient of its rows of the second branch. -/
theorem out7_A (hc0 : cond0_0 i) : out0_A_7 c i arg1 harg1 arg2 harg2 arg3 harg3 arg4 harg4 arg5 harg5 arg6 harg6 arg7 harg7 arg8 harg8 arg9 harg9 hc0 x0 x1 x2 x3 x4 = k0_pay9 (F := Ideal) x0 x3 x4 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- The first point leaves its rows' sum added to zeros. -/
theorem out8_A (hc0 : cond0_0 i) : out0_A_8 c i arg1 harg1 arg2 harg2 arg3 harg3 arg4 harg4 arg5 harg5 arg6 harg6 arg7 harg7 arg8 harg8 arg9 harg9 hc0 x0 x1 x2 x3 x4 = k0_pay2 (k0_pay6 (F := Ideal) x0 x1 x2 x3 x4) (k0_pay1 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x2048) off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- A further point leaves the gradient of its rows of the gate's input. -/
theorem out5_B (hc0 : ¬cond0_0 i) : out0_B_5 c i arg1 harg1 arg2 harg2 arg3 harg3 arg4 harg4 arg5 harg5 arg6 harg6 arg7 harg7 arg8 harg8 arg9 harg9 hc0 x0 x1 x2 x3 x4 s = k0_pay7 (F := Ideal) x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 s)]
  unfold kernelRun0_B
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- A further point leaves the gradient of its rows of the first branch. -/
theorem out6_B (hc0 : ¬cond0_0 i) : out0_B_6 c i arg1 harg1 arg2 harg2 arg3 harg3 arg4 harg4 arg5 harg5 arg6 harg6 arg7 harg7 arg8 harg8 arg9 harg9 hc0 x0 x1 x2 x3 x4 s = k0_pay8 (F := Ideal) x0 x3 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 s)]
  unfold kernelRun0_B
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- A further point leaves the gradient of its rows of the second branch. -/
theorem out7_B (hc0 : ¬cond0_0 i) : out0_B_7 c i arg1 harg1 arg2 harg2 arg3 harg3 arg4 harg4 arg5 harg5 arg6 harg6 arg7 harg7 arg8 harg8 arg9 harg9 hc0 x0 x1 x2 x3 x4 s = k0_pay9 (F := Ideal) x0 x3 x4 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 s)]
  unfold kernelRun0_B
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

/-- A further point leaves its rows' sum added to what it finds. -/
theorem out8_B (hc0 : ¬cond0_0 i) : out0_B_8 c i arg1 harg1 arg2 harg2 arg3 harg3 arg4 harg4 arg5 harg5 arg6 harg6 arg7 harg7 arg8 harg8 arg9 harg9 hc0 x0 x1 x2 x3 x4 s = k0_pay2 (k0_pay6 (F := Ideal) x0 x1 x2 x3 x4) s := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 s)]
  unfold kernelRun0_B
  dsimp only
  sl_unfold_words
  rw [View.canon_unit_zero off2]
  simp only [View.readCov_unit_zero (S := S1x2048) _ off2, View.readAt_eq_ld, Memref.IsWhole.read_unread, View.ld_unit_zero (S := S512x2048) off2, View.ld_unit_zero (S := S512x1024) off2, View.ld_unit_zero (S := S1x2048) off2]

end

/-! ## The points' rows in the arrays -/

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)

/-- Row `r` of point `t`'s rows. -/
def row (t : Fin cfg0.N) (r : Fin 512) : Fin 4096 := ⟨t.val * 512 + r.val, part_lt (Nat.lt_of_lt_of_eq t.isLt N_0) r.isLt⟩

theorem blk0 (c : Dev nD) (t : Fin cfg0.N) (r : Fin 512) (q : Fin 2048) : iblk m c 0 t (ix2 r q) = V m c main_arg0 (ix2 (row t r) q) :=
  congrArg (V m c main_arg0) (rows_at (emb := ((cfg0.win 0).blk t).view.emb) (at0 t) (fun _ => ⟨rfl, rfl⟩) (Nat.lt_of_lt_of_eq t.isLt N_0) r q)
theorem blk1 (c : Dev nD) (t : Fin cfg0.N) (r : Fin 512) (q : Fin 1024) : iblk m c 1 t (ix2 r q) = V m c main_arg1 (ix2 (row t r) q) :=
  congrArg (V m c main_arg1) (rows_at (emb := ((cfg0.win 1).blk t).view.emb) (at1 t) (fun _ => ⟨rfl, rfl⟩) (Nat.lt_of_lt_of_eq t.isLt N_0) r q)
theorem blk2 (c : Dev nD) (t : Fin cfg0.N) (r : Fin 512) (q : Fin 1024) : iblk m c 2 t (ix2 r q) = V m c main_arg2 (ix2 (row t r) q) :=
  congrArg (V m c main_arg2) (rows_at (emb := ((cfg0.win 2).blk t).view.emb) (at2 t) (fun _ => ⟨rfl, rfl⟩) (Nat.lt_of_lt_of_eq t.isLt N_0) r q)
theorem blk4 (c : Dev nD) (t : Fin cfg0.N) (r : Fin 512) (q : Fin 1024) : iblk m c 4 t (ix2 r q) = V m c main_arg4 (ix2 (row t r) q) :=
  congrArg (V m c main_arg4) (rows_at (emb := ((cfg0.win 4).blk t).view.emb) (at4 t) (fun _ => ⟨rfl, rfl⟩) (Nat.lt_of_lt_of_eq t.isLt N_0) r q)
theorem blk3 (c : Dev nD) (t : Fin cfg0.N) (q : Fin 2048) : iblk m c 3 t (ix2 0 q) = V m c main_arg3 (ix2 0 q) :=
  congrArg (V m c main_arg3) (row_at (emb := ((cfg0.win 3).blk t).view.emb) (at3 t) (fun _ => ⟨rfl, rfl⟩) 0 q)

/-- The gate of a point's rows. -/
theorem gate_eq (c : Dev nD) (t : Fin cfg0.N) (r : Fin 512) (q : Fin 2048) :
    gate (iblk m c 0 t) (iblk m c 3 t) r q = gate (V m c main_arg0) (V m c main_arg3) (row t r) q :=
  gate_part (blk0 m c t r) (blk3 m c t) q

/-- The gradient of the gate's input on the argument arrays. -/
abbrev dg (c : Dev nD) (r : Fin 4096) (q : Fin 2048) : EReal :=
  dgate (V m c main_arg0) (V m c main_arg1) (V m c main_arg2) (V m c main_arg4) (V m c main_arg3) r q

/-- The gradient of the gate's input on a point's rows. -/
theorem dgate_eq (c : Dev nD) (t : Fin cfg0.N) (r : Fin 512) (q : Fin 2048) :
    dgate (iblk m c 0 t) (iblk m c 1 t) (iblk m c 2 t) (iblk m c 4 t) (iblk m c 3 t) r q = dg m c (row t r) q :=
  dgate_part (blk0 m c t r) (blk1 m c t r) (blk2 m c t r) (blk3 m c t) (blk4 m c t r) q

/-- The sum over the rows of the points up to and including the `n`-th. -/
theorem running (c : Dev nD) (a : Fin 1) (q : Fin 2048) : ∀ (n : ℕ) (hn : n < cfg0.N),
    (outsAt0 m c n hn).2.2.2 (ix2 a q) = upto (fun r => dg m c r q) (n * 512 + 512) :=
  upto_of (fun r => dg m c r q) N_0 (fun n hn => (outsAt0 m c n hn).2.2.2 (ix2 a q))
    (fun hn => by
      rw [outsAt0_A m c ⟨0, hn⟩ rfl]
      dsimp only
      rw [out8_A, pay2_apply, pay1_apply, zero_add, pay6_apply]
      exact Finset.sum_congr rfl fun r _ => dgate_eq m c ⟨0, hn⟩ r q)
    (fun n hn => by
      have h8 : n + 1 < 8 := Nat.lt_of_lt_of_eq hn N_0
      rw [outsAt0_B m c ⟨n + 1, hn⟩ (by show ¬(n + 1) % 8 = 0; omega)]
      dsimp only
      rw [out8_B, pay2_apply, pay6_apply]
      exact add2 rfl (Finset.sum_congr rfl fun r _ => dgate_eq m c ⟨n + 1, hn⟩ r q))

/-- What every point leaves in window 5. -/
theorem outs5 (c : Dev nD) (t : Fin cfg0.N) : (outsAt0 m c t.val t.isLt).1 = k0_pay7 (F := Ideal) (iblk m c 0 t) (iblk m c 1 t) (iblk m c 2 t) (iblk m c 3 t) (iblk m c 4 t) := by
  by_cases h0 : t.val % 8 = 0
  · rw [outsAt0_A m c t h0]; dsimp only; rw [out5_A]
  · rw [outsAt0_B m c t h0]; dsimp only; rw [out5_B]

/-- What every point leaves in window 6. -/
theorem outs6 (c : Dev nD) (t : Fin cfg0.N) : (outsAt0 m c t.val t.isLt).2.1 = k0_pay8 (F := Ideal) (iblk m c 0 t) (iblk m c 3 t) (iblk m c 4 t) := by
  by_cases h0 : t.val % 8 = 0
  · rw [outsAt0_A m c t h0]; dsimp only; rw [out6_A]
  · rw [outsAt0_B m c t h0]; dsimp only; rw [out6_B]

/-- What every point leaves in window 7. -/
theorem outs7 (c : Dev nD) (t : Fin cfg0.N) : (outsAt0 m c t.val t.isLt).2.2.1 = k0_pay9 (F := Ideal) (iblk m c 0 t) (iblk m c 3 t) (iblk m c 4 t) := by
  by_cases h0 : t.val % 8 = 0
  · rw [outsAt0_A m c t h0]; dsimp only; rw [out7_A]
  · rw [outsAt0_B m c t h0]; dsimp only; rw [out7_B]

/-! ## The whole arrays -/

/-- The gradient of the gate's input, as an array. -/
def DG (g : Vec Ideal S4096x2048 .bf16) (ya yr d : Vec Ideal S4096x1024 .bf16) (b : Vec Ideal S1x2048 .f32) : Vec Ideal S4096x2048 .bf16 :=
  fun i => dgate g ya yr d b (i 0) (i 1)
/-- The gradient of the first branch, as an array. -/
def DA (g : Vec Ideal S4096x2048 .bf16) (d : Vec Ideal S4096x1024 .bf16) (b : Vec Ideal S1x2048 .f32) : Vec Ideal S4096x1024 .bf16 :=
  fun i => dfst g d b (i 0) (i 1)
/-- The gradient of the second branch, as an array. -/
def DR (g : Vec Ideal S4096x2048 .bf16) (d : Vec Ideal S4096x1024 .bf16) (b : Vec Ideal S1x2048 .f32) : Vec Ideal S4096x1024 .bf16 :=
  fun i => dsnd g d b (i 0) (i 1)
/-- The gradient of the bias, as an array. -/
def DB (g : Vec Ideal S4096x2048 .bf16) (ya yr d : Vec Ideal S4096x1024 .bf16) (b : Vec Ideal S1x2048 .f32) : Vec Ideal S1x2048 .f32 :=
  fun i => ∑ r, dgate g ya yr d b r (i 1)

/-- Where a point's block of window 5 lies. -/
theorem emb5 (t : Fin cfg0.N) (p : Fin 512) (q : Fin 2048) : ((cfg0.win 5).blk t).view.emb (ix2 p q : S512x2048.Idx) = ix2 (row t p) q :=
  rows_at (at5 t) (fun _ => ⟨rfl, rfl⟩) (Nat.lt_of_lt_of_eq t.isLt N_0) p q

/-- Each point writes back its rows. -/
theorem flushed5_eq (c : Dev nD) (t : Fin cfg0.N) : (dats m 0 c).flushed 5 t
    = ((cfg0.win 5).blk t).view.read (Elt Ideal) (DG (V m c main_arg0) (V m c main_arg1) (V m c main_arg2) (V m c main_arg4) (V m c main_arg3)) := by
  rw [flushed5 m c t, outs5]
  refine ext2 fun (p : Fin 512) (q : Fin 2048) => ?_
  show k0_pay7 (F := Ideal) _ _ _ _ _ (ix2 p q) = DG _ _ _ _ _ (((cfg0.win 5).blk t).view.emb (ix2 p q : S512x2048.Idx))
  rw [emb5 t p q]
  exact (pay5_apply (iblk m c 0 t) (iblk m c 1 t) (iblk m c 2 t) (iblk m c 4 t) (iblk m c 3 t) p q).trans (dgate_eq m c t p q)

/-- Where a point's block of window 6 lies. -/
theorem emb6 (t : Fin cfg0.N) (p : Fin 512) (q : Fin 1024) : ((cfg0.win 6).blk t).view.emb (ix2 p q : S512x1024.Idx) = ix2 (row t p) q :=
  rows_at (at6 t) (fun _ => ⟨rfl, rfl⟩) (Nat.lt_of_lt_of_eq t.isLt N_0) p q

/-- Each point writes back its rows. -/
theorem flushed6_eq (c : Dev nD) (t : Fin cfg0.N) : (dats m 0 c).flushed 6 t
    = ((cfg0.win 6).blk t).view.read (Elt Ideal) (DA (V m c main_arg0) (V m c main_arg4) (V m c main_arg3)) := by
  rw [flushed6 m c t, outs6]
  refine ext2 fun (p : Fin 512) (q : Fin 1024) => ?_
  show k0_pay8 (F := Ideal) _ _ _ (ix2 p q) = DA _ _ _ (((cfg0.win 6).blk t).view.emb (ix2 p q : S512x1024.Idx))
  rw [emb6 t p q]
  exact (pay8_apply (iblk m c 0 t) (iblk m c 4 t) (iblk m c 3 t) p q).trans (mul2 (gate_eq m c t p (fst q)) (blk4 m c t p q))

/-- Where a point's block of window 7 lies. -/
theorem emb7 (t : Fin cfg0.N) (p : Fin 512) (q : Fin 1024) : ((cfg0.win 7).blk t).view.emb (ix2 p q : S512x1024.Idx) = ix2 (row t p) q :=
  rows_at (at7 t) (fun _ => ⟨rfl, rfl⟩) (Nat.lt_of_lt_of_eq t.isLt N_0) p q

/-- Where a point's block of window 8 lies. -/
theorem emb8 (t : Fin cfg0.N) (a : Fin 1) (q : Fin 2048) : ((cfg0.win 8).blk t).view.emb (ix2 a q : S1x2048.Idx) = ix2 a q :=
  row_at (at8 t) (fun _ => ⟨rfl, rfl⟩) a q

/-- Each point writes back its rows. -/
theorem flushed7_eq (c : Dev nD) (t : Fin cfg0.N) : (dats m 0 c).flushed 7 t
    = ((cfg0.win 7).blk t).view.read (Elt Ideal) (DR (V m c main_arg0) (V m c main_arg4) (V m c main_arg3)) := by
  rw [flushed7 m c t, outs7]
  refine ext2 fun (p : Fin 512) (q : Fin 1024) => ?_
  show k0_pay9 (F := Ideal) _ _ _ (ix2 p q) = DR _ _ _ (((cfg0.win 7).blk t).view.emb (ix2 p q : S512x1024.Idx))
  rw [emb7 t p q]
  exact (pay9_apply (iblk m c 0 t) (iblk m c 4 t) (iblk m c 3 t) p q).trans (mul2 (gate_eq m c t p (snd q)) (blk4 m c t p q))

theorem flushed8_eq (c : Dev nD) (t : Fin cfg0.N) (hf : (cfg0.win 8).flush t = true) : (dats m 0 c).flushed 8 t
    = ((cfg0.win 8).blk t).view.read (Elt Ideal) (DB (V m c main_arg0) (V m c main_arg1) (V m c main_arg2) (V m c main_arg4) (V m c main_arg3)) := by
  have h7 : t.val % 8 = 7 := (flush0_8 t).mp hf
  have h8 := Nat.lt_of_lt_of_eq t.isLt N_0
  rw [flushed8 m c t]
  refine ext2 fun (a : Fin 1) (q : Fin 2048) => ?_
  show (outsAt0 m c t.val t.isLt).2.2.2 (ix2 a q) = DB _ _ _ _ _ (((cfg0.win 8).blk t).view.emb (ix2 a q : S1x2048.Idx))
  rw [emb8 t a q, running, show t.val * 512 + 512 = 4096 by omega, upto_all]
  rfl

theorem covered5 (i : S4096x2048.Idx) : ∃ t : Fin cfg0.N, (cfg0.win 5).flush t = true ∧ i ∈ ((cfg0.win 5).blk t).view.set :=
  ⟨⟨(i 0).val / 512, Nat.lt_of_lt_of_eq (part_of (i 0)) N_0.symm⟩, flush0_5 _,
    rows_mem (((cfg0.win 5).blk _).view.emb_mem_set) i (emb5 _)⟩

theorem covered6 (i : S4096x1024.Idx) : ∃ t : Fin cfg0.N, (cfg0.win 6).flush t = true ∧ i ∈ ((cfg0.win 6).blk t).view.set :=
  ⟨⟨(i 0).val / 512, Nat.lt_of_lt_of_eq (part_of (i 0)) N_0.symm⟩, flush0_6 _,
    rows_mem (((cfg0.win 6).blk _).view.emb_mem_set) i (emb6 _)⟩

theorem covered7 (i : S4096x1024.Idx) : ∃ t : Fin cfg0.N, (cfg0.win 7).flush t = true ∧ i ∈ ((cfg0.win 7).blk t).view.set :=
  ⟨⟨(i 0).val / 512, Nat.lt_of_lt_of_eq (part_of (i 0)) N_0.symm⟩, flush0_7 _,
    rows_mem (((cfg0.win 7).blk _).view.emb_mem_set) i (emb7 _)⟩

theorem mem8 (t : Fin cfg0.N) (i : S1x2048.Idx) : i ∈ ((cfg0.win 8).blk t).view.set :=
  row_mem (((cfg0.win 8).blk t).view.emb_mem_set) i (emb8 t)

theorem covered8 (i : S1x2048.Idx) : ∃ t : Fin cfg0.N, (cfg0.win 8).flush t = true ∧ i ∈ ((cfg0.win 8).blk t).view.set :=
  ⟨⟨7, Nat.lt_of_lt_of_eq (by decide) N_0.symm⟩, (flush0_8 _).mpr rfl, mem8 _ i⟩

/-- The kernel leaves the four gradients. -/
theorem run_kernel : θ_run defs (onTc (τ := τ) (main (F := Ideal))) ⟨m, fun _ => 0, ρ⟩ fun r => ∀ c : Dev nD,
      r.2.mem ((c : Thread nD τ).loc main_v0_0) = DG (m ((c : Thread nD τ).loc main_arg0)) (m ((c : Thread nD τ).loc main_arg1)) (m ((c : Thread nD τ).loc main_arg2)) (m ((c : Thread nD τ).loc main_arg4)) (m ((c : Thread nD τ).loc main_arg3))
      ∧ r.2.mem ((c : Thread nD τ).loc main_v0_1) = DA (m ((c : Thread nD τ).loc main_arg0)) (m ((c : Thread nD τ).loc main_arg4)) (m ((c : Thread nD τ).loc main_arg3))
      ∧ r.2.mem ((c : Thread nD τ).loc main_v0_2) = DR (m ((c : Thread nD τ).loc main_arg0)) (m ((c : Thread nD τ).loc main_arg4)) (m ((c : Thread nD τ).loc main_arg3))
      ∧ r.2.mem ((c : Thread nD τ).loc main_v0_3) = DB (m ((c : Thread nD τ).loc main_arg0)) (m ((c : Thread nD τ).loc main_arg1)) (m ((c : Thread nD τ).loc main_arg2)) (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_blocks m ρ)
  obtain ⟨h5, h6, h7, h8, hk⟩ := h c
  rw [← V_main_arg0 m c, ← V_main_arg1 m c, ← V_main_arg2 m c, ← V_main_arg3 m c, ← V_main_arg4 m c] at *
  exact ⟨h5.trans ((dats m 0 c).arrAt_eq_of_cover 5 _ (fun t _ => flushed5_eq m c t) covered5),
    h6.trans ((dats m 0 c).arrAt_eq_of_cover 6 _ (fun t _ => flushed6_eq m c t) covered6),
    h7.trans ((dats m 0 c).arrAt_eq_of_cover 7 _ (fun t _ => flushed7_eq m c t) covered7),
    h8.trans ((dats m 0 c).arrAt_eq_of_cover 8 _ (fun t hf => flushed8_eq m c t hf) covered8), hk⟩

/-! ## The reference's arrays -/

section
open Cert.Reference22Ideal.Read
variable (x0 : Vec Ideal S4096x2048 .bf16) (x1 x2 : Vec Ideal S4096x1024 .bf16) (x3 : Vec Ideal S1x2048 .f32) (x4 : Vec Ideal S4096x1024 .bf16)

/-- The constant one. -/
theorem obits : FloatOps.ofBits (F := Ideal) .f32 0x3F800000#32 = (1 : EReal) := Ideal.ofBits_one_f32

/-- The reference's gate. -/
theorem ref_gate (r : Fin 4096) (c : Fin 2048) : val_main_v10 (F := Ideal) x0 x3 (ix2 r c) = gate x0 x3 r c := by
  rw [val_main_v10_apply, val_main_v9_apply, val_main_cst_0_apply, val_main_v8_apply, val_main_v7_apply, val_main_cst_apply, val_main_v6_apply,
    val_main_v5_apply, val_main_v4_apply, val_main_v3_apply, val_main_v0_apply, obits]
  unfold gate
  rw [show idx_main_v3 (ix2 r c : S4096x2048.Idx) = (ix2 0 c : S1x2048.Idx) from same2 rfl rfl]
  rfl

/-- The reference's gradient of the gate's input. -/
theorem ref_dgate (r : Fin 4096) (c : Fin 2048) : val_main_v25 (F := Ideal) x0 x1 x2 x3 x4 (ix2 r c) = dgate x0 x1 x2 x4 x3 r c := by
  rw [val_main_v25_apply]
  unfold dgate
  refine mul2 ?_ ?_
  · exact beside_apply (M := 4096) (val_main_v23 (F := Ideal) x1 x4) (val_main_v21 (F := Ideal) x2 x4) _ r c
  · rw [val_main_v13_apply, val_main_v12_apply, val_main_v11_apply, val_main_cst_1_apply, obits, ref_gate]
    rfl

/-- The reference's gradient of the gate's input, as an array. -/
theorem ref_v28 : val_main_v28 (F := Ideal) x0 x1 x2 x3 x4 = DG x0 x1 x2 x4 x3 := by
  refine ext2 fun (r : Fin 4096) (q : Fin 2048) => ?_
  exact (val_main_v28_apply x0 x1 x2 x3 x4 _).trans (ref_dgate x0 x1 x2 x3 x4 r q)

/-- The reference's gradient of the first branch, as an array. -/
theorem ref_v29 : val_main_v29 (F := Ideal) x0 x3 x4 = DA x0 x4 x3 := by
  refine ext2 fun (r : Fin 4096) (q : Fin 1024) => ?_
  refine (val_main_v29_apply x0 x3 x4 _).trans ((val_main_v22_apply x0 x3 x4 _).trans ?_)
  refine mul2 ((val_main_v14_apply x0 x3 _).trans (Eq.trans (congrArg _ ?_) (ref_gate x0 x3 r (fst q)))) rfl
  funext a; apply Fin.ext
  match a with
  | ⟨0, _⟩ => first | rfl | (show 0 + r.val = r.val; omega) | (show 0 + 1 * r.val = r.val; omega)
  | ⟨1, _⟩ => first | rfl | (show 0 + q.val = q.val; omega) | (show 0 + 1 * q.val = q.val; omega)

/-- The reference's gradient of the second branch, as an array. -/
theorem ref_v30 : val_main_v30 (F := Ideal) x0 x3 x4 = DR x0 x4 x3 := by
  refine ext2 fun (r : Fin 4096) (q : Fin 1024) => ?_
  refine (val_main_v30_apply x0 x3 x4 _).trans ((val_main_v20_apply x0 x3 x4 _).trans ?_)
  refine mul2 ((val_main_v15_apply x0 x3 _).trans (Eq.trans (congrArg _ ?_) (ref_gate x0 x3 r (snd q)))) rfl
  funext a; apply Fin.ext
  match a with
  | ⟨0, _⟩ => first | rfl | (show 0 + r.val = r.val; omega) | (show 0 + 1 * r.val = r.val; omega)
  | ⟨1, _⟩ => first | rfl | (show 1024 + 1 * q.val = 1024 + q.val; omega)

/-- The reference's gradient of the bias, as an array. -/
theorem ref_v27 : val_main_v27 (F := Ideal) x0 x1 x2 x3 x4 = DB x0 x1 x2 x4 x3 := by
  refine ext2 fun (a : Fin 1) (q : Fin 2048) => ?_
  refine (val_main_v27_apply x0 x1 x2 x3 x4 _).trans ((val_main_v26_apply x0 x1 x2 x3 x4 _).trans ?_)
  rw [val_main_cst_2_apply, show FloatOps.ofBits (F := Ideal) .f32 0x00000000#32 = (0 : EReal) from Ideal.ofBits_zero_f32, zero_add]
  refine Finset.sum_congr rfl fun r _ => Eq.trans (congrArg _ ?_) (ref_dgate x0 x1 x2 x3 x4 r q)
  funext d; apply Fin.ext
  match d with
  | ⟨0, _⟩ => rfl
  | ⟨1, _⟩ => show a.val * 2048 + q.val = q.val; have := a.isLt; omega

end

/-! ## The claim -/

/-- The reference runs, keeps its arguments, and leaves every counter at zero. -/
theorem frame_reference : Cert.quiescent_Reference22Ideal (hReference22Ideal := Cert.Reference22Ideal.Gen.facts) := by
  intro m g _
  exact (θ_run Cert.Reference22Ideal.defs _ _).mono
    (fun r h => ⟨fun c => (h c).2.2.2.2, Idealize.ShloMosaic.sem_eq_zero_of_no_sems (by decide) r.2⟩)
    (Cert.Reference22Ideal.Value.run m g)

/-- The kernel's four arrays are the reference's. -/
theorem value : Cert.algebraic_Kernel22Ideal_Reference22Ideal (hKernel22Ideal := Cert.Kernel22Ideal.Gen.facts)
    (hReference22Ideal := Cert.Reference22Ideal.Gen.facts) := by
  intro m g m' g' _ hm
  refine ⟨fun c => _, fun c => _, fun c => _, fun c => _, run_kernel m g, ?_⟩
  refine (θ_run Cert.Reference22Ideal.defs _ _).mono (fun r h c => ?_) (Cert.Reference22Ideal.Value.run m' g')
  obtain ⟨h0, h1, h2, h3, hk⟩ := h c
  obtain ⟨a0, a1, a2, a3, a4⟩ := hm c
  refine ⟨(h0.trans (Cert.Reference22Ideal.Read.val_main_v28_eq (F := Ideal) _ _ _ _ _)).trans ((ref_v28 _ _ _ _ _).trans ?_),
    (h1.trans (Cert.Reference22Ideal.Read.val_main_v29_eq (F := Ideal) _ _ _)).trans ((ref_v29 _ _ _).trans ?_),
    (h2.trans (Cert.Reference22Ideal.Read.val_main_v30_eq (F := Ideal) _ _ _)).trans ((ref_v30 _ _ _).trans ?_),
    (h3.trans (Cert.Reference22Ideal.Read.val_main_v27_eq (F := Ideal) _ _ _ _ _)).trans ((ref_v27 _ _ _ _ _).trans ?_), hk⟩
  · rw [a0, a1, a2, a3, a4]
  · rw [a0, a3, a4]
  · rw [a0, a3, a4]
  · rw [a0, a1, a2, a3, a4]

end Cert.Proof.MixBwd

end
-- ==== Proof.NormSpec.lean ====
/- A row of the residual stream and its normalisation: the row with the block's gated output added, its mean square, the
   normalised and modulated row, and the gradients, all as functions of one row; and the two layouts a row's number is
   brought through. -/
module

public import proofs.«01_k».proof.Proof.RowSum

@[expose] public section

noncomputable section

namespace Cert.Proof.Norm

open Idealize.ShloMosaic Idealize.ShloMosaic.ValueIdx

/-- A row of an array. -/
def rowOf {M : ℕ} (v : (⟨2, ![M, 1024]⟩ : Shape).Idx → EReal) (r : Fin M) : Fin 1024 → EReal := fun q => v (ix2 r q)

/-- The literal 1024, the row's length. -/
def len : EReal := FloatOps.ofBits (F := Ideal) .f32 0x44800000#32

/-- The literal added under the root. -/
def eps : EReal := FloatOps.ofBits (F := Ideal) .f32 0x358637BD#32

/-- The literal minus one half. -/
def mhalf : EReal := FloatOps.ofBits (F := Ideal) .f32 0xBF000000#32

section
variable (x o gt u p w sc sh dx dh : Fin 1024 → EReal) (q : Fin 1024)

/-- The row with the block's gated output added. -/
def res : EReal := x q + gt q * o q

/-- The mean square of a row, with the small literal added. -/
def ms : EReal := Ideal.div (∑ k, u k * u k) len + eps

/-- One over the root of the mean square. -/
def invRoot : EReal := Ideal.rsqrt (ms u)

/-- The row over the root of its mean square. -/
def unitRow : EReal := u q * invRoot u

/-- The row normalised, scaled by the weight, and modulated. -/
def normed : EReal := unitRow u q * w q * (1 + sc q) + sh q

/-- The gradient of the normalised row. -/
def dn : EReal := dh q * (1 + sc q)

/-- The gradient of the row over its root. -/
def dp : EReal := dn sc dh q * w q

/-- A row's part of the gradient of the weight. -/
def dnw : EReal := unitRow u q * dn sc dh q

/-- A row's part of the gradient of the scale. -/
def dscale : EReal := unitRow u q * w q * dh q

/-- What the mean square sends back to each of the row's elements. -/
def coef : EReal := Ideal.div ((∑ k, u k * p k) * (mhalf * Ideal.div (invRoot u) (ms u))) len

/-- The gradient of the row. -/
def dres : EReal := dx q + p q * invRoot u + u q * coef u p + coef u p * u q

end

/-- An array summed along its rows and laid out as a column. -/
theorem colsum_apply {M N : ℕ} (y : FVec Ideal ⟨2, ![M, N]⟩ .f32) (h : (⟨2, ![M, N]⟩ : Shape).Reduces [1] ⟨1, ![M]⟩) (hφ : FKind.Formats FTy.f32) (hacc)
    (hs : (⟨1, ![M]⟩ : Shape).ShapeCasts ⟨2, ![M, 1]⟩) (r : Fin M) (a : Fin 1) :
    shapeCast ⟨2, ![M, 1]⟩ (multiReduction (F := Ideal) .add [1] ⟨1, ![M]⟩ y 0x00000000#32 h hφ hacc) hs (ix2 r a) = ∑ k : Fin N, y (ix2 r k) := by
  refine (shapeCast_apply _ hs (ix2 r a) (ix1 r) ?_).trans ?_
  · rw [Shape.rowMajor_val_one, Shape.rowMajor_val_two]
    show r.val = r.val * 1 + a.val
    have : a.val = 0 := by have := a.isLt; omega
    omega
  · rw [Ideal.multiReduction_add_single]
    refine Finset.sum_congr rfl fun k _ => congrArg y ?_
    funext a; apply Fin.ext
    match a with
    | ⟨0, _⟩ => rfl
    | ⟨1, _⟩ => rfl

/-- A column put across every column. -/
theorem across_apply {M N : ℕ} (v : FVec Ideal ⟨2, ![M, 1]⟩ .f32) (h : (⟨2, ![M, 1]⟩ : Shape).Broadcasts ⟨2, ![M, N]⟩) (hM : M ≠ 1)
    (r : Fin M) (q : Fin N) : broadcastTo ⟨2, ![M, N]⟩ v h (ix2 r q) = v (ix2 r 0) :=
  broadcastTo_apply v h (ix2 r q) (ix2 r 0) (by
    intro a
    match a with
    | ⟨0, _⟩ => exact (if_neg hM).symm
    | ⟨1, _⟩ => rfl)

end Cert.Proof.Norm

end
-- ==== Proof.NormBwd.lean ====
/- The gradient of the gated sum and its normalisation: what one grid point's 512 rows leave, the running sums of the row
   vectors' gradients, the whole arrays, the reference's arrays, and the claim. -/
module

public import proofs.«01_k».proof.Proof.NormSpec
public import proofs.«01_k».proof.Defs
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Tactic
public import Idealize.ShloMosaic.Adequacy

@[expose] public section

noncomputable section

namespace Cert.Proof.NormBwd

open Cert.Kernel23Ideal Cert.Kernel23Ideal.Gen Cert.Kernel23Ideal.Value Cert.Proof.MatMul Cert.Proof.RowSum Cert.Proof.Norm
open Idealize.ShloMosaic Idealize.ShloMosaic.TcCoe Idealize.SL.Sem Idealize.ShloMosaic.ValueIdx
open Idealize.ShloMosaic.Pipeline (Dat)

/-! ## One point's rows -/

section
variable (x : Vec Ideal S512x1024 .f32) (o : Vec Ideal S512x1024 .bf16) (gt w sc : Vec Ideal S1x1024 .f32) (dx : Vec Ideal S512x1024 .f32)
  (dh : Vec Ideal S512x1024 .bf16) (s : Vec Ideal S1x1024 .f32)

/-- What a point leaves of the gradient of the rows. -/
abbrev G8 : Vec Ideal S512x1024 .f32 := k0_pay18 (F := Ideal) w (k0_pay5 x o gt) (k0_pay7 x o gt) (k0_pay8 x o gt) (k0_pay10 sc) (k0_pay11 dx) (k0_pay12 dh)
/-- What a point leaves of the gradient of the block's output. -/
abbrev G9 : Vec Ideal S512x1024 .bf16 := k0_pay19 (F := Ideal) gt w (k0_pay5 x o gt) (k0_pay7 x o gt) (k0_pay8 x o gt) (k0_pay10 sc) (k0_pay11 dx) (k0_pay12 dh)
/-- What a point leaves of the gradient of the gate, from what it finds. -/
abbrev G10 : Vec Ideal S1x1024 .f32 := k0_pay24 (F := Ideal) (k0_pay4 o) w (k0_pay5 x o gt) (k0_pay7 x o gt) (k0_pay8 x o gt) (k0_pay10 sc) (k0_pay11 dx) (k0_pay12 dh) s
/-- What a point leaves of the gradient of the weight, from what it finds. -/
abbrev G11 : Vec Ideal S1x1024 .f32 := k0_pay1 (F := Ideal) (k0_pay17 (k0_pay9 x o gt) (k0_pay10 sc) (k0_pay12 dh)) s
/-- What a point leaves of the gradient of the scale, from what it finds. -/
abbrev G12 : Vec Ideal S1x1024 .f32 := k0_pay2 (F := Ideal) (k0_pay15 (k0_pay14 x o gt w dh)) s
/-- What a point leaves of the gradient of the shift, from what it finds. -/
abbrev G13 : Vec Ideal S1x1024 .f32 := k0_pay3 (F := Ideal) (k0_pay13 dh) s

/-- The sum of a point's rows and the gated output. -/
theorem pay5_apply (r : Fin 512) (q : Fin 1024) : k0_pay5 (F := Ideal) x o gt (ix2 r q) = res (rowOf x r) (rowOf o r) (rowOf gt 0) q := by
  unfold k0_pay5 res
  exact add2 rfl (mul2 (under_apply (M := 512) (N := 1024) gt _ (by decide) r q) rfl)

/-- The mean square of a point's rows. -/
theorem pay6_apply (r : Fin 512) : k0_pay6 (F := Ideal) x o gt (ix2 r 0) = ms (res (rowOf x r) (rowOf o r) (rowOf gt 0)) := by
  unfold k0_pay6 ms
  refine add2 (congrArg₂ Ideal.div ((colsum_apply (M := 512) (N := 1024) _ _ _ _ _ r 0).trans ?_) rfl) rfl
  exact Finset.sum_congr rfl fun k _ => mul2 (pay5_apply x o gt r k) (pay5_apply x o gt r k)

/-- One over the root. -/
theorem pay7_apply (r : Fin 512) : k0_pay7 (F := Ideal) x o gt (ix2 r 0) = invRoot (res (rowOf x r) (rowOf o r) (rowOf gt 0)) := by
  unfold k0_pay7 invRoot
  exact congrArg Ideal.rsqrt (pay6_apply x o gt r)

/-- The derivative of one over the root. -/
theorem pay8_apply (r : Fin 512) : k0_pay8 (F := Ideal) x o gt (ix2 r 0) = mhalf * Ideal.div (invRoot (res (rowOf x r) (rowOf o r) (rowOf gt 0))) (ms (res (rowOf x r) (rowOf o r) (rowOf gt 0))) := by
  unfold k0_pay8
  exact mul2 rfl (congrArg₂ Ideal.div (pay7_apply x o gt r) (pay6_apply x o gt r))

/-- The rows over their roots. -/
theorem pay9_apply (r : Fin 512) (q : Fin 1024) : k0_pay9 (F := Ideal) x o gt (ix2 r q) = unitRow (res (rowOf x r) (rowOf o r) (rowOf gt 0)) q := by
  unfold k0_pay9 unitRow
  exact mul2 (pay5_apply x o gt r q) ((across_apply (M := 512) (N := 1024) _ _ (by decide) r q).trans (pay7_apply x o gt r))

/-- One plus the scale. -/
theorem pay10_apply (q : Fin 1024) : k0_pay10 (F := Ideal) sc (ix2 0 q) = 1 + rowOf sc 0 q := by
  unfold k0_pay10
  exact add2 Ideal.ofBits_one_f32 rfl

/-- The gradient that arrives at the rows, added to zeros. -/
theorem pay11_apply (i : S512x1024.Idx) : k0_pay11 (F := Ideal) dx i = dx i := by
  unfold k0_pay11
  show Scalar.ofBits (F := Ideal) .f32 0x00000000#32 + dx i = dx i
  rw [show Scalar.ofBits (F := Ideal) .f32 0x00000000#32 = (0 : EReal) from Ideal.ofBits_zero_f32, zero_add]

/-- The gradient that arrives at the normalised rows, added to zeros. -/
theorem pay12_apply (i : S512x1024.Idx) : k0_pay12 (F := Ideal) dh i = dh i := by
  unfold k0_pay12
  show Scalar.ofBits (F := Ideal) .f32 0x00000000#32 + dh i = dh i
  rw [show Scalar.ofBits (F := Ideal) .f32 0x00000000#32 = (0 : EReal) from Ideal.ofBits_zero_f32, zero_add]

/-- The gradient of the normalised rows. -/
theorem pay16_apply (r : Fin 512) (q : Fin 1024) : k0_pay16 (F := Ideal) (k0_pay10 sc) (k0_pay12 dh) (ix2 r q) = dn (rowOf sc 0) (rowOf dh r) q := by
  unfold k0_pay16 dn
  exact mul2 (pay12_apply dh (ix2 r q)) ((under_apply (M := 512) (N := 1024) _ _ (by decide) r q).trans (pay10_apply sc q))

/-- The gradient of the rows over their roots. -/
theorem dp_apply (r : Fin 512) (q : Fin 1024) : mulf (k0_pay16 (F := Ideal) (k0_pay10 sc) (k0_pay12 dh))
    (broadcastTo S512x1024 w broadcasts_S1x1024_S512x1024) (ix2 r q) = dp (rowOf w 0) (rowOf sc 0) (rowOf dh r) q := by
  unfold dp
  exact mul2 (pay16_apply sc dh r q) (under_apply (M := 512) (N := 1024) w _ (by decide) r q)

/-- What the mean square sends back. -/
theorem coef_apply (r : Fin 512) (y : FVec Ideal S512x1024 .f32) (hy : ∀ k, y (ix2 r k) = (res (rowOf x r) (rowOf o r) (rowOf gt 0)) k * (dp (rowOf w 0) (rowOf sc 0) (rowOf dh r)) k) (h hφ hacc hs h' hφ' hacc' hs') :
    shapeCast S512x1 (multiReduction (F := Ideal) .add [1] S512 (divf (mulf (shapeCast S512x1 (multiReduction (F := Ideal) .add [1] S512 y
      0x00000000#32 h hφ hacc) hs) (k0_pay8 x o gt)) (broadcast S512x1 (Scalar.ofBits .f32 0x44800000#32))) 0x00000000#32 h' hφ' hacc') hs' (ix2 r 0)
      = coef (res (rowOf x r) (rowOf o r) (rowOf gt 0)) (dp (rowOf w 0) (rowOf sc 0) (rowOf dh r)) := by
  refine (colsum_apply (M := 512) (N := 1) _ _ _ _ _ r 0).trans ((Fin.sum_univ_one _).trans ?_)
  unfold coef
  exact congrArg₂ Ideal.div (mul2 ((colsum_apply (M := 512) (N := 1024) _ _ _ _ _ r 0).trans (Finset.sum_congr rfl fun k _ => hy k))
    (pay8_apply x o gt r)) rfl

/-- The gradient of the rows. -/
theorem G8_apply (r : Fin 512) (q : Fin 1024) : G8 x o gt w sc dx dh (ix2 r q) = dres (res (rowOf x r) (rowOf o r) (rowOf gt 0)) (dp (rowOf w 0) (rowOf sc 0) (rowOf dh r)) (rowOf dx r) q := by
  unfold G8 k0_pay18 dres
  have hy : ∀ k, mulf (k0_pay5 (F := Ideal) x o gt) (mulf (k0_pay16 (k0_pay10 sc) (k0_pay12 dh)) (broadcastTo S512x1024 w broadcasts_S1x1024_S512x1024)) (ix2 r k)
      = (res (rowOf x r) (rowOf o r) (rowOf gt 0)) k * (dp (rowOf w 0) (rowOf sc 0) (rowOf dh r)) k := fun k => mul2 (pay5_apply x o gt r k) (dp_apply w sc dh r k)
  refine add2 (add2 (add2 (pay11_apply dx (ix2 r q)) (mul2 (dp_apply w sc dh r q)
    ((across_apply (M := 512) (N := 1024) _ _ (by decide) r q).trans (pay7_apply x o gt r)))) (mul2 (pay5_apply x o gt r q) ((across_apply (M := 512) (N := 1024) _ _ (by decide) r q).trans ?_))) (mul2 ((across_apply (M := 512) (N := 1024) _ _ (by decide) r q).trans ?_) (pay5_apply x o gt r q))
  · exact coef_apply x o gt w sc dh r _ hy _ _ _ _ _ _ _ _
  · exact coef_apply x o gt w sc dh r _ hy _ _ _ _ _ _ _ _

/-- The gradient of the block's output. -/
theorem G9_apply (r : Fin 512) (q : Fin 1024) : G9 x o gt w sc dx dh (ix2 r q) = rowOf gt 0 q * dres (res (rowOf x r) (rowOf o r) (rowOf gt 0)) (dp (rowOf w 0) (rowOf sc 0) (rowOf dh r)) (rowOf dx r) q := by
  unfold G9 k0_pay19
  exact mul2 (under_apply (M := 512) (N := 1024) gt _ (by decide) r q) (G8_apply x o gt w sc dx dh r q)

/-- The gradient of the gate. -/
theorem G10_apply (a : Fin 1) (q : Fin 1024) : G10 x o gt w sc dx dh s (ix2 a q) = s (ix2 a q) + ∑ r : Fin 512, dres (res (rowOf x r) (rowOf o r) (rowOf gt 0)) (dp (rowOf w 0) (rowOf sc 0) (rowOf dh r)) (rowOf dx r) q * rowOf o r q := by
  unfold G10 k0_pay24
  refine add2 (congrFun (shapeCast_self s _) _) ((rowsum_apply (M := 512) (N := 1024) _ _ _ _ _ a q).trans (Finset.sum_congr rfl fun r _ => ?_))
  exact mul2 (G8_apply x o gt w sc dx dh r q) rfl

/-- The gradient of the weight. -/
theorem G11_apply (a : Fin 1) (q : Fin 1024) : G11 x o gt sc dh s (ix2 a q) = s (ix2 a q) + ∑ r : Fin 512, dnw (res (rowOf x r) (rowOf o r) (rowOf gt 0)) (rowOf sc 0) (rowOf dh r) q := by
  unfold G11 k0_pay1 k0_pay17
  refine add2 (congrFun (shapeCast_self s _) _) ((rowsum_apply (M := 512) (N := 1024) _ _ _ _ _ a q).trans (Finset.sum_congr rfl fun r _ => ?_))
  exact mul2 (pay9_apply x o gt r q) (pay16_apply sc dh r q)

/-- The gradient of the scale. -/
theorem G12_apply (a : Fin 1) (q : Fin 1024) : G12 x o gt w dh s (ix2 a q) = s (ix2 a q) + ∑ r : Fin 512, dscale (res (rowOf x r) (rowOf o r) (rowOf gt 0)) (rowOf w 0) (rowOf dh r) q := by
  unfold G12 k0_pay2 k0_pay15 k0_pay14
  refine add2 (congrFun (shapeCast_self s _) _) ((rowsum_apply (M := 512) (N := 1024) _ _ _ _ _ a q).trans (Finset.sum_congr rfl fun r _ => ?_))
  exact mul2 (mul2 (pay9_apply x o gt r q) (under_apply (M := 512) (N := 1024) w _ (by decide) r q)) (pay12_apply dh (ix2 r q))

/-- The gradient of the shift. -/
theorem G13_apply (a : Fin 1) (q : Fin 1024) : G13 dh s (ix2 a q) = s (ix2 a q) + ∑ r : Fin 512, rowOf dh r q := by
  unfold G13 k0_pay3 k0_pay13
  refine add2 (congrFun (shapeCast_self s _) _) ((rowsum_apply (M := 512) (N := 1024) _ _ _ _ _ a q).trans (Finset.sum_congr rfl fun r _ => ?_))
  exact pay12_apply dh (ix2 r q)

/-- The running sums start at zero. -/
theorem zeros_apply (i : S1x1024.Idx) : k0_pay20 (F := Ideal) i = 0 ∧ k0_pay21 (F := Ideal) i = 0 ∧ k0_pay22 (F := Ideal) i = 0 ∧ k0_pay23 (F := Ideal) i = 0 :=
  ⟨Ideal.ofBits_zero_f32, Ideal.ofBits_zero_f32, Ideal.ofBits_zero_f32, Ideal.ofBits_zero_f32⟩

end

/-! ## What the two kinds of point leave -/

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole)
  (x0 : Vec Ideal S512x1024 .f32) (x1 : Vec Ideal S512x1024 .bf16) (x2 x3 x4 x5 : Vec Ideal S1x1024 .f32) (x6 : Vec Ideal S512x1024 .f32) (x7 : Vec Ideal S512x1024 .bf16)
  (s10 s11 s12 s13 : Vec Ideal S1x1024 .f32)

/-- The first point leaves the gradient of its rows. -/
theorem out8_A (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G8 x0 x1 x2 x3 x4 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- The first point leaves the gradient of its rows of the block's output. -/
theorem out9_A (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G9 x0 x1 x2 x3 x4 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- The first point leaves its rows' part of the gate's gradient added to zeros. -/
theorem out10_A (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G10 x0 x1 x2 x3 x4 x6 x7 (k0_pay20 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) off2]
  simp only [View.readCov_unit_zero (S := S1x1024) _ off2, View.readAt_eq_ld, Memref.IsWhole.read_unread, View.ld_unit_zero (S := S512x1024) off2, View.ld_unit_zero (S := S1x1024) off2]

/-- The first point leaves its rows' part of the weight's gradient added to zeros. -/
theorem out11_A (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G11 x0 x1 x2 x4 x7 (k0_pay21 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) off2]
  simp only [View.readCov_unit_zero (S := S1x1024) _ off2, View.readAt_eq_ld, Memref.IsWhole.read_unread, View.ld_unit_zero (S := S512x1024) off2, View.ld_unit_zero (S := S1x1024) off2]

/-- The first point leaves its rows' part of the scale's gradient added to zeros. -/
theorem out12_A (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G12 x0 x1 x2 x3 x7 (k0_pay22 (F := Ideal)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) off2]
  simp only [View.readCov_unit_zero (S := S1x1024) _ off2, View.readAt_eq_ld, Memref.IsWhole.read_unread, View.ld_unit_zero (S := S512x1024) off2, View.ld_unit_zero (S := S1x1024) off2]

/-- The first point leaves its rows' part of the shift's gradient added to zeros. -/
theorem out13_A (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = G13 x7 (k0_pay23 (F := Ideal)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) off2]
  simp only [View.readCov_unit_zero (S := S1x1024) _ off2, View.readAt_eq_ld, Memref.IsWhole.read_unread, View.ld_unit_zero (S := S512x1024) off2, View.ld_unit_zero (S := S1x1024) off2]

/-- A further point leaves the gradient of its rows. -/
theorem out8_B (hc0 : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G8 x0 x1 x2 x3 x4 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- A further point leaves the gradient of its rows of the block's output. -/
theorem out9_B (hc0 : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G9 x0 x1 x2 x3 x4 x6 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- A further point leaves its rows' part of the gate's gradient added to what it finds. -/
theorem out10_B (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G10 x0 x1 x2 x3 x4 x6 x7 s10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- A further point leaves its rows' part of the weight's gradient added to what it finds. -/
theorem out11_B (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G11 x0 x1 x2 x4 x7 s11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- A further point leaves its rows' part of the scale's gradient added to what it finds. -/
theorem out12_B (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G12 x0 x1 x2 x3 x7 s12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

/-- A further point leaves its rows' part of the shift's gradient added to what it finds. -/
theorem out13_B (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13 = G13 x7 s13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 s10 s11 s12 s13)]
  unfold kernelRun0_B
  dsimp only
  sl_unfold_words
  rw [View.canon_unit_zero off2]
  simp only [View.readCov_unit_zero (S := S1x1024) _ off2, View.readAt_eq_ld, Memref.IsWhole.read_unread, View.ld_unit_zero (S := S512x1024) off2, View.ld_unit_zero (S := S1x1024) off2]

end

/-! ## The points' rows in the arrays -/

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)
theorem at8 : ∀ t : Fin cfg0.N, win0_8.index t (0 : Fin 2) = t.val ∧ win0_8.index t (1 : Fin 2) = 0 := (by decide +kernel : ∀ t : Fin grid0.N, _)
theorem at9 : ∀ t : Fin cfg0.N, win0_9.index t (0 : Fin 2) = t.val ∧ win0_9.index t (1 : Fin 2) = 0 := (by decide +kernel : ∀ t : Fin grid0.N, _)
theorem at10 : ∀ t : Fin cfg0.N, win0_10.index t (0 : Fin 2) = 0 ∧ win0_10.index t (1 : Fin 2) = 0 := (by decide +kernel : ∀ t : Fin grid0.N, _)
theorem at11 : ∀ t : Fin cfg0.N, win0_11.index t (0 : Fin 2) = 0 ∧ win0_11.index t (1 : Fin 2) = 0 := (by decide +kernel : ∀ t : Fin grid0.N, _)
theorem at12 : ∀ t : Fin cfg0.N, win0_12.index t (0 : Fin 2) = 0 ∧ win0_12.index t (1 : Fin 2) = 0 := (by decide +kernel : ∀ t : Fin grid0.N, _)
theorem at13 : ∀ t : Fin cfg0.N, win0_13.index t (0 : Fin 2) = 0 ∧ win0_13.index t (1 : Fin 2) = 0 := (by decide +kernel : ∀ t : Fin grid0.N, _)

/-- Row `r` of point `t`'s rows. -/
def row (t : Fin cfg0.N) (r : Fin 512) : Fin 4096 := ⟨t.val * 512 + r.val, part_lt (Nat.lt_of_lt_of_eq t.isLt N_0) r.isLt⟩

theorem blk0 (c : Dev nD) (t : Fin cfg0.N) (r : Fin 512) : rowOf (iblk m c 0 t) r = rowOf (V m c main_arg0) (row t r) := funext fun q =>
  congrArg (V m c main_arg0) (rows_at (emb := ((cfg0.win 0).blk t).view.emb) (at0 t) (fun _ => ⟨rfl, rfl⟩) (Nat.lt_of_lt_of_eq t.isLt N_0) r q)
theorem blk1 (c : Dev nD) (t : Fin cfg0.N) (r : Fin 512) : rowOf (iblk m c 1 t) r = rowOf (V m c main_arg1) (row t r) := funext fun q =>
  congrArg (V m c main_arg1) (rows_at (emb := ((cfg0.win 1).blk t).view.emb) (at1 t) (fun _ => ⟨rfl, rfl⟩) (Nat.lt_of_lt_of_eq t.isLt N_0) r q)
theorem blk6 (c : Dev nD) (t : Fin cfg0.N) (r : Fin 512) : rowOf (iblk m c 6 t) r = rowOf (V m c main_arg6) (row t r) := funext fun q =>
  congrArg (V m c main_arg6) (rows_at (emb := ((cfg0.win 6).blk t).view.emb) (at6 t) (fun _ => ⟨rfl, rfl⟩) (Nat.lt_of_lt_of_eq t.isLt N_0) r q)
theorem blk7 (c : Dev nD) (t : Fin cfg0.N) (r : Fin 512) : rowOf (iblk m c 7 t) r = rowOf (V m c main_arg7) (row t r) := funext fun q =>
  congrArg (V m c main_arg7) (rows_at (emb := ((cfg0.win 7).blk t).view.emb) (at7 t) (fun _ => ⟨rfl, rfl⟩) (Nat.lt_of_lt_of_eq t.isLt N_0) r q)
theorem blk2 (c : Dev nD) (t : Fin cfg0.N) : rowOf (iblk m c 2 t) 0 = rowOf (V m c main_arg2) 0 := funext fun q =>
  congrArg (V m c main_arg2) (row_at (emb := ((cfg0.win 2).blk t).view.emb) (at2 t) (fun _ => ⟨rfl, rfl⟩) 0 q)
theorem blk3 (c : Dev nD) (t : Fin cfg0.N) : rowOf (iblk m c 3 t) 0 = rowOf (V m c main_arg3) 0 := funext fun q =>
  congrArg (V m c main_arg3) (row_at (emb := ((cfg0.win 3).blk t).view.emb) (at3 t) (fun _ => ⟨rfl, rfl⟩) 0 q)
theorem blk4 (c : Dev nD) (t : Fin cfg0.N) : rowOf (iblk m c 4 t) 0 = rowOf (V m c main_arg4) 0 := funext fun q =>
  congrArg (V m c main_arg4) (row_at (emb := ((cfg0.win 4).blk t).view.emb) (at4 t) (fun _ => ⟨rfl, rfl⟩) 0 q)

/-- The sum of a point's rows is its rows of the array's. -/
theorem res_eq (c : Dev nD) (t : Fin cfg0.N) (p : Fin 512) : res (rowOf (iblk m c 0 t) p) (rowOf (iblk m c 1 t) p) (rowOf (iblk m c 2 t) 0) = res (rowOf (V m c main_arg0) (row t p)) (rowOf (V m c main_arg1) (row t p)) (rowOf (V m c main_arg2) 0) := by
  rw [blk0 m c t p, blk1 m c t p, blk2 m c t]

/-- The gradient of a point's rows over their roots is its rows of the array's. -/
theorem dp_eq (c : Dev nD) (t : Fin cfg0.N) (p : Fin 512) : dp (rowOf (iblk m c 3 t) 0) (rowOf (iblk m c 4 t) 0) (rowOf (iblk m c 7 t) p) = dp (rowOf (V m c main_arg3) 0) (rowOf (V m c main_arg4) 0) (rowOf (V m c main_arg7) (row t p)) := by
  rw [blk3 m c t, blk4 m c t, blk7 m c t p]

/-- The gradient of the rows, on the argument arrays. -/
abbrev f8 (c : Dev nD) (r : Fin 4096) (q : Fin 1024) : EReal := dres (res (rowOf (V m c main_arg0) r) (rowOf (V m c main_arg1) r) (rowOf (V m c main_arg2) 0)) (dp (rowOf (V m c main_arg3) 0) (rowOf (V m c main_arg4) 0) (rowOf (V m c main_arg7) r)) (rowOf (V m c main_arg6) r) q
/-- The gradient of a point's rows is its rows of the array's. -/
theorem f8_eq (c : Dev nD) (t : Fin cfg0.N) (p : Fin 512) (q : Fin 1024) : dres (res (rowOf (iblk m c 0 t) p) (rowOf (iblk m c 1 t) p) (rowOf (iblk m c 2 t) 0)) (dp (rowOf (iblk m c 3 t) 0) (rowOf (iblk m c 4 t) 0) (rowOf (iblk m c 7 t) p)) (rowOf (iblk m c 6 t) p) q = f8 m c (row t p) q := by
  rw [res_eq m c t p, dp_eq m c t p, blk6 m c t p]

/-- A row's part of the gradient of the gate. -/
abbrev f10 (c : Dev nD) (r : Fin 4096) (q : Fin 1024) : EReal := f8 m c r q * (rowOf (V m c main_arg1) r) q
theorem f10_eq (c : Dev nD) (t : Fin cfg0.N) (p : Fin 512) (q : Fin 1024) : dres (res (rowOf (iblk m c 0 t) p) (rowOf (iblk m c 1 t) p) (rowOf (iblk m c 2 t) 0)) (dp (rowOf (iblk m c 3 t) 0) (rowOf (iblk m c 4 t) 0) (rowOf (iblk m c 7 t) p)) (rowOf (iblk m c 6 t) p) q * (rowOf (iblk m c 1 t) p) q = f10 m c (row t p) q := by
  rw [f8_eq m c t p q, blk1 m c t p]

/-- A row's part of the gradient of the weight. -/
abbrev f11 (c : Dev nD) (r : Fin 4096) (q : Fin 1024) : EReal := dnw (res (rowOf (V m c main_arg0) r) (rowOf (V m c main_arg1) r) (rowOf (V m c main_arg2) 0)) (rowOf (V m c main_arg4) 0) (rowOf (V m c main_arg7) r) q
theorem f11_eq (c : Dev nD) (t : Fin cfg0.N) (p : Fin 512) (q : Fin 1024) : dnw (res (rowOf (iblk m c 0 t) p) (rowOf (iblk m c 1 t) p) (rowOf (iblk m c 2 t) 0)) (rowOf (iblk m c 4 t) 0) (rowOf (iblk m c 7 t) p) q = f11 m c (row t p) q := by
  rw [res_eq m c t p, blk4 m c t, blk7 m c t p]

/-- A row's part of the gradient of the scale. -/
abbrev f12 (c : Dev nD) (r : Fin 4096) (q : Fin 1024) : EReal := dscale (res (rowOf (V m c main_arg0) r) (rowOf (V m c main_arg1) r) (rowOf (V m c main_arg2) 0)) (rowOf (V m c main_arg3) 0) (rowOf (V m c main_arg7) r) q
theorem f12_eq (c : Dev nD) (t : Fin cfg0.N) (p : Fin 512) (q : Fin 1024) : dscale (res (rowOf (iblk m c 0 t) p) (rowOf (iblk m c 1 t) p) (rowOf (iblk m c 2 t) 0)) (rowOf (iblk m c 3 t) 0) (rowOf (iblk m c 7 t) p) q = f12 m c (row t p) q := by
  rw [res_eq m c t p, blk3 m c t, blk7 m c t p]

/-- A row's part of the gradient of the shift. -/
abbrev f13 (c : Dev nD) (r : Fin 4096) (q : Fin 1024) : EReal := (rowOf (V m c main_arg7) r) q
theorem f13_eq (c : Dev nD) (t : Fin cfg0.N) (p : Fin 512) (q : Fin 1024) : (rowOf (iblk m c 7 t) p) q = f13 m c (row t p) q := by
  rw [blk7 m c t p]

/-- The sum over the rows of the points up to and including the `n`-th, for the gradient of the gate. -/
theorem running10 (c : Dev nD) (a : Fin 1) (q : Fin 1024) : ∀ (n : ℕ) (hn : n < cfg0.N),
    (outsAt0 m c n hn).2.2.1 (ix2 a q) = upto (fun r => f10 m c r q) (n * 512 + 512) :=
  upto_of (fun r => f10 m c r q) N_0 (fun n hn => (outsAt0 m c n hn).2.2.1 (ix2 a q))
    (fun hn => by
      rw [outsAt0_A m c ⟨0, hn⟩ rfl]
      dsimp only
      rw [out10_A, G10_apply, (zeros_apply _).1, zero_add]
      exact Finset.sum_congr rfl fun r _ => f10_eq m c ⟨0, hn⟩ r q)
    (fun n hn => by
      have h8 : n + 1 < 8 := Nat.lt_of_lt_of_eq hn N_0
      rw [outsAt0_B m c ⟨n + 1, hn⟩ (by show ¬(n + 1) % 8 = 0; omega)]
      dsimp only
      rw [out10_B, G10_apply]
      exact add2 rfl (Finset.sum_congr rfl fun r _ => f10_eq m c ⟨n + 1, hn⟩ r q))

/-- The sum over the rows of the points up to and including the `n`-th, for the gradient of the weight. -/
theorem running11 (c : Dev nD) (a : Fin 1) (q : Fin 1024) : ∀ (n : ℕ) (hn : n < cfg0.N),
    (outsAt0 m c n hn).2.2.2.1 (ix2 a q) = upto (fun r => f11 m c r q) (n * 512 + 512) :=
  upto_of (fun r => f11 m c r q) N_0 (fun n hn => (outsAt0 m c n hn).2.2.2.1 (ix2 a q))
    (fun hn => by
      rw [outsAt0_A m c ⟨0, hn⟩ rfl]
      dsimp only
      rw [out11_A, G11_apply, (zeros_apply _).2.1, zero_add]
      exact Finset.sum_congr rfl fun r _ => f11_eq m c ⟨0, hn⟩ r q)
    (fun n hn => by
      have h8 : n + 1 < 8 := Nat.lt_of_lt_of_eq hn N_0
      rw [outsAt0_B m c ⟨n + 1, hn⟩ (by show ¬(n + 1) % 8 = 0; omega)]
      dsimp only
      rw [out11_B, G11_apply]
      exact add2 rfl (Finset.sum_congr rfl fun r _ => f11_eq m c ⟨n + 1, hn⟩ r q))

/-- The sum over the rows of the points up to and including the `n`-th, for the gradient of the scale. -/
theorem running12 (c : Dev nD) (a : Fin 1) (q : Fin 1024) : ∀ (n : ℕ) (hn : n < cfg0.N),
    (outsAt0 m c n hn).2.2.2.2.1 (ix2 a q) = upto (fun r => f12 m c r q) (n * 512 + 512) :=
  upto_of (fun r => f12 m c r q) N_0 (fun n hn => (outsAt0 m c n hn).2.2.2.2.1 (ix2 a q))
    (fun hn => by
      rw [outsAt0_A m c ⟨0, hn⟩ rfl]
      dsimp only
      rw [out12_A, G12_apply, (zeros_apply _).2.2.1, zero_add]
      exact Finset.sum_congr rfl fun r _ => f12_eq m c ⟨0, hn⟩ r q)
    (fun n hn => by
      have h8 : n + 1 < 8 := Nat.lt_of_lt_of_eq hn N_0
      rw [outsAt0_B m c ⟨n + 1, hn⟩ (by show ¬(n + 1) % 8 = 0; omega)]
      dsimp only
      rw [out12_B, G12_apply]
      exact add2 rfl (Finset.sum_congr rfl fun r _ => f12_eq m c ⟨n + 1, hn⟩ r q))

/-- The sum over the rows of the points up to and including the `n`-th, for the gradient of the shift. -/
theorem running13 (c : Dev nD) (a : Fin 1) (q : Fin 1024) : ∀ (n : ℕ) (hn : n < cfg0.N),
    (outsAt0 m c n hn).2.2.2.2.2 (ix2 a q) = upto (fun r => f13 m c r q) (n * 512 + 512) :=
  upto_of (fun r => f13 m c r q) N_0 (fun n hn => (outsAt0 m c n hn).2.2.2.2.2 (ix2 a q))
    (fun hn => by
      rw [outsAt0_A m c ⟨0, hn⟩ rfl]
      dsimp only
      rw [out13_A, G13_apply, (zeros_apply _).2.2.2, zero_add]
      exact Finset.sum_congr rfl fun r _ => f13_eq m c ⟨0, hn⟩ r q)
    (fun n hn => by
      have h8 : n + 1 < 8 := Nat.lt_of_lt_of_eq hn N_0
      rw [outsAt0_B m c ⟨n + 1, hn⟩ (by show ¬(n + 1) % 8 = 0; omega)]
      dsimp only
      rw [out13_B, G13_apply]
      exact add2 rfl (Finset.sum_congr rfl fun r _ => f13_eq m c ⟨n + 1, hn⟩ r q))

/-- What every point leaves in window 8. -/
theorem outs8 (c : Dev nD) (t : Fin cfg0.N) : (outsAt0 m c t.val t.isLt).1 = G8 (iblk m c 0 t) (iblk m c 1 t) (iblk m c 2 t) (iblk m c 3 t) (iblk m c 4 t) (iblk m c 6 t) (iblk m c 7 t) := by
  by_cases h0 : t.val % 8 = 0
  · rw [outsAt0_A m c t h0]; dsimp only; rw [out8_A]
  · rw [outsAt0_B m c t h0]; dsimp only; rw [out8_B]

/-- What every point leaves in window 9. -/
theorem outs9 (c : Dev nD) (t : Fin cfg0.N) : (outsAt0 m c t.val t.isLt).2.1 = G9 (iblk m c 0 t) (iblk m c 1 t) (iblk m c 2 t) (iblk m c 3 t) (iblk m c 4 t) (iblk m c 6 t) (iblk m c 7 t) := by
  by_cases h0 : t.val % 8 = 0
  · rw [outsAt0_A m c t h0]; dsimp only; rw [out9_A]
  · rw [outsAt0_B m c t h0]; dsimp only; rw [out9_B]

/-! ## The whole arrays -/

section
variable (x : Vec Ideal S4096x1024 .f32) (o : Vec Ideal S4096x1024 .bf16) (gt w sc : Vec Ideal S1x1024 .f32) (dx : Vec Ideal S4096x1024 .f32) (dh : Vec Ideal S4096x1024 .bf16)

/-- The gradient of the rows, as an array. -/
def D8 : Vec Ideal S4096x1024 .f32 := fun i => dres (res (rowOf x (i 0)) (rowOf o (i 0)) (rowOf gt 0)) (dp (rowOf w 0) (rowOf sc 0) (rowOf dh (i 0))) (rowOf dx (i 0)) (i 1)
/-- The gradient of the block's output, as an array. -/
def D9 : Vec Ideal S4096x1024 .bf16 := fun i => rowOf gt 0 (i 1) * dres (res (rowOf x (i 0)) (rowOf o (i 0)) (rowOf gt 0)) (dp (rowOf w 0) (rowOf sc 0) (rowOf dh (i 0))) (rowOf dx (i 0)) (i 1)
/-- The gradient of the gate, as an array. -/
def D10 : Vec Ideal S1x1024 .f32 := fun i => ∑ r : Fin 4096, dres (res (rowOf x r) (rowOf o r) (rowOf gt 0)) (dp (rowOf w 0) (rowOf sc 0) (rowOf dh r)) (rowOf dx r) (i 1) * rowOf o r (i 1)
/-- The gradient of the weight, as an array. -/
def D11 : Vec Ideal S1x1024 .f32 := fun i => ∑ r : Fin 4096, dnw (res (rowOf x r) (rowOf o r) (rowOf gt 0)) (rowOf sc 0) (rowOf dh r) (i 1)
/-- The gradient of the scale, as an array. -/
def D12 : Vec Ideal S1x1024 .f32 := fun i => ∑ r : Fin 4096, dscale (res (rowOf x r) (rowOf o r) (rowOf gt 0)) (rowOf w 0) (rowOf dh r) (i 1)
/-- The gradient of the shift, as an array. -/
def D13 : Vec Ideal S1x1024 .f32 := fun i => ∑ r : Fin 4096, rowOf dh r (i 1)

end

/-- Where a point's block of window 8 lies. -/
theorem emb8 (t : Fin cfg0.N) (p : Fin 512) (q : Fin 1024) : ((cfg0.win 8).blk t).view.emb (ix2 p q : S512x1024.Idx) = ix2 (row t p) q :=
  rows_at (at8 t) (fun _ => ⟨rfl, rfl⟩) (Nat.lt_of_lt_of_eq t.isLt N_0) p q

/-- Each point writes back its rows. -/
theorem flushed8_eq (c : Dev nD) (t : Fin cfg0.N) : (dats m 0 c).flushed 8 t
    = ((cfg0.win 8).blk t).view.read (Elt Ideal) (D8 (V m c main_arg0) (V m c main_arg1) (V m c main_arg2) (V m c main_arg3) (V m c main_arg4) (V m c main_arg6) (V m c main_arg7)) := by
  rw [flushed8 m c t, outs8]
  refine ext2 fun (p : Fin 512) (q : Fin 1024) => ?_
  show G8 _ _ _ _ _ _ _ (ix2 p q) = D8 _ _ _ _ _ _ _ (((cfg0.win 8).blk t).view.emb (ix2 p q : S512x1024.Idx))
  rw [emb8 t p q]
  exact (G8_apply (iblk m c 0 t) (iblk m c 1 t) (iblk m c 2 t) (iblk m c 3 t) (iblk m c 4 t) (iblk m c 6 t) (iblk m c 7 t) p q).trans (f8_eq m c t p q)

/-- Where a point's block of window 9 lies. -/
theorem emb9 (t : Fin cfg0.N) (p : Fin 512) (q : Fin 1024) : ((cfg0.win 9).blk t).view.emb (ix2 p q : S512x1024.Idx) = ix2 (row t p) q :=
  rows_at (at9 t) (fun _ => ⟨rfl, rfl⟩) (Nat.lt_of_lt_of_eq t.isLt N_0) p q

/-- Each point writes back its rows. -/
theorem flushed9_eq (c : Dev nD) (t : Fin cfg0.N) : (dats m 0 c).flushed 9 t
    = ((cfg0.win 9).blk t).view.read (Elt Ideal) (D9 (V m c main_arg0) (V m c main_arg1) (V m c main_arg2) (V m c main_arg3) (V m c main_arg4) (V m c main_arg6) (V m c main_arg7)) := by
  rw [flushed9 m c t, outs9]
  refine ext2 fun (p : Fin 512) (q : Fin 1024) => ?_
  show G9 _ _ _ _ _ _ _ (ix2 p q) = D9 _ _ _ _ _ _ _ (((cfg0.win 9).blk t).view.emb (ix2 p q : S512x1024.Idx))
  rw [emb9 t p q]
  exact (G9_apply (iblk m c 0 t) (iblk m c 1 t) (iblk m c 2 t) (iblk m c 3 t) (iblk m c 4 t) (iblk m c 6 t) (iblk m c 7 t) p q).trans (mul2 (congrFun (blk2 m c t) q) (f8_eq m c t p q))

/-- Where a point's block of window 10 lies. -/
theorem emb10 (t : Fin cfg0.N) (a : Fin 1) (q : Fin 1024) : ((cfg0.win 10).blk t).view.emb (ix2 a q : S1x1024.Idx) = ix2 a q :=
  row_at (at10 t) (fun _ => ⟨rfl, rfl⟩) a q

/-- The last point writes back the sum over all rows. -/
theorem flushed10_eq (c : Dev nD) (t : Fin cfg0.N) (hf : (cfg0.win 10).flush t = true) : (dats m 0 c).flushed 10 t
    = ((cfg0.win 10).blk t).view.read (Elt Ideal) (D10 (V m c main_arg0) (V m c main_arg1) (V m c main_arg2) (V m c main_arg3) (V m c main_arg4) (V m c main_arg6) (V m c main_arg7)) := by
  have h7 : t.val % 8 = 7 := (flush0_10 t).mp hf
  have h8 := Nat.lt_of_lt_of_eq t.isLt N_0
  rw [flushed10 m c t]
  refine ext2 fun (a : Fin 1) (q : Fin 1024) => ?_
  show (outsAt0 m c t.val t.isLt).2.2.1 (ix2 a q) = D10 _ _ _ _ _ _ _ (((cfg0.win 10).blk t).view.emb (ix2 a q : S1x1024.Idx))
  rw [emb10 t a q, running10, show t.val * 512 + 512 = 4096 by omega, upto_all]
  rfl

/-- Where a point's block of window 11 lies. -/
theorem emb11 (t : Fin cfg0.N) (a : Fin 1) (q : Fin 1024) : ((cfg0.win 11).blk t).view.emb (ix2 a q : S1x1024.Idx) = ix2 a q :=
  row_at (at11 t) (fun _ => ⟨rfl, rfl⟩) a q

/-- The last point writes back the sum over all rows. -/
theorem flushed11_eq (c : Dev nD) (t : Fin cfg0.N) (hf : (cfg0.win 11).flush t = true) : (dats m 0 c).flushed 11 t
    = ((cfg0.win 11).blk t).view.read (Elt Ideal) (D11 (V m c main_arg0) (V m c main_arg1) (V m c main_arg2) (V m c main_arg4) (V m c main_arg7)) := by
  have h7 : t.val % 8 = 7 := (flush0_11 t).mp hf
  have h8 := Nat.lt_of_lt_of_eq t.isLt N_0
  rw [flushed11 m c t]
  refine ext2 fun (a : Fin 1) (q : Fin 1024) => ?_
  show (outsAt0 m c t.val t.isLt).2.2.2.1 (ix2 a q) = D11 _ _ _ _ _ (((cfg0.win 11).blk t).view.emb (ix2 a q : S1x1024.Idx))
  rw [emb11 t a q, running11, show t.val * 512 + 512 = 4096 by omega, upto_all]
  rfl

/-- Where a point's block of window 12 lies. -/
theorem emb12 (t : Fin cfg0.N) (a : Fin 1) (q : Fin 1024) : ((cfg0.win 12).blk t).view.emb (ix2 a q : S1x1024.Idx) = ix2 a q :=
  row_at (at12 t) (fun _ => ⟨rfl, rfl⟩) a q

/-- The last point writes back the sum over all rows. -/
theorem flushed12_eq (c : Dev nD) (t : Fin cfg0.N) (hf : (cfg0.win 12).flush t = true) : (dats m 0 c).flushed 12 t
    = ((cfg0.win 12).blk t).view.read (Elt Ideal) (D12 (V m c main_arg0) (V m c main_arg1) (V m c main_arg2) (V m c main_arg3) (V m c main_arg7)) := by
  have h7 : t.val % 8 = 7 := (flush0_12 t).mp hf
  have h8 := Nat.lt_of_lt_of_eq t.isLt N_0
  rw [flushed12 m c t]
  refine ext2 fun (a : Fin 1) (q : Fin 1024) => ?_
  show (outsAt0 m c t.val t.isLt).2.2.2.2.1 (ix2 a q) = D12 _ _ _ _ _ (((cfg0.win 12).blk t).view.emb (ix2 a q : S1x1024.Idx))
  rw [emb12 t a q, running12, show t.val * 512 + 512 = 4096 by omega, upto_all]
  rfl

/-- Where a point's block of window 13 lies. -/
theorem emb13 (t : Fin cfg0.N) (a : Fin 1) (q : Fin 1024) : ((cfg0.win 13).blk t).view.emb (ix2 a q : S1x1024.Idx) = ix2 a q :=
  row_at (at13 t) (fun _ => ⟨rfl, rfl⟩) a q

/-- The last point writes back the sum over all rows. -/
theorem flushed13_eq (c : Dev nD) (t : Fin cfg0.N) (hf : (cfg0.win 13).flush t = true) : (dats m 0 c).flushed 13 t
    = ((cfg0.win 13).blk t).view.read (Elt Ideal) (D13 (V m c main_arg7)) := by
  have h7 : t.val % 8 = 7 := (flush0_13 t).mp hf
  have h8 := Nat.lt_of_lt_of_eq t.isLt N_0
  rw [flushed13 m c t]
  refine ext2 fun (a : Fin 1) (q : Fin 1024) => ?_
  show (outsAt0 m c t.val t.isLt).2.2.2.2.2 (ix2 a q) = D13 _ (((cfg0.win 13).blk t).view.emb (ix2 a q : S1x1024.Idx))
  rw [emb13 t a q, running13, show t.val * 512 + 512 = 4096 by omega, upto_all]
  rfl

theorem covered8 (i : S4096x1024.Idx) : ∃ t : Fin cfg0.N, (cfg0.win 8).flush t = true ∧ i ∈ ((cfg0.win 8).blk t).view.set :=
  ⟨⟨(i 0).val / 512, Nat.lt_of_lt_of_eq (part_of (i 0)) N_0.symm⟩, flush0_8 _,
    rows_mem (((cfg0.win 8).blk _).view.emb_mem_set) i (emb8 _)⟩

theorem covered9 (i : S4096x1024.Idx) : ∃ t : Fin cfg0.N, (cfg0.win 9).flush t = true ∧ i ∈ ((cfg0.win 9).blk t).view.set :=
  ⟨⟨(i 0).val / 512, Nat.lt_of_lt_of_eq (part_of (i 0)) N_0.symm⟩, flush0_9 _,
    rows_mem (((cfg0.win 9).blk _).view.emb_mem_set) i (emb9 _)⟩

theorem covered10 (i : S1x1024.Idx) : ∃ t : Fin cfg0.N, (cfg0.win 10).flush t = true ∧ i ∈ ((cfg0.win 10).blk t).view.set :=
  ⟨⟨7, Nat.lt_of_lt_of_eq (by decide) N_0.symm⟩, (flush0_10 _).mpr rfl, row_mem (((cfg0.win 10).blk _).view.emb_mem_set) i (emb10 _)⟩

theorem covered11 (i : S1x1024.Idx) : ∃ t : Fin cfg0.N, (cfg0.win 11).flush t = true ∧ i ∈ ((cfg0.win 11).blk t).view.set :=
  ⟨⟨7, Nat.lt_of_lt_of_eq (by decide) N_0.symm⟩, (flush0_11 _).mpr rfl, row_mem (((cfg0.win 11).blk _).view.emb_mem_set) i (emb11 _)⟩

theorem covered12 (i : S1x1024.Idx) : ∃ t : Fin cfg0.N, (cfg0.win 12).flush t = true ∧ i ∈ ((cfg0.win 12).blk t).view.set :=
  ⟨⟨7, Nat.lt_of_lt_of_eq (by decide) N_0.symm⟩, (flush0_12 _).mpr rfl, row_mem (((cfg0.win 12).blk _).view.emb_mem_set) i (emb12 _)⟩

theorem covered13 (i : S1x1024.Idx) : ∃ t : Fin cfg0.N, (cfg0.win 13).flush t = true ∧ i ∈ ((cfg0.win 13).blk t).view.set :=
  ⟨⟨7, Nat.lt_of_lt_of_eq (by decide) N_0.symm⟩, (flush0_13 _).mpr rfl, row_mem (((cfg0.win 13).blk _).view.emb_mem_set) i (emb13 _)⟩

/-- The kernel leaves the six gradients. -/
theorem run_kernel : θ_run defs (onTc (τ := τ) (main (F := Ideal))) ⟨m, fun _ => 0, ρ⟩ fun r => ∀ c : Dev nD,
      r.2.mem ((c : Thread nD τ).loc main_v0_0) = D8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))
      ∧ r.2.mem ((c : Thread nD τ).loc main_v0_1) = D9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))
      ∧ r.2.mem ((c : Thread nD τ).loc main_v0_2) = D10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))
      ∧ r.2.mem ((c : Thread nD τ).loc main_v0_3) = D11 (m ((c : Thread nD τ).loc main_arg0)) (m ((c : Thread nD τ).loc main_arg1)) (m ((c : Thread nD τ).loc main_arg2)) (m ((c : Thread nD τ).loc main_arg4)) (m ((c : Thread nD τ).loc main_arg7))
      ∧ r.2.mem ((c : Thread nD τ).loc main_v0_4) = D12 (m ((c : Thread nD τ).loc main_arg0)) (m ((c : Thread nD τ).loc main_arg1)) (m ((c : Thread nD τ).loc main_arg2)) (m ((c : Thread nD τ).loc main_arg3)) (m ((c : Thread nD τ).loc main_arg7))
      ∧ r.2.mem ((c : Thread nD τ).loc main_v0_5) = D13 (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_blocks m ρ)
  obtain ⟨h8, h9, h10, h11, h12, h13, hk⟩ := h c
  rw [← V_main_arg0 m c, ← V_main_arg1 m c, ← V_main_arg2 m c, ← V_main_arg3 m c, ← V_main_arg4 m c, ← V_main_arg6 m c, ← V_main_arg7 m c] at *
  exact ⟨h8.trans ((dats m 0 c).arrAt_eq_of_cover 8 _ (fun t _ => flushed8_eq m c t) covered8),
    h9.trans ((dats m 0 c).arrAt_eq_of_cover 9 _ (fun t _ => flushed9_eq m c t) covered9),
    h10.trans ((dats m 0 c).arrAt_eq_of_cover 10 _ (fun t hf => flushed10_eq m c t hf) covered10),
    h11.trans ((dats m 0 c).arrAt_eq_of_cover 11 _ (fun t hf => flushed11_eq m c t hf) covered11),
    h12.trans ((dats m 0 c).arrAt_eq_of_cover 12 _ (fun t hf => flushed12_eq m c t hf) covered12),
    h13.trans ((dats m 0 c).arrAt_eq_of_cover 13 _ (fun t hf => flushed13_eq m c t hf) covered13), hk⟩

/-! ## The reference's arrays -/

section
open Cert.Reference23Ideal.Read
variable (x0 : Vec Ideal S4096x1024 .f32) (x1 : Vec Ideal S4096x1024 .bf16) (x2 x3 x4 : Vec Ideal S1x1024 .f32) (x6 : Vec Ideal S4096x1024 .f32) (x7 : Vec Ideal S4096x1024 .bf16)

/-- The constant one. -/
theorem obits : FloatOps.ofBits (F := Ideal) .f32 0x3F800000#32 = (1 : EReal) := Ideal.ofBits_one_f32

/-- The constant zero. -/
theorem zbits : FloatOps.ofBits (F := Ideal) .f32 0x00000000#32 = (0 : EReal) := Ideal.ofBits_zero_f32

/-- The reference's sum of the row and the gated output. -/
theorem ref_res (r : Fin 4096) (q : Fin 1024) : val_main_v3 (F := Ideal) x0 x1 x2 (ix2 r q) = res (rowOf x0 r) (rowOf x1 r) (rowOf x2 0) q := by
  rw [val_main_v3_apply, val_main_v2_apply, val_main_v1_apply, val_main_v0_apply,
    show idx_main_v1 (ix2 r q : S4096x1024.Idx) = (ix2 0 q : S1x1024.Idx) from same2 rfl rfl]
  rfl

/-- The reference's mean square. -/
theorem ref_ms (r : Fin 4096) : val_main_v10 (F := Ideal) x0 x1 x2 (ix2 r 0) = ms (res (rowOf x0 r) (rowOf x1 r) (rowOf x2 0)) := by
  rw [val_main_v10_apply, val_main_v9_apply, val_main_cst_1_apply, val_main_v8_apply, val_main_v7_apply, val_main_cst_0_apply, val_main_v6_apply,
    val_main_v5_apply, val_main_cst_apply, zbits, zero_add]
  refine add2 (congrArg₂ Ideal.div (Finset.sum_congr rfl fun k _ => ?_) rfl) rfl
  rw [val_main_v4_apply, show idx_main_v5 (idx_main_v6 (ix2 r 0 : (⟨2, ![4096, 1]⟩ : Shape).Idx)) k = (ix2 r k : S4096x1024.Idx) from same2 rfl rfl, ref_res]
  rfl

/-- The reference's one over the root. -/
theorem ref_inv (r : Fin 4096) : val_main_v11 (F := Ideal) x0 x1 x2 (ix2 r 0) = invRoot (res (rowOf x0 r) (rowOf x1 r) (rowOf x2 0)) := by
  rw [val_main_v11_apply, ref_ms]
  rfl

/-- The reference's rows over their roots. -/
theorem ref_unit (r : Fin 4096) (q : Fin 1024) : val_main_v16 (F := Ideal) x0 x1 x2 (ix2 r q) = unitRow (res (rowOf x0 r) (rowOf x1 r) (rowOf x2 0)) q := by
  rw [val_main_v16_apply, val_main_v15_apply,
    show idx_main_v15 (ix2 r q : S4096x1024.Idx) = (ix2 r 0 : (⟨2, ![4096, 1]⟩ : Shape).Idx) from same2 rfl rfl, ref_res, ref_inv]
  rfl

/-- The reference's gradient of the normalised rows. -/
theorem ref_dn (r : Fin 4096) (q : Fin 1024) : val_main_v32 (F := Ideal) x4 x7 (ix2 r q) = dn (rowOf x4 0) (rowOf x7 r) q := by
  rw [val_main_v32_apply, val_main_v31_apply,
    show idx_main_v31 (ix2 r q : S4096x1024.Idx) = (ix2 0 q : S1x1024.Idx) from same2 rfl rfl, val_main_v20_apply, val_main_v19_apply, val_main_cst_3_apply, obits, val_main_v25_apply]
  rfl

/-- The reference's gradient of the rows over their roots. -/
theorem ref_dp (r : Fin 4096) (q : Fin 1024) : val_main_v37 (F := Ideal) x3 x4 x7 (ix2 r q) = dp (rowOf x3 0) (rowOf x4 0) (rowOf x7 r) q := by
  rw [val_main_v37_apply, val_main_v36_apply,
    show idx_main_v36 (ix2 r q : S4096x1024.Idx) = (ix2 0 q : S1x1024.Idx) from same2 rfl rfl, ref_dn]
  rfl

/-- What the mean square sends back, in the reference. -/
theorem ref_coef (r : Fin 4096) (q : Fin 1024) : val_main_v48 (F := Ideal) x0 x1 x2 x3 x4 x7 (ix2 r q) = coef (res (rowOf x0 r) (rowOf x1 r) (rowOf x2 0)) (dp (rowOf x3 0) (rowOf x4 0) (rowOf x7 r)) := by
  rw [val_main_v48_apply, val_main_v47_apply, val_main_cst_9_apply, zbits, zero_add, Fin.sum_univ_one,
    show idx_main_v47 (idx_main_v48 (ix2 r q : S4096x1024.Idx)) 0 = (ix2 r 0 : (⟨2, ![4096, 1]⟩ : Shape).Idx) from same2 rfl rfl, val_main_v46_apply, val_main_v45_apply, val_main_cst_8_apply, val_main_v44_apply, val_main_v40_apply, val_main_v39_apply,
    val_main_cst_7_apply, zbits, zero_add, val_main_v14_apply, val_main_v13_apply, val_main_cst_2_apply, val_main_v12_apply, ref_ms, ref_inv]
  unfold coef
  refine congrArg₂ Ideal.div (mul2 (Finset.sum_congr rfl fun k _ => ?_) rfl) rfl
  rw [show idx_main_v39 (idx_main_v40 (ix2 r 0 : (⟨2, ![4096, 1]⟩ : Shape).Idx)) k = (ix2 r k : S4096x1024.Idx) from same2 (by show r.val * 1 + 0 = r.val; omega) rfl, val_main_v38_apply, ref_res, ref_dp]
  rfl

/-- The reference's gradient of the rows. -/
theorem ref_dres (r : Fin 4096) (q : Fin 1024) : val_main_v52 (F := Ideal) x0 x1 x2 x3 x4 x6 x7 (ix2 r q) = dres (res (rowOf x0 r) (rowOf x1 r) (rowOf x2 0)) (dp (rowOf x3 0) (rowOf x4 0) (rowOf x7 r)) (rowOf x6 r) q := by
  rw [val_main_v52_apply, val_main_v51_apply, val_main_v50_apply, val_main_v49_apply, val_main_v43_apply, val_main_v42_apply, val_main_v41_apply,
    show idx_main_v41 (ix2 r q : S4096x1024.Idx) = (ix2 r 0 : (⟨2, ![4096, 1]⟩ : Shape).Idx) from same2 rfl rfl, ref_coef, ref_res, ref_dp, ref_inv]
  rfl

/-- The reference's gradient of the rows, laid out again. -/
theorem ref_again (r : Fin 4096) (q : Fin 1024) : val_main_v53 (F := Ideal) x0 x1 x2 x3 x4 x6 x7 (ix2 r q) = dres (res (rowOf x0 r) (rowOf x1 r) (rowOf x2 0)) (dp (rowOf x3 0) (rowOf x4 0) (rowOf x7 r)) (rowOf x6 r) q := by
  rw [val_main_v53_apply, show idx_main_v53 (ix2 r q : S4096x1024.Idx) = (ix2 r q : S4096x1024.Idx) from same2 (by show (r.val * 1024 + q.val) / 1024 = r.val; have := q.isLt; omega) (by show (r.val * 1024 + q.val) % 1024 = q.val; have := q.isLt; omega), ref_dres]

/-- The reference's gradient of the rows, as an array. -/
theorem ref_v52 : val_main_v52 (F := Ideal) x0 x1 x2 x3 x4 x6 x7 = D8 x0 x1 x2 x3 x4 x6 x7 := by
  refine ext2 fun (r : Fin 4096) (q : Fin 1024) => ?_
  exact ref_dres x0 x1 x2 x3 x4 x6 x7 r q

/-- The reference's gradient of the block's output, as an array. -/
theorem ref_v59 : val_main_v59 (F := Ideal) x0 x1 x2 x3 x4 x6 x7 = D9 x0 x1 x2 x3 x4 x6 x7 := by
  refine ext2 fun (r : Fin 4096) (q : Fin 1024) => ?_
  rw [val_main_v59_apply, val_main_v55_apply, val_main_v54_apply,
    show idx_main_v54 (ix2 r q : S4096x1024.Idx) = (ix2 0 q : S1x1024.Idx) from same2 rfl rfl, ref_again]
  rfl

/-- The reference's gradient of the gate, as an array. -/
theorem ref_v58 : val_main_v58 (F := Ideal) x0 x1 x2 x3 x4 x6 x7 = D10 x0 x1 x2 x3 x4 x6 x7 := by
  refine ext2 fun (a : Fin 1) (q : Fin 1024) => ?_
  rw [val_main_v58_apply, val_main_v57_apply, val_main_cst_10_apply, zbits, zero_add]
  refine Finset.sum_congr rfl fun r _ => ?_
  rw [show idx_main_v57 (idx_main_v58 (ix2 a q : S1x1024.Idx)) r = (ix2 r q : S4096x1024.Idx) from same2 rfl (by show a.val * 1024 + q.val = q.val; have := a.isLt; omega), val_main_v56_apply, ref_again, val_main_v0_apply]
  rfl

/-- The reference's gradient of the weight, as an array. -/
theorem ref_v35 : val_main_v35 (F := Ideal) x0 x1 x2 x4 x7 = D11 x0 x1 x2 x4 x7 := by
  refine ext2 fun (a : Fin 1) (q : Fin 1024) => ?_
  rw [val_main_v35_apply, val_main_v34_apply, val_main_cst_6_apply, zbits, zero_add]
  refine Finset.sum_congr rfl fun r _ => ?_
  rw [show idx_main_v34 (idx_main_v35 (ix2 a q : S1x1024.Idx)) r = (ix2 r q : S4096x1024.Idx) from same2 rfl (by show a.val * 1024 + q.val = q.val; have := a.isLt; omega), val_main_v33_apply, ref_unit, ref_dn]
  rfl

/-- The reference's gradient of the scale, as an array. -/
theorem ref_v30 : val_main_v30 (F := Ideal) x0 x1 x2 x3 x7 = D12 x0 x1 x2 x3 x7 := by
  refine ext2 fun (a : Fin 1) (q : Fin 1024) => ?_
  rw [val_main_v30_apply, val_main_v29_apply, val_main_cst_5_apply, zbits, zero_add]
  refine Finset.sum_congr rfl fun r _ => ?_
  rw [show idx_main_v29 (idx_main_v30 (ix2 a q : S1x1024.Idx)) r = (ix2 r q : S4096x1024.Idx) from same2 rfl (by show a.val * 1024 + q.val = q.val; have := a.isLt; omega), val_main_v28_apply, val_main_v18_apply, val_main_v17_apply,
    show idx_main_v17 (ix2 r q : S4096x1024.Idx) = (ix2 0 q : S1x1024.Idx) from same2 rfl rfl, ref_unit, val_main_v25_apply]
  rfl

/-- The reference's gradient of the shift, as an array. -/
theorem ref_v27 : val_main_v27 (F := Ideal) x7 = D13 x7 := by
  refine ext2 fun (a : Fin 1) (q : Fin 1024) => ?_
  rw [val_main_v27_apply, val_main_v26_apply, val_main_cst_4_apply, zbits, zero_add]
  refine Finset.sum_congr rfl fun r _ => ?_
  rw [show idx_main_v26 (idx_main_v27 (ix2 a q : S1x1024.Idx)) r = (ix2 r q : S4096x1024.Idx) from same2 rfl (by show a.val * 1024 + q.val = q.val; have := a.isLt; omega), val_main_v25_apply]
  rfl

end

/-! ## The claim -/

/-- The reference runs, keeps its arguments, and leaves every counter at zero. -/
theorem frame_reference : Cert.quiescent_Reference23Ideal (hReference23Ideal := Cert.Reference23Ideal.Gen.facts) := by
  intro m g _
  exact (θ_run Cert.Reference23Ideal.defs _ _).mono
    (fun r h => ⟨fun c => (h c).2.2.2.2.2.2, Idealize.ShloMosaic.sem_eq_zero_of_no_sems (by decide) r.2⟩)
    (Cert.Reference23Ideal.Value.run m g)

/-- The kernel's six arrays are the reference's. -/
theorem value : Cert.algebraic_Kernel23Ideal_Reference23Ideal (hKernel23Ideal := Cert.Kernel23Ideal.Gen.facts)
    (hReference23Ideal := Cert.Reference23Ideal.Gen.facts) := by
  intro m g m' g' _ hm
  refine ⟨fun c => _, fun c => _, fun c => _, fun c => _, fun c => _, fun c => _, run_kernel m g, ?_⟩
  refine (θ_run Cert.Reference23Ideal.defs _ _).mono (fun r h c => ?_) (Cert.Reference23Ideal.Value.run m' g')
  obtain ⟨h8, h9, h10, h11, h12, h13, hk⟩ := h c
  obtain ⟨a0, a1, a2, a3, a4, a5, a6, a7⟩ := hm c
  refine ⟨(h8.trans (Cert.Reference23Ideal.Read.val_main_v52_eq (F := Ideal) m' c)).trans ((ref_v52 _ _ _ _ _ _ _).trans ?_),
    (h9.trans (Cert.Reference23Ideal.Read.val_main_v59_eq (F := Ideal) m' c)).trans ((ref_v59 _ _ _ _ _ _ _).trans ?_),
    (h10.trans (Cert.Reference23Ideal.Read.val_main_v58_eq (F := Ideal) m' c)).trans ((ref_v58 _ _ _ _ _ _ _).trans ?_),
    (h11.trans (Cert.Reference23Ideal.Read.val_main_v35_eq (F := Ideal) _ _ _ _ _)).trans ((ref_v35 _ _ _ _ _).trans ?_),
    (h12.trans (Cert.Reference23Ideal.Read.val_main_v30_eq (F := Ideal) _ _ _ _ _)).trans ((ref_v30 _ _ _ _ _).trans ?_),
    (h13.trans (Cert.Reference23Ideal.Read.val_main_v27_eq (F := Ideal) _)).trans ((ref_v27 _).trans ?_), hk⟩
  · rw [a0, a1, a2, a3, a4, a6, a7]
  · rw [a0, a1, a2, a3, a4, a6, a7]
  · rw [a0, a1, a2, a3, a4, a6, a7]
  · rw [a0, a1, a2, a4, a7]
  · rw [a0, a1, a2, a3, a7]
  · rw [a7]

end Cert.Proof.NormBwd

end
-- ==== Proof.MixFwd.lean ====
/- The mixture of the two branches: what one grid point's 512 rows leave, the whole array, the reference's array, and the
   claim. -/
module

public import proofs.«01_k».proof.Proof.MixSpec
public import proofs.«01_k».proof.Defs
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Tactic
public import Idealize.ShloMosaic.Adequacy

@[expose] public section

noncomputable section

namespace Cert.Proof.MixFwd

open Cert.Kernel24Ideal Cert.Kernel24Ideal.Gen Cert.Kernel24Ideal.Value Cert.Proof.MatMul Cert.Proof.RowSum Cert.Proof.Mix
open Idealize.ShloMosaic Idealize.ShloMosaic.TcCoe Idealize.SL.Sem Idealize.ShloMosaic.ValueIdx
open Idealize.ShloMosaic.Pipeline (Dat)

/-- What a point leaves of the mixture, at an index. -/
theorem block_apply (g : Vec Ideal S512x2048 .bf16) (ya yr : Vec Ideal S512x1024 .bf16) (b : Vec Ideal S1x2048 .f32) (r : Fin 512) (q : Fin 1024) :
    out0_4 (F := Ideal) g ya yr b (ix2 r q) = mixed g ya yr b r q := by
  have hg : ∀ c : Fin 2048, logistic (F := Ideal) (addf (extf .f32 g bitsLt_bf16_f32) (broadcastTo S512x2048 b broadcasts_S1x2048_S512x2048)) (ix2 r c) = gate g b r c := fun c => by
    unfold gate
    show Ideal.logistic (g (ix2 r c) + broadcastTo S512x2048 b _ (ix2 r c)) = _
    rw [under_apply (M := 512) (N := 2048) b _ (by decide)]
  unfold out0_4
  rw [View.canon_unit_zero (Val := Elt Ideal) off2 _ _, View.ld_unit_zero (S := S512x2048) off2, View.ld_unit_zero (S := S1x2048) off2]
  simp only [View.ld_unit_zero (S := S512x1024) off2]
  unfold k0_pay1 mixed
  refine add2 (mul2 ?_ rfl) (mul2 ?_ rfl)
  · refine (extractStridedSlice_apply _ _ _ (ix2 r q) (ix2 r (fst q)) ?_).trans (hg _)
    intro a
    match a with
    | ⟨0, _⟩ => show r.val = 0 + r.val; omega
    | ⟨1, _⟩ => show q.val = 0 + q.val; omega
  · refine (extractStridedSlice_apply _ _ _ (ix2 r q) (ix2 r (snd q)) ?_).trans (hg _)
    intro a
    match a with
    | ⟨0, _⟩ => show r.val = 0 + r.val; omega
    | ⟨1, _⟩ => show 1024 + q.val = 1024 + q.val; omega

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)

/-- Row `r` of point `t`'s rows. -/
def row (t : Fin cfg0.N) (r : Fin 512) : Fin 4096 := ⟨t.val * 512 + r.val, part_lt (Nat.lt_of_lt_of_eq t.isLt N_0) r.isLt⟩

theorem blk0 (c : Dev nD) (t : Fin cfg0.N) (r : Fin 512) (q : Fin 2048) : iblk m c 0 t (ix2 r q) = V m c main_arg0 (ix2 (row t r) q) :=
  congrArg (V m c main_arg0) (rows_at (emb := ((cfg0.win 0).blk t).view.emb) (at0 t) (fun _ => ⟨rfl, rfl⟩) (Nat.lt_of_lt_of_eq t.isLt N_0) r q)
theorem blk1 (c : Dev nD) (t : Fin cfg0.N) (r : Fin 512) (q : Fin 1024) : iblk m c 1 t (ix2 r q) = V m c main_arg1 (ix2 (row t r) q) :=
  congrArg (V m c main_arg1) (rows_at (emb := ((cfg0.win 1).blk t).view.emb) (at1 t) (fun _ => ⟨rfl, rfl⟩) (Nat.lt_of_lt_of_eq t.isLt N_0) r q)
theorem blk2 (c : Dev nD) (t : Fin cfg0.N) (r : Fin 512) (q : Fin 1024) : iblk m c 2 t (ix2 r q) = V m c main_arg2 (ix2 (row t r) q) :=
  congrArg (V m c main_arg2) (rows_at (emb := ((cfg0.win 2).blk t).view.emb) (at2 t) (fun _ => ⟨rfl, rfl⟩) (Nat.lt_of_lt_of_eq t.isLt N_0) r q)
theorem blk3 (c : Dev nD) (t : Fin cfg0.N) (q : Fin 2048) : iblk m c 3 t (ix2 0 q) = V m c main_arg3 (ix2 0 q) :=
  congrArg (V m c main_arg3) (row_at (emb := ((cfg0.win 3).blk t).view.emb) (at3 t) (fun _ => ⟨rfl, rfl⟩) 0 q)

/-- The gate of a point's rows. -/
theorem gate_eq (c : Dev nD) (t : Fin cfg0.N) (r : Fin 512) (q : Fin 2048) :
    gate (iblk m c 0 t) (iblk m c 3 t) r q = gate (V m c main_arg0) (V m c main_arg3) (row t r) q :=
  gate_part (blk0 m c t r) (blk3 m c t) q

/-- The mixture, as an array. -/
def MX (g : Vec Ideal S4096x2048 .bf16) (ya yr : Vec Ideal S4096x1024 .bf16) (b : Vec Ideal S1x2048 .f32) : Vec Ideal S4096x1024 .bf16 :=
  fun i => mixed g ya yr b (i 0) (i 1)

/-- Where a point's block of window 4 lies. -/
theorem emb4 (t : Fin cfg0.N) (p : Fin 512) (q : Fin 1024) : ((cfg0.win 4).blk t).view.emb (ix2 p q : S512x1024.Idx) = ix2 (row t p) q :=
  rows_at (at4 t) (fun _ => ⟨rfl, rfl⟩) (Nat.lt_of_lt_of_eq t.isLt N_0) p q

/-- Each point writes back its rows. -/
theorem flushed4_eq (c : Dev nD) (t : Fin cfg0.N) : (dats m 0 c).flushed 4 t
    = ((cfg0.win 4).blk t).view.read (Elt Ideal) (MX (V m c main_arg0) (V m c main_arg1) (V m c main_arg2) (V m c main_arg3)) := by
  rw [flushed4 m c t]
  refine ext2 fun (p : Fin 512) (q : Fin 1024) => ?_
  show out0_4 (F := Ideal) _ _ _ _ (ix2 p q) = MX _ _ _ _ (((cfg0.win 4).blk t).view.emb (ix2 p q : S512x1024.Idx))
  rw [emb4 t p q]
  exact (block_apply (iblk m c 0 t) (iblk m c 1 t) (iblk m c 2 t) (iblk m c 3 t) p q).trans (add2
    (mul2 (gate_eq m c t p (fst q)) (blk1 m c t p q)) (mul2 (gate_eq m c t p (snd q)) (blk2 m c t p q)))

theorem covered4 (i : S4096x1024.Idx) : ∃ t : Fin cfg0.N, (cfg0.win 4).flush t = true ∧ i ∈ ((cfg0.win 4).blk t).view.set :=
  ⟨⟨(i 0).val / 512, Nat.lt_of_lt_of_eq (part_of (i 0)) N_0.symm⟩, flush0_4 _,
    rows_mem (((cfg0.win 4).blk _).view.emb_mem_set) i (emb4 _)⟩

/-- The kernel leaves the mixture. -/
theorem run_kernel : θ_run defs (onTc (τ := τ) (main (F := Ideal))) ⟨m, fun _ => 0, ρ⟩ fun r => ∀ c : Dev nD,
      r.2.mem ((c : Thread nD τ).loc main_v0) = MX (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h4, hk⟩ := h c
  rw [← V_main_arg0 m c, ← V_main_arg1 m c, ← V_main_arg2 m c, ← V_main_arg3 m c] at *
  exact ⟨h4.trans ((dats m 0 c).arrAt_eq_of_cover 4 _ (fun t _ => flushed4_eq m c t) covered4), hk⟩

section
open Cert.Reference24Ideal.Read
variable (x0 : Vec Ideal S4096x2048 .bf16) (x1 x2 : Vec Ideal S4096x1024 .bf16) (x3 : Vec Ideal S1x2048 .f32)

/-- The constant one. -/
theorem obits : FloatOps.ofBits (F := Ideal) .f32 0x3F800000#32 = (1 : EReal) := Ideal.ofBits_one_f32

/-- The reference's gate. -/
theorem ref_gate (r : Fin 4096) (c : Fin 2048) : val_main_v10 (F := Ideal) x0 x3 (ix2 r c) = gate x0 x3 r c := by
  rw [val_main_v10_apply, val_main_v9_apply, val_main_cst_0_apply, val_main_v8_apply, val_main_v7_apply, val_main_cst_apply, val_main_v6_apply,
    val_main_v5_apply, val_main_v4_apply, val_main_v3_apply, val_main_v0_apply, obits]
  unfold gate
  rw [show idx_main_v3 (ix2 r c : S4096x2048.Idx) = (ix2 0 c : S1x2048.Idx) from same2 rfl rfl]
  rfl

/-- The reference's mixture, as an array. -/
theorem ref_v16 : val_main_v16 (F := Ideal) x0 x1 x2 x3 = MX x0 x1 x2 x3 := by
  refine ext2 fun (r : Fin 4096) (q : Fin 1024) => ?_
  refine (val_main_v16_apply x0 x1 x2 x3 _).trans ((val_main_v15_apply x0 x1 x2 x3 _).trans ?_)
  refine add2 ((val_main_v13_apply x0 x1 x3 _).trans (mul2 ?_ rfl))
    ((val_main_v14_apply x0 x2 x3 _).trans (mul2 ?_ rfl))
  · refine (val_main_v11_apply x0 x3 _).trans (Eq.trans (congrArg _ ?_) (ref_gate x0 x3 r (fst q)))
    funext a; apply Fin.ext
    match a with
    | ⟨0, _⟩ => rfl
    | ⟨1, _⟩ => rfl
  · refine (val_main_v12_apply x0 x3 _).trans (Eq.trans (congrArg _ ?_) (ref_gate x0 x3 r (snd q)))
    funext a; apply Fin.ext
    match a with
    | ⟨0, _⟩ => rfl
    | ⟨1, _⟩ => first | rfl | (show 1024 + 1 * q.val = 1024 + q.val; omega) | (show q.val + 1024 = 1024 + q.val; omega)

end

/-- The reference runs, keeps its arguments, and leaves every counter at zero. -/
theorem frame_reference : Cert.quiescent_Reference24Ideal (hReference24Ideal := Cert.Reference24Ideal.Gen.facts) := by
  intro m g _
  exact (θ_run Cert.Reference24Ideal.defs _ _).mono
    (fun r h => ⟨fun c => (h c).2, Idealize.ShloMosaic.sem_eq_zero_of_no_sems (by decide) r.2⟩)
    (Cert.Reference24Ideal.Value.run m g)

/-- The kernel's array is the reference's. -/
theorem value : Cert.algebraic_Kernel24Ideal_Reference24Ideal (hKernel24Ideal := Cert.Kernel24Ideal.Gen.facts)
    (hReference24Ideal := Cert.Reference24Ideal.Gen.facts) := by
  intro m g m' g' _ hm
  refine ⟨fun c => _, run_kernel m g, ?_⟩
  refine (θ_run Cert.Reference24Ideal.defs _ _).mono (fun r h c => ?_) (Cert.Reference24Ideal.Value.run m' g')
  obtain ⟨h0, hk⟩ := h c
  obtain ⟨a0, a1, a2, a3⟩ := hm c
  refine ⟨(h0.trans (Cert.Reference24Ideal.Read.val_main_v16_eq (F := Ideal) _ _ _ _)).trans ((ref_v16 _ _ _ _).trans ?_), hk⟩
  rw [a0, a1, a2, a3]

end Cert.Proof.MixFwd

end
-- ==== Proof.NormFwd.lean ====
/- The residual stream with a block's gated output added, and its normalised and modulated rows: what one grid point's 512
   rows leave, the whole arrays, the reference's arrays, and the claim. -/
module

public import proofs.«01_k».proof.Proof.NormSpec
public import proofs.«01_k».proof.Defs
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Tactic
public import Idealize.ShloMosaic.Adequacy

@[expose] public section

noncomputable section

namespace Cert.Proof.NormFwd

open Cert.Kernel25Ideal Cert.Kernel25Ideal.Gen Cert.Kernel25Ideal.Value Cert.Proof.MatMul Cert.Proof.RowSum Cert.Proof.Norm
open Idealize.ShloMosaic Idealize.ShloMosaic.TcCoe Idealize.SL.Sem Idealize.ShloMosaic.ValueIdx
open Idealize.ShloMosaic.Pipeline (Dat)

section
variable (x : Vec Ideal S512x1024 .f32) (o : Vec Ideal S512x1024 .bf16) (gt w sc sh : Vec Ideal S1x1024 .f32)

/-- The sum of a point's rows and the gated output. -/
theorem pay1_apply (r : Fin 512) (q : Fin 1024) : k0_pay1 (F := Ideal) x o gt (ix2 r q) = res (rowOf x r) (rowOf o r) (rowOf gt 0) q := by
  unfold k0_pay1 res
  exact add2 rfl (mul2 (under_apply (M := 512) (N := 1024) gt _ (by decide) r q) rfl)

/-- The normalised and modulated rows of a point. -/
theorem pay2_apply (r : Fin 512) (q : Fin 1024) : k0_pay2 (F := Ideal) x o gt w sc sh (ix2 r q)
    = normed (res (rowOf x r) (rowOf o r) (rowOf gt 0)) (rowOf w 0) (rowOf sc 0) (rowOf sh 0) q := by
  unfold k0_pay2 normed unitRow
  refine add2 (mul2 (mul2
    (mul2 (pay1_apply x o gt r q) ((across_apply (M := 512) (N := 1024) _ _ (by decide) r q).trans ?_))
    (under_apply (M := 512) (N := 1024) w _ (by decide) r q)) ((under_apply (M := 512) (N := 1024) _ _ (by decide) r q).trans ?_))
    (under_apply (M := 512) (N := 1024) sh _ (by decide) r q)
  · refine congrArg Ideal.rsqrt (add2 (congrArg₂ Ideal.div ((colsum_apply (M := 512) (N := 1024) _ _ _ _ _ r 0).trans ?_) rfl) rfl)
    exact Finset.sum_congr rfl fun k _ => mul2 (pay1_apply x o gt r k) (pay1_apply x o gt r k)
  · exact add2 Ideal.ofBits_one_f32 rfl

/-- What a point leaves of the sum. -/
theorem out6_apply (r : Fin 512) (q : Fin 1024) : out0_6 (F := Ideal) x o gt w sc sh (ix2 r q) = res (rowOf x r) (rowOf o r) (rowOf gt 0) q := by
  unfold out0_6
  rw [View.canon_unit_zero (Val := Elt Ideal) off2 _ _]
  simp only [View.ld_unit_zero (S := S512x1024) off2, View.ld_unit_zero (S := S1x1024) off2]
  exact pay1_apply x o gt r q

/-- What a point leaves of the normalised rows. -/
theorem out7_apply (r : Fin 512) (q : Fin 1024) : out0_7 (F := Ideal) x o gt w sc sh (ix2 r q)
    = normed (res (rowOf x r) (rowOf o r) (rowOf gt 0)) (rowOf w 0) (rowOf sc 0) (rowOf sh 0) q := by
  unfold out0_7
  rw [View.canon_unit_zero (Val := Elt Ideal) off2 _ _]
  simp only [View.ld_unit_zero (S := S512x1024) off2, View.ld_unit_zero (S := S1x1024) off2]
  exact pay2_apply x o gt w sc sh r q

end

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)

/-- Row `r` of point `t`'s rows. -/
def row (t : Fin cfg0.N) (r : Fin 512) : Fin 4096 := ⟨t.val * 512 + r.val, part_lt (Nat.lt_of_lt_of_eq t.isLt N_0) r.isLt⟩

theorem blk0 (c : Dev nD) (t : Fin cfg0.N) (r : Fin 512) : rowOf (iblk m c 0 t) r = rowOf (V m c main_arg0) (row t r) := funext fun q =>
  congrArg (V m c main_arg0) (rows_at (emb := ((cfg0.win 0).blk t).view.emb) (at0 t) (fun _ => ⟨rfl, rfl⟩) (Nat.lt_of_lt_of_eq t.isLt N_0) r q)
theorem blk1 (c : Dev nD) (t : Fin cfg0.N) (r : Fin 512) : rowOf (iblk m c 1 t) r = rowOf (V m c main_arg1) (row t r) := funext fun q =>
  congrArg (V m c main_arg1) (rows_at (emb := ((cfg0.win 1).blk t).view.emb) (at1 t) (fun _ => ⟨rfl, rfl⟩) (Nat.lt_of_lt_of_eq t.isLt N_0) r q)
theorem blk2 (c : Dev nD) (t : Fin cfg0.N) : rowOf (iblk m c 2 t) 0 = rowOf (V m c main_arg2) 0 := funext fun q =>
  congrArg (V m c main_arg2) (row_at (emb := ((cfg0.win 2).blk t).view.emb) (at2 t) (fun _ => ⟨rfl, rfl⟩) 0 q)
theorem blk3 (c : Dev nD) (t : Fin cfg0.N) : rowOf (iblk m c 3 t) 0 = rowOf (V m c main_arg3) 0 := funext fun q =>
  congrArg (V m c main_arg3) (row_at (emb := ((cfg0.win 3).blk t).view.emb) (at3 t) (fun _ => ⟨rfl, rfl⟩) 0 q)
theorem blk4 (c : Dev nD) (t : Fin cfg0.N) : rowOf (iblk m c 4 t) 0 = rowOf (V m c main_arg4) 0 := funext fun q =>
  congrArg (V m c main_arg4) (row_at (emb := ((cfg0.win 4).blk t).view.emb) (at4 t) (fun _ => ⟨rfl, rfl⟩) 0 q)
theorem blk5 (c : Dev nD) (t : Fin cfg0.N) : rowOf (iblk m c 5 t) 0 = rowOf (V m c main_arg5) 0 := funext fun q =>
  congrArg (V m c main_arg5) (row_at (emb := ((cfg0.win 5).blk t).view.emb) (at5 t) (fun _ => ⟨rfl, rfl⟩) 0 q)

/-- The sum, as an array. -/
def XA (x : Vec Ideal S4096x1024 .f32) (o : Vec Ideal S4096x1024 .bf16) (gt : Vec Ideal S1x1024 .f32) : Vec Ideal S4096x1024 .f32 :=
  fun i => res (rowOf x (i 0)) (rowOf o (i 0)) (rowOf gt 0) (i 1)

/-- The normalised and modulated rows, as an array. -/
def HA (x : Vec Ideal S4096x1024 .f32) (o : Vec Ideal S4096x1024 .bf16) (gt w sc sh : Vec Ideal S1x1024 .f32) : Vec Ideal S4096x1024 .bf16 :=
  fun i => normed (res (rowOf x (i 0)) (rowOf o (i 0)) (rowOf gt 0)) (rowOf w 0) (rowOf sc 0) (rowOf sh 0) (i 1)

/-- The sum of a point's rows is its rows of the array's. -/
theorem res_eq (c : Dev nD) (t : Fin cfg0.N) (p : Fin 512) : res (rowOf (iblk m c 0 t) p) (rowOf (iblk m c 1 t) p) (rowOf (iblk m c 2 t) 0)
    = res (rowOf (V m c main_arg0) (row t p)) (rowOf (V m c main_arg1) (row t p)) (rowOf (V m c main_arg2) 0) := by
  rw [blk0 m c t p, blk1 m c t p, blk2 m c t]

/-- Where a point's block of window 6 lies. -/
theorem emb6 (t : Fin cfg0.N) (p : Fin 512) (q : Fin 1024) : ((cfg0.win 6).blk t).view.emb (ix2 p q : S512x1024.Idx) = ix2 (row t p) q :=
  rows_at (at6 t) (fun _ => ⟨rfl, rfl⟩) (Nat.lt_of_lt_of_eq t.isLt N_0) p q

/-- Each point writes back its rows. -/
theorem flushed6_eq (c : Dev nD) (t : Fin cfg0.N) : (dats m 0 c).flushed 6 t
    = ((cfg0.win 6).blk t).view.read (Elt Ideal) (XA (V m c main_arg0) (V m c main_arg1) (V m c main_arg2)) := by
  rw [flushed6 m c t]
  refine ext2 fun (p : Fin 512) (q : Fin 1024) => ?_
  show out0_6 (F := Ideal) _ _ _ _ _ _ (ix2 p q) = XA _ _ _ (((cfg0.win 6).blk t).view.emb (ix2 p q : S512x1024.Idx))
  rw [emb6 t p q]
  exact (out6_apply (iblk m c 0 t) (iblk m c 1 t) (iblk m c 2 t) (iblk m c 3 t) (iblk m c 4 t) (iblk m c 5 t) p q).trans (congrFun (res_eq m c t p) q)

theorem covered6 (i : S4096x1024.Idx) : ∃ t : Fin cfg0.N, (cfg0.win 6).flush t = true ∧ i ∈ ((cfg0.win 6).blk t).view.set :=
  ⟨⟨(i 0).val / 512, Nat.lt_of_lt_of_eq (part_of (i 0)) N_0.symm⟩, flush0_6 _,
    rows_mem (((cfg0.win 6).blk _).view.emb_mem_set) i (emb6 _)⟩

/-- Where a point's block of window 7 lies. -/
theorem emb7 (t : Fin cfg0.N) (p : Fin 512) (q : Fin 1024) : ((cfg0.win 7).blk t).view.emb (ix2 p q : S512x1024.Idx) = ix2 (row t p) q :=
  rows_at (at7 t) (fun _ => ⟨rfl, rfl⟩) (Nat.lt_of_lt_of_eq t.isLt N_0) p q

/-- Each point writes back its rows. -/
theorem flushed7_eq (c : Dev nD) (t : Fin cfg0.N) : (dats m 0 c).flushed 7 t
    = ((cfg0.win 7).blk t).view.read (Elt Ideal) (HA (V m c main_arg0) (V m c main_arg1) (V m c main_arg2) (V m c main_arg3) (V m c main_arg4) (V m c main_arg5)) := by
  rw [flushed7 m c t]
  refine ext2 fun (p : Fin 512) (q : Fin 1024) => ?_
  show out0_7 (F := Ideal) _ _ _ _ _ _ (ix2 p q) = HA _ _ _ _ _ _ (((cfg0.win 7).blk t).view.emb (ix2 p q : S512x1024.Idx))
  rw [emb7 t p q]
  refine (out7_apply (iblk m c 0 t) (iblk m c 1 t) (iblk m c 2 t) (iblk m c 3 t) (iblk m c 4 t) (iblk m c 5 t) p q).trans ?_
  show normed _ _ _ _ q = normed (res (rowOf (V m c main_arg0) (row t p)) _ _) _ _ _ q
  rw [res_eq m c t p, blk3 m c t, blk4 m c t, blk5 m c t]

theorem covered7 (i : S4096x1024.Idx) : ∃ t : Fin cfg0.N, (cfg0.win 7).flush t = true ∧ i ∈ ((cfg0.win 7).blk t).view.set :=
  ⟨⟨(i 0).val / 512, Nat.lt_of_lt_of_eq (part_of (i 0)) N_0.symm⟩, flush0_7 _,
    rows_mem (((cfg0.win 7).blk _).view.emb_mem_set) i (emb7 _)⟩

/-- The kernel leaves the two arrays. -/
theorem run_kernel : θ_run defs (onTc (τ := τ) (main (F := Ideal))) ⟨m, fun _ => 0, ρ⟩ fun r => ∀ c : Dev nD,
      r.2.mem ((c : Thread nD τ).loc main_v0_0) = XA (m ((c : Thread nD τ).loc main_arg0)) (m ((c : Thread nD τ).loc main_arg1)) (m ((c : Thread nD τ).loc main_arg2))
      ∧ r.2.mem ((c : Thread nD τ).loc main_v0_1) = HA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_blocks m ρ)
  obtain ⟨h6, h7, hk⟩ := h c
  rw [← V_main_arg0 m c, ← V_main_arg1 m c, ← V_main_arg2 m c, ← V_main_arg3 m c, ← V_main_arg4 m c, ← V_main_arg5 m c] at *
  exact ⟨h6.trans ((dats m 0 c).arrAt_eq_of_cover 6 _ (fun t _ => flushed6_eq m c t) covered6),
    h7.trans ((dats m 0 c).arrAt_eq_of_cover 7 _ (fun t _ => flushed7_eq m c t) covered7), hk⟩

section
open Cert.Reference25Ideal.Read
variable (x0 : Vec Ideal S4096x1024 .f32) (x1 : Vec Ideal S4096x1024 .bf16) (x2 x3 x4 x5 : Vec Ideal S1x1024 .f32)

/-- The constant one. -/
theorem obits : FloatOps.ofBits (F := Ideal) .f32 0x3F800000#32 = (1 : EReal) := Ideal.ofBits_one_f32

/-- The constant zero. -/
theorem zbits : FloatOps.ofBits (F := Ideal) .f32 0x00000000#32 = (0 : EReal) := Ideal.ofBits_zero_f32

/-- The reference's sum of the row and the gated output. -/
theorem ref_res (r : Fin 4096) (q : Fin 1024) : val_main_v3 (F := Ideal) x0 x1 x2 (ix2 r q) = res (rowOf x0 r) (rowOf x1 r) (rowOf x2 0) q := by
  rw [val_main_v3_apply, val_main_v2_apply, val_main_v1_apply, val_main_v0_apply,
    show idx_main_v1 (ix2 r q : S4096x1024.Idx) = (ix2 0 q : S1x1024.Idx) from same2 rfl rfl]
  rfl

/-- The reference's mean square. -/
theorem ref_ms (r : Fin 4096) : val_main_v10 (F := Ideal) x0 x1 x2 (ix2 r 0) = ms (res (rowOf x0 r) (rowOf x1 r) (rowOf x2 0)) := by
  rw [val_main_v10_apply, val_main_v9_apply, val_main_cst_1_apply, val_main_v8_apply, val_main_v7_apply, val_main_cst_0_apply, val_main_v6_apply,
    val_main_v5_apply, val_main_cst_apply, zbits, zero_add]
  refine add2 (congrArg₂ Ideal.div (Finset.sum_congr rfl fun k _ => ?_) rfl) rfl
  rw [val_main_v4_apply, show idx_main_v5 (idx_main_v6 (ix2 r 0 : (⟨2, ![4096, 1]⟩ : Shape).Idx)) k = (ix2 r k : S4096x1024.Idx) from same2 rfl rfl, ref_res]
  rfl

/-- The reference's one over the root. -/
theorem ref_inv (r : Fin 4096) : val_main_v11 (F := Ideal) x0 x1 x2 (ix2 r 0) = invRoot (res (rowOf x0 r) (rowOf x1 r) (rowOf x2 0)) := by
  rw [val_main_v11_apply, ref_ms]
  rfl

/-- The reference's sum, as an array. -/
theorem ref_v3 : val_main_v3 (F := Ideal) x0 x1 x2 = XA x0 x1 x2 := by
  refine ext2 fun (r : Fin 4096) (q : Fin 1024) => ?_
  exact ref_res x0 x1 x2 r q

/-- The reference's normalised and modulated rows, as an array. -/
theorem ref_v22 : val_main_v22 (F := Ideal) x0 x1 x2 x3 x4 x5 = HA x0 x1 x2 x3 x4 x5 := by
  refine ext2 fun (r : Fin 4096) (q : Fin 1024) => ?_
  rw [val_main_v22_apply, val_main_v21_apply, val_main_v20_apply, val_main_v19_apply, val_main_v18_apply, val_main_v17_apply, val_main_v16_apply,
    val_main_cst_2_apply, val_main_v15_apply, val_main_v14_apply, val_main_v13_apply, val_main_v12_apply, obits,
    show idx_main_v12 (ix2 r q : S4096x1024.Idx) = (ix2 r 0 : (⟨2, ![4096, 1]⟩ : Shape).Idx) from same2 rfl rfl,
    show idx_main_v14 (ix2 r q : S4096x1024.Idx) = (ix2 0 q : S1x1024.Idx) from same2 rfl rfl,
    show idx_main_v18 (ix2 r q : S4096x1024.Idx) = (ix2 0 q : S1x1024.Idx) from same2 rfl rfl,
    show idx_main_v20 (ix2 r q : S4096x1024.Idx) = (ix2 0 q : S1x1024.Idx) from same2 rfl rfl, ref_res, ref_inv]
  rfl

end

/-- The reference runs, keeps its arguments, and leaves every counter at zero. -/
theorem frame_reference : Cert.quiescent_Reference25Ideal (hReference25Ideal := Cert.Reference25Ideal.Gen.facts) := by
  intro m g _
  exact (θ_run Cert.Reference25Ideal.defs _ _).mono
    (fun r h => ⟨fun c => (h c).2.2, Idealize.ShloMosaic.sem_eq_zero_of_no_sems (by decide) r.2⟩)
    (Cert.Reference25Ideal.Value.run m g)

/-- The kernel's two arrays are the reference's. -/
theorem value : Cert.algebraic_Kernel25Ideal_Reference25Ideal (hKernel25Ideal := Cert.Kernel25Ideal.Gen.facts)
    (hReference25Ideal := Cert.Reference25Ideal.Gen.facts) := by
  intro m g m' g' _ hm
  refine ⟨fun c => _, fun c => _, run_kernel m g, ?_⟩
  refine (θ_run Cert.Reference25Ideal.defs _ _).mono (fun r h c => ?_) (Cert.Reference25Ideal.Value.run m' g')
  obtain ⟨h0, h1, hk⟩ := h c
  obtain ⟨a0, a1, a2, a3, a4, a5⟩ := hm c
  refine ⟨(h0.trans (Cert.Reference25Ideal.Read.val_main_v3_eq (F := Ideal) _ _ _)).trans ((ref_v3 _ _ _).trans ?_),
    (h1.trans (Cert.Reference25Ideal.Read.val_main_v22_eq (F := Ideal) _ _ _ _ _ _)).trans ((ref_v22 _ _ _ _ _ _).trans ?_), hk⟩
  · rw [a0, a1, a2]
  · rw [a0, a1, a2, a3, a4, a5]

end Cert.Proof.NormFwd

end
-- ==== Proof.lean ====
/- The claims of this directory put together: every program's frame is its run's, no rewriting was done between a kernel and
   its idealization, and each kernel's arrays are its reference's by the modules named below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Pre_finite
public import proofs.«01_k».proof.Proof.Gen.Pre_finite2
public import proofs.«01_k».proof.Proof.Gen.On_group_columns
public import proofs.«01_k».proof.Proof.Gen.KernelIdeal.Value
public import proofs.«01_k».proof.Proof.Gen.Kernel3Ideal.Value
public import proofs.«01_k».proof.Proof.Gen.Kernel4Ideal.Value
public import proofs.«01_k».proof.Proof.Gen.Kernel2Ideal.Value
public import proofs.«01_k».proof.Proof.Gen.Kernel21Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Kernel25Ideal.Value
public import proofs.«01_k».proof.Proof.Gen.ReferenceIdeal.Run
public import proofs.«01_k».proof.Proof.Gen.ReferenceIdeal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference2Ideal.Run
public import proofs.«01_k».proof.Proof.Gen.Reference2Ideal.Read
public import proofs.«01_k».proof.Proof.Gen.Reference21Ideal.Run
public import proofs.«01_k».proof.Proof.Gen.Reference21Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Reference12Ideal.Run
public import proofs.«01_k».proof.Proof.Gen.Reference12Ideal.Read
public import proofs.«01_k».proof.Proof.Gen.Reference13Ideal.Run
public import proofs.«01_k».proof.Proof.Gen.Reference13Ideal.Read
public import proofs.«01_k».proof.Proof.Gen.Reference14Ideal.Run
public import proofs.«01_k».proof.Proof.Gen.Reference14Ideal.Read
public import proofs.«01_k».proof.Proof.Gen.Reference15Ideal.Run
public import proofs.«01_k».proof.Proof.Gen.Reference15Ideal.Read
public import proofs.«01_k».proof.Proof.Gen.Reference16Ideal.Run
public import proofs.«01_k».proof.Proof.Gen.Reference16Ideal.Read
public import proofs.«01_k».proof.Proof.Gen.Reference17Ideal.Run
public import proofs.«01_k».proof.Proof.Gen.Reference17Ideal.Read
public import proofs.«01_k».proof.Proof.Gen.Reference18Ideal.Run
public import proofs.«01_k».proof.Proof.Gen.Reference18Ideal.Read
public import proofs.«01_k».proof.Proof.Gen.Reference19Ideal.Run
public import proofs.«01_k».proof.Proof.Gen.Reference19Ideal.Read
public import proofs.«01_k».proof.Proof.Gen.Reference20Ideal.Run
public import proofs.«01_k».proof.Proof.Gen.Reference20Ideal.Read
public import proofs.«01_k».proof.Proof.Gen.Reference22Ideal.Run
public import proofs.«01_k».proof.Proof.Gen.Reference22Ideal.Read
public import proofs.«01_k».proof.Proof.Gen.Reference23Ideal.Run
public import proofs.«01_k».proof.Proof.Gen.Reference23Ideal.Read
public import proofs.«01_k».proof.Proof.Gen.Reference24Ideal.Run
public import proofs.«01_k».proof.Proof.Gen.Reference24Ideal.Read
public import proofs.«01_k».proof.Proof.Gen.Reference25Ideal.Run
public import proofs.«01_k».proof.Proof.Gen.Reference25Ideal.Read
public import Idealize.ShloMosaic.Adequacy
public import Idealize.ShloMosaic.Init
public import proofs.«01_k».proof.Proof.ConvClaim
public import proofs.«01_k».proof.Proof.Dact
public import proofs.«01_k».proof.Proof.DwUp
public import proofs.«01_k».proof.Proof.AttClaim
public import proofs.«01_k».proof.Proof.FwdClaim
public import proofs.«01_k».proof.Proof.DwDown
public import proofs.«01_k».proof.Proof.Dh2
public import proofs.«01_k».proof.Proof.Dmix
public import proofs.«01_k».proof.Proof.DwO
public import proofs.«01_k».proof.Proof.Datt
public import proofs.«01_k».proof.Proof.DwAttOut
public import proofs.«01_k».proof.Proof.DwAtt
public import proofs.«01_k».proof.Proof.DwRw
public import proofs.«01_k».proof.Proof.DwGate
public import proofs.«01_k».proof.Proof.AttIn
public import proofs.«01_k».proof.Proof.RwIn
public import proofs.«01_k».proof.Proof.GateIn
public import proofs.«01_k».proof.Proof.AttOut
public import proofs.«01_k».proof.Proof.MixOut
public import proofs.«01_k».proof.Proof.Up
public import proofs.«01_k».proof.Proof.Down
public import proofs.«01_k».proof.Proof.MixBwd
public import proofs.«01_k».proof.Proof.NormBwd
public import proofs.«01_k».proof.Proof.MixFwd
public import proofs.«01_k».proof.Proof.NormFwd

@[expose] public section

noncomputable section

namespace Cert.Proof

open Idealize.ShloMosaic Idealize.SL.Sem

/-- The claims, each program with its frame and the kernels with their values. -/
theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel2.Gen.facts, Cert.Kernel2Ideal.Gen.facts, Cert.Reference2Ideal.Gen.facts, Cert.Kernel21.Gen.facts, Cert.Kernel21Ideal.Gen.facts, Cert.Reference21Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts, Cert.Pre_finite2.Gen.facts, Cert.On_group_columns.Gen.facts,
  fun m g _ => Cert.Kernel.Gen.frame m g,
  fun m g _ => Cert.KernelIdeal.Gen.frame m g,
  fun m g _ => Cert.KernelIdeal.Gen.frame m g,
  Conv.frame_reference,
  fun m g _ => Conv.frame_reference m g trivial,
  fun m g _ => Cert.Kernel3.Gen.frame m g,
  fun m g _ => Cert.Kernel3Ideal.Gen.frame m g,
  Dact.frame_reference,
  fun m g _ => Cert.Kernel4.Gen.frame m g,
  fun m g _ => Cert.Kernel4Ideal.Gen.frame m g,
  DwUp.frame_reference,
  fun m g _ => Cert.Kernel2.Gen.frame m g,
  fun m g _ => Cert.Kernel2Ideal.Gen.frame m g,
  fun m g _ => Cert.Kernel2Ideal.Gen.frame m g,
  Att.frame_reference,
  fun m g _ => Att.frame_reference m g trivial,
  fun m g _ => Cert.Kernel21.Gen.frame m g,
  fun m g _ => Cert.Kernel21Ideal.Gen.frame m g,
  Fwd.frame_reference,
  fun m g _ => Cert.Kernel5.Gen.frame m g,
  fun m g _ => Cert.Kernel5Ideal.Gen.frame m g,
  DwDown.frame_reference,
  fun m g _ => Cert.Kernel6.Gen.frame m g,
  fun m g _ => Cert.Kernel6Ideal.Gen.frame m g,
  Dh2.frame_reference,
  fun m g _ => Cert.Kernel7.Gen.frame m g,
  fun m g _ => Cert.Kernel7Ideal.Gen.frame m g,
  Dmix.frame_reference,
  fun m g _ => Cert.Kernel8.Gen.frame m g,
  fun m g _ => Cert.Kernel8Ideal.Gen.frame m g,
  DwO.frame_reference,
  fun m g _ => Cert.Kernel9.Gen.frame m g,
  fun m g _ => Cert.Kernel9Ideal.Gen.frame m g,
  Datt.frame_reference,
  fun m g _ => Cert.Kernel10.Gen.frame m g,
  fun m g _ => Cert.Kernel10Ideal.Gen.frame m g,
  DwAttOut.frame_reference,
  fun m g _ => Cert.Kernel11.Gen.frame m g,
  fun m g _ => Cert.Kernel11Ideal.Gen.frame m g,
  DwAtt.frame_reference,
  fun m g _ => Cert.Kernel12.Gen.frame m g,
  fun m g _ => Cert.Kernel12Ideal.Gen.frame m g,
  DwRw.frame_reference,
  fun m g _ => Cert.Kernel13.Gen.frame m g,
  fun m g _ => Cert.Kernel13Ideal.Gen.frame m g,
  DwGate.frame_reference,
  fun m g _ => Cert.Kernel14.Gen.frame m g,
  fun m g _ => Cert.Kernel14Ideal.Gen.frame m g,
  AttIn.frame_reference,
  fun m g _ => Cert.Kernel15.Gen.frame m g,
  fun m g _ => Cert.Kernel15Ideal.Gen.frame m g,
  RwIn.frame_reference,
  fun m g _ => Cert.Kernel16.Gen.frame m g,
  fun m g _ => Cert.Kernel16Ideal.Gen.frame m g,
  GateIn.frame_reference,
  fun m g _ => Cert.Kernel17.Gen.frame m g,
  fun m g _ => Cert.Kernel17Ideal.Gen.frame m g,
  AttOut.frame_reference,
  fun m g _ => Cert.Kernel18.Gen.frame m g,
  fun m g _ => Cert.Kernel18Ideal.Gen.frame m g,
  MixOut.frame_reference,
  fun m g _ => Cert.Kernel19.Gen.frame m g,
  fun m g _ => Cert.Kernel19Ideal.Gen.frame m g,
  Up.frame_reference,
  fun m g _ => Cert.Kernel20.Gen.frame m g,
  fun m g _ => Cert.Kernel20Ideal.Gen.frame m g,
  Down.frame_reference,
  fun m g _ => Cert.Kernel22.Gen.frame m g,
  fun m g _ => Cert.Kernel22Ideal.Gen.frame m g,
  MixBwd.frame_reference,
  fun m g _ => Cert.Kernel23.Gen.frame m g,
  fun m g _ => Cert.Kernel23Ideal.Gen.frame m g,
  NormBwd.frame_reference,
  fun m g _ => Cert.Kernel24.Gen.frame m g,
  fun m g _ => Cert.Kernel24Ideal.Gen.frame m g,
  MixFwd.frame_reference,
  fun m g _ => Cert.Kernel25.Gen.frame m g,
  fun m g _ => Cert.Kernel25Ideal.Gen.frame m g,
  NormFwd.frame_reference,
  trivial,
  Conv.value,
  trivial,
  Dact.value,
  trivial,
  DwUp.value,
  Att.kept,
  Att.value,
  Fwd.kept,
  Fwd.value,
  trivial,
  DwDown.value,
  trivial,
  Dh2.value,
  trivial,
  Dmix.value,
  trivial,
  DwO.value,
  trivial,
  Datt.value,
  trivial,
  DwAttOut.value,
  trivial,
  DwAtt.value,
  trivial,
  DwRw.value,
  trivial,
  DwGate.value,
  trivial,
  AttIn.value,
  trivial,
  RwIn.value,
  trivial,
  GateIn.value,
  trivial,
  AttOut.value,
  trivial,
  MixOut.value,
  trivial,
  Up.value,
  trivial,
  Down.value,
  trivial,
  MixBwd.value,
  trivial,
  NormBwd.value,
  trivial,
  MixFwd.value,
  trivial,
  NormFwd.value⟩

end Cert.Proof

end
